-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v96_0)) (v1 : (c : Dev Cert.Kernel2Ideal.nD) → Buf (Elt Ideal) ((c.tc : Thread Cert.Kernel2Ideal.nD Cert.Kernel2Ideal.τ).loc Cert.Kernel2Ideal.main_v96_1)) (v2 : (c : Dev Cert.Kernel2Ideal.nD) → Buf (Elt Ideal) ((c.tc : Thread Cert.Kernel2Ideal.nD Cert.Kernel2Ideal.τ).loc Cert.Kernel2Ideal.main_v96_2)) (v3 : (c : Dev Cert.Kernel2Ideal.nD) → Buf (Elt Ideal) ((c.tc : Thread Cert.Kernel2Ideal.nD Cert.Kernel2Ideal.τ).loc Cert.Kernel2Ideal.main_v96_3)) (v4 : (c : Dev Cert.Kernel2Ideal.nD) → Buf (Elt Ideal) ((c.tc : Thread Cert.Kernel2Ideal.nD Cert.Kernel2Ideal.τ).loc Cert.Kernel2Ideal.main_v96_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v96_0) = v0 c
          ∧ r.2.mem ((c.tc : Thread Cert.Kernel2Ideal.nD Cert.Kernel2Ideal.τ).loc Cert.Kernel2Ideal.main_v96_1) = v1 c
          ∧ r.2.mem ((c.tc : Thread Cert.Kernel2Ideal.nD Cert.Kernel2Ideal.τ).loc Cert.Kernel2Ideal.main_v96_2) = v2 c
          ∧ r.2.mem ((c.tc : Thread Cert.Kernel2Ideal.nD Cert.Kernel2Ideal.τ).loc Cert.Kernel2Ideal.main_v96_3) = v3 c
          ∧ r.2.mem ((c.tc : Thread Cert.Kernel2Ideal.nD Cert.Kernel2Ideal.τ).loc Cert.Kernel2Ideal.main_v96_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v239) = v0 c
          ∧ r.2.mem ((c.tc : Thread Cert.Reference2Ideal.nD Cert.Reference2Ideal.τ).loc Cert.Reference2Ideal.main_v240) = v1 c
          ∧ r.2.mem ((c.tc : Thread Cert.Reference2Ideal.nD Cert.Reference2Ideal.τ).loc Cert.Reference2Ideal.main_v242) = v2 c
          ∧ r.2.mem ((c.tc : Thread Cert.Reference2Ideal.nD Cert.Reference2Ideal.τ).loc Cert.Reference2Ideal.main_v244) = v3 c
          ∧ r.2.mem ((c.tc : Thread Cert.Reference2Ideal.nD Cert.Reference2Ideal.τ).loc Cert.Reference2Ideal.main_v238) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v25) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v97) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite7 : Cert.Pre_finite7.Facts) (hPre_finite9 : Cert.Pre_finite9.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S5632 .f32) (main_arg2 : FVec F S2816x1024 .f32) (main_arg3 : FVec F S4096x1024 .f32) : IVec S4096x5632 1 × IVec S5632 1 × IVec S2816x1024 1 × IVec S4096x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S5632 .f32 := Host.absf main_arg1
  let main_cst_0 : FVec F S_ .f32 := constant S_ .f32 0x7F800000#32
  let main_v4 : FVec F S5632 .f32 := broadcastInDim S5632 ![] bcast_S_S5632 main_cst_0
  let main_v5 : IVec S5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite14.lean ====
abbrev S32x16 : Shape := ⟨2, ![32, 16]⟩
abbrev S128x256 : Shape := ⟨2, ![128, 256]⟩
abbrev S_ : Shape := ⟨0, ![]⟩

class Facts : Prop where
  bcast_S_S32x16 : S_.BroadcastsInDim S32x16 (![] : Fin 0 → Fin S32x16.rank)
  bcast_S_S128x256 : S_.BroadcastsInDim S128x256 (![] : Fin 0 → Fin S128x256.rank)

variable [Facts]

def fn {F : FTy → Type} [FloatOps F] (main_arg0 : FVec F S32x16 .f32) (main_arg1 : IVec S128x256 32) : IVec S32x16 1 × IVec S128x256 1 × IVec S128x256 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 32 := constantI S_ 32 0#32
  let main_v3 : IVec S128x256 32 := broadcastInDim S128x256 ![] bcast_S_S128x256 main_c
  let main_v4 : IVec S128x256 1 := cmpi .sge main_arg1 main_v3
  let main_c_0 : IVec S_ 32 := constantI S_ 32 32#32
  let main_v5 : IVec S128x256 32 := broadcastInDim S128x256 ![] bcast_S_S128x256 main_c_0
  let main_v6 : IVec S128x256 1 := cmpi .slt main_arg1 main_v5
  (main_v2, main_v4, main_v6)
-- ==== Pre_finite2.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S64 : S_.BroadcastsInDim S64 (![] : Fin 0 → Fin S64.rank)
  bcast_S_S16 : S_.BroadcastsInDim S16 (![] : Fin 0 → Fin S16.rank)
  bcast_S_S4x4x128x256 : S_.BroadcastsInDim S4x4x128x256 (![] : Fin 0 → Fin S4x4x128x256.rank)
  bcast_S_S4096x1024 : S_.BroadcastsInDim S4096x1024 (![] : Fin 0 → Fin S4096x1024.rank)

variable [Facts]

def fn {F : FTy → Type} [FloatOps F] (main_arg0 : FVec F S4096x1536 .f32) (main_arg1 : FVec F S64 .f32) (main_arg2 : FVec F S64 .f32) (main_arg3 : FVec F S16 .f32) (main_arg4 : FVec F S4x4x128x256 .f32) (main_arg5 : FVec F S4096x1024 .f32) : IVec S4096x1536 1 × IVec S64 1 × IVec S64 1 × IVec S16 1 × IVec S4x4x128x256 1 × IVec S4096x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S4x4x128x256 .f32 := Host.absf main_arg4
  let main_cst_3 : FVec F S_ .f32 := constant S_ .f32 0x7F800000#32
  let main_v13 : FVec F S4x4x128x256 .f32 := broadcastInDim S4x4x128x256 ![] bcast_S_S4x4x128x256 main_cst_3
  let main_v14 : IVec S4x4x128x256 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite3.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4096x1536 : S_.BroadcastsInDim S4096x1536 (![] : Fin 0 → Fin S4096x1536.rank)

variable [Facts]

def fn {F : FTy → Type} [FloatOps F] (main_arg0 : FVec F S4096x1024 .f32) (main_arg1 : FVec F S1024 .f32) (main_arg2 : FVec F S1024x1536 .f32) (main_arg3 : FVec F S4096x1536 .f32) (main_arg4 : FVec F S4096x1024 .f32) : IVec S4096x1024 1 × IVec S1024 1 × IVec S1024x1536 1 × IVec S4096x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S4096x1536 .f32 := Host.absf main_arg3
  let main_cst_2 : FVec F S_ .f32 := constant S_ .f32 0x7F800000#32
  let main_v10 : FVec F S4096x1536 .f32 := broadcastInDim S4096x1536 ![] bcast_S_S4096x1536 main_cst_2
  let main_v11 : IVec S4096x1536 1 := cmpf .olt main_v9 main_v10
  (main_v2, main_v5, main_v8, main_v11)
-- ==== Pre_finite4.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024x5632 .f32) (main_arg3 : FVec F S3x5632 .f32) (main_arg4 : FVec F S4096x5632 .f32) (main_arg5 : FVec F S4096x1024 .f32) : IVec S4096x1024 1 × IVec S1024 1 × IVec S1024x5632 1 × IVec S3x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S4096x5632 .f32 := Host.absf main_arg4
  let main_cst_3 : FVec F S_ .f32 := constant S_ .f32 0x7F800000#32
  let main_v13 : FVec F S4096x5632 .f32 := broadcastInDim S4096x5632 ![] bcast_S_S4096x5632 main_cst_3
  let main_v14 : IVec S4096x5632 1 := cmpf .olt main_v12 main_v13
  (main_v2, main_v5, main_v8, main_v11, main_v14)
-- ==== Pre_finite6.lean ====
abbrev S32x16 : Shape := ⟨2, ![32, 16]⟩
abbrev S16x128x256 : Shape := ⟨3, ![16, 128, 256]⟩
abbrev S128x256 : Shape := ⟨2, ![128, 256]⟩
abbrev S_ : Shape := ⟨0, ![]⟩

class Facts : Prop where
  bcast_S_S16x128x256 : S_.BroadcastsInDim S16x128x256 (![] : Fin 0 → Fin S16x128x256.rank)
  bcast_S_S128x256 : S_.BroadcastsInDim S128x256 (![] : Fin 0 → Fin S128x256.rank)

variable [Facts]

def fn {F : FTy → Type} [FloatOps F] (main_arg0 : FVec F S32x16 .f32) (main_arg1 : FVec F S16x128x256 .f32) (main_arg2 : IVec S128x256 32) : IVec S16x128x256 1 × IVec S128x256 1 :=
  let main_v0 : FVec F S16x128x256 .f32 := Host.absf main_arg1
  let main_cst : FVec F S_ .f32 := constant S_ .f32 0x7F800000#32
  let main_v1 : FVec F S16x128x256 .f32 := broadcastInDim S16x128x256 ![] bcast_S_S16x128x256 main_cst
  let main_v2 : IVec S16x128x256 1 := cmpf .olt main_v0 main_v1
  let main_c : IVec S_ 32 := constantI S_ 32 0#32
  let main_v3 : IVec S128x256 32 := broadcastInDim S128x256 ![] bcast_S_S128x256 main_c
  let main_v4 : IVec S128x256 1 := cmpi .sge main_arg2 main_v3
  (main_v2, main_v4)
-- ==== Pre_finite7.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S_ : Shape := ⟨0, ![]⟩

class Facts : Prop where
  bcast_S_S4096x1536 : S_.BroadcastsInDim S4096x1536 (![] : Fin 0 → Fin S4096x1536.rank)
  bcast_S_S64 : S_.BroadcastsInDim S64 (![] : Fin 0 → Fin S64.rank)
  bcast_S_S16 : S_.BroadcastsInDim S16 (![] : Fin 0 → Fin S16.rank)
  bcast_S_S4x4x128x256 : S_.BroadcastsInDim S4x4x128x256 (![] : Fin 0 → Fin S4x4x128x256.rank)

variable [Facts]

def fn {F : FTy → Type} [FloatOps F] (main_arg0 : FVec F S4096x1536 .f32) (main_arg1 : FVec F S64 .f32) (main_arg2 : FVec F S64 .f32) (main_arg3 : FVec F S16 .f32) (main_arg4 : FVec F S4x4x128x256 .f32) : IVec S4096x1536 1 × IVec S64 1 × IVec S64 1 × IVec S16 1 × IVec S4x4x128x256 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S4x4x128x256 .f32 := Host.absf main_arg4
  let main_cst_3 : FVec F S_ .f32 := constant S_ .f32 0x7F800000#32
  let main_v13 : FVec F S4x4x128x256 .f32 := broadcastInDim S4x4x128x256 ![] bcast_S_S4x4x128x256 main_cst_3
  let main_v14 : IVec S4x4x128x256 1 := cmpf .olt main_v12 main_v13
  (main_v2, main_v5, main_v8, main_v11, main_v14)
-- ==== Pre_finite9.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1024 .f32) (main_arg2 : FVec F S1024x4096 .f32) (main_arg3 : FVec F S4096x4096 .f32) (main_arg4 : FVec F S4096x1024 .f32) : IVec S4096x1024 1 × IVec S1024 1 × IVec S1024x4096 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Kernel.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S512x1024 : Shape := ⟨2, ![512, 1024]⟩
abbrev S512x5632 : Shape := ⟨2, ![512, 5632]⟩
abbrev S512x2816 : Shape := ⟨2, ![512, 2816]⟩
abbrev S8x5632 : Shape := ⟨2, ![8, 5632]⟩
abbrev S64x5632 : Shape := ⟨2, ![64, 5632]⟩
abbrev S64x2816 : Shape := ⟨2, ![64, 2816]⟩

abbrev nBuf : Space → Nat
  | .hbm => 11
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x5632, .bf16⟩
  | .hbm, ⟨8, _⟩ => ⟨S2816x1024, .bf16⟩
  | .hbm, ⟨9, _⟩ => ⟨S4096x5632, .bf16⟩
  | .hbm, ⟨10, _⟩ => ⟨S1x5632, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | .local _ .vmem, ⟨7, _⟩ => ⟨S1x5632, .f32⟩
  | .local _ .vmem, ⟨8, _⟩ => ⟨S512x2816, .f32⟩
  | .local _ .vmem, ⟨9, _⟩ => ⟨S8x5632, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v379 : BitVec 1 := Scalar.cmpi .eq arg0 c7_i32
  let v380 : BitVec 32 := Scalar.extui v379
  let c0_i32_119 : BitVec 32 := 0#32
  let v381 : BitVec 1 := Scalar.cmpi .ne v380 c0_i32_119
  v381

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S_ : Shape := ⟨0, ![]⟩
abbrev S1024x2816 : Shape := ⟨2, ![1024, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S1024x2816, .f32⟩
  | .hbm, ⟨25, _⟩ => ⟨S2816x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S_, .f32⟩
  | .hbm, ⟨35, _⟩ => ⟨S5632, .f32⟩
  | .hbm, ⟨36, _⟩ => ⟨S1x5632, .f32⟩
  | .hbm, ⟨37, _⟩ => ⟨S_, .f32⟩
  | .hbm, ⟨38, _⟩ => ⟨S5632, .f32⟩
  | .hbm, ⟨39, _⟩ => ⟨S4096x5632, .bf16⟩
  | .hbm, ⟨40, _⟩ => ⟨S1x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel2.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S4096x1024 : Shape := ⟨2, ![4096, 1024]⟩
abbrev S4096x256 : Shape := ⟨2, ![4096, 256]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S32x128x256 : Shape := ⟨3, ![32, 128, 256]⟩
abbrev S32x1x1x128x256 : Shape := ⟨5, ![32, 1, 1, 128, 256]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x512x256 : Shape := ⟨4, ![32, 4, 512, 256]⟩
abbrev S32x16x128 : Shape := ⟨3, ![32, 16, 128]⟩
abbrev S32x128x16 : Shape := ⟨3, ![32, 128, 16]⟩
abbrev S4096x128 : Shape := ⟨2, ![4096, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4x512x256 : Shape := ⟨3, ![4, 512, 256]⟩
abbrev S4x128 : Shape := ⟨2, ![4, 128]⟩
abbrev S128x1536 : Shape := ⟨2, ![128, 1536]⟩
abbrev S128x512 : Shape := ⟨2, ![128, 512]⟩
abbrev S128x1024 : Shape := ⟨2, ![128, 1024]⟩
abbrev S1x4x512x256 : Shape := ⟨4, ![1, 4, 512, 256]⟩
abbrev S128x128 : Shape := ⟨2, ![128, 128]⟩
abbrev S256x512 : Shape := ⟨2, ![256, 512]⟩
abbrev S512x128 : Shape := ⟨2, ![512, 128]⟩
abbrev S8x128 : Shape := ⟨2, ![8, 128]⟩
abbrev S256x128 : Shape := ⟨2, ![256, 128]⟩
abbrev S1x1x512x256 : Shape := ⟨4, ![1, 1, 512, 256]⟩
abbrev S512x256 : Shape := ⟨2, ![512, 256]⟩
abbrev S128x1 : Shape := ⟨2, ![128, 1]⟩
abbrev S512x1 : Shape := ⟨2, ![512, 1]⟩
abbrev S512 : Shape := ⟨1, ![512]⟩
abbrev S1x512x256 : Shape := ⟨3, ![1, 512, 256]⟩
abbrev S128 : Shape := ⟨1, ![128]⟩

abbrev nBuf : Space → Nat
  | .hbm => 128
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S4x4x128x256, .f32⟩
  | .hbm, ⟨5, _⟩ => ⟨S4096x1024, .f32⟩
  | .hbm, ⟨6, _⟩ => ⟨S4096x1024, .f32⟩
  | .hbm, ⟨7, _⟩ => ⟨S4096x256, .f32⟩
  | .hbm, ⟨8, _⟩ => ⟨S4096x16x64, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x64, .f32⟩
  | .hbm, ⟨21, _⟩ => ⟨S4096x16x64, .f32⟩
  | .hbm, ⟨22, _⟩ => ⟨S1x1x64, .f32⟩
  | .hbm, ⟨23, _⟩ => ⟨S4096x16x64, .f32⟩
  | .hbm, ⟨24, _⟩ => ⟨S4096x16x64, .f32⟩
  | .hbm, ⟨25, _⟩ => ⟨S4096x4x64, .f32⟩
  | .hbm, ⟨26, _⟩ => ⟨S4096x4x64, .f32⟩
  | .hbm, ⟨27, _⟩ => ⟨S_, .f32⟩
  | .hbm, ⟨28, _⟩ => ⟨S4096x4, .f32⟩
  | .hbm, ⟨29, _⟩ => ⟨S4096x4x1, .f32⟩
  | .hbm, ⟨30, _⟩ => ⟨S_, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x1, .f32⟩
  | .hbm, ⟨37, _⟩ => ⟨S4096x4x64, .f32⟩
  | .hbm, ⟨38, _⟩ => ⟨S4096x4x64, .f32⟩
  | .hbm, ⟨39, _⟩ => ⟨S1x1x64, .f32⟩
  | .hbm, ⟨40, _⟩ => ⟨S4096x4x64, .f32⟩
  | .hbm, ⟨41, _⟩ => ⟨S4096x4x64, .f32⟩
  | .hbm, ⟨42, _⟩ => ⟨S32x128x4x4x64, .f32⟩
  | .hbm, ⟨43, _⟩ => ⟨S32x128x4x64, .f32⟩
  | .hbm, ⟨44, _⟩ => ⟨S1x128x4x64, .f32⟩
  | .hbm, ⟨45, _⟩ => ⟨S_, .f32⟩
  | .hbm, ⟨46, _⟩ => ⟨S1x128x4x64, .f32⟩
  | .hbm, ⟨47, _⟩ => ⟨S31x128x4x64, .f32⟩
  | .hbm, ⟨48, _⟩ => ⟨S32x128x4x64, .f32⟩
  | .hbm, ⟨49, _⟩ => ⟨S32x256x4x64, .f32⟩
  | .hbm, ⟨50, _⟩ => ⟨S32x4x256x128x4, .f32⟩
  | .hbm, ⟨51, _⟩ => ⟨S32x4x4x128x256, .f32⟩
  | .hbm, ⟨52, _⟩ => ⟨S_, .f32⟩
  | .hbm, ⟨53, _⟩ => ⟨S32x4x4x128x256, .f32⟩
  | .hbm, ⟨54, _⟩ => ⟨S32x4x4x128x256, .f32⟩
  | .hbm, ⟨55, _⟩ => ⟨S1x4x4x128x256, .f32⟩
  | .hbm, ⟨56, _⟩ => ⟨S32x4x4x128x256, .f32⟩
  | .hbm, ⟨57, _⟩ => ⟨S32x4x4x128x256, .f32⟩
  | .hbm, ⟨58, _⟩ => ⟨S32x128x256, .i32⟩
  | .hbm, ⟨59, _⟩ => ⟨S32x128x256, .i32⟩
  | .hbm, ⟨60, _⟩ => ⟨S32x128x256, .i32⟩
  | .hbm, ⟨61, _⟩ => ⟨S_, .i32⟩
  | .hbm, ⟨62, _⟩ => ⟨S32x128x256, .i32⟩
  | .hbm, ⟨63, _⟩ => ⟨S32x128x256, .i32⟩
  | .hbm, ⟨64, _⟩ => ⟨S32x128x256, .i32⟩
  | .hbm, ⟨65, _⟩ => ⟨S_, .i32⟩
  | .hbm, ⟨66, _⟩ => ⟨S32x128x256, .i32⟩
  | .hbm, ⟨67, _⟩ => ⟨S32x128x256, .i1⟩
  | .hbm, ⟨68, _⟩ => ⟨S_, .i32⟩
  | .hbm, ⟨69, _⟩ => ⟨S32x128x256, .i32⟩
  | .hbm, ⟨70, _⟩ => ⟨S32x128x256, .i1⟩
  | .hbm, ⟨71, _⟩ => ⟨S32x128x256, .i1⟩
  | .hbm, ⟨72, _⟩ => ⟨S_, .i32⟩
  | .hbm, ⟨73, _⟩ => ⟨S32x128x256, .i32⟩
  | .hbm, ⟨74, _⟩ => ⟨S32x128x256, .i1⟩
  | .hbm, ⟨75, _⟩ => ⟨S_, .i32⟩
  | .hbm, ⟨76, _⟩ => ⟨S32x128x256, .i32⟩
  | .hbm, ⟨77, _⟩ => ⟨S32x128x256, .i1⟩
  | .hbm, ⟨78, _⟩ => ⟨S32x128x256, .i1⟩
  | .hbm, ⟨79, _⟩ => ⟨S32x128x256, .i1⟩
  | .hbm, ⟨80, _⟩ => ⟨S32x1x1x128x256, .i1⟩
  | .hbm, ⟨81, _⟩ => ⟨S_, .f32⟩
  | .hbm, ⟨82, _⟩ => ⟨S_, .f32⟩
  | .hbm, ⟨83, _⟩ => ⟨S32x4x4x128x256, .i1⟩
  | .hbm, ⟨84, _⟩ => ⟨S32x4x4x128x256, .f32⟩
  | .hbm, ⟨85, _⟩ => ⟨S32x4x4x128x256, .f32⟩
  | .hbm, ⟨86, _⟩ => ⟨S1x4x4x1x1, .f32⟩
  | .hbm, ⟨87, _⟩ => ⟨S_, .f32⟩
  | .hbm, ⟨88, _⟩ => ⟨S32x4x4x128, .f32⟩
  | .hbm, ⟨89, _⟩ => ⟨S32x4x4x128x1, .f32⟩
  | .hbm, ⟨90, _⟩ => ⟨S32x4x4x128x1, .f32⟩
  | .hbm, ⟨91, _⟩ => ⟨S32x4x4x128x1, .f32⟩
  | .hbm, ⟨92, _⟩ => ⟨S32x4x4x128x256, .f32⟩
  | .hbm, ⟨93, _⟩ => ⟨S32x4x4x128x256, .f32⟩
  | .hbm, ⟨94, _⟩ => ⟨S32x4x4x128x256, .f32⟩
  | .hbm, ⟨95, _⟩ => ⟨S32x4x4x128x1, .f32⟩
  | .hbm, ⟨96, _⟩ => ⟨S32x4x4x128x1, .f32⟩
  | .hbm, ⟨97, _⟩ => ⟨S32x4x4x128x1, .f32⟩
  | .hbm, ⟨98, _⟩ => ⟨S_, .f32⟩
  | .hbm, ⟨99, _⟩ => ⟨S32x4x4x128, .f32⟩
  | .hbm, ⟨100, _⟩ => ⟨S32x4x4x128x1, .f32⟩
  | .hbm, ⟨101, _⟩ => ⟨S32x4x4x128x1, .f32⟩
  | .hbm, ⟨102, _⟩ => ⟨S32x4x4x128x256, .f32⟩
  | .hbm, ⟨103, _⟩ => ⟨S32x4x4x128x256, .f32⟩
  | .hbm, ⟨104, _⟩ => ⟨S32x4x4x128x1, .f32⟩
  | .hbm, ⟨105, _⟩ => ⟨S32x4x512x256, .f32⟩
  | .hbm, ⟨106, _⟩ => ⟨S32x4x512x256, .bf16⟩
  | .hbm, ⟨107, _⟩ => ⟨S32x16x128, .f32⟩
  | .hbm, ⟨108, _⟩ => ⟨S32x128x16, .f32⟩
  | .hbm, ⟨109, _⟩ => ⟨S4096x16, .f32⟩
  | .hbm, ⟨110, _⟩ => ⟨S_, .i32⟩
  | .hbm, ⟨111, _⟩ => ⟨S_, .f32⟩
  | .hbm, ⟨112, _⟩ => ⟨S4096x128, .f32⟩
  | .hbm, ⟨113, _⟩ => ⟨S1x64, .f32⟩
  | .hbm, ⟨114, _⟩ => ⟨S1x1x1x64, .f32⟩
  | .hbm, ⟨115, _⟩ => ⟨S1x1x2x64, .f32⟩
  | .hbm, ⟨116, _⟩ => ⟨S1x128, .f32⟩
  | .hbm, ⟨117, _⟩ => ⟨S1x64, .f32⟩
  | .hbm, ⟨118, _⟩ => ⟨S1x1x1x64, .f32⟩
  | .hbm, ⟨119, _⟩ => ⟨S1x1x2x64, .f32⟩
  | .hbm, ⟨120, _⟩ => ⟨S1x128, .f32⟩
  | .hbm, ⟨121, _⟩ => ⟨S4096x1536, .bf16⟩
  | .hbm, ⟨122, _⟩ => ⟨S4096x1024, .bf16⟩
  | .hbm, ⟨123, _⟩ => ⟨S4096x1536, .bf16⟩
  | .hbm, ⟨124, _⟩ => ⟨S4x512x256, .f32⟩
  | .hbm, ⟨125, _⟩ => ⟨S1x128, .f32⟩
  | .hbm, ⟨126, _⟩ => ⟨S1x128, .f32⟩
  | .hbm, ⟨127, _⟩ => ⟨S4x128, .f32⟩
  | .local _ .vmem, ⟨0, _⟩ => ⟨S128x1536, .bf16⟩
  | .local _ .vmem, ⟨1, _⟩ => ⟨S128x1536, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S1x4x512x256, .bf16⟩
  | .local _ .vmem, ⟨7, _⟩ => ⟨S1x4x512x256, .bf16⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x1536, .bf16⟩
  | .local _ .vmem, ⟨13, _⟩ => ⟨S128x1536, .bf16⟩
  | .local _ .vmem, ⟨14, _⟩ => ⟨S4x512x256, .f32⟩
  | .local _ .vmem, ⟨15, _⟩ => ⟨S1x128, .f32⟩
  | .local _ .vmem, ⟨16, _⟩ => ⟨S1x128, .f32⟩
  | .local _ .vmem, ⟨17, _⟩ => ⟨S4x128, .f32⟩
  | .local _ .vmem, ⟨18, _⟩ => ⟨S128x512, .f32⟩
  | .local _ .vmem, ⟨19, _⟩ => ⟨S256x512, .f32⟩
  | .local _ .vmem, ⟨20, _⟩ => ⟨S512x128, .f32⟩
  | .local _ .vmem, ⟨21, _⟩ => ⟨S8x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_7 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_14 : Ref sig .tc := ⟨.hbm, 110, rfl⟩
abbrev main_call1_v0 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96_0 : Ref sig .tc := ⟨.hbm, 123, rfl⟩
abbrev main_v96_1 : Ref sig .tc := ⟨.hbm, 124, rfl⟩
abbrev main_v96_2 : Ref sig .tc := ⟨.hbm, 125, rfl⟩
abbrev main_v96_3 : Ref sig .tc := ⟨.hbm, 126, rfl⟩
abbrev main_v96_4 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1045 : BitVec 1 := Scalar.cmpi .eq arg0 c31_i32
  let v1046 : BitVec 32 := Scalar.extui v1045
  let c0_i32_393 : BitVec 32 := 0#32
  let v1047 : BitVec 1 := Scalar.cmpi .ne v1046 c0_i32_393
  v1047

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S4096x1024 : Shape := ⟨2, ![4096, 1024]⟩
abbrev S4096x256 : Shape := ⟨2, ![4096, 256]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S32x128x256 : Shape := ⟨3, ![32, 128, 256]⟩
abbrev S32x1x1x128x256 : Shape := ⟨5, ![32, 1, 1, 128, 256]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S32x4x128x4x64 : Shape := ⟨5, ![32, 4, 128, 4, 64]⟩
abbrev S32x4x256x64 : Shape := ⟨4, ![32, 4, 256, 64]⟩
abbrev S4x4 : Shape := ⟨2, ![4, 4]⟩
abbrev S4x128 : Shape := ⟨2, ![4, 128]⟩
abbrev S4x512x256 : Shape := ⟨3, ![4, 512, 256]⟩
abbrev S128 : Shape := ⟨1, ![128]⟩
abbrev S1x128 : Shape := ⟨2, ![1, 128]⟩

abbrev nBuf : Space → Nat
  | .hbm => 314
  | .vmem => 0
  | .smem => 0
  | _ => 0

abbrev hbmTy0_0 (i : Nat) : BufTy := match i % 128 with
  | 0 => ⟨S4096x1536, .f32⟩
  | 1 => ⟨S64, .f32⟩
  | 2 => ⟨S64, .f32⟩
  | 3 => ⟨S16, .f32⟩
  | 4 => ⟨S4x4x128x256, .f32⟩
  | 5 => ⟨S4096x1024, .f32⟩
  | 6 => ⟨S4096x1024, .f32⟩
  | 7 => ⟨S4096x256, .f32⟩
  | 8 => ⟨S4096x16x64, .f32⟩
  | 9 => ⟨S4096x16x64, .f32⟩
  | 10 => ⟨S_, .f32⟩
  | 11 => ⟨S4096x16, .f32⟩
  | 12 => ⟨S4096x16x1, .f32⟩
  | 13 => ⟨S_, .f32⟩
  | 14 => ⟨S4096x16x1, .f32⟩
  | 15 => ⟨S4096x16x1, .f32⟩
  | 16 => ⟨S_, .f32⟩
  | 17 => ⟨S4096x16x1, .f32⟩
  | 18 => ⟨S4096x16x1, .f32⟩
  | 19 => ⟨S4096x16x1, .f32⟩
  | 20 => ⟨S4096x16x1, .f32⟩
  | 21 => ⟨S_, .f32⟩
  | 22 => ⟨S4096x16x1, .f32⟩
  | 23 => ⟨S4096x16x1, .f32⟩
  | 24 => ⟨S4096x16x64, .f32⟩
  | 25 => ⟨S4096x16x64, .f32⟩
  | 26 => ⟨S1x1x64, .f32⟩
  | 27 => ⟨S4096x16x64, .f32⟩
  | 28 => ⟨S4096x16x64, .f32⟩
  | 29 => ⟨S4096x4x64, .f32⟩
  | 30 => ⟨S4096x4x64, .f32⟩
  | 31 => ⟨S_, .f32⟩
  | 32 => ⟨S4096x4, .f32⟩
  | 33 => ⟨S4096x4x1, .f32⟩
  | 34 => ⟨S_, .f32⟩
  | 35 => ⟨S4096x4x1, .f32⟩
  | 36 => ⟨S4096x4x1, .f32⟩
  | 37 => ⟨S_, .f32⟩
  | 38 => ⟨S4096x4x1, .f32⟩
  | 39 => ⟨S4096x4x1, .f32⟩
  | 40 => ⟨S4096x4x1, .f32⟩
  | 41 => ⟨S4096x4x1, .f32⟩
  | 42 => ⟨S_, .f32⟩
  | 43 => ⟨S4096x4x1, .f32⟩
  | 44 => ⟨S4096x4x1, .f32⟩
  | 45 => ⟨S4096x4x64, .f32⟩
  | 46 => ⟨S4096x4x64, .f32⟩
  | 47 => ⟨S1x1x64, .f32⟩
  | 48 => ⟨S4096x4x64, .f32⟩
  | 49 => ⟨S4096x4x64, .f32⟩
  | 50 => ⟨S32x128x4x4x64, .f32⟩
  | 51 => ⟨S32x128x4x64, .f32⟩
  | 52 => ⟨S1x128x4x64, .f32⟩
  | 53 => ⟨S_, .f32⟩
  | 54 => ⟨S1x128x4x64, .f32⟩
  | 55 => ⟨S31x128x4x64, .f32⟩
  | 56 => ⟨S32x128x4x64, .f32⟩
  | 57 => ⟨S_, .f32⟩
  | 58 => ⟨S1x128x4x64, .f32⟩
  | 59 => ⟨S32x256x4x64, .f32⟩
  | 60 => ⟨S4096x256, .f32⟩
  | 61 => ⟨S32x128x4x64, .f32⟩
  | 62 => ⟨S1x128x4x64, .f32⟩
  | 63 => ⟨S_, .f32⟩
  | 64 => ⟨S1x128x4x64, .f32⟩
  | 65 => ⟨S31x128x4x64, .f32⟩
  | 66 => ⟨S32x128x4x64, .f32⟩
  | 67 => ⟨S_, .f32⟩
  | 68 => ⟨S1x128x4x64, .f32⟩
  | 69 => ⟨S32x256x4x64, .f32⟩
  | 70 => ⟨S32x4x256x128x4, .f32⟩
  | 71 => ⟨S32x4x4x128x256, .f32⟩
  | 72 => ⟨S_, .f32⟩
  | 73 => ⟨S32x4x4x128x256, .f32⟩
  | 74 => ⟨S32x4x4x128x256, .f32⟩
  | 75 => ⟨S1x4x4x128x256, .f32⟩
  | 76 => ⟨S32x4x4x128x256, .f32⟩
  | 77 => ⟨S32x4x4x128x256, .f32⟩
  | 78 => ⟨S32x128x256, .i32⟩
  | 79 => ⟨S32x128x256, .i32⟩
  | 80 => ⟨S32x128x256, .i32⟩
  | 81 => ⟨S_, .i32⟩
  | 82 => ⟨S32x128x256, .i32⟩
  | 83 => ⟨S32x128x256, .i32⟩
  | 84 => ⟨S32x128x256, .i32⟩
  | 85 => ⟨S_, .i32⟩
  | 86 => ⟨S32x128x256, .i32⟩
  | 87 => ⟨S32x128x256, .i1⟩
  | 88 => ⟨S_, .i32⟩
  | 89 => ⟨S32x128x256, .i32⟩
  | 90 => ⟨S32x128x256, .i1⟩
  | 91 => ⟨S32x128x256, .i1⟩
  | 92 => ⟨S_, .i32⟩
  | 93 => ⟨S32x128x256, .i32⟩
  | 94 => ⟨S32x128x256, .i1⟩
  | 95 => ⟨S_, .i32⟩
  | 96 => ⟨S32x128x256, .i32⟩
  | 97 => ⟨S32x128x256, .i1⟩
  | 98 => ⟨S32x128x256, .i1⟩
  | 99 => ⟨S32x128x256, .i1⟩
  | 100 => ⟨S32x1x1x128x256, .i1⟩
  | 101 => ⟨S_, .f32⟩
  | 102 => ⟨S_, .f32⟩
  | 103 => ⟨S32x4x4x128x256, .i1⟩
  | 104 => ⟨S32x4x4x128x256, .f32⟩
  | 105 => ⟨S32x4x4x128x256, .f32⟩
  | 106 => ⟨S_, .f32⟩
  | 107 => ⟨S32x4x4x128x256, .f32⟩
  | 108 => ⟨S1x4x4x1x1, .f32⟩
  | 109 => ⟨S_, .f32⟩
  | 110 => ⟨S32x4x4x128, .f32⟩
  | 111 => ⟨S32x4x4x128x1, .f32⟩
  | 112 => ⟨S32x4x4x128x256, .f32⟩
  | 113 => ⟨S32x4x4x128x256, .i1⟩
  | 114 => ⟨S32x4x4x128x256, .f32⟩
  | 115 => ⟨S_, .f32⟩
  | 116 => ⟨S32x4x4x128, .f32⟩
  | 117 => ⟨S32x4x4x128x1, .f32⟩
  | 118 => ⟨S32x4x4x128x1, .f32⟩
  | 119 => ⟨S32x4x4x128x1, .f32⟩
  | 120 => ⟨S32x4x4x128x1, .f32⟩
  | 121 => ⟨S32x4x4x128x1, .i1⟩
  | 122 => ⟨S32x4x4x128x1, .f32⟩
  | 123 => ⟨S32x4x4x128x1, .i1⟩
  | 124 => ⟨S_, .f32⟩
  | 125 => ⟨S32x4x4x128x1, .f32⟩
  | 126 => ⟨S_, .f32⟩
  | 127 => ⟨S32x4x4x128x1, .f32⟩
  | _ => ⟨S4096x1536, .f32⟩

abbrev hbmTy0_1 (i : Nat) : BufTy := match i % 128 with
  | 0 => ⟨S_, .f32⟩
  | 1 => ⟨S32x4x4x128x1, .f32⟩
  | 2 => ⟨S32x4x4x128x1, .f32⟩
  | 3 => ⟨S32x4x4x128x1, .f32⟩
  | 4 => ⟨S32x4x4x128x1, .f32⟩
  | 5 => ⟨S32x4x4x128x1, .i1⟩
  | 6 => ⟨S32x4x4x128x1, .f32⟩
  | 7 => ⟨S32x4x4x128x1, .i1⟩
  | 8 => ⟨S_, .f32⟩
  | 9 => ⟨S32x4x4x128x1, .f32⟩
  | 10 => ⟨S_, .f32⟩
  | 11 => ⟨S32x4x4x128x1, .f32⟩
  | 12 => ⟨S_, .f32⟩
  | 13 => ⟨S32x4x4x128x1, .f32⟩
  | 14 => ⟨S32x4x4x128x1, .f32⟩
  | 15 => ⟨S32x4x4x128x1, .f32⟩
  | 16 => ⟨S32x4x4x128x256, .f32⟩
  | 17 => ⟨S32x4x4x128x256, .f32⟩
  | 18 => ⟨S32x4x4x128x256, .f32⟩
  | 19 => ⟨S32x4x4x128x1, .f32⟩
  | 20 => ⟨S32x4x4x128x1, .f32⟩
  | 21 => ⟨S32x4x4x128x1, .f32⟩
  | 22 => ⟨S_, .f32⟩
  | 23 => ⟨S32x4x4x128, .f32⟩
  | 24 => ⟨S32x4x4x128x1, .f32⟩
  | 25 => ⟨S32x4x4x128x1, .f32⟩
  | 26 => ⟨S32x4x4x128x256, .f32⟩
  | 27 => ⟨S32x4x4x128x256, .f32⟩
  | 28 => ⟨S32x4x4x128x1, .f32⟩
  | 29 => ⟨S_, .f32⟩
  | 30 => ⟨S32x4x4x128x1, .f32⟩
  | 31 => ⟨S32x4x4x128x1, .f32⟩
  | 32 => ⟨S32x4x4x128x1, .f32⟩
  | 33 => ⟨S32x4x4x128x1, .f32⟩
  | 34 => ⟨S_, .f32⟩
  | 35 => ⟨S32x4x4x128x1, .f32⟩
  | 36 => ⟨S32x4x4x128x1, .f32⟩
  | 37 => ⟨S32x4x64x4x128, .f32⟩
  | 38 => ⟨S32x128x4x4x64, .f32⟩
  | 39 => ⟨S4096x1024, .f32⟩
  | 40 => ⟨S32x128x4x4x64, .f32⟩
  | 41 => ⟨S32x4x64x4x128, .f32⟩
  | 42 => ⟨S32x4x4x128x256, .f32⟩
  | 43 => ⟨S32x4x64x256, .f32⟩
  | 44 => ⟨S32x256x4x64, .f32⟩
  | 45 => ⟨S32x4x4x128x256, .f32⟩
  | 46 => ⟨S32x4x4x128x256, .f32⟩
  | 47 => ⟨S32x4x4x128x256, .f32⟩
  | 48 => ⟨S_, .f32⟩
  | 49 => ⟨S32x4x4x128, .f32⟩
  | 50 => ⟨S32x4x4x128x1, .f32⟩
  | 51 => ⟨S32x4x4x128x1, .f32⟩
  | 52 => ⟨S32x4x4x128x256, .f32⟩
  | 53 => ⟨S32x4x4x128x256, .f32⟩
  | 54 => ⟨S_, .f32⟩
  | 55 => ⟨S32x4x4x128, .f32⟩
  | 56 => ⟨S32x4x4x128x256, .f32⟩
  | 57 => ⟨S32x4x4x128x256, .f32⟩
  | 58 => ⟨S32x4x4x128x1, .f32⟩
  | 59 => ⟨S_, .f32⟩
  | 60 => ⟨S4x4x1, .f32⟩
  | 61 => ⟨S1x4x4x1x1, .f32⟩
  | 62 => ⟨S32x4x4x128x1, .f32⟩
  | 63 => ⟨S32x4x4x128x256, .f32⟩
  | 64 => ⟨S32x4x4x128x256, .f32⟩
  | 65 => ⟨S_, .f32⟩
  | 66 => ⟨S32x4x4x128, .f32⟩
  | 67 => ⟨S32x4x4x128x1, .f32⟩
  | 68 => ⟨S32x4x4x128x1, .f32⟩
  | 69 => ⟨S32x4x4x128x1, .f32⟩
  | 70 => ⟨S_, .f32⟩
  | 71 => ⟨S4x4x1, .f32⟩
  | 72 => ⟨S1x4x4x1x1, .f32⟩
  | 73 => ⟨S1x4x4x1x1, .f32⟩
  | 74 => ⟨S32x4x4x128x1, .f32⟩
  | 75 => ⟨S_, .f32⟩
  | 76 => ⟨S32x4x4x128, .f32⟩
  | 77 => ⟨S32x4x4x128, .f32⟩
  | 78 => ⟨S32x4x4x128x256, .f32⟩
  | 79 => ⟨S32x4x4x128x256, .f32⟩
  | 80 => ⟨S32x4x4x128x256, .f32⟩
  | 81 => ⟨S16, .f32⟩
  | 82 => ⟨S_, .f32⟩
  | 83 => ⟨S32x4x4x128x256, .f32⟩
  | 84 => ⟨S32x4x4x128x256, .f32⟩
  | 85 => ⟨S_, .f32⟩
  | 86 => ⟨S4x4x128x256, .f32⟩
  | 87 => ⟨S1x4x4x128x256, .f32⟩
  | 88 => ⟨S_, .f32⟩
  | 89 => ⟨S4x4x128x256, .f32⟩
  | 90 => ⟨S_, .f32⟩
  | 91 => ⟨S32x4x4x128x256, .f32⟩
  | 92 => ⟨S32x4x4x128x256, .f32⟩
  | 93 => ⟨S32x4x256x128x4, .f32⟩
  | 94 => ⟨S32x4x128x4x64, .f32⟩
  | 95 => ⟨S32x128x4x4x64, .f32⟩
  | 96 => ⟨S32x4x256x64, .f32⟩
  | 97 => ⟨S32x256x4x64, .f32⟩
  | 98 => ⟨S32x128x4x64, .f32⟩
  | 99 => ⟨S32x128x4x64, .f32⟩
  | 100 => ⟨S1x128x4x64, .f32⟩
  | 101 => ⟨S31x128x4x64, .f32⟩
  | 102 => ⟨S_, .f32⟩
  | 103 => ⟨S32x128x4x64, .f32⟩
  | 104 => ⟨S32x128x4x64, .f32⟩
  | 105 => ⟨S4096x256, .f32⟩
  | 106 => ⟨S_, .f32⟩
  | 107 => ⟨S4096x1536, .f32⟩
  | 108 => ⟨S32x128x4x64, .f32⟩
  | 109 => ⟨S32x128x4x64, .f32⟩
  | 110 => ⟨S1x128x4x64, .f32⟩
  | 111 => ⟨S31x128x4x64, .f32⟩
  | 112 => ⟨S_, .f32⟩
  | 113 => ⟨S32x128x4x64, .f32⟩
  | 114 => ⟨S32x128x4x64, .f32⟩
  | 115 => ⟨S4096x4x64, .f32⟩
  | 116 => ⟨S4096x16x64, .f32⟩
  | 117 => ⟨S4096x4x64, .f32⟩
  | 118 => ⟨S_, .f32⟩
  | 119 => ⟨S64, .f32⟩
  | 120 => ⟨S1x1x64, .f32⟩
  | 121 => ⟨S4096x4x64, .f32⟩
  | 122 => ⟨S4096x4x64, .f32⟩
  | 123 => ⟨S_, .f32⟩
  | 124 => ⟨S64, .f32⟩
  | 125 => ⟨S4096x4x64, .f32⟩
  | 126 => ⟨S_, .f32⟩
  | 127 => ⟨S4096x4, .f32⟩
  | _ => ⟨S4096x1536, .f32⟩

abbrev hbmTy0_2 (i : Nat) : BufTy := match i % 128 with
  | 0 => ⟨S4096x4x1, .f32⟩
  | 1 => ⟨S4096x4x64, .f32⟩
  | 2 => ⟨S4096x4x64, .f32⟩
  | 3 => ⟨S4096x4x1, .f32⟩
  | 4 => ⟨S_, .f32⟩
  | 5 => ⟨S4096x4x1, .f32⟩
  | 6 => ⟨S4096x4x1, .f32⟩
  | 7 => ⟨S_, .f32⟩
  | 8 => ⟨S4096x4, .f32⟩
  | 9 => ⟨S4096x4x64, .f32⟩
  | 10 => ⟨S4096x4x64, .f32⟩
  | 11 => ⟨S4096x4x64, .f32⟩
  | 12 => ⟨S4096x4x64, .f32⟩
  | 13 => ⟨S4096x4x64, .f32⟩
  | 14 => ⟨S4096x256, .f32⟩
  | 15 => ⟨S4096x16x64, .f32⟩
  | 16 => ⟨S_, .f32⟩
  | 17 => ⟨S64, .f32⟩
  | 18 => ⟨S1x1x64, .f32⟩
  | 19 => ⟨S4096x16x64, .f32⟩
  | 20 => ⟨S4096x16x64, .f32⟩
  | 21 => ⟨S_, .f32⟩
  | 22 => ⟨S64, .f32⟩
  | 23 => ⟨S4096x16x64, .f32⟩
  | 24 => ⟨S_, .f32⟩
  | 25 => ⟨S4096x16, .f32⟩
  | 26 => ⟨S4096x16x1, .f32⟩
  | 27 => ⟨S4096x16x64, .f32⟩
  | 28 => ⟨S4096x16x64, .f32⟩
  | 29 => ⟨S4096x16x1, .f32⟩
  | 30 => ⟨S_, .f32⟩
  | 31 => ⟨S4096x16x1, .f32⟩
  | 32 => ⟨S4096x16x1, .f32⟩
  | 33 => ⟨S_, .f32⟩
  | 34 => ⟨S4096x16, .f32⟩
  | 35 => ⟨S4096x16x64, .f32⟩
  | 36 => ⟨S4096x16x64, .f32⟩
  | 37 => ⟨S4096x16x64, .f32⟩
  | 38 => ⟨S4096x16x64, .f32⟩
  | 39 => ⟨S4096x16x64, .f32⟩
  | 40 => ⟨S4096x1024, .f32⟩
  | 41 => ⟨S_, .f32⟩
  | 42 => ⟨S4096x1536, .f32⟩
  | 43 => ⟨S4096x1536, .f32⟩
  | 44 => ⟨S_, .f32⟩
  | 45 => ⟨S4096x1536, .f32⟩
  | 46 => ⟨S4096x1536, .f32⟩
  | 47 => ⟨S4x4, .f32⟩
  | 48 => ⟨S4x4, .f32⟩
  | 49 => ⟨S_, .i32⟩
  | 50 => ⟨S_, .f32⟩
  | 51 => ⟨S4x128, .f32⟩
  | 52 => ⟨S4096x1536, .bf16⟩
  | 53 => ⟨S4x512x256, .f32⟩
  | 54 => ⟨S128, .f32⟩
  | 55 => ⟨S1x128, .f32⟩
  | 56 => ⟨S128, .f32⟩
  | 57 => ⟨S1x128, .f32⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_14 : Ref sig .tc := ⟨.hbm, 92, rfl⟩
abbrev main_v70 : Ref sig .tc := ⟨.hbm, 93, rfl⟩
abbrev main_v71 : Ref sig .tc := ⟨.hbm, 94, rfl⟩
abbrev main_c_15 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_16 : Ref sig .tc := ⟨.hbm, 101, rfl⟩
abbrev main_call0_v0 : Ref sig .tc := ⟨.hbm, 102, rfl⟩
abbrev main_v77_1 : Ref sig .tc := ⟨.hbm, 103, rfl⟩
abbrev main_call0_v2 : Ref sig .tc := ⟨.hbm, 104, rfl⟩
abbrev main_v77_0 : Ref sig .tc := ⟨.hbm, 105, rfl⟩
abbrev main_call0_cst : Ref sig .tc := ⟨.hbm, 106, rfl⟩
abbrev main_v77_2 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_v101 : Ref sig .tc := ⟨.hbm, 137, rfl⟩
abbrev main_cst_23 : Ref sig .tc := ⟨.hbm, 138, rfl⟩
abbrev main_v102 : Ref sig .tc := ⟨.hbm, 139, rfl⟩
abbrev main_cst_24 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_25 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_26 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_27 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_28 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_29 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_30 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_31 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_32 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_33 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_call1_cst : Ref sig .tc := ⟨.hbm, 210, rfl⟩
abbrev main_call1_v0 : Ref sig .tc := ⟨.hbm, 211, rfl⟩
abbrev main_v163 : Ref sig .tc := ⟨.hbm, 212, rfl⟩
abbrev main_cst_34 : Ref sig .tc := ⟨.hbm, 213, rfl⟩
abbrev main_v164 : Ref sig .tc := ⟨.hbm, 214, rfl⟩
abbrev main_v165 : Ref sig .tc := ⟨.hbm, 215, rfl⟩
abbrev main_cst_35 : Ref sig .tc := ⟨.hbm, 216, rfl⟩
abbrev main_v166 : Ref sig .tc := ⟨.hbm, 217, rfl⟩
abbrev main_cst_36 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_cst_37 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_38 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_39 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_40 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_41 : Ref sig .tc := ⟨.hbm, 251, rfl⟩
abbrev main_v195 : Ref sig .tc := ⟨.hbm, 252, rfl⟩
abbrev main_v196 : Ref sig .tc := ⟨.hbm, 253, rfl⟩
abbrev main_cst_42 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_43 : Ref sig .tc := ⟨.hbm, 260, rfl⟩
abbrev main_v202 : Ref sig .tc := ⟨.hbm, 261, rfl⟩
abbrev main_v203 : Ref sig .tc := ⟨.hbm, 262, rfl⟩
abbrev main_cst_44 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_45 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_cst_46 : Ref sig .tc := ⟨.hbm, 277, rfl⟩
abbrev main_v216 : Ref sig .tc := ⟨.hbm, 278, rfl⟩
abbrev main_v217 : Ref sig .tc := ⟨.hbm, 279, rfl⟩
abbrev main_cst_47 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_cst_48 : Ref sig .tc := ⟨.hbm, 286, rfl⟩
abbrev main_v223 : Ref sig .tc := ⟨.hbm, 287, rfl⟩
abbrev main_v224 : Ref sig .tc := ⟨.hbm, 288, rfl⟩
abbrev main_cst_49 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_cst_50 : Ref sig .tc := ⟨.hbm, 297, rfl⟩
abbrev main_v232 : Ref sig .tc := ⟨.hbm, 298, rfl⟩
abbrev main_v233 : Ref sig .tc := ⟨.hbm, 299, rfl⟩
abbrev main_cst_51 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_c_52 : Ref sig .tc := ⟨.hbm, 305, rfl⟩
abbrev main_call2_v0 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S1024x4x384 : Shape := ⟨3, ![1024, 4, 384]⟩
abbrev S4x1024x384 : Shape := ⟨3, ![4, 1024, 384]⟩
abbrev S1x1024 : Shape := ⟨2, ![1, 1024]⟩
abbrev S512x1536 : Shape := ⟨2, ![512, 1536]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1536, .bf16⟩
  | .hbm, ⟨6, _⟩ => ⟨S1024x4x384, .f32⟩
  | .hbm, ⟨7, _⟩ => ⟨S4x1024x384, .f32⟩
  | .hbm, ⟨8, _⟩ => ⟨S4x1024x384, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S4x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1408 : Shape := ⟨3, ![1024, 4, 1408]⟩
abbrev S4x1024x1408 : Shape := ⟨3, ![4, 1024, 1408]⟩
abbrev S256x5632 : Shape := ⟨2, ![256, 5632]⟩
abbrev S16x5632 : Shape := ⟨2, ![16, 5632]⟩
abbrev S256x1024 : Shape := ⟨2, ![256, 1024]⟩
abbrev S272x5632 : Shape := ⟨2, ![272, 5632]⟩
abbrev S3x8x5632 : Shape := ⟨3, ![3, 8, 5632]⟩
abbrev S72x5632 : Shape := ⟨2, ![72, 5632]⟩
abbrev S64x5632 : Shape := ⟨2, ![64, 5632]⟩
abbrev S1x5632 : Shape := ⟨2, ![1, 5632]⟩
abbrev S1x8x5632 : Shape := ⟨3, ![1, 8, 5632]⟩
abbrev S8x5632 : Shape := ⟨2, ![8, 5632]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S5632 : Shape := ⟨1, ![5632]⟩

abbrev nBuf : Space → Nat
  | .hbm => 33
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S4096x5632, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x5632, .bf16⟩
  | .hbm, ⟨24, _⟩ => ⟨S4096x5632, .bf16⟩
  | .hbm, ⟨25, _⟩ => ⟨S1024x4x1408, .f32⟩
  | .hbm, ⟨26, _⟩ => ⟨S4x1024x1408, .f32⟩
  | .hbm, ⟨27, _⟩ => ⟨S4x1024x1408, .bf16⟩
  | .hbm, ⟨28, _⟩ => ⟨S1x1024, .f32⟩
  | .hbm, ⟨29, _⟩ => ⟨S4096x1024, .f32⟩
  | .hbm, ⟨30, _⟩ => ⟨S1x1024, .f32⟩
  | .hbm, ⟨31, _⟩ => ⟨S4096x5632, .bf16⟩
  | .hbm, ⟨32, _⟩ => ⟨S3x5632, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S3x5632, .f32⟩
  | .local _ .vmem, ⟨5, _⟩ => ⟨S256x5632, .bf16⟩
  | .local _ .vmem, ⟨6, _⟩ => ⟨S256x5632, .bf16⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x5632, .bf16⟩
  | .local _ .vmem, ⟨17, _⟩ => ⟨S256x5632, .bf16⟩
  | .local _ .vmem, ⟨18, _⟩ => ⟨S3x5632, .f32⟩
  | .local _ .vmem, ⟨19, _⟩ => ⟨S272x5632, .f32⟩
  | .local _ .vmem, ⟨20, _⟩ => ⟨S3x8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_166 : BitVec 32 := 15#32
  let v428 : BitVec 1 := Scalar.cmpi .eq arg0 c15_i32_166
  let v429 : BitVec 32 := Scalar.extui v428
  let c0_i32_167 : BitVec 32 := 0#32
  let v430 : BitVec 1 := Scalar.cmpi .ne v429 c0_i32_167
  v430

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S3x5632, .f32⟩
  | 4 => ⟨S4096x5632, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S1x5632, .f32⟩
  | 28 => ⟨S5632, .f32⟩
  | 29 => ⟨S_, .f32⟩
  | 30 => ⟨S2x5632, .f32⟩
  | 31 => ⟨S4094x5632, .f32⟩
  | 32 => ⟨S4096x5632, .f32⟩
  | 33 => ⟨S_, .f32⟩
  | 34 => ⟨S2x5632, .f32⟩
  | 35 => ⟨S1x5632, .f32⟩
  | 36 => ⟨S4096x5632, .f32⟩
  | 37 => ⟨S4096x5632, .f32⟩
  | 38 => ⟨S1x5632, .f32⟩
  | 39 => ⟨S5632, .f32⟩
  | 40 => ⟨S_, .f32⟩
  | 41 => ⟨S1x5632, .f32⟩
  | 42 => ⟨S4095x5632, .f32⟩
  | 43 => ⟨S4096x5632, .f32⟩
  | 44 => ⟨S_, .f32⟩
  | 45 => ⟨S1x5632, .f32⟩
  | 46 => ⟨S1x5632, .f32⟩
  | 47 => ⟨S4096x5632, .f32⟩
  | 48 => ⟨S4096x5632, .f32⟩
  | 49 => ⟨S4096x5632, .f32⟩
  | 50 => ⟨S1x5632, .f32⟩
  | 51 => ⟨S5632, .f32⟩
  | 52 => ⟨S1x5632, .f32⟩
  | 53 => ⟨S4096x5632, .f32⟩
  | 54 => ⟨S4096x5632, .f32⟩
  | 55 => ⟨S4096x5632, .f32⟩
  | 56 => ⟨S4096x5632, .f32⟩
  | 57 => ⟨S4096x5632, .f32⟩
  | 58 => ⟨S4096x5632, .f32⟩
  | 59 => ⟨S4096x5632, .f32⟩
  | 60 => ⟨S4096x5632, .f32⟩
  | 61 => ⟨S_, .f32⟩
  | 62 => ⟨S5632, .f32⟩
  | 63 => ⟨S1x5632, .f32⟩
  | 64 => ⟨S_, .f32⟩
  | 65 => ⟨S5632, .f32⟩
  | 66 => ⟨S1x5632, .f32⟩
  | 67 => ⟨S_, .f32⟩
  | 68 => ⟨S3x5632, .f32⟩
  | 69 => ⟨S4096x5632, .f32⟩
  | 70 => ⟨S4096x5632, .f32⟩
  | 71 => ⟨S4096x5632, .f32⟩
  | 72 => ⟨S_, .f32⟩
  | 73 => ⟨S5632, .f32⟩
  | 74 => ⟨S1x5632, .f32⟩
  | 75 => ⟨S_, .f32⟩
  | 76 => ⟨S5632, .f32⟩
  | 77 => ⟨S1x5632, .f32⟩
  | 78 => ⟨S4095x5632, .f32⟩
  | 79 => ⟨S_, .f32⟩
  | 80 => ⟨S4096x5632, .f32⟩
  | 81 => ⟨S4096x5632, .f32⟩
  | 82 => ⟨S1x5632, .f32⟩
  | 83 => ⟨S_, .f32⟩
  | 84 => ⟨S3x5632, .f32⟩
  | 85 => ⟨S3x5632, .f32⟩
  | 86 => ⟨S4096x5632, .f32⟩
  | 87 => ⟨S4096x5632, .f32⟩
  | 88 => ⟨S4096x5632, .f32⟩
  | 89 => ⟨S_, .f32⟩
  | 90 => ⟨S5632, .f32⟩
  | 91 => ⟨S1x5632, .f32⟩
  | 92 => ⟨S_, .f32⟩
  | 93 => ⟨S5632, .f32⟩
  | 94 => ⟨S2x5632, .f32⟩
  | 95 => ⟨S4094x5632, .f32⟩
  | 96 => ⟨S_, .f32⟩
  | 97 => ⟨S4096x5632, .f32⟩
  | 98 => ⟨S4096x5632, .f32⟩
  | 99 => ⟨S1x5632, .f32⟩
  | 100 => ⟨S_, .f32⟩
  | 101 => ⟨S3x5632, .f32⟩
  | 102 => ⟨S3x5632, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S1x1024, .f32⟩
  | 3 => ⟨S4096x5632, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_cst_22 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]
-- ==== Kernel5.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S1x1 : Shape := ⟨2, ![1, 1]⟩
abbrev S512x5632 : Shape := ⟨2, ![512, 5632]⟩
abbrev S512x1024 : Shape := ⟨2, ![512, 1024]⟩
abbrev S512x2816 : Shape := ⟨2, ![512, 2816]⟩
abbrev S128x2816 : Shape := ⟨2, ![128, 2816]⟩
abbrev S512 : Shape := ⟨1, ![512]⟩
abbrev S512x1 : Shape := ⟨2, ![512, 1]⟩
abbrev S1 : Shape := ⟨1, ![1]⟩

abbrev nBuf : Space → Nat
  | .hbm => 13
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S1x5632, .f32⟩
  | .hbm, ⟨6, _⟩ => ⟨S4096x5632, .f32⟩
  | .hbm, ⟨7, _⟩ => ⟨S4096x5632, .f32⟩
  | .hbm, ⟨8, _⟩ => ⟨S4096x5632, .bf16⟩
  | .hbm, ⟨9, _⟩ => ⟨S2816x1024, .bf16⟩
  | .hbm, ⟨10, _⟩ => ⟨S4096x2816, .bf16⟩
  | .hbm, ⟨11, _⟩ => ⟨S4096x1024, .f32⟩
  | .hbm, ⟨12, _⟩ => ⟨S1x1, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | .local _ .vmem, ⟨8, _⟩ => ⟨S512x2816, .bf16⟩
  | .local _ .vmem, ⟨9, _⟩ => ⟨S512x1024, .f32⟩
  | .local _ .vmem, ⟨10, _⟩ => ⟨S512x1024, .f32⟩
  | .local _ .vmem, ⟨11, _⟩ => ⟨S1x1, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S_ : Shape := ⟨0, ![]⟩
abbrev S4096 : Shape := ⟨1, ![4096]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S1x5632, .f32⟩
  | .hbm, ⟨6, _⟩ => ⟨S4096x5632, .f32⟩
  | .hbm, ⟨7, _⟩ => ⟨S4096x5632, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x2816, .bf16⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S1x1, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel6.lean ====
abbrev S32x16 : Shape := ⟨2, ![32, 16]⟩
abbrev S16x128x256 : Shape := ⟨3, ![16, 128, 256]⟩
abbrev S128x256 : Shape := ⟨2, ![128, 256]⟩
abbrev S16x32768 : Shape := ⟨2, ![16, 32768]⟩
abbrev S1x32768 : Shape := ⟨2, ![1, 32768]⟩
abbrev S32x32768 : Shape := ⟨2, ![32, 32768]⟩

abbrev nBuf : Space → Nat
  | .hbm => 6
  | .vmem => 3
  | .smem => 0
  | _ => 0

abbrev bufTy : (tb : Table) → Fin (tcTables nBuf tb) → BufTy
  | .hbm, ⟨0, _⟩ => ⟨S32x16, .f32⟩
  | .hbm, ⟨1, _⟩ => ⟨S16x128x256, .f32⟩
  | .hbm, ⟨2, _⟩ => ⟨S128x256, .i32⟩
  | .hbm, ⟨3, _⟩ => ⟨S16x32768, .f32⟩
  | .hbm, ⟨4, _⟩ => ⟨S1x32768, .i32⟩
  | .hbm, ⟨5, _⟩ => ⟨S32x16, .f32⟩
  | .local _ .vmem, ⟨0, _⟩ => ⟨S16x32768, .f32⟩
  | .local _ .vmem, ⟨1, _⟩ => ⟨S1x32768, .i32⟩
  | .local _ .vmem, ⟨2, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference6Ideal.lean ====
abbrev S32x16 : Shape := ⟨2, ![32, 16]⟩
abbrev S16x128x256 : Shape := ⟨3, ![16, 128, 256]⟩
abbrev S128x256 : Shape := ⟨2, ![128, 256]⟩
abbrev S_ : Shape := ⟨0, ![]⟩
abbrev S128x256x1 : Shape := ⟨3, ![128, 256, 1]⟩
abbrev S128x256x16 : Shape := ⟨3, ![128, 256, 16]⟩

abbrev nBuf : Space → Nat
  | .hbm => 17
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S16x128x256, .f32⟩
  | .hbm, ⟨2, _⟩ => ⟨S128x256, .i32⟩
  | .hbm, ⟨3, _⟩ => ⟨S_, .i32⟩
  | .hbm, ⟨4, _⟩ => ⟨S128x256, .i32⟩
  | .hbm, ⟨5, _⟩ => ⟨S128x256, .i1⟩
  | .hbm, ⟨6, _⟩ => ⟨S_, .i32⟩
  | .hbm, ⟨7, _⟩ => ⟨S128x256, .i32⟩
  | .hbm, ⟨8, _⟩ => ⟨S128x256, .i32⟩
  | .hbm, ⟨9, _⟩ => ⟨S128x256, .i32⟩
  | .hbm, ⟨10, _⟩ => ⟨S128x256x1, .i32⟩
  | .hbm, ⟨11, _⟩ => ⟨S128x256x16, .f32⟩
  | .hbm, ⟨12, _⟩ => ⟨S16x128x256, .f32⟩
  | .hbm, ⟨13, _⟩ => ⟨S128x256x16, .f32⟩
  | .hbm, ⟨14, _⟩ => ⟨S_, .f32⟩
  | .hbm, ⟨15, _⟩ => ⟨S32x16, .f32⟩
  | .hbm, ⟨16, _⟩ => ⟨S32x16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel7.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4x512x256 : Shape := ⟨3, ![4, 512, 256]⟩
abbrev S4096x1024 : Shape := ⟨2, ![4096, 1024]⟩
abbrev S32x4x512x256 : Shape := ⟨4, ![32, 4, 512, 256]⟩
abbrev S4096x128 : Shape := ⟨2, ![4096, 128]⟩
abbrev S128x1536 : Shape := ⟨2, ![128, 1536]⟩
abbrev S128x512 : Shape := ⟨2, ![128, 512]⟩
abbrev S128x1024 : Shape := ⟨2, ![128, 1024]⟩
abbrev S1x4x512x256 : Shape := ⟨4, ![1, 4, 512, 256]⟩
abbrev S128x128 : Shape := ⟨2, ![128, 128]⟩
abbrev S256x128 : Shape := ⟨2, ![256, 128]⟩
abbrev S512x256 : Shape := ⟨2, ![512, 256]⟩
abbrev S256 : Shape := ⟨1, ![256]⟩
abbrev S256x1 : Shape := ⟨2, ![256, 1]⟩
abbrev S128 : Shape := ⟨1, ![128]⟩
abbrev S128x1 : Shape := ⟨2, ![128, 1]⟩
abbrev S512x128 : Shape := ⟨2, ![512, 128]⟩
abbrev S1x512x256 : Shape := ⟨3, ![1, 512, 256]⟩
abbrev S512x1 : Shape := ⟨2, ![512, 1]⟩
abbrev S1 : Shape := ⟨1, ![1]⟩
abbrev S512 : Shape := ⟨1, ![512]⟩
abbrev S1x1x512x256 : Shape := ⟨4, ![1, 1, 512, 256]⟩

abbrev nBuf : Space → Nat
  | .hbm => 18
  | .vmem => 13
  | .smem => 1
  | _ => 0

abbrev bufTy : (tb : Table) → Fin (tcTables nBuf tb) → BufTy
  | .hbm, ⟨0, _⟩ => ⟨S4096x1536, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S4x4x128x256, .f32⟩
  | .hbm, ⟨5, _⟩ => ⟨S1x64, .f32⟩
  | .hbm, ⟨6, _⟩ => ⟨S1x1x1x64, .f32⟩
  | .hbm, ⟨7, _⟩ => ⟨S1x1x2x64, .f32⟩
  | .hbm, ⟨8, _⟩ => ⟨S1x128, .f32⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S4096x1536, .bf16⟩
  | .hbm, ⟨14, _⟩ => ⟨S4x512x256, .f32⟩
  | .hbm, ⟨15, _⟩ => ⟨S4096x1024, .bf16⟩
  | .hbm, ⟨16, _⟩ => ⟨S32x4x512x256, .bf16⟩
  | .hbm, ⟨17, _⟩ => ⟨S4096x128, .f32⟩
  | .local _ .vmem, ⟨0, _⟩ => ⟨S128x1536, .bf16⟩
  | .local _ .vmem, ⟨1, _⟩ => ⟨S128x1536, .bf16⟩
  | .local _ .vmem, ⟨2, _⟩ => ⟨S128x512, .bf16⟩
  | .local _ .vmem, ⟨3, _⟩ => ⟨S128x512, .bf16⟩
  | .local _ .vmem, ⟨4, _⟩ => ⟨S1x128, .f32⟩
  | .local _ .vmem, ⟨5, _⟩ => ⟨S1x128, .f32⟩
  | .local _ .vmem, ⟨6, _⟩ => ⟨S4x512x256, .f32⟩
  | .local _ .vmem, ⟨7, _⟩ => ⟨S128x1024, .bf16⟩
  | .local _ .vmem, ⟨8, _⟩ => ⟨S128x1024, .bf16⟩
  | .local _ .vmem, ⟨9, _⟩ => ⟨S1x4x512x256, .bf16⟩
  | .local _ .vmem, ⟨10, _⟩ => ⟨S1x4x512x256, .bf16⟩
  | .local _ .vmem, ⟨11, _⟩ => ⟨S128x128, .f32⟩
  | .local _ .vmem, ⟨12, _⟩ => ⟨S128x128, .f32⟩
  | .local _ .smem, ⟨0, _⟩ => ⟨S16, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x1536 : Shape := ⟨2, ![4096, 1536]⟩
abbrev S64 : Shape := ⟨1, ![64]⟩
abbrev S16 : Shape := ⟨1, ![16]⟩
abbrev S4x4x128x256 : Shape := ⟨4, ![4, 4, 128, 256]⟩
abbrev S4096x1024 : Shape := ⟨2, ![4096, 1024]⟩
abbrev S4096x256 : Shape := ⟨2, ![4096, 256]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩
abbrev S4096x4x64 : Shape := ⟨3, ![4096, 4, 64]⟩
abbrev S4096x4 : Shape := ⟨2, ![4096, 4]⟩
abbrev S4096x4x1 : Shape := ⟨3, ![4096, 4, 1]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S1x4x4x128x256 : Shape := ⟨5, ![1, 4, 4, 128, 256]⟩
abbrev S32x128x256 : Shape := ⟨3, ![32, 128, 256]⟩
abbrev S32x1x1x128x256 : Shape := ⟨5, ![32, 1, 1, 128, 256]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x128x4x4 : Shape := ⟨4, ![32, 128, 4, 4]⟩
abbrev S32x4x512x256 : Shape := ⟨4, ![32, 4, 512, 256]⟩
abbrev S4096x112 : Shape := ⟨2, ![4096, 112]⟩
abbrev S4096x128 : Shape := ⟨2, ![4096, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S4x4x128x256, .f32⟩
  | .hbm, ⟨5, _⟩ => ⟨S4096x1024, .f32⟩
  | .hbm, ⟨6, _⟩ => ⟨S4096x256, .f32⟩
  | .hbm, ⟨7, _⟩ => ⟨S4096x16x64, .f32⟩
  | .hbm, ⟨8, _⟩ => ⟨S4096x16x64, .f32⟩
  | .hbm, ⟨9, _⟩ => ⟨S_, .f32⟩
  | .hbm, ⟨10, _⟩ => ⟨S4096x16, .f32⟩
  | .hbm, ⟨11, _⟩ => ⟨S4096x16x1, .f32⟩
  | .hbm, ⟨12, _⟩ => ⟨S_, .f32⟩
  | .hbm, ⟨13, _⟩ => ⟨S4096x16x1, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x1, .f32⟩
  | .hbm, ⟨19, _⟩ => ⟨S4096x16x64, .f32⟩
  | .hbm, ⟨20, _⟩ => ⟨S4096x16x64, .f32⟩
  | .hbm, ⟨21, _⟩ => ⟨S1x1x64, .f32⟩
  | .hbm, ⟨22, _⟩ => ⟨S4096x16x64, .f32⟩
  | .hbm, ⟨23, _⟩ => ⟨S4096x16x64, .f32⟩
  | .hbm, ⟨24, _⟩ => ⟨S4096x4x64, .f32⟩
  | .hbm, ⟨25, _⟩ => ⟨S4096x4x64, .f32⟩
  | .hbm, ⟨26, _⟩ => ⟨S_, .f32⟩
  | .hbm, ⟨27, _⟩ => ⟨S4096x4, .f32⟩
  | .hbm, ⟨28, _⟩ => ⟨S4096x4x1, .f32⟩
  | .hbm, ⟨29, _⟩ => ⟨S_, .f32⟩
  | .hbm, ⟨30, _⟩ => ⟨S4096x4x1, .f32⟩
  | .hbm, ⟨31, _⟩ => ⟨S4096x4x1, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x1, .f32⟩
  | .hbm, ⟨36, _⟩ => ⟨S4096x4x64, .f32⟩
  | .hbm, ⟨37, _⟩ => ⟨S4096x4x64, .f32⟩
  | .hbm, ⟨38, _⟩ => ⟨S1x1x64, .f32⟩
  | .hbm, ⟨39, _⟩ => ⟨S4096x4x64, .f32⟩
  | .hbm, ⟨40, _⟩ => ⟨S4096x4x64, .f32⟩
  | .hbm, ⟨41, _⟩ => ⟨S32x128x4x4x64, .f32⟩
  | .hbm, ⟨42, _⟩ => ⟨S32x128x4x64, .f32⟩
  | .hbm, ⟨43, _⟩ => ⟨S1x128x4x64, .f32⟩
  | .hbm, ⟨44, _⟩ => ⟨S_, .f32⟩
  | .hbm, ⟨45, _⟩ => ⟨S1x128x4x64, .f32⟩
  | .hbm, ⟨46, _⟩ => ⟨S31x128x4x64, .f32⟩
  | .hbm, ⟨47, _⟩ => ⟨S32x128x4x64, .f32⟩
  | .hbm, ⟨48, _⟩ => ⟨S32x256x4x64, .f32⟩
  | .hbm, ⟨49, _⟩ => ⟨S4096x256, .f32⟩
  | .hbm, ⟨50, _⟩ => ⟨S32x128x4x64, .f32⟩
  | .hbm, ⟨51, _⟩ => ⟨S1x128x4x64, .f32⟩
  | .hbm, ⟨52, _⟩ => ⟨S_, .f32⟩
  | .hbm, ⟨53, _⟩ => ⟨S1x128x4x64, .f32⟩
  | .hbm, ⟨54, _⟩ => ⟨S31x128x4x64, .f32⟩
  | .hbm, ⟨55, _⟩ => ⟨S32x128x4x64, .f32⟩
  | .hbm, ⟨56, _⟩ => ⟨S32x256x4x64, .f32⟩
  | .hbm, ⟨57, _⟩ => ⟨S32x4x256x128x4, .f32⟩
  | .hbm, ⟨58, _⟩ => ⟨S32x4x4x128x256, .f32⟩
  | .hbm, ⟨59, _⟩ => ⟨S_, .f32⟩
  | .hbm, ⟨60, _⟩ => ⟨S32x4x4x128x256, .f32⟩
  | .hbm, ⟨61, _⟩ => ⟨S32x4x4x128x256, .f32⟩
  | .hbm, ⟨62, _⟩ => ⟨S1x4x4x128x256, .f32⟩
  | .hbm, ⟨63, _⟩ => ⟨S32x4x4x128x256, .f32⟩
  | .hbm, ⟨64, _⟩ => ⟨S32x4x4x128x256, .f32⟩
  | .hbm, ⟨65, _⟩ => ⟨S32x128x256, .i32⟩
  | .hbm, ⟨66, _⟩ => ⟨S32x128x256, .i32⟩
  | .hbm, ⟨67, _⟩ => ⟨S32x128x256, .i32⟩
  | .hbm, ⟨68, _⟩ => ⟨S_, .i32⟩
  | .hbm, ⟨69, _⟩ => ⟨S32x128x256, .i32⟩
  | .hbm, ⟨70, _⟩ => ⟨S32x128x256, .i32⟩
  | .hbm, ⟨71, _⟩ => ⟨S32x128x256, .i32⟩
  | .hbm, ⟨72, _⟩ => ⟨S_, .i32⟩
  | .hbm, ⟨73, _⟩ => ⟨S32x128x256, .i32⟩
  | .hbm, ⟨74, _⟩ => ⟨S32x128x256, .i1⟩
  | .hbm, ⟨75, _⟩ => ⟨S_, .i32⟩
  | .hbm, ⟨76, _⟩ => ⟨S32x128x256, .i32⟩
  | .hbm, ⟨77, _⟩ => ⟨S32x128x256, .i1⟩
  | .hbm, ⟨78, _⟩ => ⟨S32x128x256, .i1⟩
  | .hbm, ⟨79, _⟩ => ⟨S_, .i32⟩
  | .hbm, ⟨80, _⟩ => ⟨S32x128x256, .i32⟩
  | .hbm, ⟨81, _⟩ => ⟨S32x128x256, .i1⟩
  | .hbm, ⟨82, _⟩ => ⟨S_, .i32⟩
  | .hbm, ⟨83, _⟩ => ⟨S32x128x256, .i32⟩
  | .hbm, ⟨84, _⟩ => ⟨S32x128x256, .i1⟩
  | .hbm, ⟨85, _⟩ => ⟨S32x128x256, .i1⟩
  | .hbm, ⟨86, _⟩ => ⟨S32x128x256, .i1⟩
  | .hbm, ⟨87, _⟩ => ⟨S32x1x1x128x256, .i1⟩
  | .hbm, ⟨88, _⟩ => ⟨S_, .f32⟩
  | .hbm, ⟨89, _⟩ => ⟨S_, .f32⟩
  | .hbm, ⟨90, _⟩ => ⟨S32x4x4x128x256, .i1⟩
  | .hbm, ⟨91, _⟩ => ⟨S32x4x4x128x256, .f32⟩
  | .hbm, ⟨92, _⟩ => ⟨S32x4x4x128x256, .f32⟩
  | .hbm, ⟨93, _⟩ => ⟨S1x4x4x1x1, .f32⟩
  | .hbm, ⟨94, _⟩ => ⟨S_, .f32⟩
  | .hbm, ⟨95, _⟩ => ⟨S32x4x4x128, .f32⟩
  | .hbm, ⟨96, _⟩ => ⟨S32x4x4x128x1, .f32⟩
  | .hbm, ⟨97, _⟩ => ⟨S32x4x4x128x1, .f32⟩
  | .hbm, ⟨98, _⟩ => ⟨S32x4x4x128x1, .f32⟩
  | .hbm, ⟨99, _⟩ => ⟨S32x4x4x128x256, .f32⟩
  | .hbm, ⟨100, _⟩ => ⟨S32x4x4x128x256, .f32⟩
  | .hbm, ⟨101, _⟩ => ⟨S32x4x4x128x256, .f32⟩
  | .hbm, ⟨102, _⟩ => ⟨S32x4x4x128x1, .f32⟩
  | .hbm, ⟨103, _⟩ => ⟨S32x4x4x128x1, .f32⟩
  | .hbm, ⟨104, _⟩ => ⟨S32x4x4x128x1, .f32⟩
  | .hbm, ⟨105, _⟩ => ⟨S_, .f32⟩
  | .hbm, ⟨106, _⟩ => ⟨S32x4x4x128, .f32⟩
  | .hbm, ⟨107, _⟩ => ⟨S32x4x4x128x1, .f32⟩
  | .hbm, ⟨108, _⟩ => ⟨S32x4x4x128x1, .f32⟩
  | .hbm, ⟨109, _⟩ => ⟨S32x4x4x128x256, .f32⟩
  | .hbm, ⟨110, _⟩ => ⟨S32x4x4x128x256, .f32⟩
  | .hbm, ⟨111, _⟩ => ⟨S32x4x4x128x1, .f32⟩
  | .hbm, ⟨112, _⟩ => ⟨S32x4x64x4x128, .f32⟩
  | .hbm, ⟨113, _⟩ => ⟨S32x128x4x4x64, .f32⟩
  | .hbm, ⟨114, _⟩ => ⟨S4096x1024, .f32⟩
  | .hbm, ⟨115, _⟩ => ⟨S4096x1024, .bf16⟩
  | .hbm, ⟨116, _⟩ => ⟨S32x4x4x128, .f32⟩
  | .hbm, ⟨117, _⟩ => ⟨S32x128x4x4, .f32⟩
  | .hbm, ⟨118, _⟩ => ⟨S4096x16, .f32⟩
  | .hbm, ⟨119, _⟩ => ⟨S32x4x512x256, .f32⟩
  | .hbm, ⟨120, _⟩ => ⟨S32x4x512x256, .bf16⟩
  | .hbm, ⟨121, _⟩ => ⟨S_, .f32⟩
  | .hbm, ⟨122, _⟩ => ⟨S4096x112, .f32⟩
  | .hbm, ⟨123, _⟩ => ⟨S4096x128, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_c_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_15 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Kernel8.lean ====
abbrev S4096x4096 : Shape := ⟨2, ![4096, 4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4096x1024 : Shape := ⟨2, ![4096, 1024]⟩
abbrev S_ : Shape := ⟨0, ![]⟩
abbrev S1x2048 : Shape := ⟨2, ![1, 2048]⟩
abbrev S128x128 : Shape := ⟨2, ![128, 128]⟩
abbrev S128x16 : Shape := ⟨2, ![128, 16]⟩
abbrev S4096x2048 : Shape := ⟨2, ![4096, 2048]⟩
abbrev S512x4096 : Shape := ⟨2, ![512, 4096]⟩
abbrev S512x1024 : Shape := ⟨2, ![512, 1024]⟩
abbrev S512x2048 : Shape := ⟨2, ![512, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩

abbrev nBuf : Space → Nat
  | .hbm => 34
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4096x4096, .bf16⟩
  | .hbm, ⟨18, _⟩ => ⟨S1x2048, .f32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S16x128x128, .i1⟩
  | .hbm, ⟨26, _⟩ => ⟨S_, .f32⟩
  | .hbm, ⟨27, _⟩ => ⟨S16x128x128, .f32⟩
  | .hbm, ⟨28, _⟩ => ⟨S16x128x128, .f32⟩
  | .hbm, ⟨29, _⟩ => ⟨S16x128x128, .bf16⟩
  | .hbm, ⟨30, _⟩ => ⟨S128x16, .f32⟩
  | .hbm, ⟨31, _⟩ => ⟨S2048x1024, .bf16⟩
  | .hbm, ⟨32, _⟩ => ⟨S4096x2048, .bf16⟩
  | .hbm, ⟨33, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S16x128x128, .bf16⟩
  | .local _ .vmem, ⟨8, _⟩ => ⟨S128x16, .f32⟩
  | .local _ .vmem, ⟨9, _⟩ => ⟨S2048x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_cst : Ref sig .tc := ⟨.hbm, 26, rfl⟩
abbrev main_call0_v6 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  v9
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v11 : Index := Scalar.indexCast v10
  let c0_8 : Index := 0#32
  ![v11.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v51 : Index := Scalar.indexCast v10
  let c0_21 : Index := 0#32
  ![v51.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v64 : Index := Scalar.indexCast v10
  let c128 : Index := 128#32
  ![v64.toNat, 128]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v77 : Index := Scalar.indexCast v10
  let c256 : Index := 256#32
  ![v77.toNat, 256]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v90 : Index := Scalar.indexCast v10
  let c384 : Index := 384#32
  ![v90.toNat, 384]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v103 : Index := Scalar.indexCast v10
  let c512 : Index := 512#32
  ![v103.toNat, 512]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v116 : Index := Scalar.indexCast v10
  let c640 : Index := 640#32
  ![v116.toNat, 640]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v129 : Index := Scalar.indexCast v10
  let c768 : Index := 768#32
  ![v129.toNat, 768]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v142 : Index := Scalar.indexCast v10
  let c896 : Index := 896#32
  ![v142.toNat, 896]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v155 : Index := Scalar.indexCast v10
  let c1024 : Index := 1024#32
  ![v155.toNat, 1024]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v168 : Index := Scalar.indexCast v10
  let c1152 : Index := 1152#32
  ![v168.toNat, 1152]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v181 : Index := Scalar.indexCast v10
  let c1280 : Index := 1280#32
  ![v181.toNat, 1280]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v194 : Index := Scalar.indexCast v10
  let c1408 : Index := 1408#32
  ![v194.toNat, 1408]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v207 : Index := Scalar.indexCast v10
  let c1536 : Index := 1536#32
  ![v207.toNat, 1536]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v220 : Index := Scalar.indexCast v10
  let c1664 : Index := 1664#32
  ![v220.toNat, 1664]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v233 : Index := Scalar.indexCast v10
  let c1792 : Index := 1792#32
  ![v233.toNat, 1792]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v9 : BitVec 32 := Scalar.muli arg10 c128_i32
  let v10 : BitVec 32 := v9
  let v246 : Index := Scalar.indexCast v10
  let c1920 : Index := 1920#32
  ![v246.toNat, 1920]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x4096 : Shape := ⟨2, ![4096, 4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4096x1024 : Shape := ⟨2, ![4096, 1024]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩
abbrev S32x128x16x128 : Shape := ⟨4, ![32, 128, 16, 128]⟩
abbrev S128x128 : Shape := ⟨2, ![128, 128]⟩
abbrev S16x32x128x128 : Shape := ⟨4, ![16, 32, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S32x128x16x128, .f32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S16x128x128, .i1⟩
  | .hbm, ⟨41, _⟩ => ⟨S_, .f32⟩
  | .hbm, ⟨42, _⟩ => ⟨S16x128x128, .f32⟩
  | .hbm, ⟨43, _⟩ => ⟨S16x128x128, .f32⟩
  | .hbm, ⟨44, _⟩ => ⟨S16x32x128x128, .f32⟩
  | .hbm, ⟨45, _⟩ => ⟨S32x128x16x128, .f32⟩
  | .hbm, ⟨46, _⟩ => ⟨S128x16, .f32⟩
  | .hbm, ⟨47, _⟩ => ⟨S128x16x1, .f32⟩
  | .hbm, ⟨48, _⟩ => ⟨S1x128x16x1, .f32⟩
  | .hbm, ⟨49, _⟩ => ⟨S32x128x16x128, .f32⟩
  | .hbm, ⟨50, _⟩ => ⟨S32x128x16x128, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S4096x1024, .f32⟩
  | .hbm, ⟨55, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_cst : Ref sig .tc := ⟨.hbm, 41, rfl⟩
abbrev main_call0_v6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x4096, .bf16⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S512x5632 : Shape := ⟨2, ![512, 5632]⟩
abbrev S512x1024 : Shape := ⟨2, ![512, 1024]⟩
abbrev S512x2816 : Shape := ⟨2, ![512, 2816]⟩
abbrev S128x2816 : Shape := ⟨2, ![128, 2816]⟩

abbrev nBuf : Space → Nat
  | .hbm => 11
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x5632, .bf16⟩
  | .hbm, ⟨8, _⟩ => ⟨S2816x1024, .bf16⟩
  | .hbm, ⟨9, _⟩ => ⟨S4096x2816, .bf16⟩
  | .hbm, ⟨10, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S2816x1024, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .f32⟩
  | .local _ .vmem, ⟨8, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x5632 : Shape := ⟨2, ![4096, 5632]⟩
abbrev S5632 : Shape := ⟨1, ![5632]⟩
abbrev S2816x1024 : Shape := ⟨2, ![2816, 1024]⟩
abbrev S4096x1024 : Shape := ⟨2, ![4096, 1024]⟩
abbrev S1x5632 : Shape := ⟨2, ![1, 5632]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S4096x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x1024, .f32⟩
  | .hbm, ⟨21, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4096x1024, .bf16⟩
  | .hbm, ⟨8, _⟩ => ⟨S4096x4096, .bf16⟩
  | .hbm, ⟨9, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x1024, .bf16⟩
  | .hbm, ⟨21, _⟩ => ⟨S4096x4096, .bf16⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x5632 : Shape := ⟨2, ![1, 5632]⟩
abbrev S4096x5632 : Shape := ⟨2, ![4096, 5632]⟩
abbrev S512x1024 : Shape := ⟨2, ![512, 1024]⟩
abbrev S512x5632 : Shape := ⟨2, ![512, 5632]⟩
abbrev S16x5632 : Shape := ⟨2, ![16, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408 : Shape := ⟨2, ![1, 1408]⟩
abbrev S16x1408 : Shape := ⟨2, ![16, 1408]⟩
abbrev S32x1408 : Shape := ⟨2, ![32, 1408]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S1x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S1x5632, .f32⟩
  | .hbm, ⟨10, _⟩ => ⟨S4096x1024, .bf16⟩
  | .hbm, ⟨11, _⟩ => ⟨S4096x5632, .bf16⟩
  | .hbm, ⟨12, _⟩ => ⟨S4096x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S3x5632, .f32⟩
  | .local _ .vmem, ⟨5, _⟩ => ⟨S1x5632, .f32⟩
  | .local _ .vmem, ⟨6, _⟩ => ⟨S512x1024, .bf16⟩
  | .local _ .vmem, ⟨7, _⟩ => ⟨S512x1024, .bf16⟩
  | .local _ .vmem, ⟨8, _⟩ => ⟨S512x5632, .bf16⟩
  | .local _ .vmem, ⟨9, _⟩ => ⟨S512x5632, .bf16⟩
  | .local _ .vmem, ⟨10, _⟩ => ⟨S512x5632, .bf16⟩
  | .local _ .vmem, ⟨11, _⟩ => ⟨S512x5632, .bf16⟩
  | .local _ .vmem, ⟨12, _⟩ => ⟨S16x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x5632 : Shape := ⟨2, ![1, 5632]⟩
abbrev S2x5632 : Shape := ⟨2, ![2, 5632]⟩
abbrev S4094x5632 : Shape := ⟨2, ![4094, 5632]⟩
abbrev S4095x5632 : Shape := ⟨2, ![4095, 5632]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x1024, .bf16⟩
  | .hbm, ⟨23, _⟩ => ⟨S4096x5632, .bf16⟩
  | .hbm, ⟨24, _⟩ => ⟨S1x5632, .f32⟩
  | .hbm, ⟨25, _⟩ => ⟨S5632, .f32⟩
  | .hbm, ⟨26, _⟩ => ⟨S_, .f32⟩
  | .hbm, ⟨27, _⟩ => ⟨S2x5632, .f32⟩
  | .hbm, ⟨28, _⟩ => ⟨S4094x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S1x5632, .f32⟩
  | .hbm, ⟨34, _⟩ => ⟨S5632, .f32⟩
  | .hbm, ⟨35, _⟩ => ⟨S_, .f32⟩
  | .hbm, ⟨36, _⟩ => ⟨S1x5632, .f32⟩
  | .hbm, ⟨37, _⟩ => ⟨S4095x5632, .f32⟩
  | .hbm, ⟨38, _⟩ => ⟨S4096x5632, .f32⟩
  | .hbm, ⟨39, _⟩ => ⟨S1x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S4096x5632, .f32⟩
  | .hbm, ⟨47, _⟩ => ⟨S4096x5632, .f32⟩
  | .hbm, ⟨48, _⟩ => ⟨S4096x5632, .f32⟩
  | .hbm, ⟨49, _⟩ => ⟨S1x5632, .f32⟩
  | .hbm, ⟨50, _⟩ => ⟨S4096x5632, .f32⟩
  | .hbm, ⟨51, _⟩ => ⟨S4096x5632, .f32⟩
  | .hbm, ⟨52, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1024x1536 : Shape := ⟨2, ![1024, 1536]⟩
abbrev S1x1024 : Shape := ⟨2, ![1, 1024]⟩
abbrev S1024x4x384 : Shape := ⟨3, ![1024, 4, 384]⟩
abbrev S4x1024x384 : Shape := ⟨3, ![4, 1024, 384]⟩
abbrev S4096x1536 : Shape := ⟨2, ![4096, 1536]⟩
abbrev S1024x1024 : Shape := ⟨2, ![1024, 1024]⟩
abbrev S1024x1 : Shape := ⟨2, ![1024, 1]⟩
abbrev S1x1024x384 : Shape := ⟨3, ![1, 1024, 384]⟩
abbrev S1024x384 : Shape := ⟨2, ![1024, 384]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x4x384, .f32⟩
  | .hbm, ⟨5, _⟩ => ⟨S4x1024x384, .f32⟩
  | .hbm, ⟨6, _⟩ => ⟨S4x1024x384, .bf16⟩
  | .hbm, ⟨7, _⟩ => ⟨S4096x1024, .bf16⟩
  | .hbm, ⟨8, _⟩ => ⟨S4096x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x384, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S4096x1024 : Shape := ⟨2, ![4096, 1024]⟩
abbrev S1024 : Shape := ⟨1, ![1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1536 : Shape := ⟨2, ![4096, 1536]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1536, .f32⟩
  | .hbm, ⟨21, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel14.lean ====
abbrev S32x16 : Shape := ⟨2, ![32, 16]⟩
abbrev S128x256 : Shape := ⟨2, ![128, 256]⟩
abbrev S1x32768 : Shape := ⟨2, ![1, 32768]⟩
abbrev S16x32768 : Shape := ⟨2, ![16, 32768]⟩
abbrev S32x32768 : Shape := ⟨2, ![32, 32768]⟩

abbrev nBuf : Space → Nat
  | .hbm => 4
  | .vmem => 3
  | .smem => 0
  | _ => 0

abbrev bufTy : (tb : Table) → Fin (tcTables nBuf tb) → BufTy
  | .hbm, ⟨0, _⟩ => ⟨S32x16, .f32⟩
  | .hbm, ⟨1, _⟩ => ⟨S128x256, .i32⟩
  | .hbm, ⟨2, _⟩ => ⟨S1x32768, .i32⟩
  | .hbm, ⟨3, _⟩ => ⟨S16x32768, .f32⟩
  | .local _ .vmem, ⟨0, _⟩ => ⟨S32x16, .f32⟩
  | .local _ .vmem, ⟨1, _⟩ => ⟨S1x32768, .i32⟩
  | .local _ .vmem, ⟨2, _⟩ => ⟨S16x32768, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference14Ideal.lean ====
abbrev S32x16 : Shape := ⟨2, ![32, 16]⟩
abbrev S128x256 : Shape := ⟨2, ![128, 256]⟩
abbrev S_ : Shape := ⟨0, ![]⟩
abbrev S128x256x1 : Shape := ⟨3, ![128, 256, 1]⟩
abbrev S128x256x16 : Shape := ⟨3, ![128, 256, 16]⟩
abbrev S16x128x256 : Shape := ⟨3, ![16, 128, 256]⟩
abbrev S16x32768 : Shape := ⟨2, ![16, 32768]⟩

abbrev nBuf : Space → Nat
  | .hbm => 13
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128x256, .i32⟩
  | .hbm, ⟨2, _⟩ => ⟨S_, .i32⟩
  | .hbm, ⟨3, _⟩ => ⟨S128x256, .i32⟩
  | .hbm, ⟨4, _⟩ => ⟨S128x256, .i1⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256x1, .i32⟩
  | .hbm, ⟨10, _⟩ => ⟨S128x256x16, .f32⟩
  | .hbm, ⟨11, _⟩ => ⟨S16x128x256, .f32⟩
  | .hbm, ⟨12, _⟩ => ⟨S16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.FfnDc.lean ====
/- The gradient of the gate of one feed-forward layer, as the kernel computes it: per row `r` and column `k`
   the entry `dcR`, written block by block, and its column sums, collected in eight partial rows. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-- A load of what one store of the whole shape left reads its payload through the load's rectangle. -/
theorem Cert.readCov_whole {Val : EltTy → Type} {S : Shape} {e : EltTy} [∀ e, Nonempty (Val e)] {sig : RefSig} {κ : Kind} {sp : Space}
    (v : View sig κ sp S e) {off : Fin S.rank → ℕ} (inb : ∀ a, off a + S.size a ≤ S.size a) (w : S.Idx → Val e) (r : Rect S)
    (h : ∀ a, off a = 0) :
    v.readCov [(⟨Rect.unit off (no_index S.size) inb, w⟩ : View.Piece Val S e)] r.toLoadRect = View.ld w r := by
  rw [View.readCov_eq_canon', View.canon_cons_unit_lit' inb w [] h]

namespace Cert.KernelIdeal.FfnDc

open Cert.KernelIdeal Cert.KernelIdeal.Gen

variable (m : (ℓ : Loc nD τ sig) → Buf (Elt Ideal) ℓ)

/-- The kernel's sigmoid, `½ tanh (g / 2) + ½`. -/
def sgm (g : EReal) : EReal :=
  Ideal.ofBits .f32 0x3F000000#32 * Ideal.tanh (Ideal.ofBits .f32 0x3F000000#32 * g) + Ideal.ofBits .f32 0x3F000000#32

/-- Entry `k` of one row of the gradient, from the row `df` of the gated product's gradient and the row `cp` of
    pre-activations: the gate's half first, the value's half after it. -/
def dcR (df : Fin 2816 → EReal) (cp : Fin 5632 → EReal) (k : Fin 5632) : EReal :=
  if h : (k : ℕ) < 2816 then df ⟨k, h⟩ * cp ⟨2816 + k, by omega⟩ * (sgm (cp k) * (1 + cp k * (1 - sgm (cp k))))
  else df ⟨k - 2816, by omega⟩ * (cp ⟨k - 2816, by omega⟩ * sgm (cp ⟨k - 2816, by omega⟩))

/-- The same for row `r` of one block of 512 rows. -/
def dcB (x0 : FVec Ideal S512x1024 .f32) (x1 : FVec Ideal S512x5632 .bf16) (x2 : FVec Ideal S2816x1024 .bf16)
    (r : Fin 512) (k : Fin 5632) : EReal :=
  dcR (fun j => ∑ d : Fin 1024, x0 (ix2 r d) * x2 (ix2 j d)) (fun j => x1 (ix2 r j)) k

/-- `v` holds rows `o … o + 63` of the block's gradient. -/
def IsChunk (o : ℕ) (x0 : FVec Ideal S512x1024 .f32) (x1 : FVec Ideal S512x5632 .bf16) (x2 : FVec Ideal S2816x1024 .bf16)
    (v : FVec Ideal S64x5632 .f32) : Prop :=
  ∀ (a : Fin 64) (r : Fin 512) (k : Fin 5632), (r : ℕ) = o + (a : ℕ) → v (ix2 a k) = dcB x0 x1 x2 r k

theorem chunk (o : ℕ) (ho : o + 64 ≤ 512) (x0 : FVec Ideal S512x1024 .f32) (x1 : FVec Ideal S512x5632 .bf16)
    (x2 : FVec Ideal S2816x1024 .bf16) (v11 : FVec Ideal S64x5632 .bf16) (v23 : FVec Ideal S64x2816 .f32)
    (h11 : ∀ (a : Fin 64) (b : Fin 5632), v11 (ix2 a b) = x1 (ix2 ⟨o + a, by omega⟩ b))
    (h23 : ∀ (a : Fin 64) (b : Fin 2816), v23 (ix2 a b) = ∑ d : Fin 1024, x0 (ix2 ⟨o + a, by omega⟩ d) * x2 (ix2 b d)) :
    IsChunk o x0 x1 x2 (k0_pay4 (F := Ideal) v11 v23) := by
  intro a r k hr
  have e : r = ⟨o + a, by omega⟩ := Fin.ext hr
  rw [e]
  pointwise [k0_pay4, dcB, dcR, sgm, h11, h23]

theorem IsChunk.apply {o : ℕ} {x0 : FVec Ideal S512x1024 .f32} {x1 : FVec Ideal S512x5632 .bf16}
    {x2 : FVec Ideal S2816x1024 .bf16} {v : FVec Ideal S64x5632 .f32} (h : IsChunk o x0 x1 x2 v) (x : S64x5632.Idx)
    (r : Fin 512) (k : Fin 5632) (hr : (r : ℕ) = o + (x 0 : ℕ)) (hk : (k : ℕ) = (x 1 : ℕ)) :
    v x = dcB x0 x1 x2 r k := by
  have e : k = x 1 := Fin.ext hk
  rw [e, eq_ix2 x]
  exact h _ _ _ hr

/-- One step of the accumulator: eight rows of eight added into the eight partial rows. -/
theorem part (v : FVec Ideal S64x5632 .f32) (acc : FVec Ideal S8x5632 .f32) (r : Fin 8) (k : Fin 5632) :
    k0_pay6 (F := Ideal) v acc (ix2 r k) = acc (ix2 r k) + ∑ q : Fin 8, v (ix2 ⟨8 * q + r, by omega⟩ k) := by
  rw [Fin.sum_univ_eight]
  pointwise [k0_pay6]

/-- The eight steps of one grid point. -/
theorem acc8 (x0 : FVec Ideal S512x1024 .f32) (x1 : FVec Ideal S512x5632 .bf16) (x2 : FVec Ideal S2816x1024 .bf16)
    (acc : FVec Ideal S8x5632 .f32) (v0 v1 v2 v3 v4 v5 v6 v7 : FVec Ideal S64x5632 .f32)
    (h0 : IsChunk 0 x0 x1 x2 v0) (h1 : IsChunk 64 x0 x1 x2 v1) (h2 : IsChunk 128 x0 x1 x2 v2) (h3 : IsChunk 192 x0 x1 x2 v3)
    (h4 : IsChunk 256 x0 x1 x2 v4) (h5 : IsChunk 320 x0 x1 x2 v5) (h6 : IsChunk 384 x0 x1 x2 v6) (h7 : IsChunk 448 x0 x1 x2 v7)
    (r : Fin 8) (k : Fin 5632) :
    k0_pay6 (F := Ideal) v7 (k0_pay6 v6 (k0_pay6 v5 (k0_pay6 v4 (k0_pay6 v3 (k0_pay6 v2 (k0_pay6 v1 (k0_pay6 v0 acc))))))) (ix2 r k)
      = acc (ix2 r k) + ∑ p : Fin 8, ∑ q : Fin 8, dcB x0 x1 x2 ⟨64 * p + (8 * q + r), by omega⟩ k := by
  have key : ∀ (p : Fin 8) (v : FVec Ideal S64x5632 .f32), IsChunk (64 * p) x0 x1 x2 v →
      ∑ q : Fin 8, v (ix2 ⟨8 * q + r, by omega⟩ k) = ∑ q : Fin 8, dcB x0 x1 x2 ⟨64 * p + (8 * q + r), by omega⟩ k :=
    fun p v h => Finset.sum_congr rfl fun q _ => h _ _ _ rfl
  simp only [part]
  rw [Fin.sum_univ_eight (f := fun p : Fin 8 => ∑ q : Fin 8, dcB x0 x1 x2 ⟨64 * p + (8 * q + r), by omega⟩ k),
    key 0 v0 h0, key 1 v1 h1, key 2 v2 h2, key 3 v3 h3, key 4 v4 h4, key 5 v5 h5, key 6 v6 h6, key 7 v7 h7]
  simp only [add_assoc]

/-- What grid point `t` leaves in its block of the gradient. -/
theorem block_at (c : Dev nD) (t : Fin cfg0.N) (r : Fin 512) (k : Fin 5632) :
    (outsAt0 m c t.val t.isLt).1 (ix2 r k) = dcB (iblk m c 0 t) (iblk m c 1 t) (iblk m c 2 t) r k := by
  by_cases g0 : t.val % 8 = 0
  · have g1 : ¬t.val % 8 = 7 := by omega
    rw [outsAt0_A m c t g0 g1]; frame_out
    simp (disch := decide) only [readCov_whole]
    canon_tiles x h
    all_goals
      first
        | refine (chunk _ (by norm_num) _ _ _ _ _ ?_ ?_).apply x r k h0 h1
        | refine (chunk 0 (by norm_num) _ _ _ _ _ ?_ ?_).apply x r k (h0.trans (Nat.zero_add _).symm) h1
      · intro a b; pointwise
      · intro a b; pointwise [k0_pay3]
  by_cases g1 : t.val % 8 = 7
  · rw [outsAt0_C m c t g0 g1]; frame_out
    simp (disch := decide) only [readCov_whole]
    canon_tiles x h
    all_goals
      first
        | refine (chunk _ (by norm_num) _ _ _ _ _ ?_ ?_).apply x r k h0 h1
        | refine (chunk 0 (by norm_num) _ _ _ _ _ ?_ ?_).apply x r k (h0.trans (Nat.zero_add _).symm) h1
      · intro a b; pointwise
      · intro a b; pointwise [k0_pay3]
  · rw [outsAt0_B m c t g0 g1]; frame_out
    simp (disch := decide) only [readCov_whole]
    canon_tiles x h
    all_goals
      first
        | refine (chunk _ (by norm_num) _ _ _ _ _ ?_ ?_).apply x r k h0 h1
        | refine (chunk 0 (by norm_num) _ _ _ _ _ ?_ ?_).apply x r k (h0.trans (Nat.zero_add _).symm) h1
      · intro a b; pointwise
      · intro a b; pointwise [k0_pay3]

/-- One point's contribution to partial row `r` of the column sums. -/
def accPart (c : Dev nD) (t : Fin cfg0.N) (r : Fin 8) (k : Fin 5632) : EReal :=
  ∑ p : Fin 8, ∑ q : Fin 8, dcB (iblk m c 0 t) (iblk m c 1 t) (iblk m c 2 t) ⟨64 * p + (8 * q + r), by omega⟩ k

theorem acc_first (c : Dev nD) (t : Fin cfg0.N) (g0 : t.val % 8 = 0) (g1 : ¬t.val % 8 = 7) (r : Fin 8) (k : Fin 5632) :
    (outsAt0 m c t.val t.isLt).2.2 (ix2 r k) = accPart m c t r k := by
  rw [outsAt0_A m c t g0 g1]; frame_out
  simp (disch := decide) only [readCov_whole]
  refine (acc8 (iblk m c 0 t) (iblk m c 1 t) (iblk m c 2 t) _ _ _ _ _ _ _ _ _ ?_ ?_ ?_ ?_ ?_ ?_ ?_ ?_ r k).trans ?_
  rotate_right
  · refine (congrArg (· + _) (?_ : _ = (0 : EReal))).trans (zero_add _)
    pointwise [k0_pay2]
  all_goals
    refine chunk _ (by norm_num) _ _ _ _ _ ?_ ?_
    · intro a b; pointwise
    · intro a b; pointwise [k0_pay3]

theorem acc_mid (c : Dev nD) (t : Fin cfg0.N) (g0 : ¬t.val % 8 = 0) (g1 : ¬t.val % 8 = 7) (r : Fin 8) (k : Fin 5632) :
    (outsAt0 m c t.val t.isLt).2.2 (ix2 r k) = (outsAt0 m c (t.val - 1) (by omega)).2.2 (ix2 r k) + accPart m c t r k := by
  rw [outsAt0_B m c t g0 g1]; frame_out
  simp (disch := decide) only [readCov_whole]
  refine (acc8 (iblk m c 0 t) (iblk m c 1 t) (iblk m c 2 t) _ _ _ _ _ _ _ _ _ ?_ ?_ ?_ ?_ ?_ ?_ ?_ ?_ r k).trans ?_
  rotate_right
  · exact congrArg (· + _) (congrFun ((Memref.isWhole_whole _).read_unread _) _)
  all_goals
    refine chunk _ (by norm_num) _ _ _ _ _ ?_ ?_
    · intro a b; pointwise
    · intro a b; pointwise [k0_pay3]

/-- The column sums of the eight partial rows. -/
theorem pay1_at (v : FVec Ideal S8x5632 .f32) (k : Fin 5632) :
    k0_pay1 (F := Ideal) v (ix2 0 k) = ∑ r : Fin 8, v (ix2 r k) := by
  pointwise [k0_pay1]

/-- At the last point the eight partial rows are added up. -/
theorem out_last (c : Dev nD) (t : Fin cfg0.N) (g0 : ¬t.val % 8 = 0) (g1 : t.val % 8 = 7) (k : Fin 5632) :
    (outsAt0 m c t.val t.isLt).2.1 (ix2 0 k)
      = ∑ r : Fin 8, ((outsAt0 m c (t.val - 1) (by omega)).2.2 (ix2 r k) + accPart m c t r k) := by
  rw [outsAt0_C m c t g0 g1]; frame_out
  simp (disch := decide) only [readCov_whole]
  refine (pay1_at _ k).trans (Finset.sum_congr rfl fun r _ => ?_)
  refine (acc8 (iblk m c 0 t) (iblk m c 1 t) (iblk m c 2 t) _ _ _ _ _ _ _ _ _ ?_ ?_ ?_ ?_ ?_ ?_ ?_ ?_ r k).trans ?_
  rotate_right
  · exact congrArg (· + _) (congrFun ((Memref.isWhole_whole _).read_unread _) _)
  all_goals
    refine chunk _ (by norm_num) _ _ _ _ _ ?_ ?_
    · intro a b; pointwise
    · intro a b; pointwise [k0_pay3]

end Cert.KernelIdeal.FfnDc

end
-- ==== Proof.FfnDcArr.lean ====
/- The two result arrays of the gate's gradient, as functions of the kernel's arguments. -/
module

public import proofs.«01_k».proof.Proof.FfnDc

@[expose] public section

set_option maxRecDepth 16384

noncomputable section

open Idealize.ShloMosaic Idealize.ShloMosaic.TcCoe Idealize.SL.Sem
open Idealize.ShloMosaic.Pipeline (Dat)

namespace Cert.KernelIdeal.FfnDc

open Cert.KernelIdeal Cert.KernelIdeal.Gen

variable (m : (ℓ : Loc nD τ sig) → Buf (Elt Ideal) ℓ)

/-- Entry `(r, k)` of the gradient of the pre-activation, over the arguments. -/
def dcK (C : FVec Ideal S4096x5632 .f32) (B : FVec Ideal S5632 .f32) (W : FVec Ideal S2816x1024 .f32)
    (DH : FVec Ideal S4096x1024 .f32) (r : Fin 4096) (k : Fin 5632) : EReal :=
  dcR (fun j => ∑ d : Fin 1024, DH (ix2 r d) * W (ix2 j d)) (fun j => C (ix2 r j) + B (ix1 j)) k

/-- `dcK` at the arguments of device `c`. -/
def dcM (c : Dev nD) (r : Fin 4096) (k : Fin 5632) : EReal :=
  dcK (m ((c : Thread nD τ).loc main_arg0)) (m ((c : Thread nD τ).loc main_arg1)) (m ((c : Thread nD τ).loc main_arg2))
    (m ((c : Thread nD τ).loc main_arg3)) r k

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem dcB_eq (c : Dev nD) (t : Fin cfg0.N) (r : Fin 512) (k : Fin 5632) (h : 512 * t.val + r.val < 4096) :
    dcB (iblk m c 0 t) (iblk m c 1 t) (iblk m c 2 t) r k = dcM m c ⟨512 * t + r, h⟩ k := by
  unfold dcB dcM dcK
  refine congrArg₂ (dcR · · k) (funext fun j => ?_) (funext fun j => ?_)
  · blk_point [iblk, V, idx t]
  · blk_simp [iblk]
    entry_read
    pointwise
    refine Ideal.add_congr ?_ ?_
    · blk_ext [idx t]
    · blk_ext [idx t]

theorem final3 (c : Dev nD) : (dats m 0 c).arrAt 3 (cfgs 0).N = fun i => dcM m c (i 0) (i 1) := by
  refine (dats m 0 c).arrAt_eq_of_covers 3 _ (by decide +kernel) fun t hf y => ?_
  blk_simp
  rw [after0_3]
  have hN := lt_of_lt_of_eq t.isLt (show cfg0.N = 8 from N_0)
  have hy : y = (ix2 (y 0) (y 1) : S512x5632.Idx) := eq_ix2 (n0 := 512) (n1 := 5632) y
  have h0 : (y 0 : ℕ) < 512 := (y 0).isLt
  refine (congrArg (outsAt0 m c t.val t.isLt).1 hy).trans (((block_at m c t (y 0) (y 1)).trans
    (dcB_eq m c t (y 0) (y 1) (show 512 * t.val + (y 0 : ℕ) < 4096 by omega))).trans ?_)
  refine congrArg₂ (dcM m c) (Fin.ext ?_) (Fin.ext ?_)
  · blk_simp [idx t]
    show 512 * t.val + (y 0 : ℕ) = t.val * 512 + (y 0 : ℕ)
    omega
  · blk_simp [idx t]

/-- What partial row `r` of the column sums holds after point `t`. -/
theorem acc_sum (c : Dev nD) (r : Fin 8) (k : Fin 5632) : ∀ (n : ℕ) (h : n < 7),
    (outsAt0 m c n (lt_of_lt_of_eq (by omega) (show cfg0.N = 8 from N_0).symm)).2.2 (ix2 r k)
      = ∑ s : Fin (n + 1), accPart m c ⟨s.val, lt_of_lt_of_eq (by omega) (show cfg0.N = 8 from N_0).symm⟩ r k := by
  intro n
  induction n with
  | zero => intro h; exact (acc_first m c ⟨0, lt_of_lt_of_eq (by omega) (show cfg0.N = 8 from N_0).symm⟩ rfl (by show ¬ 0 % 8 = 7; omega) r k).trans (by simp)
  | succ n ih =>
    intro h
    rw [Fin.sum_univ_castSucc]
    refine (acc_mid m c ⟨n + 1, lt_of_lt_of_eq (by omega) (show cfg0.N = 8 from N_0).symm⟩ (by show ¬(n + 1) % 8 = 0; omega)
      (by show ¬(n + 1) % 8 = 7; omega) r k).trans ?_
    exact congrArg (· + _) (ih (by omega))

/-- A sum over 4096 rows, as the kernel walks them: partial row, block of 512, step of 64, row of 8. -/
theorem sum_rows (f : Fin 4096 → EReal) :
    ∑ R : Fin 4096, f R = ∑ r : Fin 8, ∑ s : Fin 8, ∑ p : Fin 8, ∑ q : Fin 8, f ⟨512 * s + (64 * p + (8 * q + r)), by omega⟩ := by
  rw [Fin.sum_univ_tiles 8 512 rfl f]
  refine Eq.trans (Finset.sum_congr rfl fun s _ => ?_) Finset.sum_comm
  rw [Fin.sum_univ_tiles 8 64 rfl]
  refine Eq.trans (Finset.sum_congr rfl fun p _ => ?_) Finset.sum_comm
  rw [Fin.sum_univ_tiles 8 8 rfl]
  refine Eq.trans (Finset.sum_congr rfl fun q _ => Finset.sum_congr rfl fun r _ => congrArg f (Fin.ext ?_)) Finset.sum_comm
  show (s : ℕ) * 512 + (p * 64 + (q * 8 + r)) = 512 * s + (64 * p + (8 * q + r))
  omega

theorem final4 (c : Dev nD) : (dats m 0 c).arrAt 4 (cfgs 0).N = fun i => ∑ r : Fin 4096, dcM m c r (i 1) := by
  refine (dats m 0 c).arrAt_eq_of_after_last 4 t0_7 (by decide +kernel) _ fun j => ?_
  blk_simp
  rw [after0_4]
  have hj : j = (ix2 0 (j 1) : S1x5632.Idx) := by
    refine (eq_ix2 (n0 := 1) (n1 := 5632) j).trans ?_
    exact congrArg (ix2 · _) (Subsingleton.elim _ _)
  refine (congrArg (outsAt0 m c t0_7.val t0_7.isLt).2.1 hj).trans ((out_last m c t0_7 (by decide) (by decide) (j 1)).trans ?_)
  rw [sum_rows]
  refine Finset.sum_congr rfl fun r _ => ?_
  rw [Fin.sum_univ_castSucc]
  refine congrArg₂ (· + ·) ((acc_sum m c r (j 1) 6 (by omega)).trans (Finset.sum_congr rfl fun s _ => ?_)) ?_
  · exact Finset.sum_congr rfl fun p _ => Finset.sum_congr rfl fun q _ => dcB_eq m c _ _ _ _
  · exact Finset.sum_congr rfl fun p _ => Finset.sum_congr rfl fun q _ => dcB_eq m c _ _ _ _
end Cert.KernelIdeal.FfnDc

end
-- ==== Proof.Reals.lean ====
/- Finite arrays as arrays of reals, and the two ways the programs write the logistic function. -/
module

public import Idealize.ShloMosaic.Lib.Pointwise
public import Idealize.ShloMosaic.PureOps.Ideal
public import Idealize.ShloMosaic.Lib.StableHlo
public import Idealize.ShloMosaic.Lib.IdealHost
public import Mathlib.Analysis.SpecialFunctions.Trigonometric.DerivHyp

@[expose] public section

noncomputable section

open Idealize.ShloMosaic

namespace Cert.Reals

theorem ofBits_half : Ideal.ofBits .f32 0x3F000000#32 = ((1 / 2 : ℝ) : EReal) := by
  simp [Ideal.ofBits, Ideal.ieee]; rw [← EReal.coe_mul]; norm_num

theorem ofBits_inf : Ideal.ofBits .f32 0x7F800000#32 = ⊤ := by
  simp [Ideal.ofBits, Ideal.ieee]

/-- A value whose magnitude compares below infinity is a real. -/
theorem real_of_olt (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  rw [max_lt_iff] at hlt
  induction x using EReal.rec with
  | bot => simp at hlt
  | coe r => exact ⟨r, rfl⟩
  | top => simp at hlt

/-- An array that is everywhere finite is an array of reals. -/
theorem reals {s u : Shape} (x : FVec Ideal s .f32) {dims : Fin u.rank → Fin s.rank} (hb : u.BroadcastsInDim s dims)
    (h : cmpf .olt (Host.absf x) (broadcastInDim s dims hb (constant u .f32 0x7F800000#32)) = fun _ => 1#1) :
    ∃ r : s.Idx → ℝ, x = fun i => ((r i : ℝ) : EReal) := by
  choose r hr using fun i => real_of_olt (x i) (congrFun h i)
  exact ⟨r, funext hr⟩

theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The logistic function of a real. -/
def sg (x : ℝ) : ℝ := (1 + Real.exp (-x))⁻¹

theorem sg_tanh (x : ℝ) : 1 / 2 * Real.tanh (1 / 2 * x) + 1 / 2 = sg x := by
  have h1 := Real.exp_pos (1 / 2 * x)
  have e : Real.exp (-x) = Real.exp (-(1 / 2 * x)) * Real.exp (-(1 / 2 * x)) := by
    rw [← Real.exp_add]; congr 1; ring
  rw [sg, e, Real.tanh_eq_sinh_div_cosh, Real.sinh_eq, Real.cosh_eq, Real.exp_neg]
  field_simp
  ring

/-- `½ tanh(½x) + ½` on extended reals, at a real. -/
theorem half_tanh (x : ℝ) :
    Ideal.ofBits .f32 0x3F000000#32 * Ideal.tanh (Ideal.ofBits .f32 0x3F000000#32 * (x : EReal)) + Ideal.ofBits .f32 0x3F000000#32
      = ((sg x : ℝ) : EReal) := by
  rw [ofBits_half, ← EReal.coe_mul, Ideal.tanh_coe, ← EReal.coe_mul, ← EReal.coe_add, sg_tanh]

/-- `1 / (1 + exp(-x))` on extended reals, at a real. -/
theorem div_one_exp (x : ℝ) : Ideal.div 1 (1 + Ideal.exp (-(x : EReal))) = ((sg x : ℝ) : EReal) :=
  Ideal.logistic_coe x

/-- The norm's epsilon. -/
def eps : ℝ := 8796093 / 2 ^ 43

theorem ofBits_eps : Ideal.ofBits .f32 0x358637BD#32 = ((eps : ℝ) : EReal) := by
  simp [Ideal.ofBits, Ideal.ieee, eps]; rw [← EReal.coe_mul]; norm_num

end Cert.Reals

end
-- ==== Proof.FfnDcRef.lean ====
/- The derivative of the gated product as the reference writes it, at finite arguments, is the kernel's array. -/
module

public import proofs.«01_k».proof.Proof.FfnDcArr
public import proofs.«01_k».proof.Proof.Reals
public import proofs.«01_k».proof.Pre_finite
public import proofs.«01_k».proof.Proof.Gen.ReferenceIdeal.Read

@[expose] public section

set_option maxRecDepth 16384

noncomputable section

open Idealize.ShloMosaic

namespace Cert.ReferenceIdeal.FfnDc

open Cert.ReferenceIdeal Cert.ReferenceIdeal.Gen Cert.ReferenceIdeal.Read Cert.Reals
open Cert.KernelIdeal.FfnDc (dcK dcR sgm)

variable (c : S4096x5632.Idx → ℝ) (b : S5632.Idx → ℝ) (w : S2816x1024.Idx → ℝ) (dh : S4096x1024.Idx → ℝ)

/-- The pre-activation and the cotangent of the gated product, as reals. -/
def cp (r : Fin 4096) (j : Fin 5632) : ℝ := c (ix2 r j) + b (ix1 j)

def df (r : Fin 4096) (j : Fin 2816) : ℝ := ∑ d : Fin 1024, dh (ix2 r d) * w (ix2 j d)

variable (C : FVec Ideal S4096x5632 .f32) (B : FVec Ideal S5632 .f32) (W : FVec Ideal S2816x1024 .f32)
  (DH : FVec Ideal S4096x1024 .f32)
  (hC : C = fun i => ((c i : ℝ) : EReal)) (hB : B = fun i => ((b i : ℝ) : EReal))
  (hW : W = fun i => ((w i : ℝ) : EReal)) (hDH : DH = fun i => ((dh i : ℝ) : EReal))

include hC hB in
theorem cp_at (r : Fin 4096) (j : Fin 5632) : C (ix2 r j) + B (ix1 j) = ((cp c b r j : ℝ) : EReal) := by
  rw [hC, hB, cp, EReal.coe_add]

include hW hDH in
theorem df_at (r : Fin 4096) (j : Fin 2816) : ∑ d : Fin 1024, DH (ix2 r d) * W (ix2 j d) = ((df w dh r j : ℝ) : EReal) := by
  rw [hW, hDH, df, ← coe_sum]
  exact Finset.sum_congr rfl fun d _ => (EReal.coe_mul _ _).symm

theorem sgm_coe (x : ℝ) : sgm (x : EReal) = ((sg x : ℝ) : EReal) := half_tanh x

/-- The logistic function as the reference computes it. -/
def lg (x : EReal) : EReal := Ideal.div 1 (1 + Ideal.exp (-x))

theorem lg_coe (x : ℝ) : lg (x : EReal) = ((sg x : ℝ) : EReal) := div_one_exp x

theorem v3_at (r : Fin 4096) (k : Fin 2816) :
    val_main_v3 (F := Ideal) C B (ix2 r k) = C (ix2 r ⟨k, by omega⟩) + B (ix1 ⟨k, by omega⟩) := by
  unfold val_main_v3 val_main_v2 val_main_v1 val_main_v0
  pointwise

theorem v4_at (r : Fin 4096) (k : Fin 2816) :
    val_main_v4 (F := Ideal) C B (ix2 r k) = C (ix2 r ⟨2816 + k, by omega⟩) + B (ix1 ⟨2816 + k, by omega⟩) := by
  unfold val_main_v4 val_main_v2 val_main_v1 val_main_v0
  pointwise

theorem v5_2_at (r : Fin 4096) (k : Fin 2816) :
    val_main_v5_2 (F := Ideal) C B (ix2 r k) = lg (val_main_v3 (F := Ideal) C B (ix2 r k)) := by
  unfold val_main_v5_2 val_main_call0_v4 val_main_call0_cst_0 val_main_call0_v3 val_main_call0_v2 val_main_call0_cst
    val_main_call0_v1 val_main_call0_v0 lg
  pointwise

theorem v10_at (r : Fin 4096) (k : Fin 2816) :
    val_main_v10 (F := Ideal) W DH (ix2 r k) = ∑ d : Fin 1024, DH (ix2 r d) * W (ix2 k d) := by
  unfold val_main_v10
  pointwise

/-- The gradient of the gate's argument, over the reference's own stages: gate `s`, its argument `g`, the other factor
    `v` and the cotangent `d` of the product. -/
theorem v13_at (i : S4096x2816.Idx) {d v s g : EReal} (hd : val_main_v10 (F := Ideal) W DH i = d)
    (hv : val_main_v4 (F := Ideal) C B i = v) (hs : val_main_v5_2 (F := Ideal) C B i = s)
    (hg : val_main_v3 (F := Ideal) C B i = g) :
    val_main_v13 (F := Ideal) C B W DH i = (d * v * s + g * (d * v) * (s * (1 - s)) : EReal) := by
  subst hd hv hs hg
  unfold val_main_v13 val_main_call1_v1 val_main_call1_v2 val_main_call1_v0 val_main_v12 val_main_v5_1 val_main_call0_v7
    val_main_call0_v6 val_main_call0_cst_1
  pointwise

theorem v11_at (i : S4096x2816.Idx) {d s g : EReal} (hd : val_main_v10 (F := Ideal) W DH i = d)
    (hs : val_main_v5_2 (F := Ideal) C B i = s) (hg : val_main_v3 (F := Ideal) C B i = g) :
    val_main_v11 (F := Ideal) C B W DH i = g * s * d := by
  subst hd hs hg
  rfl

theorem v14_at (r : Fin 4096) (k : Fin 5632) :
    val_main_v14 (F := Ideal) C B W DH (ix2 r k)
      = if h : (k : ℕ) < 2816 then val_main_v13 (F := Ideal) C B W DH (ix2 r ⟨k, h⟩)
        else val_main_v11 (F := Ideal) C B W DH (ix2 r ⟨k - 2816, by omega⟩) := by
  unfold val_main_v14
  pointwise

include hC hB hW hDH in
/-- The reference's gradient of the pre-activation is the kernel's. -/
theorem grad_eq (r : Fin 4096) (k : Fin 5632) :
    val_main_v14 (F := Ideal) C B W DH (ix2 r k) = dcK C B W DH r k := by
  have hg := fun j => cp_at c b C B hC hB r j
  have hd := fun j => (v10_at W DH r j).trans (df_at w dh W DH hW hDH r j)
  have h3 := fun j => (v3_at C B r j).trans (hg _)
  have hs := fun j => (v5_2_at C B r j).trans ((congrArg lg (h3 j)).trans (lg_coe _))
  rw [v14_at, dcK, dcR]
  split
  · refine (v13_at C B W DH _ (hd _) ((v4_at C B r _).trans (hg _)) (hs _) (h3 _)).trans ?_
    simp only [hg, df_at w dh W DH hW hDH, sgm_coe]
    norm_cast
    exact congrArg Real.toEReal (by ring)
  · refine (v11_at C B W DH _ (hd _) (hs _) (h3 _)).trans ?_
    simp only [hg, df_at w dh W DH hW hDH, sgm_coe]
    norm_cast
    exact congrArg Real.toEReal (by ring)

include hC hB hW hDH in
theorem v18_eq : val_main_v18 (F := Ideal) C B W DH = fun i => dcK C B W DH (i 0) (i 1) := by
  funext i
  refine Eq.trans ?_ (grad_eq c b w dh C B W DH hC hB hW hDH (i 0) (i 1))
  exact congrArg (val_main_v14 (F := Ideal) C B W DH) (eq_ix2 (n0 := 4096) (n1 := 5632) i)

include hC hB hW hDH in
theorem v19_eq : val_main_v19 (F := Ideal) C B W DH = fun i => ∑ r : Fin 4096, dcK C B W DH r (i 1) := by
  funext i
  rw [val_main_v19_apply, val_main_v17_apply, val_main_cst_0_apply, Fin.sum_univ_one, val_main_v16_apply, val_main_v15_apply,
    val_main_cst_apply, Ideal.ofBits_def, Ideal.ofBits_zero_f32, zero_add, zero_add]
  refine Finset.sum_congr rfl fun r _ => Eq.trans ?_ (grad_eq c b w dh C B W DH hC hB hW hDH r (i 1))
  refine congrArg (val_main_v14 (F := Ideal) C B W DH) (funext fun a => Fin.ext ?_)
  have h0 : (i 0 : ℕ) < 1 := (i 0).isLt
  match a with
  | ⟨0, _⟩ => rfl
  | ⟨1, _⟩ => show 0 * 5632 + ((i 0 : ℕ) * 5632 + (i 1 : ℕ)) = (i 1 : ℕ); omega

/-- The two programs' results agree at finite arguments. -/
theorem value [Cert.Pre_finite.Facts]
    (h : (Cert.Pre_finite.fn (F := Ideal) C B W DH).1 = (fun _ => 1#1)
      ∧ (Cert.Pre_finite.fn (F := Ideal) C B W DH).2.1 = (fun _ => 1#1)
      ∧ (Cert.Pre_finite.fn (F := Ideal) C B W DH).2.2.1 = (fun _ => 1#1)
      ∧ (Cert.Pre_finite.fn (F := Ideal) C B W DH).2.2.2 = (fun _ => 1#1)) :
    val_main_v18 (F := Ideal) C B W DH = (fun i => dcK C B W DH (i 0) (i 1))
      ∧ val_main_v19 (F := Ideal) C B W DH = (fun i => ∑ r : Fin 4096, dcK C B W DH r (i 1)) := by
  obtain ⟨c, hc⟩ := reals C Cert.Pre_finite.Facts.bcast_S_S4096x5632 h.1
  obtain ⟨b, hb⟩ := reals B Cert.Pre_finite.Facts.bcast_S_S5632 h.2.1
  obtain ⟨w, hw⟩ := reals W Cert.Pre_finite.Facts.bcast_S_S2816x1024 h.2.2.1
  obtain ⟨dh, hdh⟩ := reals DH Cert.Pre_finite.Facts.bcast_S_S4096x1024 h.2.2.2
  exact ⟨v18_eq c b w dh C B W DH hc hb hw hdh, v19_eq c b w dh C B W DH hc hb hw hdh⟩

end Cert.ReferenceIdeal.FfnDc

end
-- ==== Proof.Attn.lean ====
/- The attention's gradient within one grid point: the body's vector operations at arrays of reals. -/
module

public import proofs.«01_k».proof.Proof.Gen.Kernel2Ideal.Skeleton
public import proofs.«01_k».proof.Proof.Reals

@[expose] public section

set_option maxRecDepth 16384

noncomputable section

open Idealize.ShloMosaic Idealize.ShloMosaic.TcCoe Idealize.SL.Sem

namespace Cert.Attn

/-- An array of reals as a vector of extended reals. -/
def R2 {a b : ℕ} {φ : FTy} (f : Fin a → Fin b → ℝ) : FVec Ideal ⟨2, ![a, b]⟩ φ := fun i => ((f (i 0) (i 1) : ℝ) : EReal)

theorem R2_ix {a b : ℕ} {φ : FTy} (f : Fin a → Fin b → ℝ) (r : Fin a) (l : Fin b) :
    (R2 f : FVec Ideal ⟨2, ![a, b]⟩ φ) (ix2 r l) = ((f r l : ℝ) : EReal) := rfl

theorem eq_R2 {a b : ℕ} {φ : FTy} {f : Fin a → Fin b → ℝ} {x : FVec Ideal ⟨2, ![a, b]⟩ φ}
    (h : ∀ r l, x (ix2 r l) = ((f r l : ℝ) : EReal)) : x = R2 f := by
  funext i
  exact (congrArg x (eq_ix2 i)).trans (h _ _)

/-- 128 lanes as two heads of 64. -/
def L {a : ℕ} {φ : FTy} (f : Fin a → Fin 2 → Fin 64 → ℝ) : FVec Ideal ⟨2, ![a, 128]⟩ φ :=
  R2 fun r l => f r ⟨l / 64, by omega⟩ ⟨l % 64, by omega⟩

theorem L_lo {a : ℕ} {φ : FTy} (f : Fin a → Fin 2 → Fin 64 → ℝ) (r : Fin a) (d : Fin 64) (h : (d : ℕ) < 128) :
    (L f : FVec Ideal ⟨2, ![a, 128]⟩ φ) (ix2 r ⟨d, h⟩) = ((f r 0 d : ℝ) : EReal) := by
  have h0 : (d : ℕ) / 64 = 0 := by omega
  have h1 : (d : ℕ) % 64 = d := by omega
  simp [L, R2_ix, h0, h1]

theorem L_hi {a : ℕ} {φ : FTy} (f : Fin a → Fin 2 → Fin 64 → ℝ) (r : Fin a) (d : Fin 64) (h : 64 + (d : ℕ) < 128) :
    (L f : FVec Ideal ⟨2, ![a, 128]⟩ φ) (ix2 r ⟨64 + d, h⟩) = ((f r 1 d : ℝ) : EReal) := by
  have h0 : (64 + (d : ℕ)) / 64 = 1 := by omega
  have h1 : (64 + (d : ℕ)) % 64 = d := by omega
  simp [L, R2_ix, h0, h1]

theorem eq_L {a : ℕ} {φ : FTy} {f : Fin a → Fin 2 → Fin 64 → ℝ} {x : FVec Ideal ⟨2, ![a, 128]⟩ φ}
    (h0 : ∀ r (d : Fin 64), x (ix2 r ⟨d, by omega⟩) = ((f r 0 d : ℝ) : EReal))
    (h1 : ∀ r (d : Fin 64), x (ix2 r ⟨64 + d, by omega⟩) = ((f r 1 d : ℝ) : EReal)) : x = L f := by
  refine eq_R2 fun r l => ?_
  rcases Nat.lt_or_ge (l : ℕ) 64 with h | h
  · have e0 : (⟨(l : ℕ) / 64, by omega⟩ : Fin 2) = 0 := Fin.ext (by show (l : ℕ) / 64 = 0; omega)
    have e1 : (⟨(l : ℕ) % 64, by omega⟩ : Fin 64) = ⟨l, h⟩ := Fin.ext (by show (l : ℕ) % 64 = l; omega)
    rw [e0, e1]; exact h0 r ⟨l, h⟩
  · have e0 : (⟨(l : ℕ) / 64, by omega⟩ : Fin 2) = 1 := Fin.ext (by show (l : ℕ) / 64 = 1; omega)
    have e1 : (⟨(l : ℕ) % 64, by omega⟩ : Fin 64) = ⟨l - 64, by omega⟩ := Fin.ext (by show (l : ℕ) % 64 = l - 64; omega)
    have e2 : l = ⟨64 + ((⟨l - 64, by omega⟩ : Fin 64) : ℕ), by show 64 + ((l : ℕ) - 64) < 128; omega⟩ :=
      Fin.ext (by show (l : ℕ) = 64 + (l - 64); omega)
    rw [e0, e1]; exact (congrArg (fun z => x (ix2 r z)) e2).trans (h1 r ⟨l - 64, by omega⟩)

theorem L_rot_lo {a : ℕ} {φ : FTy} (f : Fin a → Fin 2 → Fin 64 → ℝ) (r : Fin a) (d : Fin 64) (h : ((d : ℕ) + 128 - 64) % 128 < 128) :
    (L f : FVec Ideal ⟨2, ![a, 128]⟩ φ) (ix2 r ⟨((d : ℕ) + 128 - 64) % 128, h⟩) = ((f r 1 d : ℝ) : EReal) := by
  refine Eq.trans (congrArg (fun z => (L f : FVec Ideal ⟨2, ![a, 128]⟩ φ) (ix2 r z)) (Fin.ext ?_)) (L_hi f r d (by omega))
  show ((d : ℕ) + 128 - 64) % 128 = 64 + d
  omega

theorem L_rot_hi {a : ℕ} {φ : FTy} (f : Fin a → Fin 2 → Fin 64 → ℝ) (r : Fin a) (d : Fin 64) (h : (64 + (d : ℕ) + 128 - 64) % 128 < 128) :
    (L f : FVec Ideal ⟨2, ![a, 128]⟩ φ) (ix2 r ⟨(64 + (d : ℕ) + 128 - 64) % 128, h⟩) = ((f r 0 d : ℝ) : EReal) := by
  refine Eq.trans (congrArg (fun z => (L f : FVec Ideal ⟨2, ![a, 128]⟩ φ) (ix2 r z)) (Fin.ext ?_)) (L_lo f r d (by omega))
  show (64 + (d : ℕ) + 128 - 64) % 128 = d
  omega

/-- A sum over 128 lanes, head by head. -/
theorem sum_lanes {M : Type*} [AddCommMonoid M] (f : Fin 128 → M) :
    ∑ l, f l = ∑ d : Fin 64, f ⟨d, by omega⟩ + ∑ d : Fin 64, f ⟨64 + d, by omega⟩ :=
  Fin.sum_univ_two_halves 64 64 rfl f

end Cert.Attn

namespace Cert.Kernel2Ideal.Attn

open Cert.Kernel2Ideal Cert.Kernel2Ideal.Gen Cert.Attn Cert.Reals

theorem ofBits_64th : Ideal.ofBits .f32 0x3C800000#32 = ((1 / 64 : ℝ) : EReal) := by
  simp [Ideal.ofBits, Ideal.ieee]; rw [← EReal.coe_mul]; norm_num

theorem ofBits_8th : Ideal.ofBits .f32 0x3E000000#32 = ((1 / 8 : ℝ) : EReal) := by
  simp [Ideal.ofBits, Ideal.ieee]; rw [← EReal.coe_mul]; norm_num

theorem lt64 : ∀ k : Fin 128, IntOp.cmpi CmpIPredicate.slt (BitVec.ofNat 32 k) 64#32 = if (k : ℕ) < 64 then 1#1 else 0#1 := by
  decide +kernel

theorem lo64 (k : Fin 64) : IntOp.cmpi CmpIPredicate.slt (BitVec.ofNat 32 k) 64#32 = 1#1 :=
  (lt64 ⟨k, by omega⟩).trans (if_pos k.isLt)

theorem hi64 (k : Fin 64) : IntOp.cmpi CmpIPredicate.slt (BitVec.ofNat 32 (64 + k)) 64#32 = 0#1 :=
  (lt64 ⟨64 + k, by omega⟩).trans (if_neg (by show ¬64 + (k : ℕ) < 64; omega))

theorem same_at (i k : Fin 128) : (k0_pay19 (F := Ideal)) (ix2 i k) = if ((i : ℕ) < 64 ↔ (k : ℕ) < 64) then (1 : EReal) else 0 := by
  pointwise [k0_pay19]
  rw [lt64, lt64]
  by_cases hi : (i : ℕ) < 64 <;> by_cases hk : (k : ℕ) < 64 <;> simp only [hi, hk, if_true, if_false]
  · exact congrArg (fun z : ℤ => ((z : ℝ) : EReal)) (show (1#32).toInt = 1 by decide) |>.trans (by simp)
  · exact congrArg (fun z : ℤ => ((z : ℝ) : EReal)) (show (0#32).toInt = 0 by decide) |>.trans (by simp)
  · exact congrArg (fun z : ℤ => ((z : ℝ) : EReal)) (show (0#32).toInt = 0 by decide) |>.trans (by simp)
  · exact congrArg (fun z : ℤ => ((z : ℝ) : EReal)) (show (1#32).toInt = 1 by decide) |>.trans (by simp)

/-- A plain product of `n` rows of 128 lanes with a 128 by 128 matrix. -/
def Rows {n : ℕ} (d : DotDims ⟨2, ![n, 128]⟩ S128x128 ⟨2, ![n, 128]⟩) : Prop :=
  ∀ (a : FVec Ideal ⟨2, ![n, 128]⟩ .bf16) (b : FVec Ideal S128x128 .bf16) (r : Fin n) (l : Fin 128),
    matmul d none a b (constant ⟨2, ![n, 128]⟩ .f32 0x00000000#32) (ix2 r l) = ∑ k : Fin 128, a (ix2 r k) * b (ix2 k l)

abbrev dA := dot_S128x128_S128x128_S128x128_1_0_0_1_n_n
abbrev dB := dot_S256x128_S128x128_S256x128_1_0_0_1_n_n

theorem rowsA : Rows dA := fun a b r l => by pointwise
theorem rowsB : Rows dB := fun a b r l => by pointwise

section

variable {n : ℕ} (d : DotDims ⟨2, ![n, 128]⟩ S128x128 ⟨2, ![n, 128]⟩) (hd : Rows d)

/-- The sum of each head's 64 lanes, spread over those lanes: the body's product with a 0/1 matrix, in two parts. -/
def hs (y : FVec Ideal ⟨2, ![n, 128]⟩ .f32) : FVec Ideal ⟨2, ![n, 128]⟩ .f32 :=
  addf (matmul d none (truncf .bf16 y bitsLt_bf16_f32) k0_pay19 (constant ⟨2, ![n, 128]⟩ .f32 0x00000000#32))
    (matmul d none (truncf .bf16 (subf y (extf .f32 (truncf .bf16 y bitsLt_bf16_f32) bitsLt_bf16_f32)) bitsLt_bf16_f32) k0_pay19
      (constant ⟨2, ![n, 128]⟩ .f32 0x00000000#32))

/-- Their mean. -/
def ms (y : FVec Ideal ⟨2, ![n, 128]⟩ .f32) : FVec Ideal ⟨2, ![n, 128]⟩ .f32 :=
  mulf (hs d y) (broadcast ⟨2, ![n, 128]⟩ (Scalar.ofBits .f32 0x3C800000#32))

def rr (x : FVec Ideal ⟨2, ![n, 128]⟩ .f32) : FVec Ideal ⟨2, ![n, 128]⟩ .f32 :=
  rsqrt (addf (ms d (mulf x x)) (broadcast ⟨2, ![n, 128]⟩ (Scalar.ofBits .f32 0x358637BD#32)))

def bw (g dy xh r : FVec Ideal ⟨2, ![n, 128]⟩ .f32) : FVec Ideal ⟨2, ![n, 128]⟩ .f32 :=
  mulf r (subf (mulf dy g) (mulf xh (ms d (mulf (mulf dy g) xh))))

/-- One over the root mean square of a head. -/
def rinv (x : Fin 64 → ℝ) : ℝ := (√((∑ d, x d * x d) * (1 / 64) + eps))⁻¹

theorem mulf_L (f g : Fin n → Fin 2 → Fin 64 → ℝ) :
    mulf (L f : FVec Ideal ⟨2, ![n, 128]⟩ .f32) (L g) = L fun r e d => f r e d * g r e d :=
  eq_L (fun r d => by show L f _ * L g _ = _; rw [L_lo, L_lo, EReal.coe_mul]) (fun r d => by show L f _ * L g _ = _; rw [L_hi, L_hi, EReal.coe_mul])

include hd in
theorem hs_L (f : Fin n → Fin 2 → Fin 64 → ℝ) : hs d (L f) = L fun r e _ => ∑ k, f r e k := by
  have key : ∀ r l, hs d (L f) (ix2 r l) = ∑ k : Fin 128, (L f : FVec Ideal ⟨2, ![n, 128]⟩ .f32) (ix2 r k) * k0_pay19 (F := Ideal) (ix2 k l)
      + ∑ k : Fin 128, ((L f : FVec Ideal ⟨2, ![n, 128]⟩ .f32) (ix2 r k) - (L f : FVec Ideal ⟨2, ![n, 128]⟩ .f32) (ix2 r k)) * k0_pay19 (F := Ideal) (ix2 k l) :=
    fun r l => congrArg₂ (· + ·) (hd _ _ r l) (hd _ _ r l)
  have z : ∀ x : ℝ, (x : EReal) - (x : EReal) = 0 := fun x => by rw [← EReal.coe_sub, sub_self, EReal.coe_zero]
  refine eq_L (fun r k => ?_) (fun r k => ?_) <;> rw [key, sum_lanes, sum_lanes] <;>
    simp only [L_lo, L_hi, same_at, z, zero_mul, Finset.sum_const_zero, add_zero] <;> simp [coe_sum]

include hd in
theorem rr_L (f : Fin n → Fin 2 → Fin 64 → ℝ) : rr d (L f) = L fun r e _ => rinv (f r e) := by
  have key : ∀ r l, rr d (L f) (ix2 r l) = Ideal.rsqrt (hs d (mulf (L f) (L f)) (ix2 r l) * Ideal.ofBits .f32 0x3C800000#32 + Ideal.ofBits .f32 0x358637BD#32) :=
    fun r l => rfl
  have z : ∀ x : Fin 64 → ℝ, Ideal.rsqrt (((∑ k, x k * x k : ℝ) : EReal) * ((1 / 64 : ℝ) : EReal) + (eps : EReal)) = ((rinv x : ℝ) : EReal) := fun x => by
    have hp : 0 < (∑ k, x k * x k) * (1 / 64) + eps :=
      add_pos_of_nonneg_of_pos (mul_nonneg (Finset.sum_nonneg fun k _ => mul_self_nonneg _) (by norm_num)) (by unfold eps; norm_num)
    rw [← EReal.coe_mul, ← EReal.coe_add, Ideal.rsqrt_coe, if_neg hp.not_gt, if_neg hp.ne', rinv]
  refine eq_L (fun r k => ?_) (fun r k => ?_) <;> rw [key, mulf_L, hs_L d hd, ofBits_64th, ofBits_eps]
  · rw [L_lo]; exact z _
  · rw [L_hi]; exact z _

/-- The gradient through a head's norm: gains `g`, cotangent `dy`, normalised head `xh`, its scale `r`. -/
def bwR (g dy xh r : Fin 64 → ℝ) (d : Fin 64) : ℝ := r d * (dy d * g d - xh d * ((∑ k, dy k * g k * xh k) * (1 / 64)))

include hd in
theorem bw_L (g dy xh r : Fin n → Fin 2 → Fin 64 → ℝ) :
    bw d (L g) (L dy) (L xh) (L r) = L fun i e => bwR (g i e) (dy i e) (xh i e) (r i e) := by
  have key : ∀ i l, bw d (L g) (L dy) (L xh) (L r) (ix2 i l) = (L r : FVec Ideal ⟨2, ![n, 128]⟩ .f32) (ix2 i l) *
      ((L dy : FVec Ideal ⟨2, ![n, 128]⟩ .f32) (ix2 i l) * (L g : FVec Ideal ⟨2, ![n, 128]⟩ .f32) (ix2 i l) - (L xh : FVec Ideal ⟨2, ![n, 128]⟩ .f32) (ix2 i l) *
        (hs d (mulf (mulf (L dy) (L g)) (L xh)) (ix2 i l) * Ideal.ofBits .f32 0x3C800000#32)) := fun i l => rfl
  refine eq_L (fun r k => ?_) (fun r k => ?_) <;> rw [key, mulf_L, mulf_L, hs_L d hd, ofBits_64th]
  · simp only [L_lo]; unfold bwR; norm_cast
  · simp only [L_hi]; unfold bwR; norm_cast

end

/-! ## One head group: four query heads over one key head -/

theorem sel (c : BitVec 1) (x y : EReal) : Scalar.select c x y = if c = 1#1 then x else y := rfl

theorem sel1 (x y : EReal) : Scalar.select 1#1 x y = x := rfl
theorem sel0 (x y : EReal) : Scalar.select 0#1 x y = y := rfl

/-- The first of two heads in every lane half. -/
theorem dup0_L (f : Fin 256 → Fin 2 → Fin 64 → ℝ) : k0_pay25 (F := Ideal) k0_pay9 (L f) = L fun j _ => f j 0 := by
  refine eq_L (fun r k => ?_) (fun r k => ?_) <;> pointwise [k0_pay25, k0_pay9] <;>
    simp only [lo64, hi64, sel1, sel0, L_lo, L_rot_hi]

/-- The second of two heads in every lane half. -/
theorem dup1_L (f : Fin 256 → Fin 2 → Fin 64 → ℝ) : k0_pay63 (F := Ideal) k0_pay9 (L f) = L fun j _ => f j 1 := by
  refine eq_L (fun r k => ?_) (fun r k => ?_) <;> pointwise [k0_pay63, k0_pay9] <;>
    simp only [lo64, hi64, sel1, sel0, L_hi, L_rot_lo]

/-- Two lane pairs as four stacked heads, the other half of the lanes zero. -/
def stk (a b : FVec Ideal S128x128 .f32) : FVec Ideal S512x128 .bf16 :=
  truncf .bf16 (concatenate S512x128 0
    [⟨S128x128, select k0_pay8 a (broadcast S128x128 (Scalar.ofBits (F := Ideal) .f32 0x00000000#32))⟩,
      ⟨S128x128, select k0_pay8 (broadcast S128x128 (Scalar.ofBits (F := Ideal) .f32 0x00000000#32)) a⟩,
      ⟨S128x128, select k0_pay8 b (broadcast S128x128 (Scalar.ofBits (F := Ideal) .f32 0x00000000#32))⟩,
      ⟨S128x128, select k0_pay8 (broadcast S128x128 (Scalar.ofBits (F := Ideal) .f32 0x00000000#32)) b⟩]
    concatenates_S128x128_S128x128_S128x128_S128x128_S512x128_d0) bitsLt_bf16_f32

/-- Heads `2h` and `2h + 1` of four stacked ones, side by side. -/
def pair (h : Fin 2) (q : Fin 512 → Fin 64 → ℝ) (s : Fin 128) (e : Fin 2) : Fin 64 → ℝ := q ⟨256 * h + (128 * e + s), by omega⟩

/-- Four stacked heads, each in its half of the lanes. -/
def quad (q : Fin 512 → Fin 64 → ℝ) (R : Fin 512) (e : Fin 2) (d : Fin 64) : ℝ := if (R : ℕ) / 128 % 2 = e then q R d else 0

theorem stk_L (q : Fin 512 → Fin 64 → ℝ) : stk (L (pair 0 q)) (L (pair 1 q)) = L (quad q) := by
  have hR : ∀ R : Fin 512, (R : ℕ) < 128 ∨ (128 ≤ (R : ℕ) ∧ (R : ℕ) < 256) ∨ (256 ≤ (R : ℕ) ∧ (R : ℕ) < 384) ∨ 384 ≤ (R : ℕ) := by omega
  refine eq_L (fun R k => ?_) (fun R k => ?_) <;> pointwise [stk, k0_pay8] <;> simp only [lo64, hi64, sel1, sel0, L_lo, L_hi, quad, pair]
  all_goals
    rcases hR R with h | ⟨h, h'⟩ | ⟨h, h'⟩ | h
    · rw [dif_pos h]
      try rw [show (R : ℕ) / 128 = 0 by omega]
      simp
    · rw [dif_neg (by omega), dif_pos (by omega)]
      rw [show (R : ℕ) / 128 = 1 by omega]
      simp
      try (congr; omega)
    · rw [dif_neg (by omega), dif_neg (by omega), dif_pos (by omega)]
      rw [show (R : ℕ) / 128 = 2 by omega]
      simp
      try (congr; omega)
    · rw [dif_neg (by omega), dif_neg (by omega), dif_neg (by omega)]
      rw [show (R : ℕ) / 128 = 3 by omega]
      simp
      try (congr; omega)

variable (q : Fin 512 → Fin 64 → ℝ) (v : Fin 256 → Fin 64 → ℝ) (x : Fin 512 → Fin 256 → ℝ)

/-- Stacked rows against keys. -/
theorem nt_L : matmul dot_S512x128_S256x128_S512x256_1_1_0_0_n_n none (L (quad q) : FVec Ideal S512x128 .bf16) (L fun j _ => v j : FVec Ideal S256x128 .bf16)
    (constant S512x256 .f32 0x00000000#32) = R2 fun R j => ∑ d, q R d * v j d := by
  refine eq_R2 fun R j => ?_
  pointwise
  rw [sum_lanes]
  simp only [L_lo, L_hi, quad]
  rcases Nat.mod_two_eq_zero_or_one ((R : ℕ) / 128) with h | h <;> rw [h] <;> simp [← EReal.coe_mul, coe_sum]

/-- Weights times keys. -/
theorem nn_L : matmul dot_S512x256_S256x128_S512x128_1_0_0_1_n_n none (R2 x : FVec Ideal S512x256 .bf16) (L fun j _ => v j : FVec Ideal S256x128 .bf16)
    (constant S512x128 .f32 0x00000000#32) = L fun R _ d => ∑ j, x R j * v j d := by
  refine eq_L (fun R d => ?_) (fun R d => ?_) <;> pointwise <;> simp only [L_lo, L_hi, R2_ix, ← EReal.coe_mul, coe_sum]

/-- Transposed weights times stacked rows, folded onto both halves of the lanes. -/
theorem tn_L : k0_pay61 (F := Ideal) (matmul dot_S512x256_S512x128_S256x128_0_0_1_1_n_n none (R2 x : FVec Ideal S512x256 .bf16)
    (L (quad q) : FVec Ideal S512x128 .bf16) (constant S256x128 .f32 0x00000000#32)) = L fun j _ d => ∑ R, x R j * q R d := by
  have key : ∀ R : Fin 512, ∀ j d, x R j * quad q R 0 d + x R j * quad q R 1 d = x R j * q R d := by
    intro R j d
    unfold quad
    rcases Nat.mod_two_eq_zero_or_one ((R : ℕ) / 128) with h | h <;> rw [h] <;> simp
  refine eq_L (fun j d => ?_) (fun j d => ?_) <;> pointwise [k0_pay61] <;>
    simp only [L_lo, L_hi, L_rot_lo, L_rot_hi, R2_ix, ← EReal.coe_mul, coe_sum, ← EReal.coe_add, ← Finset.sum_add_distrib]
  · exact congrArg _ (Finset.sum_congr rfl fun R _ => key R j d)
  · exact congrArg _ (Finset.sum_congr rfl fun R _ => (add_comm _ _).trans (key R j d))

/-! ## The remaining operations of a grid point -/

/-- Heads 0 and 1, and heads 2 and 3, of four stacked ones, side by side. -/
def uns0 (y : FVec Ideal S512x128 .f32) : FVec Ideal S128x128 .f32 :=
  select k0_pay8 (extractStridedSlice S128x128 ![0, 0] y slices_S512x128_o0_0_S128x128)
    (extractStridedSlice S128x128 ![128, 0] y slices_S512x128_o128_0_S128x128)

def uns1 (y : FVec Ideal S512x128 .f32) : FVec Ideal S128x128 .f32 :=
  select k0_pay8 (extractStridedSlice S128x128 ![256, 0] y slices_S512x128_o256_0_S128x128)
    (extractStridedSlice S128x128 ![384, 0] y slices_S512x128_o384_0_S128x128)

theorem uns0_L : uns0 (L fun R _ d => q R d) = L (pair 0 q) := by
  refine eq_L (fun s d => ?_) (fun s d => ?_) <;> pointwise [uns0, k0_pay8] <;> simp only [lo64, hi64, sel1, sel0, L_lo, L_hi, pair]
  · congr 3; simp
  · congr 3; simp

theorem uns1_L : uns1 (L fun R _ d => q R d) = L (pair 1 q) := by
  refine eq_L (fun s d => ?_) (fun s d => ?_) <;> pointwise [uns1, k0_pay8] <;> simp only [lo64, hi64, sel1, sel0, L_lo, L_hi, pair]
  · congr 3; simp
  · congr 3; simp; omega

/-- A block's rows after those of the block before it. -/
def cat {X : Type*} (a b : Fin 128 → X) (i : Fin 256) : X := if h : (i : ℕ) < 128 then a ⟨i, h⟩ else b ⟨i - 128, by omega⟩

theorem cat_L (a b : Fin 128 → Fin 2 → Fin 64 → ℝ) : k0_pay16 (F := Ideal) (L (φ := .bf16) a) (L (φ := .bf16) b) = L (cat a b) := by
  refine eq_L (fun i d => ?_) (fun i d => ?_) <;> pointwise [k0_pay16] <;> simp only [L_lo, L_hi, cat] <;> split <;> rfl

theorem ext_L (a : Fin 128 → Fin 2 → Fin 64 → ℝ) : k0_pay26 (F := Ideal) (L (φ := .bf16) a) = L a := by
  refine eq_L (fun i d => ?_) (fun i d => ?_) <;> pointwise [k0_pay26] <;> simp only [L_lo, L_hi]

/-- A gain over the rows. -/
theorem gainQ_L (g : Fin 64 → ℝ) : broadcastTo S128x128 (k0_pay14 (F := Ideal) (L (φ := .f32) fun _ _ d => g d)) broadcasts_S1x128_S128x128 = L fun _ _ d => g d := by
  refine eq_L (fun i d => ?_) (fun i d => ?_) <;> pointwise [k0_pay14] <;> simp only [L_lo, L_hi]

theorem gainK_L (g : Fin 64 → ℝ) : broadcastTo S256x128 (k0_pay15 (F := Ideal) (L (φ := .f32) fun _ _ d => g d)) broadcasts_S1x128_S256x128 = L fun _ _ d => g d := by
  refine eq_L (fun i d => ?_) (fun i d => ?_) <;> pointwise [k0_pay15] <;> simp only [L_lo, L_hi]

/-- Column sums. -/
def cs128 (y : FVec Ideal S128x128 .f32) : FVec Ideal S1x128 .f32 :=
  shapeCast S1x128 (multiReduction .add [0] S128 y 0x00000000#32 reduces_S128x128_S128 (.inl rfl) rfl) shapeCasts_S128_S1x128

def cs256 (y : FVec Ideal S256x128 .f32) : FVec Ideal S1x128 .f32 :=
  shapeCast S1x128 (multiReduction .add [0] S128 y 0x00000000#32 reduces_S256x128_S128 (.inl rfl) rfl) shapeCasts_S128_S1x128

theorem cs128_L (f : Fin 128 → Fin 2 → Fin 64 → ℝ) : cs128 (L f) = L fun _ e d => ∑ r, f r e d := by
  refine eq_L (fun i d => ?_) (fun i d => ?_) <;> pointwise [cs128] <;> simp only [L_lo, L_hi, coe_sum]

theorem cs256_L (f : Fin 256 → Fin 2 → Fin 64 → ℝ) : cs256 (L f) = L fun _ e d => ∑ r, f r e d := by
  refine eq_L (fun i d => ?_) (fun i d => ?_) <;> pointwise [cs256] <;> simp only [L_lo, L_hi, coe_sum]

/-- Of two heads' rows, the first head's in the low lanes. -/
theorem lo2_L (a b : Fin 256 → Fin 64 → ℝ) : select k0_pay9 (L fun i _ => a i : FVec Ideal S256x128 .f32) (L fun i _ => b i) = L fun i e => ![a, b] e i := by
  refine eq_L (fun i d => ?_) (fun i d => ?_) <;> pointwise [k0_pay9] <;> simp only [lo64, hi64, sel1, sel0, L_lo, L_hi] <;> rfl

/-! ### The softmax's gradient -/

variable (dr : Fin 512 → Fin 64 → ℝ) (ps : Fin 512 → ℝ)

/-- The gradient of a weight, the row's weighted mean of them, and the gradient of a logit. -/
def dpR (R : Fin 512) (j : Fin 256) : ℝ := ∑ d, dr R d * v j d
def dlR (R : Fin 512) : ℝ := ∑ j, x R j * dpR v dr R j
def dsR (R : Fin 512) (j : Fin 256) : ℝ := x R j * (dpR v dr R j - dlR v x dr R)

theorem dp_L : k0_pay39 (F := Ideal) k0_pay8 (L fun j _ => v j) (L (φ := .bf16) (pair 0 dr)) (L (φ := .bf16) (pair 1 dr)) = R2 (dpR v dr) := by
  have h : k0_pay35 (F := Ideal) k0_pay8 (L (φ := .bf16) (pair 0 dr)) (L (φ := .bf16) (pair 1 dr)) = stk (k0_pay26 (L (φ := .bf16) (pair 0 dr))) (k0_pay26 (L (φ := .bf16) (pair 1 dr))) := rfl
  rw [ext_L, ext_L, stk_L] at h
  unfold k0_pay39
  rw [h]
  exact nt_L dr v

variable {P : FVec Ideal S1x1x512x256 .bf16} (hP : ∀ R j, P (ix4 0 0 R j) = ((x R j : ℝ) : EReal))

include hP in
theorem p36_L : k0_pay36 (F := Ideal) P = R2 x := eq_R2 fun R j => by pointwise [k0_pay36]; exact hP R j

include hP in
theorem p37_L : k0_pay37 (F := Ideal) P = R2 x := by
  unfold k0_pay37; rw [p36_L x hP]; rfl

include hP in
theorem dl_L : k0_pay40 (F := Ideal) k0_pay8 (L fun j _ => v j) (L (φ := .bf16) (pair 0 dr)) (L (φ := .bf16) (pair 1 dr)) P = R2 fun R _ => dlR v x dr R := by
  unfold k0_pay40
  rw [p37_L x hP, dp_L]
  refine eq_R2 fun R k => ?_
  pointwise
  simp only [R2_ix, ← EReal.coe_mul, coe_sum, dlR]

include hP in
theorem ds_L : k0_pay41 (F := Ideal) k0_pay8 (L fun j _ => v j) (L (φ := .bf16) (pair 0 dr)) (L (φ := .bf16) (pair 1 dr)) P = R2 (dsR v x dr) := by
  unfold k0_pay41
  rw [p37_L x hP, dp_L, dl_L v x dr hP]
  refine eq_R2 fun R k => ?_
  pointwise
  simp only [R2_ix, dsR]
  norm_cast

/-- One head group's contribution to the column sums of the gradient of the sinks, in lane `h`. -/
def dsk (h : BitVec 32) (a b : FVec Ideal S512x1 .f32) : FVec Ideal S512x128 .f32 :=
  select (cmpi .eq (iota .tc S512x128 32 [1] iota_S512x128_d1_w32) (broadcast S512x128 h))
    (broadcastTo S512x128 (shapeCast S512x1 (subf (broadcast S512x1 (Scalar.ofBits .f32 0x00000000#32)) (mulf a b)) shapeCasts_S512x1_S512x1) broadcasts_S512x1_S512x128)
    (broadcast S512x128 (Scalar.ofBits .f32 0x00000000#32))

theorem dsk_L (h : Fin 4) (a b : Fin 512 → ℝ) : dsk (BitVec.ofNat 32 h) (R2 fun R _ => a R) (R2 fun R _ => b R) =
    R2 fun R l => if (l : ℕ) = h then -(a R * b R) else 0 := by
  refine eq_R2 fun R l => ?_
  pointwise [dsk]
  have hc : IntOp.cmpi CmpIPredicate.eq (BitVec.ofNat 32 l) (BitVec.ofNat 32 h) = if (l : ℕ) = h then 1#1 else 0#1 :=
    (by decide +kernel : ∀ (h : Fin 4) (l : Fin 128), IntOp.cmpi CmpIPredicate.eq (BitVec.ofNat 32 l) (BitVec.ofNat 32 h) = if (l : ℕ) = h then 1#1 else 0#1) h l
  rw [hc]
  split
  · rw [sel1]; simp only [R2_ix, zero_sub]; norm_cast
  · rw [sel0]; rfl

end Cert.Kernel2Ideal.Attn

end
-- ==== Proof.AttnHead.lean ====
/- One grid point of the attention's gradient, head by head, as functions of the blocks it reads. -/
module

public import proofs.«01_k».proof.Proof.Attn

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals

/-- 128 columns of an array, from column `o`. -/
def sl {n m : ℕ} {φ : FTy} (w : FVec Ideal ⟨2, ![n, m]⟩ φ) (o : ℕ) (h : o + 128 ≤ m) : FVec Ideal ⟨2, ![n, 128]⟩ φ :=
  fun x => w ((Rect.unit (s := ⟨2, ![n, m]⟩) ![0, o] ![n, 128] (by intro a; fin_cases a; exacts [(Nat.zero_add n).le, h])).emb x)

/-- Column `o`. -/
def sl1 (w : FVec Ideal S128x128 .f32) (o : ℕ) (h : o + 1 ≤ 128) : FVec Ideal S128x1 .f32 :=
  fun x => w ((Rect.unit (s := S128x128) ![0, o] ![128, 1] (by intro a; fin_cases a; exacts [(Nat.zero_add 128).le, h])).emb x)

/-- One head group's weights. -/
def sl4 (w : FVec Ideal S1x4x512x256 .bf16) (o : ℕ) (h : o + 1 ≤ 4) : FVec Ideal S1x1x512x256 .bf16 :=
  fun x => w ((Rect.unit (s := S1x4x512x256) ![0, o, 0, 0] ![1, 1, 512, 256]
    (by intro a; fin_cases a; exacts [(Nat.zero_add 1).le, h, (Nat.zero_add 512).le, (Nat.zero_add 256).le])).emb x)

theorem sl_at {n m : ℕ} {φ : FTy} (w : FVec Ideal ⟨2, ![n, m]⟩ φ) (o : ℕ) (h : o + 128 ≤ m) (r : Fin n) (l : Fin 128) :
    sl w o h (ix2 r l) = w (ix2 r ⟨o + l, by omega⟩) :=
  congrArg w (by
    funext a
    fin_cases a
    · exact Fin.ext (show 0 + 1 * (r : ℕ) = r by omega)
    · exact Fin.ext (show o + 1 * (l : ℕ) = o + l by omega))

theorem sl1_at (w : FVec Ideal S128x128 .f32) (o : ℕ) (h : o + 1 ≤ 128) (r : Fin 128) : sl1 w o h (ix2 r 0) = w (ix2 r ⟨o, h⟩) :=
  congrArg w (by
    funext a
    fin_cases a
    · exact Fin.ext (show 0 + 1 * (r : ℕ) = r by omega)
    · exact Fin.ext (show o + 1 * 0 = o by omega))

theorem sl4_at (w : FVec Ideal S1x4x512x256 .bf16) (o : ℕ) (h : o + 1 ≤ 4) (r : Fin 512) (l : Fin 256) :
    sl4 w o h (ix4 0 0 r l) = w (ix4 0 ⟨o, h⟩ r l) :=
  congrArg w (by
    funext a
    fin_cases a
    · rfl
    · exact Fin.ext (show o + 1 * 0 = o by omega)
    · exact Fin.ext (show 0 + 1 * (r : ℕ) = r by omega)
    · exact Fin.ext (show 0 + 1 * (l : ℕ) = l by omega))

section

variable (w0 : FVec Ideal S128x1536 .bf16) (w1 : FVec Ideal S128x512 .bf16) (w2 : FVec Ideal S128x1024 .bf16)
  (w3 : FVec Ideal S1x4x512x256 .bf16) (w4 : FVec Ideal S128x128 .f32) (w5 w6 : FVec Ideal S1x128 .f32) (j e b : Fin 2)

/-! Key heads `2j` and `2j + 1`: the band's keys and values. -/

def K := k0_pay16 (F := Ideal) (sl w1 (128 * j) (by omega)) (sl w0 (1024 + 128 * j) (by omega))
def V := k0_pay16 (F := Ideal) (sl w1 (256 + 128 * j) (by omega)) (sl w0 (1280 + 128 * j) (by omega))
def KR := rr dB (K w0 w1 j)
def KH := mulf (K w0 w1 j) (KR w0 w1 j)
def G6 := broadcastTo S256x128 (k0_pay15 (F := Ideal) w6) broadcasts_S1x128_S256x128
def KN := mulf (KH w0 w1 j) (G6 w6)

/-! Head `2j + e`, its query heads in two pairs. -/

def KD := ![k0_pay25 (F := Ideal) k0_pay9 (KN w0 w1 w6 j), k0_pay63 (F := Ideal) k0_pay9 (KN w0 w1 w6 j)] e
def VD := ![k0_pay25 (F := Ideal) k0_pay9 (V w0 w1 j), k0_pay63 (F := Ideal) k0_pay9 (V w0 w1 j)] e
def Q := k0_pay26 (F := Ideal) (sl w0 (512 * j + 256 * e + 128 * b) (by omega))
def QR := rr dA (Q w0 j e b)
def QH := mulf (Q w0 j e b) (QR w0 j e b)
def G5 := broadcastTo S128x128 (k0_pay14 (F := Ideal) w5) broadcasts_S1x128_S128x128
def QS := stk (mulf (QH w0 j e 0) (G5 w5)) (mulf (QH w0 j e 1) (G5 w5))
def D := sl w2 (512 * j + 256 * e + 128 * b) (by omega)
def P := sl4 w3 (2 * j + e) (by omega)
def PS := k0_pay38 (F := Ideal) (sl1 w4 (4 * (2 * j + e)) (by omega)) (sl1 w4 (4 * (2 * j + e) + 1) (by omega)) (sl1 w4 (4 * (2 * j + e) + 2) (by omega))
  (sl1 w4 (4 * (2 * j + e) + 3) (by omega))
def DL := k0_pay40 (F := Ideal) k0_pay8 (VD w0 w1 j e) (D w2 j e 0) (D w2 j e 1) (P w3 j e)
def DS := k0_pay41 (F := Ideal) k0_pay8 (VD w0 w1 j e) (D w2 j e 0) (D w2 j e 1) (P w3 j e)
def DSK := dsk (BitVec.ofNat 32 (2 * j + e)) (PS w4 j e) (DL w0 w1 w2 w3 j e)
def DQN := ![uns0 (k0_pay46 (F := Ideal) (KD w0 w1 w6 j e) (DS w0 w1 w2 w3 j e)), uns1 (k0_pay46 (F := Ideal) (KD w0 w1 w6 j e) (DS w0 w1 w2 w3 j e))] b
def DQ := bw dA (G5 w5) (DQN w0 w1 w2 w3 w6 j e b) (QH w0 j e b) (QR w0 j e b)
def GQ := cs128 (mulf (DQN w0 w1 w2 w3 w6 j e b) (QH w0 j e b))
def DKF := k0_pay61 (F := Ideal) (k0_pay49 (F := Ideal) (QS w0 w5 j e) (DS w0 w1 w2 w3 j e))
def DVF := k0_pay61 (F := Ideal) (k0_pay50 (F := Ideal) (k0_pay35 (F := Ideal) k0_pay8 (D w2 j e 0) (D w2 j e 1)) (k0_pay36 (F := Ideal) (P w3 j e)))

/-! The gradients of the two heads' keys and values. -/

def DKN := select k0_pay9 (DKF w0 w1 w2 w3 w5 j 0) (DKF w0 w1 w2 w3 w5 j 1)
def DK := bw dB (G6 w6) (DKN w0 w1 w2 w3 w5 j) (KH w0 w1 j) (KR w0 w1 j)
def DV := select k0_pay9 (DVF w2 w3 j 0) (DVF w2 w3 j 1)
def GK := cs256 (mulf (DKN w0 w1 w2 w3 w5 j) (KH w0 w1 j))

end

/-! ## At reals -/

/-- Head `2j + e`. -/
def hd (j e : Fin 2) : Fin 4 := ⟨2 * j + e, by omega⟩

variable (xc : Fin 128 → Fin 1536 → ℝ) (xp : Fin 128 → Fin 512 → ℝ) (xd : Fin 128 → Fin 1024 → ℝ) (p : Fin 4 → Fin 512 → Fin 256 → ℝ)
  (ps : Fin 128 → Fin 16 → ℝ) (qg kg : Fin 64 → ℝ) (h : Fin 4) (i : Fin 256) (R : Fin 512) (d : Fin 64)

def kx : ℝ := cat (fun s => xp s ⟨64 * h + d, by omega⟩) (fun s => xc s ⟨1024 + (64 * h + d), by omega⟩) i
def vx : ℝ := cat (fun s => xp s ⟨256 + (64 * h + d), by omega⟩) (fun s => xc s ⟨1280 + (64 * h + d), by omega⟩) i
def qx : ℝ := xc ⟨R % 128, by omega⟩ ⟨64 * (4 * h + R / 128) + d, by omega⟩
def dx : ℝ := xd ⟨R % 128, by omega⟩ ⟨64 * (4 * h + R / 128) + d, by omega⟩
def psx : ℝ := ps ⟨R % 128, by omega⟩ ⟨4 * h + R / 128, by omega⟩

/-- A head over its root mean square, and the same times its gains. -/
def unit (x : Fin 64 → ℝ) (d : Fin 64) : ℝ := x d * rinv x

/-- The gradient of a normalised query, key and value, and of a raw query and key. -/
def dqn : ℝ := ∑ i, dsR (vx xc xp h) (p h) (dx xd h) R i * (1 / 8) * (unit (kx xc xp h i) d * kg d)
def dkn : ℝ := ∑ R, dsR (vx xc xp h) (p h) (dx xd h) R i * (1 / 8) * (unit (qx xc h R) d * qg d)
def dvx : ℝ := ∑ R, p h R i * dx xd h R d
def dqx : ℝ := bwR qg (dqn xc xp xd p kg h R) (unit (qx xc h R)) (fun _ => rinv (qx xc h R)) d
def dkx : ℝ := bwR kg (dkn xc xp xd p qg h i) (unit (kx xc xp h i)) (fun _ => rinv (kx xc xp h i)) d

variable {xc xp xd p ps qg kg} {w0 : FVec Ideal S128x1536 .bf16} {w1 : FVec Ideal S128x512 .bf16} {w2 : FVec Ideal S128x1024 .bf16}
  {w3 : FVec Ideal S1x4x512x256 .bf16} {w4 : FVec Ideal S128x128 .f32} {w5 w6 : FVec Ideal S1x128 .f32}

/-- The blocks hold these reals. -/
structure Blocks (w0 : FVec Ideal S128x1536 .bf16) (w1 : FVec Ideal S128x512 .bf16) (w2 : FVec Ideal S128x1024 .bf16)
    (w3 : FVec Ideal S1x4x512x256 .bf16) (w4 : FVec Ideal S128x128 .f32) (w5 w6 : FVec Ideal S1x128 .f32)
    (xc : Fin 128 → Fin 1536 → ℝ) (xp : Fin 128 → Fin 512 → ℝ) (xd : Fin 128 → Fin 1024 → ℝ) (p : Fin 4 → Fin 512 → Fin 256 → ℝ)
    (ps : Fin 128 → Fin 16 → ℝ) (qg kg : Fin 64 → ℝ) : Prop where
  h0 : ∀ s c, w0 (ix2 s c) = ((xc s c : ℝ) : EReal)
  h1 : ∀ s c, w1 (ix2 s c) = ((xp s c : ℝ) : EReal)
  h2 : ∀ s c, w2 (ix2 s c) = ((xd s c : ℝ) : EReal)
  h3 : ∀ h R i, w3 (ix4 0 h R i) = ((p h R i : ℝ) : EReal)
  h4 : ∀ s (l : Fin 16), w4 (ix2 s ⟨l, by omega⟩) = ((ps s l : ℝ) : EReal)
  h5 : w5 = L fun _ _ d => qg d
  h6 : w6 = L fun _ _ d => kg d

variable (B : Blocks w0 w1 w2 w3 w4 w5 w6 xc xp xd p ps qg kg) (j e b : Fin 2)

theorem sl_L {n m : ℕ} {φ : FTy} {w : FVec Ideal ⟨2, ![n, m]⟩ φ} {x : Fin n → Fin m → ℝ} (hw : ∀ s c, w (ix2 s c) = ((x s c : ℝ) : EReal))
    (o : ℕ) (h : o + 128 ≤ m) : sl w o h = L fun s e d => x s ⟨o + (64 * e + d), by omega⟩ :=
  eq_L (fun r d => by rw [sl_at, hw]; congr 3; simp) (fun r d => by rw [sl_at, hw]; congr 3)

include B

theorem K_L : K w0 w1 j = L fun i e => kx xc xp (hd j e) i := by
  unfold K
  rw [sl_L B.h0, sl_L B.h1, cat_L]
  congr 1; funext i e d; unfold kx cat hd
  split <;> refine congrArg _ (Fin.ext ?_) <;> simp <;> omega

theorem V_L : V w0 w1 j = L fun i e => vx xc xp (hd j e) i := by
  unfold V
  rw [sl_L B.h0, sl_L B.h1, cat_L]
  congr 1; funext i e d; unfold vx cat hd
  split <;> refine congrArg _ (Fin.ext ?_) <;> simp <;> omega

theorem KR_L : KR w0 w1 j = L fun i e _ => rinv (kx xc xp (hd j e) i) := by
  unfold KR; rw [K_L B, rr_L dB rowsB]

theorem KH_L : KH w0 w1 j = L fun i e => unit (kx xc xp (hd j e) i) := by
  unfold KH; rw [K_L B, KR_L B, mulf_L]; rfl

theorem G6_L : G6 w6 = L fun _ _ d => kg d := by unfold G6; rw [B.h6, gainK_L]

theorem G5_L : G5 w5 = L fun _ _ d => qg d := by unfold G5; rw [B.h5, gainQ_L]

theorem KN_L : KN w0 w1 w6 j = L fun i e d => unit (kx xc xp (hd j e) i) d * kg d := by
  unfold KN; rw [KH_L B, G6_L B, mulf_L]

theorem KD_L : KD w0 w1 w6 j e = L fun i _ d => unit (kx xc xp (hd j e) i) d * kg d := by
  unfold KD; rw [KN_L B]
  fin_cases e
  · exact dup0_L _
  · exact dup1_L _

theorem VD_L : VD w0 w1 j e = L fun i _ => vx xc xp (hd j e) i := by
  unfold VD; rw [V_L B]
  fin_cases e
  · exact dup0_L _
  · exact dup1_L _

theorem Q_L : Q w0 j e b = L (pair b (qx xc (hd j e))) := by
  unfold Q; rw [sl_L B.h0, ext_L]
  congr 1; funext s f d; unfold pair qx hd
  congr 1
  · apply Fin.ext; simp; omega
  · apply Fin.ext; simp; omega

theorem QR_L : QR w0 j e b = L (pair b fun R _ => rinv (qx xc (hd j e) R)) := by
  unfold QR; rw [Q_L B, rr_L dA rowsA]; rfl

theorem QH_L : QH w0 j e b = L (pair b fun R => unit (qx xc (hd j e) R)) := by
  unfold QH; rw [Q_L B, QR_L B, mulf_L]; rfl

theorem QS_L : QS w0 w5 j e = L (quad fun R d => unit (qx xc (hd j e) R) d * qg d) := by
  unfold QS; rw [QH_L B, QH_L B, G5_L B, mulf_L, mulf_L]
  exact stk_L fun R d => unit (qx xc (hd j e) R) d * qg d

theorem D_L : D w2 j e b = L (pair b (dx xd (hd j e))) := by
  unfold D; rw [sl_L B.h2]
  congr 1; funext s f d; unfold pair dx hd
  congr 1
  · apply Fin.ext; simp; omega
  · apply Fin.ext; simp; omega

theorem P_at (R : Fin 512) (i : Fin 256) : P w3 j e (ix4 0 0 R i) = ((p (hd j e) R i : ℝ) : EReal) := by
  unfold P; rw [sl4_at]; exact B.h3 _ _ _

theorem PS_L : PS w4 j e = R2 fun R _ => psx ps (hd j e) R := by
  refine eq_R2 fun R k => ?_
  have hR : (R : ℕ) < 128 ∨ (128 ≤ (R : ℕ) ∧ (R : ℕ) < 256) ∨ (256 ≤ (R : ℕ) ∧ (R : ℕ) < 384) ∨ 384 ≤ (R : ℕ) := by omega
  have key : ∀ (o : ℕ) (ho : o < 16) (s : Fin 128), (R : ℕ) % 128 = s → 4 * (2 * (j : ℕ) + e) + (R : ℕ) / 128 = o →
      sl1 w4 o (by omega) (ix2 s 0) = ((psx ps (hd j e) R : ℝ) : EReal) := fun o ho s h1 h2 => by
    rw [sl1_at]
    refine (B.h4 s ⟨o, ho⟩).trans ?_
    unfold psx hd
    congr 2 <;> apply Fin.ext <;> simp [h1, ← h2]
  pointwise [PS, k0_pay38]
  rcases hR with h | ⟨h, h'⟩ | ⟨h, h'⟩ | h
  · rw [dif_pos h]; exact key _ (by omega) _ (by simp; omega) (by omega)
  · rw [dif_neg (by omega), dif_pos (by omega)]; exact key _ (by omega) _ (by simp; omega) (by omega)
  · rw [dif_neg (by omega), dif_neg (by omega), dif_pos (by omega)]; exact key _ (by omega) _ (by simp; omega) (by omega)
  · rw [dif_neg (by omega), dif_neg (by omega), dif_neg (by omega)]; exact key _ (by omega) _ (by simp; omega) (by omega)

theorem DL_L : DL w0 w1 w2 w3 j e = R2 fun R _ => dlR (vx xc xp (hd j e)) (p (hd j e)) (dx xd (hd j e)) R := by
  unfold DL; rw [VD_L B, D_L B, D_L B]; exact dl_L _ _ _ (P_at B j e)

theorem DS_L : DS w0 w1 w2 w3 j e = R2 (dsR (vx xc xp (hd j e)) (p (hd j e)) (dx xd (hd j e))) := by
  unfold DS; rw [VD_L B, D_L B, D_L B]; exact ds_L _ _ _ (P_at B j e)

theorem DSK_L : DSK w0 w1 w2 w3 w4 j e = R2 fun R l => if (l : ℕ) = hd j e then -(psx ps (hd j e) R * dlR (vx xc xp (hd j e)) (p (hd j e)) (dx xd (hd j e)) R) else 0 := by
  unfold DSK; rw [PS_L B, DL_L B]; exact dsk_L (hd j e) _ _

theorem ds8_L : k0_pay45 (F := Ideal) (DS w0 w1 w2 w3 j e) = R2 fun R i => dsR (vx xc xp (hd j e)) (p (hd j e)) (dx xd (hd j e)) R i * (1 / 8) := by
  rw [DS_L B]
  refine eq_R2 fun R i => ?_
  pointwise [k0_pay45]
  rw [ofBits_8th, R2_ix]; norm_cast

theorem DQN_L : DQN w0 w1 w2 w3 w6 j e b = L (pair b (dqn xc xp xd p kg (hd j e))) := by
  have h : k0_pay46 (F := Ideal) (KD w0 w1 w6 j e) (DS w0 w1 w2 w3 j e) = L fun R _ => dqn xc xp xd p kg (hd j e) R := by
    unfold k0_pay46; rw [ds8_L B, KD_L B]; exact nn_L _ _
  unfold DQN; rw [h]
  fin_cases b
  · exact uns0_L _
  · exact uns1_L _

theorem DQ_L : DQ w0 w1 w2 w3 w5 w6 j e b = L (pair b (dqx xc xp xd p qg kg (hd j e))) := by
  unfold DQ; rw [DQN_L B, QH_L B, QR_L B, G5_L B, bw_L dA rowsA]; rfl

theorem GQ_L : GQ w0 w1 w2 w3 w6 j e b = L fun _ f d => ∑ s : Fin 128, pair b (fun R d => dqn xc xp xd p kg (hd j e) R d * unit (qx xc (hd j e) R) d) s f d := by
  unfold GQ; rw [DQN_L B, QH_L B, mulf_L, cs128_L]; rfl

theorem DKF_L : DKF w0 w1 w2 w3 w5 j e = L fun i _ => dkn xc xp xd p qg (hd j e) i := by
  unfold DKF k0_pay49; rw [ds8_L B, QS_L B]; exact tn_L _ _

theorem DVF_L : DVF w2 w3 j e = L fun i _ => dvx xd p (hd j e) i := by
  have h : k0_pay35 (F := Ideal) k0_pay8 (D w2 j e 0) (D w2 j e 1) = stk (k0_pay26 (D w2 j e 0)) (k0_pay26 (D w2 j e 1)) := rfl
  unfold DVF k0_pay50; rw [h, D_L B, D_L B, ext_L, ext_L, stk_L, p36_L _ (P_at B j e)]; exact tn_L _ _

theorem DKN_L : DKN w0 w1 w2 w3 w5 j = L fun i e => dkn xc xp xd p qg (hd j e) i := by
  unfold DKN; rw [DKF_L B, DKF_L B, lo2_L]
  congr 1; funext i e; fin_cases e <;> rfl

theorem DK_L : DK w0 w1 w2 w3 w5 w6 j = L fun i e => dkx xc xp xd p qg kg (hd j e) i := by
  unfold DK; rw [DKN_L B, KH_L B, KR_L B, G6_L B, bw_L dB rowsB]; rfl

theorem DV_L : DV w2 w3 j = L fun i e => dvx xd p (hd j e) i := by
  unfold DV; rw [DVF_L B, DVF_L B, lo2_L]
  congr 1; funext i e; fin_cases e <;> rfl

theorem GK_L : GK w0 w1 w2 w3 w5 j = L fun _ f d => ∑ i : Fin 256, dkn xc xp xd p qg (hd j f) i d * unit (kx xc xp (hd j f) i) d := by
  unfold GK; rw [DKN_L B, KH_L B, mulf_L, cs256_L]

end Cert.Kernel2Ideal.Attn

end
-- ==== Proof.AttnSoft.lean ====
/- The softmax of the attention's reference at reals. -/
module

public import proofs.«01_k».proof.Proof.AttnHead

public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnRef

open Cert.Reference2Ideal Cert.Reference2Ideal.Gen Cert.Reference2Ideal.Read Cert.Attn Cert.Reals

variable {x0 : FVec Ideal S4096x1536 .f32} {x1 x2 : FVec Ideal S64 .f32} {x3 : FVec Ideal S16 .f32} {x4 : FVec Ideal S4x4x128x256 .f32} {x5 : FVec Ideal S4096x1024 .f32}

theorem v85_at (n : Fin 32) (h g : Fin 4) (s : Fin 128) : val_main_v85 (F := Ideal) x0 x1 x2 x4 (ix5 n h g s 0) = val_main_v79 (F := Ideal) x0 x1 x2 x4 (ix4 n h g s) := by
  unfold val_main_v85
  generalize val_main_v79 (F := Ideal) x0 x1 x2 x4 = Z
  pointwise
theorem v88_at (n : Fin 32) (h g : Fin 4) (s : Fin 128) : val_main_v88 (F := Ideal) x3 (ix5 n h g s 0) = x3 (ix1 ⟨h * 4 + g, by omega⟩) := by
  pointwise [val_main_v88, val_main_v78]
theorem v90_at (n : Fin 32) (h g : Fin 4) (s : Fin 128) : val_main_v90 (F := Ideal) x3 (ix5 n h g s 0) = x3 (ix1 ⟨h * 4 + g, by omega⟩) := by
  pointwise [val_main_v90, val_main_v78]
theorem v109_at (n : Fin 32) (h g : Fin 4) (s : Fin 128) : val_main_v109 (F := Ideal) x3 (ix5 n h g s 0) = x3 (ix1 ⟨h * 4 + g, by omega⟩) := by
  pointwise [val_main_v109, val_main_v78]

/-- A choice between reals is real. -/
theorem sel_real (c : BitVec 1) {a b : EReal} (ha : ∃ r : ℝ, a = r) (hb : ∃ r : ℝ, b = r) : ∃ r : ℝ, Scalar.select c a b = r := by
  unfold Scalar.select
  split
  · exact ha
  · exact hb

theorem one_real : ∃ r : ℝ, Ideal.ofBits .f32 0x3F800000#32 = (r : EReal) := ⟨_, (by simp [Ideal.ofBits, Ideal.ieee]; rfl)⟩
theorem half_real : ∃ r : ℝ, Ideal.ofBits .f32 1056964608#32 = (r : EReal) := ⟨_, (by simp [Ideal.ofBits, Ideal.ieee]; rfl)⟩
theorem zero_real : ∃ r : ℝ, Ideal.ofBits .f32 0x00000000#32 = (r : EReal) := ⟨0, by simp [Ideal.ofBits, Ideal.ieee]⟩

theorem v96_at (n : Fin 32) (h g : Fin 4) (s : Fin 128)  : ∃ r : ℝ, val_main_v96 (F := Ideal) x0 x1 x2 x3 x4 (ix5 n h g s 0) = (r : EReal) := by
  rw [val_main_v96_apply, val_main_v95_apply]
  exact sel_real _ one_real (sel_real _ half_real zero_real)
theorem v105_at (n : Fin 32) (h g : Fin 4) (s : Fin 128)  :  ∃ r : ℝ, val_main_v105 (F := Ideal) x0 x1 x2 x3 x4 (ix5 n h g s 0) = (r : EReal) := by
  rw [val_main_v105_apply, val_main_v104_apply]
  exact sel_real _ one_real (sel_real _ half_real zero_real)
theorem v108_at (n : Fin 32) (h g : Fin 4) (s : Fin 128) (i : Fin 256) : val_main_v108 (F := Ideal) x0 x1 x2 x3 x4 (ix5 n h g s i) =
   Ideal.exp (val_main_v77_0 (F := Ideal) x0 x1 x2 x4 (ix5 n h g s i) - val_main_v87 (F := Ideal) x0 x1 x2 x3 x4 (ix5 n h g s 0)) := by
  unfold val_main_v108 val_main_v107 val_main_v106
  generalize val_main_v77_0 (F := Ideal) x0 x1 x2 x4 = Z
  generalize val_main_v87 (F := Ideal) x0 x1 x2 x3 x4 = Y
  pointwise
theorem exp_sub (Y Z : S32x4x4x128x1.Idx → EReal) (i : S32x4x4x128x1.Idx) : (Host.exp (F := Ideal) (φ := .f32) (subf (F := Ideal) (φ := .f32) Z Y)) i = Ideal.exp (Z i - Y i) := rfl
theorem v111_at (n : Fin 32) (h g : Fin 4) (s : Fin 128) : val_main_v111 (F := Ideal) x0 x1 x2 x3 x4 (ix5 n h g s 0) =
    Ideal.exp (val_main_v109 (F := Ideal) x3 (ix5 n h g s 0) - val_main_v87 (F := Ideal) x0 x1 x2 x3 x4 (ix5 n h g s 0)) := exp_sub _ _ _
theorem v86_at (n : Fin 32) (h g : Fin 4) (s : Fin 128) : val_main_v86 (F := Ideal) x3 (ix5 n h g s 0) = x3 (ix1 ⟨h * 4 + g, by omega⟩) := by
  pointwise [val_main_v86, val_main_v78]
theorem max_at (Y Z : S32x4x4x128x1.Idx → EReal) (i : S32x4x4x128x1.Idx) : (maximumf (F := Ideal) (φ := .f32) Z Y) i = max (Z i) (Y i) := rfl
theorem v87_at (n : Fin 32) (h g : Fin 4) (s : Fin 128) : val_main_v87 (F := Ideal) x0 x1 x2 x3 x4 (ix5 n h g s 0) =
    max (val_main_v85 (F := Ideal) x0 x1 x2 x4 (ix5 n h g s 0)) (val_main_v86 (F := Ideal) x3 (ix5 n h g s 0)) := max_at _ _ _
theorem ofBits_bot : Ideal.ofBits .f32 4286578688#32 = (⊥ : EReal) := by simp [Ideal.ofBits, Ideal.ieee]
theorem v77_at (n : Fin 32) (h g : Fin 4) (s : Fin 128) (i : Fin 256) : val_main_v77_0 (F := Ideal) x0 x1 x2 x4 (ix5 n h g s i) =
    if val_main_v77_1 (F := Ideal) (ix5 n h g s i) = 1#1 then val_main_v58 (F := Ideal) x0 x1 x2 x4 (ix5 n h g s i) else (⊥ : EReal) := by
  unfold val_main_v77_0
  generalize val_main_v58 (F := Ideal) x0 x1 x2 x4 = Z
  generalize val_main_v77_1 (F := Ideal) = M
  pointwise [val_main_call0_v2, val_main_call0_v0, val_main_cst_16, val_main_call0_cst, val_main_v76]
  unfold Scalar.select
  exact congrArg (fun z : EReal => if M (ix5 n h g s i) = 1#1 then (Z (ix5 n h g s i) : EReal) else z) ofBits_bot
theorem v79_at (n : Fin 32) (h g : Fin 4) (s : Fin 128) : val_main_v79 (F := Ideal) x0 x1 x2 x4 (ix4 n h g s) =
    Finset.univ.sup fun i : Fin 256 => (val_main_v77_0 (F := Ideal) x0 x1 x2 x4 (ix5 n h g s i) : EReal) := by
  unfold val_main_v79
  generalize val_main_v77_0 (F := Ideal) x0 x1 x2 x4 = Z
  pointwise [val_main_cst_17]
  exact congrArg (fun z : EReal => Finset.fold max z (fun x : Fin 256 => (Z (ix5 n h g s x) : EReal)) Finset.univ) ofBits_bot
theorem v83_at (n : Fin 32) (h g : Fin 4) (s : Fin 128) (i : Fin 256): val_main_v83 (F := Ideal) x0 x1 x2 x4 (ix5 n h g s i) =
    ((if val_main_v77_0 (F := Ideal) x0 x1 x2 x4 (ix5 n h g s i) = val_main_v79 (F := Ideal) x0 x1 x2 x4 (ix4 n h g s) then 1 else 0 : ℝ) : EReal) := by
  unfold val_main_v83 val_main_v82 val_main_v81 val_main_v80
  generalize val_main_v77_0 (F := Ideal) x0 x1 x2 x4 = Z
  generalize val_main_v79 (F := Ideal) x0 x1 x2 x4 = Y
  pointwise
  by_cases e : Z (ix5 n h g s i) = Y (ix4 n h g s)
  · simp [e, FloatOps.uitofp]
  · simp [e, FloatOps.uitofp]
theorem v84_at (n : Fin 32) (h g : Fin 4) (s : Fin 128) : val_main_v84 (F := Ideal) x0 x1 x2 x4 (ix4 n h g s) =
    ∑ i : Fin 256, (val_main_v83 (F := Ideal) x0 x1 x2 x4 (ix5 n h g s i) : EReal) := by
  unfold val_main_v84
  generalize val_main_v83 (F := Ideal) x0 x1 x2 x4 = Z
  pointwise [val_main_cst_18]
theorem v114_at (n : Fin 32) (h g : Fin 4) (s : Fin 128) : val_main_v114 (F := Ideal) x0 x1 x2 x3 x4 (ix5 n h g s 0) =
    (∑ i : Fin 256, (val_main_v108 (F := Ideal) x0 x1 x2 x3 x4 (ix5 n h g s i) : EReal)) + val_main_v111 (F := Ideal) x0 x1 x2 x3 x4 (ix5 n h g s 0) := by
  unfold val_main_v114 val_main_v113 val_main_v112
  generalize val_main_v108 (F := Ideal) x0 x1 x2 x3 x4 = Z
  generalize val_main_v111 (F := Ideal) x0 x1 x2 x3 x4 = Y
  pointwise [val_main_cst_25]

theorem mask_at (n : Fin 32) (h g : Fin 4) (s : Fin 128) (i : Fin 256) : val_main_v77_1 (F := Ideal) (ix5 n h g s i) =
    IntOp.andi (IntOp.andi (IntOp.cmpi .sge (IntOp.subi (IntOp.addi (BitVec.ofNat 32 s) 128#32) (BitVec.ofNat 32 i)) 0#32)
        (IntOp.cmpi .slt (IntOp.subi (IntOp.addi (BitVec.ofNat 32 s) 128#32) (BitVec.ofNat 32 i)) 128#32))
      (IntOp.ori (IntOp.cmpi .sgt (BitVec.ofNat 32 n) 0#32) (IntOp.cmpi .sge (BitVec.ofNat 32 i) 128#32)) := by
  pointwise [val_main_v77_1, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_c_15, val_main_c_14, val_main_c_13, val_main_c_12, val_main_c]

/-- A query sees its own position. -/
theorem mask_own (n : Fin 32) (h g : Fin 4) (s : Fin 128) : val_main_v77_1 (F := Ideal) (ix5 n h g s ⟨128 + s, by omega⟩) = 1#1 := by
  rw [mask_at]
  have k : ∀ s : Fin 128, IntOp.andi (IntOp.cmpi .sge (IntOp.subi (IntOp.addi (BitVec.ofNat 32 s) 128#32) (BitVec.ofNat 32 (128 + s))) 0#32)
        (IntOp.cmpi .slt (IntOp.subi (IntOp.addi (BitVec.ofNat 32 s) 128#32) (BitVec.ofNat 32 (128 + s))) 128#32) = 1#1 ∧ IntOp.cmpi .sge (BitVec.ofNat 32 (128 + s)) 128#32 = 1#1 := by decide +kernel
  have l : ∀ x : BitVec 1, IntOp.andi 1#1 (IntOp.ori x 1#1) = 1#1 := by decide
  rw [(k s).1, (k s).2]
  exact l _

/-- The first block sees no block before it. -/
theorem mask_first (h g : Fin 4) (s : Fin 128) (i : Fin 256) (hi : (i : ℕ) < 128) : val_main_v77_1 (F := Ideal) (ix5 0 h g s i) ≠ 1#1 := by
  rw [mask_at]
  have k : ∀ i : Fin 128, IntOp.ori (IntOp.cmpi .sgt (BitVec.ofNat 32 (0 : Fin 32)) 0#32) (IntOp.cmpi .sge (BitVec.ofNat 32 i) 128#32) = 0#1 := by decide +kernel
  have l : ∀ x : BitVec 1, IntOp.andi x 0#1 ≠ 1#1 := by decide
  intro e
  exact l _ ((congrArg (IntOp.andi _) (k ⟨i, hi⟩)).symm.trans e)

/-- The softmax of one query: reals, none of them masked, that add up to one with the sink's share. -/
structure Soft (x0 : FVec Ideal S4096x1536 .f32) (x1 x2 : FVec Ideal S64 .f32) (x3 : FVec Ideal S16 .f32) (x4 : FVec Ideal S4x4x128x256 .f32)
    (n : Fin 32) (h g : Fin 4) (s : Fin 128) (p : Fin 256 → ℝ) (es : ℝ) : Prop where
  hp : ∀ i, val_main_v108 (F := Ideal) x0 x1 x2 x3 x4 (ix5 n h g s i) = ((p i : ℝ) : EReal)
  he : val_main_v111 (F := Ideal) x0 x1 x2 x3 x4 (ix5 n h g s 0) = ((es : ℝ) : EReal)
  hd : val_main_v114 (F := Ideal) x0 x1 x2 x3 x4 (ix5 n h g s 0) = ((∑ i, p i + es : ℝ) : EReal)
  pos : 0 < ∑ i, p i + es
  off : ∀ i, val_main_v77_1 (F := Ideal) (ix5 n h g s i) ≠ 1#1 → p i = 0
  hc : ∃ y : ℝ, y ≠ 0 ∧ val_main_v84 (F := Ideal) x0 x1 x2 x4 (ix4 n h g s) = (y : EReal)

theorem soft (n : Fin 32) (h g : Fin 4) (s : Fin 128) (sk : ℝ) (h3 : x3 (ix1 ⟨h * 4 + g, by omega⟩) = (sk : EReal)) (sc : Fin 256 → ℝ)
    (hs : ∀ i, val_main_v58 (F := Ideal) x0 x1 x2 x4 (ix5 n h g s i) = ((sc i : ℝ) : EReal)) : ∃ p es, Soft x0 x1 x2 x3 x4 n h g s p es := by
  obtain ⟨j, -, hj⟩ := Finset.exists_mem_eq_sup (Finset.univ : Finset (Fin 256)) Finset.univ_nonempty fun i => (val_main_v77_0 (F := Ideal) x0 x1 x2 x4 (ix5 n h g s i) : EReal)
  rw [← v79_at] at hj
  have own : val_main_v77_0 (F := Ideal) x0 x1 x2 x4 (ix5 n h g s ⟨128 + s, by omega⟩) = ((sc ⟨128 + s, by omega⟩ : ℝ) : EReal) := by
    rw [v77_at, if_pos (mask_own n h g s), hs]
  have le : ((sc ⟨128 + s, by omega⟩ : ℝ) : EReal) ≤ val_main_v79 (F := Ideal) x0 x1 x2 x4 (ix4 n h g s) := by
    rw [← own, v79_at]
    exact Finset.le_sup (f := fun i => (val_main_v77_0 (F := Ideal) x0 x1 x2 x4 (ix5 n h g s i) : EReal)) (Finset.mem_univ _)
  have hm : val_main_v79 (F := Ideal) x0 x1 x2 x4 (ix4 n h g s) = ((sc j : ℝ) : EReal) := by
    rw [hj, v77_at]
    by_cases e : val_main_v77_1 (F := Ideal) (ix5 n h g s j) = 1#1
    · rw [if_pos e, hs]
    · rw [hj, v77_at, if_neg e] at le
      exact absurd (le_bot_iff.1 le) (EReal.coe_ne_bot _)
  have h87 : val_main_v87 (F := Ideal) x0 x1 x2 x3 x4 (ix5 n h g s 0) = ((max (sc j) sk : ℝ) : EReal) := by
    rw [v87_at, v85_at, v86_at, hm, h3]
    exact (EReal.coe_strictMono.monotone.map_max).symm
  have hp : ∀ i, val_main_v108 (F := Ideal) x0 x1 x2 x3 x4 (ix5 n h g s i) =
      ((if val_main_v77_1 (F := Ideal) (ix5 n h g s i) = 1#1 then Real.exp (sc i - max (sc j) sk) else 0 : ℝ) : EReal) := fun i => by
    rw [v108_at, h87, v77_at]
    by_cases e : val_main_v77_1 (F := Ideal) (ix5 n h g s i) = 1#1
    · rw [if_pos e, if_pos e, hs, ← EReal.coe_sub, Ideal.exp_coe]
    · rw [if_neg e, if_neg e, EReal.bot_sub, Ideal.exp_bot, EReal.coe_zero]
  have he : val_main_v111 (F := Ideal) x0 x1 x2 x3 x4 (ix5 n h g s 0) = ((Real.exp (sk - max (sc j) sk) : ℝ) : EReal) := by
    rw [v111_at, v109_at, h87, h3, ← EReal.coe_sub, Ideal.exp_coe]
  refine ⟨_, _, hp, he, ?_, ?_, fun i e => if_neg e, ?_⟩
  · rw [v114_at, he, Finset.sum_congr rfl fun i _ => hp i, coe_sum, ← EReal.coe_add]
  · exact add_pos_of_nonneg_of_pos (Finset.sum_nonneg fun i _ => by split; exacts [(Real.exp_pos _).le, le_rfl]) (Real.exp_pos _)
  · refine ⟨∑ i : Fin 256, (if val_main_v77_0 (F := Ideal) x0 x1 x2 x4 (ix5 n h g s i) = val_main_v79 (F := Ideal) x0 x1 x2 x4 (ix4 n h g s) then 1 else 0 : ℝ), ?_, ?_⟩
    · refine (lt_of_lt_of_le one_pos ?_).ne'
      refine le_trans (le_of_eq (if_pos hj.symm).symm) (Finset.single_le_sum (f := fun i : Fin 256 => (if val_main_v77_0 (F := Ideal) x0 x1 x2 x4 (ix5 n h g s i) = val_main_v79 (F := Ideal) x0 x1 x2 x4 (ix4 n h g s) then 1 else 0 : ℝ)) (fun i _ => ?_) (Finset.mem_univ j))
      show (0 : ℝ) ≤ ite _ _ _
      split
      · exact zero_le_one
      · exact le_rfl
    · rw [v84_at, Finset.sum_congr rfl fun i _ => v83_at n h g s i, coe_sum]

end Cert.AttnRef

end
-- ==== Proof.Norm.lean ====
/- The gradient of a root-mean-square norm of one row, of reals: as the mean of products, and through the power `-½`. -/
module

public import proofs.«01_k».proof.Proof.Reals

@[expose] public section

noncomputable section

open Idealize.ShloMosaic

namespace Cert.Norm

open Cert.Reals

variable {n : ℕ} (w : ℝ)

/-- The reciprocal norm of a row of width `w`. -/
def rn (x : Fin n → ℝ) : ℝ := (√((∑ d, x d * x d) * (1 / w) + eps))⁻¹

/-- A normed row. -/
def nx (x : Fin n → ℝ) (d : Fin n) : ℝ := x d * rn w x

/-- The gradient of a row `x` from the gradient `y` of its normed row times `g`. -/
def bn (g y x : Fin n → ℝ) (d : Fin n) : ℝ := rn w x * (y d * g d - nx w x d * ((∑ k, y k * g k * nx w x k) * (1 / w)))

/-- The gradient of the normed rows, from the gradient `q` of their product with `u`. -/
def dy {a b e : ℕ} (q : Fin a → Fin e → ℝ) (u : Fin b → Fin e → ℝ) (r : Fin a) (k : Fin b) : ℝ := ∑ j, q r j * u k j

variable {w} (hw : 0 < w)

include hw in
theorem pos (x : Fin n → ℝ) : 0 < (∑ k, x k * x k) * (1 / w) + eps :=
  add_pos_of_nonneg_of_pos (mul_nonneg (Finset.sum_nonneg fun k _ => mul_self_nonneg _) (by positivity)) (by unfold eps; norm_num)

include hw in
/-- A mean of squares, of reals. -/
theorem ms_real (x : Fin n → ℝ) (E : EReal) (hE : E = (w : EReal)) :
    Ideal.div (∑ k, ((x k : ℝ) : EReal) * ((x k : ℝ) : EReal)) E + Ideal.ofBits .f32 0x358637BD#32 =
      (((∑ k, x k * x k) * (1 / w) + eps : ℝ) : EReal) := by
  simp only [← EReal.coe_mul]
  rw [hE, ofBits_eps, coe_sum, Ideal.div_coe hw.ne', ← EReal.coe_mul, ← EReal.coe_add]

include hw in
theorem rsqrt_ms (x : Fin n → ℝ) : Ideal.rsqrt (((∑ k, x k * x k) * (1 / w) + eps : ℝ) : EReal) = ((rn w x : ℝ) : EReal) := by
  have hp := pos hw x
  rw [Ideal.rsqrt_coe, if_neg hp.not_gt, if_neg hp.ne', rn]

include hw in
/-- The gradient through the power `-½` and the mean of squares. -/
theorem back (g y x : Fin n → ℝ) (d : Fin n) (R M E : EReal) (hE : E = (w : EReal)) (hR : R = ((rn w x : ℝ) : EReal))
    (hM : M = (((∑ k, x k * x k) * (1 / w) + eps : ℝ) : EReal)) (T : EReal)
    (hT : T = Ideal.div ((((∑ k, x k * (y k * g k)) : ℝ) : EReal) * (Ideal.ofBits .f32 0xBF000000#32 * Ideal.div R M)) E) :
    (((y d * g d : ℝ) : EReal) * R + ((x d : ℝ) : EReal) * T) + T * ((x d : ℝ) : EReal) = ((bn w g y x d : ℝ) : EReal) := by
  have f : Ideal.ofBits .f32 0xBF000000#32 = ((-(1 / 2) : ℝ) : EReal) := by simp [Ideal.ofBits, Ideal.ieee]; rw [← EReal.coe_mul]; norm_num
  have hp := pos hw x
  have r2 : 1 / ((∑ k, x k * x k) * (1 / w) + eps) = rn w x * rn w x := by
    unfold rn
    rw [← mul_inv, Real.mul_self_sqrt hp.le, one_div]
  rw [hM, hR, f, hE, Ideal.div_coe hp.ne', r2, Ideal.div_coe hw.ne'] at hT
  rw [hT, hR]
  simp only [← EReal.coe_mul, ← EReal.coe_add]
  refine congrArg _ ?_
  have t : ∑ k, y k * g k * nx w x k = (∑ k, x k * (y k * g k)) * rn w x := by
    rw [Finset.sum_mul]
    refine Finset.sum_congr rfl fun k _ => ?_
    unfold nx
    ring
  unfold bn
  rw [t]
  generalize ∑ k, x k * (y k * g k) = s
  unfold nx
  ring

theorem ofBits_1024 : Ideal.ofBits .f32 0x44800000#32 = ((1024 : ℝ) : EReal) := by
  simp [Ideal.ofBits, Ideal.ieee]; rw [← EReal.coe_mul]; norm_num

theorem ofBits_64 : Ideal.ofBits .f32 0x42800000#32 = ((64 : ℝ) : EReal) := by
  simp [Ideal.ofBits, Ideal.ieee]; rw [← EReal.coe_mul]; norm_num

end Cert.Norm

end
-- ==== Proof.AttnRefA.lean ====
/- The reference's normalised heads and scores, at reals. -/
module

public import proofs.«01_k».proof.Proof.AttnHead
public import proofs.«01_k».proof.Proof.AttnSoft
public import proofs.«01_k».proof.Proof.Norm

public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnRef

open Cert.Reference2Ideal Cert.Reference2Ideal.Gen Cert.Reference2Ideal.Read Cert.Attn Cert.Reals Cert.Kernel2Ideal.Attn

theorem sum_rows {a b c : ℕ} (h : (⟨3, ![a, b, c]⟩ : Shape).ReducesTo [0, 1] (⟨1, ![c]⟩ : Shape))
    (v : (⟨3, ![a, b, c]⟩ : Shape).Idx → EReal) (z : EReal) (d : Fin c) :
    Ideal.hostReduceAdd h v z (ix1 d) = z + ∑ r : Fin a, ∑ k : Fin b, v (ix3 r k d) := by
  refine congrArg (z + ·) ((Finset.sum_filter_eq_sum_of_fiber _
    (fun k : Fin a × Fin b => ix3 k.1 k.2 d) (fun _ _ e => Prod.ext (congrFun e 0) (congrFun e 1))
    (fun i => ⟨fun e => ⟨(i 0, i 1), funext fun x => Fin.ext ?_⟩, ?_⟩) v).trans ?_)
  · match x with
    | ⟨0, _⟩ => rfl
    | ⟨1, _⟩ => rfl
    | ⟨2, _⟩ => exact (congrArg Fin.val (congrFun e 0)).symm
  · rintro ⟨k, rfl⟩
    funext x
    match x with
    | ⟨0, _⟩ => exact Fin.ext rfl
  · simp only [Fintype.sum_prod_type]

theorem sum_blocks {a b c n : ℕ}
    (h : (⟨5, ![n, a, b, c, 1]⟩ : Shape).ReducesTo [0, 3] (⟨3, ![a, b, 1]⟩ : Shape))
    (v : (⟨5, ![n, a, b, c, 1]⟩ : Shape).Idx → EReal) (z : EReal) (p : Fin a) (q : Fin b) :
    Ideal.hostReduceAdd h v z (ix3 p q 0) = z + ∑ r : Fin n, ∑ s : Fin c, v (ix5 r p q s 0) := by
  refine congrArg (z + ·) ((Finset.sum_filter_eq_sum_of_fiber _
    (fun k : Fin n × Fin c => (ix5 k.1 p q k.2 (0 : Fin 1) : (⟨5, ![n, a, b, c, 1]⟩ : Shape).Idx))
    (fun _ _ e => Prod.ext (congrFun e 0) (congrFun e 3))
    (fun (i : (⟨5, ![n, a, b, c, 1]⟩ : Shape).Idx) => ⟨fun e => ⟨(i 0, i 3), funext fun x => Fin.ext ?_⟩, ?_⟩) v).trans ?_)
  · match x with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨k, rfl⟩
    funext x
    match x with
    | ⟨0, _⟩ => exact Fin.ext rfl
    | ⟨1, _⟩ => exact Fin.ext rfl
    | ⟨2, _⟩ => exact Fin.ext rfl
  · simp only [Fintype.sum_prod_type]

/-- The arguments' real values. -/
structure In (x0 : FVec Ideal S4096x1536 .f32) (x1 x2 : FVec Ideal S64 .f32) (x5 : FVec Ideal S4096x1024 .f32) (q : Fin 4096 → Fin 1536 → ℝ)
    (qg kg : Fin 64 → ℝ) (xd : Fin 4096 → Fin 1024 → ℝ) : Prop where
  h0 : ∀ r c, x0 (ix2 r c) = ((q r c : ℝ) : EReal)
  h1 : ∀ d, x1 (ix1 d) = ((qg d : ℝ) : EReal)
  h2 : ∀ d, x2 (ix1 d) = ((kg d : ℝ) : EReal)
  h5 : ∀ r c, x5 (ix2 r c) = ((xd r c : ℝ) : EReal)

/-- A row's raw query, key and value of one head. -/
def rq (q : Fin 4096 → Fin 1536 → ℝ) (r : Fin 4096) (H : Fin 16) (d : Fin 64) : ℝ := q r ⟨H * 64 + d, by omega⟩
def rk (q : Fin 4096 → Fin 1536 → ℝ) (r : Fin 4096) (h : Fin 4) (d : Fin 64) : ℝ := q r ⟨1024 + (h * 64 + d), by omega⟩
def rv (q : Fin 4096 → Fin 1536 → ℝ) (r : Fin 4096) (h : Fin 4) (d : Fin 64) : ℝ := q r ⟨1280 + (h * 64 + d), by omega⟩

/-- The rows of block `n`, and the keys and values of the block before. -/
def Xc (q : Fin 4096 → Fin 1536 → ℝ) (n : Fin 32) (s : Fin 128) (c : Fin 1536) : ℝ := q ⟨128 * n + s, by omega⟩ c
def Xp (q : Fin 4096 → Fin 1536 → ℝ) (n : Fin 32) (s : Fin 128) (c : Fin 512) : ℝ := q ⟨128 * (n - 1) + s, by omega⟩ ⟨1024 + c, by omega⟩
def Xd (xd : Fin 4096 → Fin 1024 → ℝ) (n : Fin 32) (s : Fin 128) (c : Fin 1024) : ℝ := xd ⟨128 * n + s, by omega⟩ c

/-- The band of block `n`: key `i` of it, of head `h`. -/
abbrev bk (q : Fin 4096 → Fin 1536 → ℝ) (n : Fin 32) (h : Fin 4) : Fin 256 → Fin 64 → ℝ := kx (Xc q n) (Xp q n) h
abbrev bv (q : Fin 4096 → Fin 1536 → ℝ) (n : Fin 32) (h : Fin 4) : Fin 256 → Fin 64 → ℝ := vx (Xc q n) (Xp q n) h
abbrev bq (q : Fin 4096 → Fin 1536 → ℝ) (n : Fin 32) (h : Fin 4) : Fin 512 → Fin 64 → ℝ := qx (Xc q n) h
abbrev bd (xd : Fin 4096 → Fin 1024 → ℝ) (n : Fin 32) (h : Fin 4) : Fin 512 → Fin 64 → ℝ := dx (Xd xd n) h

section
variable (q : Fin 4096 → Fin 1536 → ℝ) (n : Fin 32) (h : Fin 4) (i : Fin 256) (R : Fin 512)

theorem bk_lo (hi : (i : ℕ) < 128) : bk q n h i = rk q ⟨(n - 1) * 128 + i, by omega⟩ h := by
  funext d
  unfold bk kx cat Xp rk
  rw [dif_pos hi]
  refine congrArg₂ q (Fin.ext ?_) (Fin.ext ?_) <;> dsimp only <;> omega

theorem bk_hi (hi : ¬(i : ℕ) < 128) : bk q n h i = rk q ⟨n * 128 + (i - 128), by omega⟩ h := by
  funext d
  unfold bk kx cat Xc rk
  rw [dif_neg hi]
  refine congrArg₂ q (Fin.ext ?_) (Fin.ext ?_) <;> dsimp only <;> omega

theorem bv_lo (hi : (i : ℕ) < 128) : bv q n h i = rv q ⟨(n - 1) * 128 + i, by omega⟩ h := by
  funext d
  unfold bv vx cat Xp rv
  rw [dif_pos hi]
  refine congrArg₂ q (Fin.ext ?_) (Fin.ext ?_) <;> dsimp only <;> omega

theorem bv_hi (hi : ¬(i : ℕ) < 128) : bv q n h i = rv q ⟨n * 128 + (i - 128), by omega⟩ h := by
  funext d
  unfold bv vx cat Xc rv
  rw [dif_neg hi]
  refine congrArg₂ q (Fin.ext ?_) (Fin.ext ?_) <;> dsimp only <;> omega

theorem bq_eq : bq q n h R = rq q ⟨n * 128 + R % 128, by omega⟩ ⟨h * 4 + R / 128, by omega⟩ := by
  funext d
  unfold bq qx Xc rq
  congr 1 <;> exact Fin.ext (by dsimp only; omega)

theorem bd_eq (xd : Fin 4096 → Fin 1024 → ℝ) (d : Fin 64) : bd xd n h R d = xd ⟨n * 128 + R % 128, by omega⟩ ⟨h * 256 + R / 128 * 64 + d, by omega⟩ := by
  unfold bd dx Xd
  congr 1 <;> exact Fin.ext (by dsimp only; omega)
end

/-- One over a root mean square, of reals. -/
theorem rms_real (x : Fin 64 → ℝ) : Ideal.rsqrt (Ideal.div (∑ k, ((x k : ℝ) : EReal) * ((x k : ℝ) : EReal)) (Ideal.ofBits .f32 0x42800000#32) + Ideal.ofBits .f32 0x358637BD#32) =
    ((rinv x : ℝ) : EReal) :=
  (congrArg Ideal.rsqrt (Norm.ms_real (by norm_num) x _ Norm.ofBits_64)).trans (Norm.rsqrt_ms (by norm_num) x)

variable {x0 : FVec Ideal S4096x1536 .f32} {x1 x2 : FVec Ideal S64 .f32} {x3 : FVec Ideal S16 .f32} {x4 : FVec Ideal S4x4x128x256 .f32} {x5 : FVec Ideal S4096x1024 .f32}
  {q : Fin 4096 → Fin 1536 → ℝ} {qg kg : Fin 64 → ℝ} {xd : Fin 4096 → Fin 1024 → ℝ} (W : In x0 x1 x2 x5 q qg kg xd)
include W

theorem v10_at (r : Fin 4096) (H : Fin 16) : val_main_v10 (F := Ideal) x0 (ix3 r H 0) = ((rinv (rq q r H) : ℝ) : EReal) := by
  pointwise [val_main_v10, val_main_v9, val_main_v8, val_main_v7, val_main_v6, val_main_v5, val_main_v4, val_main_v3, val_main_v2, val_main_v0, val_main_cst_0, val_main_cst_1, val_main_cst]
  simp only [W.h0]
  exact rms_real (rq q r H)

theorem v27_at (r : Fin 4096) (H : Fin 4) : val_main_v27 (F := Ideal) x0 (ix3 r H 0) = ((rinv (rk q r H) : ℝ) : EReal) := by
  pointwise [val_main_v27, val_main_v26, val_main_v25, val_main_v24, val_main_v23, val_main_v22, val_main_v21, val_main_v20, val_main_v19, val_main_v1, val_main_cst_3, val_main_cst_4, val_main_cst_5]
  simp only [W.h0]
  exact rms_real (rk q r H)

theorem v15_at (r : Fin 4096) (H : Fin 16) (d : Fin 64) : val_main_v15 (F := Ideal) x0 (ix3 r H d) = ((unit (rq q r H) d : ℝ) : EReal) := by
  have k := v10_at W r H
  unfold val_main_v15 val_main_v14
  generalize val_main_v10 (F := Ideal) x0 = Z at k ⊢
  pointwise [val_main_v2, val_main_v0]
  rw [k, W.h0, ← EReal.coe_mul]
  rfl

theorem v32_at (r : Fin 4096) (H : Fin 4) (d : Fin 64) : val_main_v32 (F := Ideal) x0 (ix3 r H d) = ((unit (rk q r H) d : ℝ) : EReal) := by
  have k := v27_at W r H
  unfold val_main_v32 val_main_v31
  generalize val_main_v27 (F := Ideal) x0 = Z at k ⊢
  pointwise [val_main_v19, val_main_v1]
  rw [k, W.h0, ← EReal.coe_mul]
  rfl

theorem v36_at (n : Fin 32) (h : Fin 4) (R : Fin 512) (d : Fin 64) :
    val_main_v36 (F := Ideal) x0 x1 (ix5 n ⟨R % 128, by omega⟩ h ⟨R / 128, by omega⟩ d) = ((unit (bq q n h R) d * qg d : ℝ) : EReal) := by
  have k := v15_at W
  unfold val_main_v36 val_main_v18
  generalize val_main_v15 (F := Ideal) x0 = Z at k ⊢
  pointwise [val_main_v17, val_main_v16]
  rw [k, W.h1, ← EReal.coe_mul, bq_eq]

theorem v43_at (n : Fin 32) (i : Fin 256) (h : Fin 4) (d : Fin 64) : val_main_v43 (F := Ideal) x0 x2 (ix4 n i h d) =
    ((if (n : ℕ) < 1 ∧ (i : ℕ) < 128 then 0 else unit (bk q n h i) d * kg d : ℝ) : EReal) := by
  have k := v32_at W
  unfold val_main_v43 val_main_v41 val_main_v40 val_main_v37 val_main_v35
  generalize val_main_v32 (F := Ideal) x0 = Z at k ⊢
  pointwise [val_main_v39, val_main_v34, val_main_v33, val_main_cst_7]
  simp only [k, W.h2, ← EReal.coe_mul]
  by_cases hi : (i : ℕ) < 128
  · by_cases hn : (n : ℕ) < 1
    · simp [hi, hn]
    · simp [hi, hn, bk_lo]
  · simp [hi, bk_hi]

theorem v51_at (n : Fin 32) (i : Fin 256) (h : Fin 4) (d : Fin 64) : val_main_v51 (F := Ideal) x0 (ix4 n i h d) =
    ((if (n : ℕ) < 1 ∧ (i : ℕ) < 128 then 0 else bv q n h i d : ℝ) : EReal) := by
  pointwise [val_main_v51, val_main_v50, val_main_v49, val_main_v48, val_main_v47, val_main_v46, val_main_v45, val_main_v44, val_main_cst_9]
  simp only [W.h0]
  by_cases hi : (i : ℕ) < 128
  · by_cases hn : (n : ℕ) < 1
    · simp [hi, hn]
    · simp [hi, hn, bv_lo, rv]
  · simp [hi, bv_hi, rv]

theorem v58_at (h4 : ∀ h g s i, ∃ y : ℝ, x4 (ix4 h g s i) = (y : EReal)) (n : Fin 32) (h : Fin 4) (R : Fin 512) (i : Fin 256) :
    ∃ y : ℝ, val_main_v58 (F := Ideal) x0 x1 x2 x4 (ix5 n h ⟨R / 128, by omega⟩ ⟨R % 128, by omega⟩ i) = (y : EReal) := by
  have k := v43_at W
  have l := v36_at W n h R
  obtain ⟨y, hy⟩ := h4 h ⟨R / 128, by omega⟩ ⟨R % 128, by omega⟩ i
  unfold val_main_v58 val_main_v57 val_main_v56 val_main_v55 val_main_v54 val_main_v53 val_main_v52
  generalize val_main_v43 (F := Ideal) x0 x2 = Y at k ⊢
  generalize val_main_v36 (F := Ideal) x0 x1 = Z at l ⊢
  pointwise [val_main_cst_11]
  simp only [k, l, hy, ofBits_8th, ← EReal.coe_mul, coe_sum, ← EReal.coe_add]
  exact ⟨_, rfl⟩

end Cert.AttnRef

end
-- ==== Proof.AttnRefB.lean ====
/- The reference's gradient of the scores, at reals. -/
module

public import proofs.«01_k».proof.Proof.AttnRefA

public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnRef

open Cert.Reference2Ideal Cert.Reference2Ideal.Gen Cert.Reference2Ideal.Read Cert.Attn Cert.Reals Cert.Kernel2Ideal.Attn

/-- The softmax of every query at reals: weights `p`, the sink's `es`. -/
def Sm (x0 : FVec Ideal S4096x1536 .f32) (x1 x2 : FVec Ideal S64 .f32) (x3 : FVec Ideal S16 .f32) (x4 : FVec Ideal S4x4x128x256 .f32)
    (p : Fin 32 → Fin 4 → Fin 4 → Fin 128 → Fin 256 → ℝ) (es : Fin 32 → Fin 4 → Fin 4 → Fin 128 → ℝ) : Prop :=
  ∀ n h g s, Soft x0 x1 x2 x3 x4 n h g s (p n h g s) (es n h g s)

/-- The probabilities, and the sink's. -/
def pr (p : Fin 32 → Fin 4 → Fin 4 → Fin 128 → Fin 256 → ℝ) (es : Fin 32 → Fin 4 → Fin 4 → Fin 128 → ℝ) (n : Fin 32) (h g : Fin 4) (s : Fin 128) (i : Fin 256) : ℝ :=
  p n h g s i * (1 / (∑ i, p n h g s i + es n h g s))
def sk (p : Fin 32 → Fin 4 → Fin 4 → Fin 128 → Fin 256 → ℝ) (es : Fin 32 → Fin 4 → Fin 4 → Fin 128 → ℝ) (n : Fin 32) (h g : Fin 4) (s : Fin 128) : ℝ :=
  es n h g s * (1 / (∑ i, p n h g s i + es n h g s))

/-- The same, the queries of the four heads of a group stacked. -/
def Pn (P : Fin 32 → Fin 4 → Fin 4 → Fin 128 → Fin 256 → ℝ) (n : Fin 32) (h : Fin 4) (R : Fin 512) (i : Fin 256) : ℝ := P n h ⟨R / 128, by omega⟩ ⟨R % 128, by omega⟩ i
def Sn (S : Fin 32 → Fin 4 → Fin 4 → Fin 128 → ℝ) (n : Fin 32) (h : Fin 4) (R : Fin 512) : ℝ := S n h ⟨R / 128, by omega⟩ ⟨R % 128, by omega⟩

/-- The gradient of the scores, and its row sums. -/
abbrev ds (q : Fin 4096 → Fin 1536 → ℝ) (xd : Fin 4096 → Fin 1024 → ℝ) (P : Fin 32 → Fin 4 → Fin 4 → Fin 128 → Fin 256 → ℝ) (n : Fin 32) (h : Fin 4) :
    Fin 512 → Fin 256 → ℝ := dsR (bv q n h) (Pn P n h) (bd xd n h)
abbrev dl (q : Fin 4096 → Fin 1536 → ℝ) (xd : Fin 4096 → Fin 1024 → ℝ) (P : Fin 32 → Fin 4 → Fin 4 → Fin 128 → Fin 256 → ℝ) (n : Fin 32) (h : Fin 4) :
    Fin 512 → ℝ := dlR (bv q n h) (Pn P n h) (bd xd n h)

variable {x0 : FVec Ideal S4096x1536 .f32} {x1 x2 : FVec Ideal S64 .f32} {x3 : FVec Ideal S16 .f32} {x4 : FVec Ideal S4x4x128x256 .f32} {x5 : FVec Ideal S4096x1024 .f32}
  {q : Fin 4096 → Fin 1536 → ℝ} {qg kg : Fin 64 → ℝ} {xd : Fin 4096 → Fin 1024 → ℝ} {p : Fin 32 → Fin 4 → Fin 4 → Fin 128 → Fin 256 → ℝ}
  {es : Fin 32 → Fin 4 → Fin 4 → Fin 128 → ℝ} (W : In x0 x1 x2 x5 q qg kg xd) (S : Sm x0 x1 x2 x3 x4 p es)

/-- The cotangent of a probability, with the absent block's values at zero. -/
def dp0 (q : Fin 4096 → Fin 1536 → ℝ) (xd : Fin 4096 → Fin 1024 → ℝ) (n : Fin 32) (h : Fin 4) (R : Fin 512) (i : Fin 256) : ℝ :=
  if (n : ℕ) < 1 ∧ (i : ℕ) < 128 then 0 else dpR (bv q n h) (bd xd n h) R i

include W in
theorem v129_at (n : Fin 32) (h : Fin 4) (R : Fin 512) (i : Fin 256) :
    val_main_v129 (F := Ideal) x0 x5 (ix5 n h ⟨R / 128, by omega⟩ ⟨R % 128, by omega⟩ i) = ((dp0 q xd n h R i : ℝ) : EReal) := by
  have k := v51_at W
  unfold val_main_v129
  generalize val_main_v51 (F := Ideal) x0 = Z at k ⊢
  pointwise [val_main_v128, val_main_v127]
  simp only [k, W.h5, ← EReal.coe_mul, coe_sum]
  unfold dp0 dpR
  by_cases c : (n : ℕ) < 1 ∧ (i : ℕ) < 128
  · simp only [if_pos c, mul_zero, Finset.sum_const_zero]
  · simp only [if_neg c, bd_eq]

include S in
theorem p_off (n : Fin 32) (h g : Fin 4) (s : Fin 128) (i : Fin 256) (c : (n : ℕ) < 1 ∧ (i : ℕ) < 128) : p n h g s i = 0 := by
  obtain rfl : n = 0 := Fin.ext (by show (n : ℕ) = 0; omega)
  exact (S 0 h g s).off i (mask_first h g s i c.2)

include S in
theorem pr_dp0 (n : Fin 32) (h : Fin 4) (R : Fin 512) (i : Fin 256) : Pn (pr p es) n h R i * dp0 q xd n h R i = Pn (pr p es) n h R i * dpR (bv q n h) (bd xd n h) R i := by
  unfold dp0
  split
  · rename_i c
    simp [Pn, pr, p_off S n h _ _ i c]
  · rfl

include S in
theorem v116_at (n : Fin 32) (h g : Fin 4) (s : Fin 128) (i : Fin 256) : val_main_v116 (F := Ideal) x0 x1 x2 x3 x4 (ix5 n h g s i) = ((pr p es n h g s i : ℝ) : EReal) := by
  have a := (S n h g s).hp i
  have b := (S n h g s).hd
  have c := (S n h g s).pos
  unfold val_main_v116 val_main_v115
  generalize val_main_v108 (F := Ideal) x0 x1 x2 x3 x4 = Y at a ⊢
  generalize val_main_v114 (F := Ideal) x0 x1 x2 x3 x4 = Z at b ⊢
  pointwise
  rw [a, b, Ideal.div_coe c.ne', ← EReal.coe_mul]
  rfl

include S in
theorem v120_at (n : Fin 32) (h g : Fin 4) (s : Fin 128) : val_main_v120 (F := Ideal) x0 x1 x2 x3 x4 (ix5 n h g s 0) = ((sk p es n h g s : ℝ) : EReal) := by
  have a := (S n h g s).he
  have b := (S n h g s).hd
  have c := (S n h g s).pos
  unfold val_main_v120
  generalize val_main_v111 (F := Ideal) x0 x1 x2 x3 x4 = Y at a ⊢
  generalize val_main_v114 (F := Ideal) x0 x1 x2 x3 x4 = Z at b ⊢
  pointwise
  rw [a, b, Ideal.div_coe c.ne', ← EReal.coe_mul]
  rfl

include W S in
theorem v131_at (n : Fin 32) (i : Fin 256) (h : Fin 4) (d : Fin 64) :
    val_main_v131 (F := Ideal) x0 x1 x2 x3 x4 x5 (ix4 n i h d) = ((dvx (Xd xd n) (Pn (pr p es) n) h i d : ℝ) : EReal) := by
  have k := v116_at S n h
  unfold val_main_v131 val_main_v130
  generalize val_main_v116 (F := Ideal) x0 x1 x2 x3 x4 = Z at k ⊢
  pointwise [val_main_v128, val_main_v127]
  simp only [k, W.h5, ← EReal.coe_mul, coe_sum]
  refine congrArg _ ?_
  unfold dvx
  rw [Fin.sum_univ_tiles 4 128 rfl]
  refine Finset.sum_congr rfl fun g _ => Finset.sum_congr rfl fun s _ => ?_
  rw [mul_comm]
  have e : (g : ℕ) * 128 + s < 512 := by omega
  have a : (⟨((⟨(g : ℕ) * 128 + s, e⟩ : Fin 512) : ℕ) / 128, by omega⟩ : Fin 4) = g := Fin.ext (by dsimp only; omega)
  have b : (⟨((⟨(g : ℕ) * 128 + s, e⟩ : Fin 512) : ℕ) % 128, by omega⟩ : Fin 128) = s := Fin.ext (by dsimp only; omega)
  refine congrArg₂ (· * ·) ?_ ((bd_eq n h ⟨g * 128 + s, e⟩ xd d).trans ?_).symm
  · show _ = pr p es n h ⟨((⟨(g : ℕ) * 128 + s, e⟩ : Fin 512) : ℕ) / 128, by omega⟩ ⟨((⟨(g : ℕ) * 128 + s, e⟩ : Fin 512) : ℕ) % 128, by omega⟩ i
    rw [a, b]
  · refine congrArg₂ xd (Fin.ext ?_) (Fin.ext ?_) <;> dsimp only <;> omega

include W S in
theorem v137_at (n : Fin 32) (h : Fin 4) (R : Fin 512) : val_main_v137 (F := Ideal) x0 x1 x2 x3 x4 x5 (ix5 n h ⟨R / 128, by omega⟩ ⟨R % 128, by omega⟩ 0) =
    ((-(dl q xd (pr p es) n h R * (1 / (∑ i, p n h ⟨R / 128, by omega⟩ ⟨R % 128, by omega⟩ i + es n h ⟨R / 128, by omega⟩ ⟨R % 128, by omega⟩))) : ℝ) : EReal) := by
  have k := v129_at W n h R
  have a := (S n h ⟨R / 128, by omega⟩ ⟨R % 128, by omega⟩).hp
  have b := (S n h ⟨R / 128, by omega⟩ ⟨R % 128, by omega⟩).hd
  have c := (S n h ⟨R / 128, by omega⟩ ⟨R % 128, by omega⟩).pos
  have u := pr_dp0 S (q := q) (xd := xd) n h R
  unfold val_main_v137 val_main_v136 val_main_v135 val_main_v134 val_main_v133 val_main_v132 val_main_v119 val_main_v117
  generalize val_main_v129 (F := Ideal) x0 x5 = Z at k ⊢
  generalize val_main_v114 (F := Ideal) x0 x1 x2 x3 x4 = Y at b ⊢
  generalize val_main_v108 (F := Ideal) x0 x1 x2 x3 x4 = X at a ⊢
  pointwise [val_main_v118, val_main_cst_26, val_main_cst_28]
  simp only [k, a, b, ← EReal.coe_mul, Ideal.div_coe (mul_self_pos.mpr c.ne').ne', one_mul, coe_sum, ← EReal.coe_neg]
  refine congrArg (fun r : ℝ => ((-r : ℝ) : EReal)) ?_
  unfold dl dlR
  rw [Finset.sum_mul]
  refine Finset.sum_congr rfl fun i _ => ?_
  rw [← u]
  unfold Pn pr
  simp only [one_div, mul_inv]
  ring

include W S in
theorem v147_at (n : Fin 32) (h : Fin 4) (R : Fin 512) (i : Fin 256) : val_main_v147 (F := Ideal) x0 x1 x2 x3 x4 x5 (ix5 n h ⟨R / 128, by omega⟩ ⟨R % 128, by omega⟩ i) =
    ((ds q xd (pr p es) n h R i : ℝ) : EReal) := by
  have k := v129_at W n h R
  have v := v137_at W S n h R
  have a := (S n h ⟨R / 128, by omega⟩ ⟨R % 128, by omega⟩).hp
  have b := (S n h ⟨R / 128, by omega⟩ ⟨R % 128, by omega⟩).hd
  have c := (S n h ⟨R / 128, by omega⟩ ⟨R % 128, by omega⟩).pos
  have u := pr_dp0 S (q := q) (xd := xd) n h R
  unfold val_main_v147 val_main_v142 val_main_v141 val_main_v140 val_main_v139 val_main_v138
  generalize val_main_v129 (F := Ideal) x0 x5 = Z at k ⊢
  generalize val_main_v114 (F := Ideal) x0 x1 x2 x3 x4 = Y at b ⊢
  generalize val_main_v108 (F := Ideal) x0 x1 x2 x3 x4 = X at a ⊢
  generalize val_main_v137 (F := Ideal) x0 x1 x2 x3 x4 x5 = V at v ⊢
  pointwise [val_main_cst_29]
  simp only [k, a, b, v, Fin.sum_univ_one, ← EReal.coe_mul, Ideal.div_coe c.ne', ← EReal.coe_add]
  refine congrArg _ ?_
  have f : ds q xd (pr p es) n h R i = Pn (pr p es) n h R i * dp0 q xd n h R i - Pn (pr p es) n h R i * dl q xd (pr p es) n h R := by
    rw [u]
    exact mul_sub _ _ _
  rw [f]
  generalize dl q xd (pr p es) n h R = D
  unfold Pn pr
  ring

include W S in
theorem v143_at (n : Fin 32) (h : Fin 4) (R : Fin 512) : val_main_v143 (F := Ideal) x0 x1 x2 x3 x4 x5 (ix5 n h ⟨R / 128, by omega⟩ ⟨R % 128, by omega⟩ 0) =
    ((-(Sn (sk p es) n h R * dl q xd (pr p es) n h R) : ℝ) : EReal) := by
  have v := v137_at W S n h R
  have a := (S n h ⟨R / 128, by omega⟩ ⟨R % 128, by omega⟩).he
  unfold val_main_v143
  generalize val_main_v111 (F := Ideal) x0 x1 x2 x3 x4 = X at a ⊢
  generalize val_main_v137 (F := Ideal) x0 x1 x2 x3 x4 x5 = V at v ⊢
  pointwise
  rw [v, a, ← EReal.coe_mul]
  refine congrArg _ ?_
  unfold Sn sk
  ring

include S in
theorem sums_one (n : Fin 32) (h : Fin 4) (R : Fin 512) : Sn (sk p es) n h R + ∑ i, Pn (pr p es) n h R i = 1 := by
  have c := (S n h ⟨R / 128, by omega⟩ ⟨R % 128, by omega⟩).pos
  unfold Sn sk Pn pr
  rw [← Finset.sum_mul, ← add_mul, add_comm, mul_one_div, div_self c.ne']

include W S in
theorem v151_at (n : Fin 32) (h : Fin 4) (R : Fin 512) : val_main_v151 (F := Ideal) x0 x1 x2 x3 x4 x5 (ix5 n h ⟨R / 128, by omega⟩ ⟨R % 128, by omega⟩ 0) = 0 := by
  have v := v143_at W S n h R
  have k := v147_at W S n h R
  have u := sums_one S n h R
  unfold val_main_v151 val_main_v150 val_main_v149 val_main_v148 val_main_v146
  generalize val_main_v143 (F := Ideal) x0 x1 x2 x3 x4 x5 = X at v ⊢
  generalize val_main_v147 (F := Ideal) x0 x1 x2 x3 x4 x5 = V at k ⊢
  pointwise [val_main_cst_31]
  simp only [k, v, ← EReal.coe_neg, coe_sum, ← EReal.coe_add]
  rw [← EReal.coe_zero]
  refine congrArg _ ?_
  have t : ∑ i, ds q xd (pr p es) n h R i = dl q xd (pr p es) n h R - (∑ i, Pn (pr p es) n h R i) * dl q xd (pr p es) n h R := by
    unfold ds dsR
    simp only [mul_sub, Finset.sum_sub_distrib, Finset.sum_mul]
    rfl
  rw [Finset.sum_neg_distrib, t, eq_sub_iff_add_eq'.mpr u]
  ring

include W S in
theorem v156_at (n : Fin 32) (h : Fin 4) (R : Fin 512) : val_main_v156 (F := Ideal) x0 x1 x2 x3 x4 x5 (ix5 n h ⟨R / 128, by omega⟩ ⟨R % 128, by omega⟩ 0) = 0 := by
  have v := v151_at W S n h R
  rw [val_main_v156_apply, v]
  exact zero_mul _

include W S in
theorem v158_at (n : Fin 32) (h : Fin 4) (R : Fin 512) : val_main_v158 (F := Ideal) x0 x1 x2 x3 x4 x5 (ix4 n h ⟨R / 128, by omega⟩ ⟨R % 128, by omega⟩) = 0 := by
  have v := v156_at W S n h R
  obtain ⟨y, hy, e⟩ := (S n h ⟨R / 128, by omega⟩ ⟨R % 128, by omega⟩).hc
  have u : val_main_v157 (F := Ideal) x0 x1 x2 x3 x4 x5 (ix4 n h ⟨R / 128, by omega⟩ ⟨R % 128, by omega⟩) = 0 := by
    unfold val_main_v157
    generalize val_main_v156 (F := Ideal) x0 x1 x2 x3 x4 x5 = X at v ⊢
    pointwise [val_main_cst_33]
    rw [Fin.sum_univ_one, v]
  rw [val_main_v158_apply, u, e]
  exact (Ideal.div_coe hy 0).trans (zero_mul _)

include W S in
theorem v161_at (n : Fin 32) (h : Fin 4) (R : Fin 512) (i : Fin 256) : val_main_v161 (F := Ideal) x0 x1 x2 x3 x4 x5 (ix5 n h ⟨R / 128, by omega⟩ ⟨R % 128, by omega⟩ i) =
    val_main_v147 (F := Ideal) x0 x1 x2 x3 x4 x5 (ix5 n h ⟨R / 128, by omega⟩ ⟨R % 128, by omega⟩ i) := by
  have v := v158_at W S n h R
  have u : val_main_v159 (F := Ideal) x0 x1 x2 x3 x4 x5 (ix5 n h ⟨R / 128, by omega⟩ ⟨R % 128, by omega⟩ i) = 0 := by
    unfold val_main_v159
    generalize val_main_v158 (F := Ideal) x0 x1 x2 x3 x4 x5 = X at v ⊢
    pointwise
    exact v
  rw [val_main_v161_apply, val_main_v160_apply, u]
  exact (congrArg _ (zero_mul _)).trans (add_zero _)

include W S in
theorem v163_at (n : Fin 32) (h : Fin 4) (R : Fin 512) (i : Fin 256) : val_main_v163 (F := Ideal) x0 x1 x2 x3 x4 x5 (ix5 n h ⟨R / 128, by omega⟩ ⟨R % 128, by omega⟩ i) =
    ((ds q xd (pr p es) n h R i : ℝ) : EReal) := by
  have v := (v161_at W S n h R i).trans (v147_at W S n h R i)
  have z : val_main_call1_v0 (F := Ideal) (ix5 n h ⟨R / 128, by omega⟩ ⟨R % 128, by omega⟩ i) = 0 := by pointwise [val_main_call1_v0, val_main_call1_cst]
  have o := (S n h ⟨R / 128, by omega⟩ ⟨R % 128, by omega⟩).off i
  unfold val_main_v163
  generalize val_main_v161 (F := Ideal) x0 x1 x2 x3 x4 x5 = V at v ⊢
  generalize val_main_v77_1 (F := Ideal) = M at o ⊢
  generalize val_main_call1_v0 (F := Ideal) = Z at z ⊢
  pointwise
  by_cases e : M (ix5 n h ⟨R / 128, by omega⟩ ⟨R % 128, by omega⟩ i) = 1#1
  · exact (if_pos e).trans v
  · refine (if_neg e).trans (z.trans ?_)
    unfold ds dsR Pn pr
    rw [o e, zero_mul, zero_mul]
    rfl

end Cert.AttnRef

end
-- ==== Proof.AttnRefC.lean ====
/- The reference's results, at reals. -/
module

public import proofs.«01_k».proof.Proof.AttnRefB

public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnRef

open Cert.Reference2Ideal Cert.Reference2Ideal.Gen Cert.Reference2Ideal.Read Cert.Attn Cert.Reals Cert.Kernel2Ideal.Attn

variable {x0 : FVec Ideal S4096x1536 .f32} {x1 x2 : FVec Ideal S64 .f32} {x3 : FVec Ideal S16 .f32} {x4 : FVec Ideal S4x4x128x256 .f32} {x5 : FVec Ideal S4096x1024 .f32}
  {q : Fin 4096 → Fin 1536 → ℝ} {qg kg : Fin 64 → ℝ} {xd : Fin 4096 → Fin 1024 → ℝ} {p : Fin 32 → Fin 4 → Fin 4 → Fin 128 → Fin 256 → ℝ}
  {es : Fin 32 → Fin 4 → Fin 4 → Fin 128 → ℝ} (W : In x0 x1 x2 x5 q qg kg xd) (S : Sm x0 x1 x2 x3 x4 p es)

/-- Query `s` of head `g` of a group. -/
def st (g : Fin 4) (s : Fin 128) : Fin 512 := ⟨g * 128 + s, by omega⟩

theorem st_g (g : Fin 4) (s : Fin 128) : (⟨(st g s : ℕ) / 128, by omega⟩ : Fin 4) = g := by
  refine Fin.ext ?_
  show ((g : ℕ) * 128 + s) / 128 = g
  omega

theorem st_s (g : Fin 4) (s : Fin 128) : (⟨(st g s : ℕ) % 128, by omega⟩ : Fin 128) = s := by
  refine Fin.ext ?_
  show ((g : ℕ) * 128 + s) % 128 = s
  omega

theorem sum_st (f : Fin 512 → ℝ) : ∑ R, f R = ∑ g, ∑ s, f (st g s) := by
  exact Fin.sum_univ_tiles 4 128 rfl f

include W S in
theorem v163_gs (n : Fin 32) (h g : Fin 4) (s : Fin 128) (i : Fin 256) : val_main_v163 (F := Ideal) x0 x1 x2 x3 x4 x5 (ix5 n h g s i) =
    ((ds q xd (pr p es) n h (st g s) i : ℝ) : EReal) := by
  have k := v163_at W S n h (st g s) i
  rwa [st_g, st_s] at k

include W in
theorem v36_gs (n : Fin 32) (h g : Fin 4) (s : Fin 128) (d : Fin 64) :
    val_main_v36 (F := Ideal) x0 x1 (ix5 n s h g d) = ((unit (bq q n h (st g s)) d * qg d : ℝ) : EReal) := by
  have k := v36_at W n h (st g s) d
  rwa [st_g, st_s] at k

include W S in
theorem v143_gs (n : Fin 32) (h g : Fin 4) (s : Fin 128) : val_main_v143 (F := Ideal) x0 x1 x2 x3 x4 x5 (ix5 n h g s 0) =
    ((-(Sn (sk p es) n h (st g s) * dl q xd (pr p es) n h (st g s)) : ℝ) : EReal) := by
  have k := v143_at W S n h (st g s)
  rwa [st_g, st_s] at k

include W S in
theorem v151_gs (n : Fin 32) (h g : Fin 4) (s : Fin 128) : val_main_v151 (F := Ideal) x0 x1 x2 x3 x4 x5 (ix5 n h g s 0) = 0 := by
  have k := v151_at W S n h (st g s)
  rwa [st_g, st_s] at k

include S in
theorem ds_off (n : Fin 32) (h : Fin 4) (R : Fin 512) (i : Fin 256) (c : (n : ℕ) < 1 ∧ (i : ℕ) < 128) : ds q xd (pr p es) n h R i = 0 := by
  unfold ds dsR Pn pr
  rw [p_off S n h _ _ i c, zero_mul, zero_mul]

/-- The gradient of the normalised query, key of block `n`. -/
abbrev gq (q : Fin 4096 → Fin 1536 → ℝ) (xd : Fin 4096 → Fin 1024 → ℝ) (kg : Fin 64 → ℝ) (P : Fin 32 → Fin 4 → Fin 4 → Fin 128 → Fin 256 → ℝ) (n : Fin 32) (h : Fin 4) :
    Fin 512 → Fin 64 → ℝ := dqn (Xc q n) (Xp q n) (Xd xd n) (Pn P n) kg h
abbrev gk (q : Fin 4096 → Fin 1536 → ℝ) (xd : Fin 4096 → Fin 1024 → ℝ) (qg : Fin 64 → ℝ) (P : Fin 32 → Fin 4 → Fin 4 → Fin 128 → Fin 256 → ℝ) (n : Fin 32) (h : Fin 4) :
    Fin 256 → Fin 64 → ℝ := dkn (Xc q n) (Xp q n) (Xd xd n) (Pn P n) qg h

include W S in
theorem v173_at (n : Fin 32) (i : Fin 256) (h : Fin 4) (d : Fin 64) : val_main_v173 (F := Ideal) x0 x1 x2 x3 x4 x5 (ix4 n i h d) =
    ((gk q xd qg (pr p es) n h i d : ℝ) : EReal) := by
  have k := v163_gs W S n h
  have l := v36_gs W n h
  unfold val_main_v173 val_main_v172 val_main_v169 val_main_v168
  generalize val_main_v163 (F := Ideal) x0 x1 x2 x3 x4 x5 = X at k ⊢
  generalize val_main_v36 (F := Ideal) x0 x1 = Y at l ⊢
  pointwise [val_main_v167, val_main_cst_36]
  simp only [k, l, ofBits_8th, ← EReal.coe_mul, coe_sum]
  refine congrArg _ ?_
  unfold gk dkn
  rw [Finset.sum_comm, sum_st]

include W S in
theorem v189_at (r : Fin 4096) (H : Fin 16) (d : Fin 64) : val_main_v189 (F := Ideal) x0 x1 x2 x3 x4 x5 (ix3 r H d) =
    ((gq q xd kg (pr p es) ⟨r / 128, by omega⟩ ⟨H / 4, by omega⟩ (st ⟨H % 4, by omega⟩ ⟨r % 128, by omega⟩) d : ℝ) : EReal) := by
  have k := v163_gs W S
  have l := v43_at W
  have o := fun R i => ds_off S (q := q) (xd := xd) (⟨(r : ℕ) / 128, by omega⟩ : Fin 32) ⟨H / 4, by omega⟩ R i
  unfold val_main_v189 val_main_v171 val_main_v170 val_main_v169 val_main_v168
  generalize val_main_v163 (F := Ideal) x0 x1 x2 x3 x4 x5 = X at k ⊢
  generalize val_main_v43 (F := Ideal) x0 x2 = Y at l ⊢
  pointwise [val_main_v167, val_main_cst_36]
  simp only [k, l, ofBits_8th, ← EReal.coe_mul, coe_sum]
  refine congrArg _ ?_
  unfold gq dqn
  refine Finset.sum_congr rfl fun i _ => ?_
  by_cases c : (r : ℕ) / 128 < 1 ∧ (i : ℕ) < 128
  · rw [o _ i c]
    simp only [zero_mul]
    exact (mul_eq_zero_of_left (mul_eq_zero_of_left (o _ i c) _) _).symm
  · rw [if_neg c]

/-- A band's gradient that falls to row `r`: of its own block, and of the next. -/
def fold (f : Fin 32 → Fin 4 → Fin 256 → Fin 64 → ℝ) (r : Fin 4096) (h : Fin 4) (d : Fin 64) : ℝ :=
  f ⟨r / 128, by omega⟩ h ⟨128 + r % 128, by omega⟩ d + if c : (r : ℕ) / 128 < 31 then f ⟨1 + r / 128, by omega⟩ h ⟨r % 128, by omega⟩ d else 0

include W S in
theorem v188_at (r : Fin 4096) (h : Fin 4) (d : Fin 64) : val_main_v188 (F := Ideal) x0 x1 x2 x3 x4 x5 (ix3 r h d) =
    ((fold (gk q xd qg (pr p es)) r h d : ℝ) : EReal) := by
  have k := v173_at W S
  unfold val_main_v188 val_main_v187 val_main_v186 val_main_v185 val_main_v183 val_main_v182
  generalize val_main_v173 (F := Ideal) x0 x1 x2 x3 x4 x5 = X at k ⊢
  pointwise [val_main_cst_39]
  simp only [k]
  unfold fold
  by_cases c : (r : ℕ) / 128 < 31
  · simp [c, Nat.mod_lt]
  · simp [c]

include W S in
theorem v179_at (r : Fin 4096) (h : Fin 4) (d : Fin 64) :
    val_main_v179 (F := Ideal) x0 x1 x2 x3 x4 x5 (ix4 ⟨r / 128, by omega⟩ ⟨r % 128, by omega⟩ h d) =
    ((fold (fun n => dvx (Xd xd n) (Pn (pr p es) n)) r h d : ℝ) : EReal) := by
  have k := v131_at W S
  unfold val_main_v179 val_main_v178 val_main_v177 val_main_v175 val_main_v174
  generalize val_main_v131 (F := Ideal) x0 x1 x2 x3 x4 x5 = X at k ⊢
  pointwise [val_main_cst_37]
  simp only [k]
  unfold fold
  by_cases c : (r : ℕ) / 128 < 31
  · simp [c, Nat.mod_lt]
  · simp [c]

/-- The gradient through a head's norm: over the power `−½` and the mean of squares. -/
theorem norm_back (g y x : Fin 64 → ℝ) (d : Fin 64) (R M : EReal) (hR : R = ((rinv x : ℝ) : EReal))
    (hM : M = (((∑ k, x k * x k) * (1 / 64) + eps : ℝ) : EReal)) (T : EReal)
    (hT : T = Ideal.div ((((∑ k, x k * (y k * g k)) : ℝ) : EReal) * (Ideal.ofBits .f32 0xBF000000#32 * Ideal.div R M)) (Ideal.ofBits .f32 0x42800000#32)) :
    (((y d * g d : ℝ) : EReal) * R + ((x d : ℝ) : EReal) * T) + T * ((x d : ℝ) : EReal) = ((bwR g y (unit x) (fun _ => rinv x) d : ℝ) : EReal) :=
  Norm.back (by norm_num) g y x d R M _ Norm.ofBits_64 hR hM T hT

include W in
theorem v9_at (r : Fin 4096) (H : Fin 16) : val_main_v9 (F := Ideal) x0 (ix3 r H 0) = (((∑ k, rq q r H k * rq q r H k) * (1 / 64) + eps : ℝ) : EReal) := by
  pointwise [val_main_v9, val_main_v8, val_main_v7, val_main_v6, val_main_v5, val_main_v4, val_main_v3, val_main_v2, val_main_v0, val_main_cst_0, val_main_cst_1, val_main_cst]
  simp only [W.h0]
  exact Norm.ms_real (by norm_num) (rq q r H) _ Norm.ofBits_64

include W in
theorem v26_at (r : Fin 4096) (H : Fin 4) : val_main_v26 (F := Ideal) x0 (ix3 r H 0) = (((∑ k, rk q r H k * rk q r H k) * (1 / 64) + eps : ℝ) : EReal) := by
  pointwise [val_main_v26, val_main_v25, val_main_v24, val_main_v23, val_main_v22, val_main_v21, val_main_v20, val_main_v19, val_main_v1, val_main_cst_3, val_main_cst_4, val_main_cst_5]
  simp only [W.h0]
  exact Norm.ms_real (by norm_num) (rk q r H) _ Norm.ofBits_64

include W S in
theorem v209_at (r : Fin 4096) (h : Fin 4) (d : Fin 64) : val_main_v209 (F := Ideal) x0 x1 x2 x3 x4 x5 (ix3 r h d) =
    ((bwR kg (fold (gk q xd qg (pr p es)) r h) (unit (rk q r h)) (fun _ => rinv (rk q r h)) d : ℝ) : EReal) := by
  have k := v188_at W S r h
  have a := v27_at W r h
  have b := v26_at W r h
  have w : ∀ d : Fin 64, x0 (ix2 r ⟨1024 + (h * 64 + d), by omega⟩) = ((rk q r h d : ℝ) : EReal) := fun d => W.h0 _ _
  unfold val_main_v209 val_main_v208 val_main_v207 val_main_v206 val_main_v205 val_main_v204 val_main_v203 val_main_v201 val_main_v200 val_main_v199 val_main_v198 val_main_v197 val_main_v196 val_main_v194 val_main_v30 val_main_v28
  generalize val_main_v188 (F := Ideal) x0 x1 x2 x3 x4 x5 = X at k ⊢
  generalize val_main_v27 (F := Ideal) x0 = Y at a ⊢
  generalize val_main_v26 (F := Ideal) x0 = Z at b ⊢
  pointwise [val_main_v202, val_main_v193, val_main_v33, val_main_v29, val_main_v19, val_main_v1, val_main_cst_42, val_main_cst_43, val_main_cst_44, val_main_cst_6]
  simp only [k, w, W.h2, ← EReal.coe_mul, coe_sum, Fin.sum_univ_one]
  exact norm_back kg _ (rk q r h) d _ _ a b _ rfl

include W S in
theorem v230_at (r : Fin 4096) (H : Fin 16) (d : Fin 64) : val_main_v230 (F := Ideal) x0 x1 x2 x3 x4 x5 (ix3 r H d) =
    ((bwR qg (gq q xd kg (pr p es) ⟨r / 128, by omega⟩ ⟨H / 4, by omega⟩ (st ⟨H % 4, by omega⟩ ⟨r % 128, by omega⟩)) (unit (rq q r H)) (fun _ => rinv (rq q r H)) d : ℝ) : EReal) := by
  have k := v189_at W S r H
  have a := v10_at W r H
  have b := v9_at W r H
  have w : ∀ d : Fin 64, x0 (ix2 r ⟨H * 64 + d, by omega⟩) = ((rq q r H d : ℝ) : EReal) := fun d => W.h0 _ _
  unfold val_main_v230 val_main_v229 val_main_v228 val_main_v227 val_main_v226 val_main_v225 val_main_v224 val_main_v222 val_main_v221 val_main_v220 val_main_v219 val_main_v218 val_main_v217 val_main_v215 val_main_v13 val_main_v11
  generalize val_main_v189 (F := Ideal) x0 x1 x2 x3 x4 x5 = X at k ⊢
  generalize val_main_v10 (F := Ideal) x0 = Y at a ⊢
  generalize val_main_v9 (F := Ideal) x0 = Z at b ⊢
  pointwise [val_main_v223, val_main_v214, val_main_v16, val_main_v12, val_main_v2, val_main_v0, val_main_cst_47, val_main_cst_48, val_main_cst_49, val_main_cst_2]
  simp only [k, w, W.h1, ← EReal.coe_mul, coe_sum, Fin.sum_univ_one]
  exact norm_back qg _ (rq q r H) d _ _ a b _ rfl

include W S in
theorem v240_at (h : Fin 4) (R : Fin 512) (i : Fin 256) : val_main_v240 (F := Ideal) x0 x1 x2 x3 x4 x5 (ix3 h R i) =
    ((∑ n, ds q xd (pr p es) n h R i : ℝ) : EReal) := by
  have k := fun n => v163_at W S n h R i
  unfold val_main_v240 val_main_v166 val_main_v165 val_main_v164
  generalize val_main_v163 (F := Ideal) x0 x1 x2 x3 x4 x5 = X at k ⊢
  pointwise [val_main_cst_34, val_main_cst_35]
  simp only [k, Fin.sum_univ_one, coe_sum]

include W S in
theorem v152_gs (n : Fin 32) (h g : Fin 4) (s : Fin 128) : val_main_v152 (F := Ideal) x0 x1 x2 x3 x4 x5 (ix5 n h g s 0) = 0 := by
  rw [val_main_v152_apply, v151_gs W S]
  exact zero_mul _

include W S in
theorem v155_at (h g : Fin 4) : val_main_v155 (F := Ideal) x0 x1 x2 x3 x4 x5 (ix5 0 h g 0 0) =
    ((∑ n, ∑ s, -(Sn (sk p es) n h (st g s) * dl q xd (pr p es) n h (st g s)) : ℝ) : EReal) := by
  have k := v143_gs W S
  have v := v152_gs W S
  unfold val_main_v155 val_main_v154 val_main_v153 val_main_v145 val_main_v144
  generalize val_main_v143 (F := Ideal) x0 x1 x2 x3 x4 x5 = X at k ⊢
  generalize val_main_v152 (F := Ideal) x0 x1 x2 x3 x4 x5 = Y at v ⊢
  pointwise [val_main_cst_30, val_main_cst_32]
  rw [sum_blocks, sum_blocks]
  simp only [k, v, Finset.sum_const_zero, coe_sum, add_zero, zero_add]

include W S in
theorem v238_at (g : Fin 4) (l : Fin 128) : val_main_v238 (F := Ideal) x0 x1 x2 x3 x4 x5 (ix2 g l) =
    ((if c : (l : ℕ) < 4 then ∑ n, ∑ s, -(Sn (sk p es) n ⟨l, c⟩ (st g s) * dl q xd (pr p es) n ⟨l, c⟩ (st g s)) else 0 : ℝ) : EReal) := by
  have k := v155_at W S
  unfold val_main_v238 val_main_v237 val_main_v236 val_main_v162
  generalize val_main_v155 (F := Ideal) x0 x1 x2 x3 x4 x5 = X at k ⊢
  pointwise [val_main_call2_v0, val_main_c_52]
  by_cases c : (l : ℕ) < 4
  · rw [dif_pos c, dif_pos c, k]
  · rw [dif_neg c, dif_neg c]
    exact (congrArg (fun r : ℝ => (r : EReal)) (by simp)).trans EReal.coe_zero

/-- Two copies of 64 lanes. -/
theorem lanes (X : FVec Ideal S64 .f32) (e : Fin 2) (d : Fin 64) {y : EReal} (t : X (ix1 d) = y) :
    (if h : 64 * (e : ℕ) + d < 64 then X (ix1 ⟨64 * e + d, h⟩) else X (ix1 ⟨64 * e + d - 64, by omega⟩)) = y := by
  rw [← t]
  split
  · exact congrArg (fun k : Fin 64 => X (ix1 k)) (Fin.ext (by dsimp only; omega))
  · exact congrArg (fun k : Fin 64 => X (ix1 k)) (Fin.ext (by dsimp only; omega))

include W S in
theorem v242_at (e : Fin 2) (d : Fin 64) : val_main_v242 (F := Ideal) x0 x1 x2 x3 x4 x5 (ix2 0 ⟨64 * e + d, by omega⟩) =
    ((∑ r, ∑ H : Fin 16, unit (rq q r H) d * gq q xd kg (pr p es) ⟨r / 128, by omega⟩ ⟨H / 4, by omega⟩ (st ⟨H % 4, by omega⟩ ⟨r % 128, by omega⟩) d : ℝ) : EReal) := by
  have a := fun r H => v15_at W r H d
  have b := fun r H => v189_at W S r H d
  have k : ∀ r H, val_main_v211 (F := Ideal) x0 x1 x2 x3 x4 x5 (ix3 r H d) = _ := fun r H => (congrArg₂ (· * ·) (a r H) (b r H)).trans (EReal.coe_mul _ _).symm
  have t : val_main_v216 (F := Ideal) x0 x1 x2 x3 x4 x5 (ix1 d) = ((∑ r, ∑ H : Fin 16, unit (rq q r H) d *
      gq q xd kg (pr p es) ⟨r / 128, by omega⟩ ⟨H / 4, by omega⟩ (st ⟨H % 4, by omega⟩ ⟨r % 128, by omega⟩) d : ℝ) : EReal) := by
    unfold val_main_v216 val_main_v213 val_main_v212
    generalize val_main_v211 (F := Ideal) x0 x1 x2 x3 x4 x5 = X at k ⊢
    pointwise [val_main_cst_45, val_main_cst_46]
    rw [sum_rows]
    pointwise
    rw [sum_rows]
    simp only [k, coe_sum, zero_add, Fin.sum_univ_one]
  unfold val_main_v242 val_main_v241
  generalize val_main_v216 (F := Ideal) x0 x1 x2 x3 x4 x5 = X at t ⊢
  pointwise
  exact lanes X e d t

include W S in
theorem v244_at (e : Fin 2) (d : Fin 64) : val_main_v244 (F := Ideal) x0 x1 x2 x3 x4 x5 (ix2 0 ⟨64 * e + d, by omega⟩) =
    ((∑ r, ∑ h : Fin 4, unit (rk q r h) d * fold (gk q xd qg (pr p es)) r h d : ℝ) : EReal) := by
  have a := fun r h => v32_at W r h d
  have b := fun r h => v188_at W S r h d
  have k : ∀ r h, val_main_v190 (F := Ideal) x0 x1 x2 x3 x4 x5 (ix3 r h d) = _ := fun r h => (congrArg₂ (· * ·) (a r h) (b r h)).trans (EReal.coe_mul _ _).symm
  have t : val_main_v195 (F := Ideal) x0 x1 x2 x3 x4 x5 (ix1 d) = ((∑ r, ∑ h : Fin 4, unit (rk q r h) d * fold (gk q xd qg (pr p es)) r h d : ℝ) : EReal) := by
    unfold val_main_v195 val_main_v192 val_main_v191
    generalize val_main_v190 (F := Ideal) x0 x1 x2 x3 x4 x5 = X at k ⊢
    pointwise [val_main_cst_40, val_main_cst_41]
    rw [sum_rows]
    pointwise
    rw [sum_rows]
    simp only [k, coe_sum, zero_add, Fin.sum_univ_one]
  unfold val_main_v244 val_main_v243
  generalize val_main_v195 (F := Ideal) x0 x1 x2 x3 x4 x5 = X at t ⊢
  pointwise
  exact lanes X e d t

theorem v239_q (r : Fin 4096) (H : Fin 16) (d : Fin 64) : val_main_v239 (F := Ideal) x0 x1 x2 x3 x4 x5 (ix2 r ⟨64 * H + d, by omega⟩) =
    val_main_v230 (F := Ideal) x0 x1 x2 x3 x4 x5 (ix3 r H d) := by
  unfold val_main_v239 val_main_v235 val_main_v234 val_main_v233 val_main_v232 val_main_v231 val_main_v210 val_main_v181 val_main_v180
  generalize val_main_v230 (F := Ideal) x0 x1 x2 x3 x4 x5 = X
  generalize val_main_v209 (F := Ideal) x0 x1 x2 x3 x4 x5 = Y
  generalize val_main_v179 (F := Ideal) x0 x1 x2 x3 x4 x5 = Z
  pointwise [val_main_cst_38, val_main_cst_50, val_main_cst_51]
  rw [dif_neg (by omega), dif_neg (by omega), dif_pos (by omega), zero_add, zero_add]

theorem v239_k (r : Fin 4096) (H : Fin 4) (d : Fin 64) : val_main_v239 (F := Ideal) x0 x1 x2 x3 x4 x5 (ix2 r ⟨1024 + (64 * H + d), by omega⟩) =
    val_main_v209 (F := Ideal) x0 x1 x2 x3 x4 x5 (ix3 r H d) := by
  unfold val_main_v239 val_main_v235 val_main_v234 val_main_v233 val_main_v232 val_main_v231 val_main_v210 val_main_v181 val_main_v180
  generalize val_main_v230 (F := Ideal) x0 x1 x2 x3 x4 x5 = X
  generalize val_main_v209 (F := Ideal) x0 x1 x2 x3 x4 x5 = Y
  generalize val_main_v179 (F := Ideal) x0 x1 x2 x3 x4 x5 = Z
  pointwise [val_main_cst_38, val_main_cst_50, val_main_cst_51]
  rw [dif_neg (by omega), dif_pos (by omega), zero_add]

theorem v239_v (r : Fin 4096) (H : Fin 4) (d : Fin 64) : val_main_v239 (F := Ideal) x0 x1 x2 x3 x4 x5 (ix2 r ⟨1024 + (64 * (H + 4) + d), by omega⟩) =
    val_main_v179 (F := Ideal) x0 x1 x2 x3 x4 x5 (ix4 ⟨r / 128, by omega⟩ ⟨r % 128, by omega⟩ H d) := by
  unfold val_main_v239 val_main_v235 val_main_v234 val_main_v233 val_main_v232 val_main_v231 val_main_v210 val_main_v181 val_main_v180
  generalize val_main_v230 (F := Ideal) x0 x1 x2 x3 x4 x5 = X
  generalize val_main_v209 (F := Ideal) x0 x1 x2 x3 x4 x5 = Y
  generalize val_main_v179 (F := Ideal) x0 x1 x2 x3 x4 x5 = Z
  pointwise [val_main_cst_38, val_main_cst_50, val_main_cst_51]
  rw [dif_pos (by omega), dif_neg (by omega), add_zero]
  refine congrArg₂ (fun (a : Fin 4) (b : Fin 64) => Z (ix4 _ _ a b)) (Fin.ext ?_) (Fin.ext ?_) <;> dsimp only <;> omega

end Cert.AttnRef

end
-- ==== Proof.Pieces.lean ====
/- Contents left by several stores, read at one index or through one rectangle. -/
module

public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe Idealize.SL.Sem

namespace Cert.Pieces

section

variable {Val : EltTy → Type} {s : Shape} {e : EltTy} [∀ e, Nonempty (Val e)] {off size : Fin s.rank → ℕ} (inb : ∀ a, off a + size a ≤ s.size a)
  (w : (Rect.unit off size inb).shape.Idx → Val e) (L : List (View.Piece Val s e)) (y : s.Idx)

/-- Under a newest store that covers an index, the contents there are its payload's; -/
theorem canon_mem (x : (Rect.unit off size inb).shape.Idx) (h : ∀ a, (y a : ℕ) = off a + (x a : ℕ)) :
    View.canon (⟨Rect.unit off size inb, w⟩ :: L) y = w x := by
  obtain rfl : (Rect.unit off size inb).emb x = y := by
    funext a
    exact Fin.ext (show off a + 1 * (x a : ℕ) = y a by rw [h a]; omega)
  exact View.canon_cons_emb _ w L x

/-- under one that misses it, the older stores'. -/
theorem canon_not (a : Fin s.rank) (h : (y a : ℕ) < off a ∨ off a + size a ≤ (y a : ℕ)) :
    View.canon (⟨Rect.unit off size inb, w⟩ :: L) y = View.canon L y := by
  refine View.canon_cons_of_not_mem _ L fun hm => ?_
  have := ((Rect.mem_set_unit (inb := inb)).mp hm) a
  omega

end

/-- A read of what several stores left is a read of their contents. -/
theorem readCov_ld {Val : EltTy → Type} {S : Shape} {e : EltTy} [∀ e, Nonempty (Val e)] {sig : RefSig} {κ : Kind} {sp : Space}
    (v : View sig κ sp S e) (L : List (View.Piece Val S e)) (r : Rect S) : v.readCov L r.toLoadRect = View.ld (View.canon L) r := by
  rw [View.readCov_eq_canon']

theorem lanes {n : ℕ} (j : (Shape.mk 2 ![1, n]).Idx) : ∃ k : Fin n, j = ix2 0 k :=
  ⟨j 1, (eq_ix2 (n0 := 1) (n1 := n) j).trans (congrArg (ix2 · _) (Subsingleton.elim _ _))⟩

end Cert.Pieces

end
-- ==== Proof.AttnPt.lean ====
/- What one grid point of the attention's gradient leaves in its outputs and accumulators. -/
module

public import proofs.«01_k».proof.Proof.AttnHead
public import proofs.«01_k».proof.Proof.Pieces
public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals Cert.Pieces

/-- Four head groups' blocks, whatever was stored before them. -/
theorem heads_at (p0 p1 p2 p3 : FVec Ideal S1x512x256 .f32) {i0 i1 i2 i3} (L : List (View.Piece (Elt Ideal) S4x512x256 .f32))
    (h : Fin 4) (R : Fin 512) (i : Fin 256) :
    View.canon (⟨Rect.unit (s := S4x512x256) ![3, 0, 0] ![1, 512, 256] i3, p3⟩ :: ⟨Rect.unit (s := S4x512x256) ![2, 0, 0] ![1, 512, 256] i2, p2⟩
      :: ⟨Rect.unit (s := S4x512x256) ![1, 0, 0] ![1, 512, 256] i1, p1⟩ :: ⟨Rect.unit (s := S4x512x256) ![0, 0, 0] ![1, 512, 256] i0, p0⟩ :: L)
      (ix3 h R i) = ![p0, p1, p2, p3] h (ix3 0 R i) := by
  have hm : ∀ o : ℕ, (h : ℕ) = o → ∀ a : Fin 3, ((ix3 h R i : S4x512x256.Idx) a : ℕ) = ![o, 0, 0] a + ((ix3 0 R i : S1x512x256.Idx) a : ℕ) := by
    intro o ho a
    fin_cases a
    · exact ho
    · exact (Nat.zero_add _).symm
    · exact (Nat.zero_add _).symm
  have hn : ∀ o : ℕ, (h : ℕ) ≠ o → (h : ℕ) < o ∨ o + 1 ≤ (h : ℕ) := fun o ho => by omega
  fin_cases h
  · exact (canon_not i3 _ _ _ 0 (hn 3 (by decide))).trans ((canon_not i2 _ _ _ 0 (hn 2 (by decide))).trans
      ((canon_not i1 _ _ _ 0 (hn 1 (by decide))).trans (canon_mem i0 _ _ _ _ (hm 0 rfl))))
  · exact (canon_not i3 _ _ _ 0 (hn 3 (by decide))).trans ((canon_not i2 _ _ _ 0 (hn 2 (by decide))).trans (canon_mem i1 _ _ _ _ (hm 1 rfl)))
  · exact (canon_not i3 _ _ _ 0 (hn 3 (by decide))).trans (canon_mem i2 _ _ _ _ (hm 2 rfl))
  · exact canon_mem i3 _ _ _ _ (hm 3 rfl)

/-- A column block among others. -/
theorem cols_mem {n m k : ℕ} {φ : EltTy} {o : ℕ} (inb : ∀ a, ![0, o] a + ![n, k] a ≤ (Shape.mk 2 ![n, m]).size a) (w : (Shape.mk 2 ![n, k]).Idx → Elt Ideal φ)
    (L : List (View.Piece (Elt Ideal) ⟨2, ![n, m]⟩ φ)) (r : Fin n) (q : Fin m) (l : Fin k) (h : (q : ℕ) = o + l) :
    View.canon (⟨Rect.unit (s := ⟨2, ![n, m]⟩) ![0, o] ![n, k] inb, w⟩ :: L) (ix2 r q) = w (ix2 r l) := by
  refine canon_mem inb w L _ (ix2 r l : (Shape.mk 2 ![n, k]).Idx) fun a => ?_
  fin_cases a
  · exact (Nat.zero_add _).symm
  · exact h

theorem cols_not {n m k : ℕ} {φ : EltTy} {o : ℕ} (inb : ∀ a, ![0, o] a + ![n, k] a ≤ (Shape.mk 2 ![n, m]).size a) (w : (Shape.mk 2 ![n, k]).Idx → Elt Ideal φ)
    (L : List (View.Piece (Elt Ideal) ⟨2, ![n, m]⟩ φ)) (r : Fin n) (q : Fin m) (h : (q : ℕ) < o ∨ o + k ≤ (q : ℕ)) :
    View.canon (⟨Rect.unit (s := ⟨2, ![n, m]⟩) ![0, o] ![n, k] inb, w⟩ :: L) (ix2 r q) = View.canon L (ix2 r q) :=
  canon_not inb w L _ 1 h

/-- The band read back over its four column blocks: rows `o` on. -/
theorem band_at {κ : Kind} {sp : Space} (v : View sig κ sp S256x512 .f32) (p0 p1 p2 p3 : FVec Ideal S256x128 .f32) {i0 i1 i2 i3} (o : ℕ) {io}
    (ho : o + 128 ≤ 256) (s : Fin 128) (b : Fin 4) (l : Fin 128) :
    v.readCov (Val := Elt Ideal) [⟨Rect.unit (s := S256x512) ![0, 384] ![256, 128] i3, p3⟩, ⟨Rect.unit (s := S256x512) ![0, 128] ![256, 128] i1, p1⟩,
      ⟨Rect.unit (s := S256x512) ![0, 256] ![256, 128] i2, p2⟩, ⟨Rect.unit (s := S256x512) ![0, 0] ![256, 128] i0, p0⟩]
      (Rect.unit (s := S256x512) ![o, 0] ![128, 512] io).toLoadRect (ix2 s ⟨128 * b + l, by omega⟩) = ![p0, p1, p2, p3] b (ix2 ⟨o + s, by omega⟩ l) := by
  rw [View.readCov_eq_canon']
  have hi : (Rect.unit (s := S256x512) ![o, 0] ![128, 512] io).toLoadRect.idx (ix2 s (⟨128 * b + l, by omega⟩ : Fin 512))
      = (ix2 (⟨o + s, by omega⟩ : Fin 256) (⟨128 * b + l, by omega⟩ : Fin 512) : S256x512.Idx) := by
    funext a; fin_cases a
    · exact Fin.ext (show o + 1 * (s : ℕ) = o + s by omega)
    · exact Fin.ext (show 0 + 1 * (128 * (b : ℕ) + l) = 128 * (b : ℕ) + l by omega)
  refine (congrArg _ hi).trans ?_
  have hl := l.isLt
  fin_cases b
  · exact (cols_not i3 _ _ _ _ (Or.inl (by show 128 * 0 + (l : ℕ) < _; omega))).trans ((cols_not i1 _ _ _ _ (Or.inl (by show 128 * 0 + (l : ℕ) < _; omega))).trans
      ((cols_not i2 _ _ _ _ (Or.inl (by show 128 * 0 + (l : ℕ) < _; omega))).trans (cols_mem i0 _ _ _ _ l (by show 128 * 0 + (l : ℕ) = _; omega))))
  · exact (cols_not i3 _ _ _ _ (Or.inl (by show 128 * 1 + (l : ℕ) < _; omega))).trans (cols_mem i1 _ _ _ _ l rfl)
  · exact (cols_not i3 _ _ _ _ (Or.inl (by show 128 * 2 + (l : ℕ) < _; omega))).trans ((cols_not i1 _ _ _ _ (Or.inr (by show _ ≤ 128 * 2 + (l : ℕ); omega))).trans
      (cols_mem i2 _ _ _ _ l rfl))
  · exact cols_mem i3 _ _ _ _ l rfl

/-- One head group's block of an accumulator over all of them. -/
def sl8 (w : FVec Ideal S4x512x256 .f32) (o : ℕ) (h : o + 1 ≤ 4) : FVec Ideal S1x512x256 .f32 :=
  fun x => w ((Rect.unit (s := S4x512x256) ![o, 0, 0] ![1, 512, 256]
    (by intro a; fin_cases a; exacts [h, (Nat.zero_add 512).le, (Nat.zero_add 256).le])).emb x)

theorem dbias_add (w : FVec Ideal S4x512x256 .f32) (ds : FVec Ideal S512x256 .f32) (h : Fin 4) (R : Fin 512) (i : Fin 256) :
    k0_pay43 ds (k0_pay42 (F := Ideal) (sl8 w h h.isLt)) (ix3 0 R i) = w (ix3 h R i) + ds (ix2 R i) := by
  pointwise [k0_pay42, k0_pay43]
  refine congrArg (· + _) (congrArg w ?_)
  funext a; fin_cases a
  · exact Fin.ext (show (h : ℕ) + 1 * 0 = h by omega)
  · exact Fin.ext (show 0 + 1 * (R : ℕ) = R by omega)
  · exact Fin.ext (show 0 + 1 * (i : ℕ) = i by omega)

/-- A head group's share added to the accumulator of the gradient of the sinks. -/
def sadd (w d : FVec Ideal S512x128 .f32) : FVec Ideal S512x128 .f32 := shapeCast S512x128 (addf w d) shapeCasts_S512x128_S512x128

theorem sadd_at (w d : FVec Ideal S512x128 .f32) (R : Fin 512) (l : Fin 128) : sadd w d (ix2 R l) = w (ix2 R l) + d (ix2 R l) := by
  pointwise [sadd]

section

variable (m : (ℓ : Loc nD τ sig) → Buf (Elt Ideal) ℓ) (c : Dev nD) (t : Fin cfg0.N)

/-! What a point finds in the accumulators: zeros at the first one, what the one before left at the others. -/

def old8 : FVec Ideal S4x512x256 .f32 := if t.val % 32 = 0 then k0_pay10 else (outsAt0 m c (t.val - 1) (by omega)).2.1
def oldC : FVec Ideal S128x512 .f32 := if t.val % 32 = 0 then k0_pay11 else (outsAt0 m c (t.val - 1) (by omega)).2.2.2.2.2.1
def oldS : FVec Ideal S512x128 .f32 := if t.val % 32 = 0 then k0_pay12 else (outsAt0 m c (t.val - 1) (by omega)).2.2.2.2.2.2.1
def oldG : FVec Ideal S8x128 .f32 := if t.val % 32 = 0 then k0_pay13 else (outsAt0 m c (t.val - 1) (by omega)).2.2.2.2.2.2.2

/-! The point's own share, at the blocks it reads. -/

def pDS (j e : Fin 2) := DS (iblk m c 0 t) (iblk m c 1 t) (iblk m c 2 t) (iblk m c 3 t) j e
def pDSK (j e : Fin 2) := DSK (iblk m c 0 t) (iblk m c 1 t) (iblk m c 2 t) (iblk m c 3 t) (iblk m c 4 t) j e
def pDQ (j e b : Fin 2) := DQ (iblk m c 0 t) (iblk m c 1 t) (iblk m c 2 t) (iblk m c 3 t) (iblk m c 5 t) (iblk m c 6 t) j e b
def pGQ (j e b : Fin 2) := GQ (iblk m c 0 t) (iblk m c 1 t) (iblk m c 2 t) (iblk m c 3 t) (iblk m c 6 t) j e b
def pDK (j : Fin 2) := DK (iblk m c 0 t) (iblk m c 1 t) (iblk m c 2 t) (iblk m c 3 t) (iblk m c 5 t) (iblk m c 6 t) j
def pDV (j : Fin 2) := DV (iblk m c 2 t) (iblk m c 3 t) j
def pGK (j : Fin 2) := GK (iblk m c 0 t) (iblk m c 1 t) (iblk m c 2 t) (iblk m c 3 t) (iblk m c 5 t) j

theorem cases3 : (t.val % 32 = 0 ∧ ¬t.val % 32 = 31) ∨ (¬t.val % 32 = 0 ∧ t.val % 32 = 31) ∨ (¬t.val % 32 = 0 ∧ ¬t.val % 32 = 31) := by
  have := t.isLt; omega

theorem dbias_heads (w : FVec Ideal S4x512x256 .f32) (j e : Fin 2) (R : Fin 512) (i : Fin 256) :
    (![k0_pay43 (pDS m c t 0 0) (k0_pay42 (F := Ideal) (sl8 w 0 (by decide))), k0_pay43 (pDS m c t 0 1) (k0_pay42 (F := Ideal) (sl8 w 1 (by decide))),
      k0_pay43 (pDS m c t 1 0) (k0_pay42 (F := Ideal) (sl8 w 2 (by decide))), k0_pay43 (pDS m c t 1 1) (k0_pay42 (F := Ideal) (sl8 w 3 (by decide)))] : Fin 4 → _) (hd j e) (ix3 0 R i)
      = w (ix3 (hd j e) R i) + pDS m c t j e (ix2 R i) := by
  fin_cases j <;> fin_cases e
  · exact dbias_add w (pDS m c t 0 0) 0 R i
  · exact dbias_add w (pDS m c t 0 1) 1 R i
  · exact dbias_add w (pDS m c t 1 0) 2 R i
  · exact dbias_add w (pDS m c t 1 1) 3 R i

theorem dbias_pt (j e : Fin 2) (R : Fin 512) (i : Fin 256) :
    (outsAt0 m c t.val t.isLt).2.1 (ix3 (hd j e) R i) = old8 m c t (ix3 (hd j e) R i) + pDS m c t j e (ix2 R i) := by
  refine Eq.trans ?_ (dbias_heads m c t _ j e R i)
  unfold old8
  rcases cases3 t with ⟨g0, g1⟩ | ⟨g0, g1⟩ | ⟨g0, g1⟩
  · rw [if_pos g0, outsAt0_A m c t g0 g1]
    frame_out
    simp (disch := decide) only [View.readCov_skip, View.readCov_fill]
    exact heads_at _ _ _ _ _ _ R i
  · rw [if_neg g0, outsAt0_C m c t g0 g1]
    frame_out
    exact heads_at _ _ _ _ _ _ R i
  · rw [if_neg g0, outsAt0_B m c t g0 g1]
    frame_out
    exact heads_at _ _ _ _ _ _ R i

theorem dsink_heads (w : FVec Ideal S512x128 .f32) (R : Fin 512) (l : Fin 128) :
    sadd (sadd (sadd (sadd w (pDSK m c t 0 0)) (pDSK m c t 0 1)) (pDSK m c t 1 0)) (pDSK m c t 1 1) (ix2 R l) =
    w (ix2 R l) + pDSK m c t 0 0 (ix2 R l) + pDSK m c t 0 1 (ix2 R l) + pDSK m c t 1 0 (ix2 R l) + pDSK m c t 1 1 (ix2 R l) := by
  rw [sadd_at, sadd_at, sadd_at, sadd_at]

set_option maxHeartbeats 1000000 in
theorem dsink_pt (R : Fin 512) (l : Fin 128) : (outsAt0 m c t.val t.isLt).2.2.2.2.2.2.1 (ix2 R l) = oldS m c t (ix2 R l) +
    pDSK m c t 0 0 (ix2 R l) + pDSK m c t 0 1 (ix2 R l) + pDSK m c t 1 0 (ix2 R l) + pDSK m c t 1 1 (ix2 R l) := by
  refine Eq.trans ?_ (dsink_heads m c t _ R l)
  unfold oldS
  rcases cases3 t with ⟨g0, g1⟩ | ⟨g0, g1⟩ | ⟨g0, g1⟩
  · rw [if_pos g0, outsAt0_A m c t g0 g1]
    frame_out
    rfl
  · rw [if_neg g0, outsAt0_C m c t g0 g1]
    frame_out
    rw [(Memref.isWhole_whole _).read_unread]
    rfl
  · rw [if_neg g0, outsAt0_B m c t g0 g1]
    frame_out
    rw [(Memref.isWhole_whole _).read_unread]
    rfl

end

end Cert.Kernel2Ideal.Attn

end
-- ==== Proof.AttnPt2.lean ====
/- The attention's gradient within one grid point: the columns it writes, and what it carries to the next. -/
module

public import proofs.«01_k».proof.Proof.AttnPt
public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals

theorem cast256 (x : FVec Ideal S256x128 .f32) : shapeCast S256x128 x shapeCasts_S256x128_S256x128 = x := by
  funext i; rw [eq_ix2 (n0 := 256) (n1 := 128) i]; pointwise

theorem pay221_at (x : FVec Ideal S128x512 .f32) (s : Fin 128) (q : Fin 512) : k0_pay221 (F := Ideal) x (ix2 s q) = x (ix2 s q) := by
  pointwise [k0_pay221]

section

variable (m : (ℓ : Loc nD τ sig) → Buf (Elt Ideal) ℓ) (c : Dev nD) (t : Fin cfg0.N)

/-- The point's gradient of the band's keys and values, by pairs of heads. -/
def pKV (b : Fin 4) : FVec Ideal S256x128 .f32 := ![pDK m c t 0, pDK m c t 1, pDV m c t 0, pDV m c t 1] b

theorem band_pt {κ : Kind} {sp : Space} (v : View sig κ sp S256x512 .f32) {i0 i1 i2 i3} (o : ℕ) {io} (ho : o + 128 ≤ 256) (s : Fin 128) (b : Fin 4) (l : Fin 128) :
    v.readCov (Val := Elt Ideal) [⟨Rect.unit (s := S256x512) ![0, 384] ![256, 128] i3, shapeCast S256x128 (pDV m c t 1) shapeCasts_S256x128_S256x128⟩,
      ⟨Rect.unit (s := S256x512) ![0, 128] ![256, 128] i1, shapeCast S256x128 (pDK m c t 1) shapeCasts_S256x128_S256x128⟩,
      ⟨Rect.unit (s := S256x512) ![0, 256] ![256, 128] i2, shapeCast S256x128 (pDV m c t 0) shapeCasts_S256x128_S256x128⟩,
      ⟨Rect.unit (s := S256x512) ![0, 0] ![256, 128] i0, shapeCast S256x128 (pDK m c t 0) shapeCasts_S256x128_S256x128⟩]
      (Rect.unit (s := S256x512) ![o, 0] ![128, 512] io).toLoadRect (ix2 s ⟨128 * b + l, by omega⟩) = pKV m c t b (ix2 ⟨o + s, by omega⟩ l) := by
  rw [cast256, cast256, cast256, cast256]
  exact band_at v _ _ _ _ o ho s b l

set_option maxHeartbeats 1000000 in
theorem carry_pt (s : Fin 128) (b : Fin 4) (l : Fin 128) :
    (outsAt0 m c t.val t.isLt).2.2.2.2.2.1 (ix2 s ⟨128 * b + l, by omega⟩) = pKV m c t b (ix2 ⟨0 + s, by omega⟩ l) := by
  rcases cases3 t with ⟨g0, g1⟩ | ⟨g0, g1⟩ | ⟨g0, g1⟩
  · rw [outsAt0_A m c t g0 g1]
    frame_out
    exact (pay221_at _ s _).trans (band_pt m c t _ 0 (by norm_num) s b l)
  · rw [outsAt0_C m c t g0 g1]
    frame_out
    exact (pay221_at _ s _).trans (band_pt m c t _ 0 (by norm_num) s b l)
  · rw [outsAt0_B m c t g0 g1]
    frame_out
    exact (pay221_at _ s _).trans (band_pt m c t _ 0 (by norm_num) s b l)

end

end Cert.Kernel2Ideal.Attn

end
-- ==== Proof.AttnPt3.lean ====
/- The attention's gradient within one grid point: the gradient of its columns. -/
module

public import proofs.«01_k».proof.Proof.AttnPt2
public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals

/-- One block of query columns among the others. -/
theorem cols_step (p : Fin 8 → FVec Ideal S128x128 .bf16) (k : Fin 8) {o : ℕ} (ho : o = 128 * k) (inb : ∀ a, ![0, o] a + ![128, 128] a ≤ S128x1536.size a)
    (L : List (View.Piece (Elt Ideal) S128x1536 .bf16)) (s : Fin 128) (b : Fin 8) (l : Fin 128)
    (h : b ≠ k → View.canon L (ix2 s (⟨128 * b + l, by omega⟩ : Fin 1536)) = p b (ix2 s l)) :
    View.canon (⟨Rect.unit (s := S128x1536) ![0, o] ![128, 128] inb, p k⟩ :: L) (ix2 s (⟨128 * b + l, by omega⟩ : Fin 1536)) = p b (ix2 s l) := by
  subst ho
  rcases eq_or_ne b k with rfl | hb
  · exact cols_mem (φ := .bf16) inb _ _ s _ l rfl
  · refine (cols_not (φ := .bf16) inb _ _ s _ ?_).trans (h hb)
    have : (b : ℕ) ≠ k := fun e => hb (Fin.ext e)
    show 128 * (b : ℕ) + l < 128 * k ∨ 128 * (k : ℕ) + 128 ≤ 128 * b + l
    omega

/-- Eight blocks of query columns under one of key and value columns. -/
theorem cols_q (p : Fin 8 → FVec Ideal S128x128 .bf16) (pk : FVec Ideal S128x512 .bf16) {i0 i1 i2 i3 i4 i5 i6 i7 i8} (s : Fin 128) (b : Fin 8) (l : Fin 128) :
    View.canon (Val := Elt Ideal) (e := .bf16) [⟨Rect.unit (s := S128x1536) ![0, 1024] ![128, 512] i8, pk⟩, ⟨Rect.unit (s := S128x1536) ![0, 896] ![128, 128] i7, p 7⟩,
      ⟨Rect.unit (s := S128x1536) ![0, 768] ![128, 128] i6, p 6⟩, ⟨Rect.unit (s := S128x1536) ![0, 640] ![128, 128] i5, p 5⟩,
      ⟨Rect.unit (s := S128x1536) ![0, 512] ![128, 128] i4, p 4⟩, ⟨Rect.unit (s := S128x1536) ![0, 384] ![128, 128] i3, p 3⟩,
      ⟨Rect.unit (s := S128x1536) ![0, 256] ![128, 128] i2, p 2⟩, ⟨Rect.unit (s := S128x1536) ![0, 128] ![128, 128] i1, p 1⟩,
      ⟨Rect.unit (s := S128x1536) ![0, 0] ![128, 128] i0, p 0⟩] (ix2 s ⟨128 * b + l, by omega⟩) = p b (ix2 s l) := by
  refine (cols_not (φ := .bf16) i8 pk _ s (⟨128 * b + l, by omega⟩ : Fin 1536) (Or.inl (by show 128 * (b : ℕ) + l < 1024; omega))).trans ?_
  exact cols_step p 7 rfl i7 _ s b l fun h7 => cols_step p 6 rfl i6 _ s b l fun h6 => cols_step p 5 rfl i5 _ s b l fun h5 => cols_step p 4 rfl i4 _ s b l fun h4 =>
    cols_step p 3 rfl i3 _ s b l fun h3 => cols_step p 2 rfl i2 _ s b l fun h2 => cols_step p 1 rfl i1 _ s b l fun h1 => cols_step p 0 rfl i0 _ s b l fun h0 =>
    absurd b.isLt (by simp only [ne_eq, Fin.ext_iff] at *; omega)

section

variable (m : (ℓ : Loc nD τ sig) → Buf (Elt Ideal) ℓ) (c : Dev nD) (t : Fin cfg0.N)

/-- The point's gradient of the queries, by pairs of heads. -/
def pQ (i : Fin 8) : FVec Ideal S128x128 .bf16 := truncf .bf16 (pDQ m c t ⟨i / 4, by omega⟩ ⟨i / 2 % 2, by omega⟩ ⟨i % 2, by omega⟩) bitsLt_bf16_f32

set_option maxHeartbeats 2000000 in
theorem dq_pt (s : Fin 128) (b : Fin 8) (l : Fin 128) : (outsAt0 m c t.val t.isLt).1 (ix2 s ⟨128 * b + l, by omega⟩) = pQ m c t b (ix2 s l) := by
  rcases cases3 t with ⟨g0, g1⟩ | ⟨g0, g1⟩ | ⟨g0, g1⟩
  · rw [outsAt0_A m c t g0 g1]
    frame_out
    exact cols_q (pQ m c t) _ s b l
  · rw [outsAt0_C m c t g0 g1]
    frame_out
    exact cols_q (pQ m c t) _ s b l
  · rw [outsAt0_B m c t g0 g1]
    frame_out
    exact cols_q (pQ m c t) _ s b l

theorem pay220_at (x y : FVec Ideal S128x512 .f32) (s : Fin 128) (q : Fin 512) : k0_pay220 (F := Ideal) x y (ix2 s q) = x (ix2 s q) + y (ix2 s q) := by
  pointwise [k0_pay220]

set_option maxHeartbeats 2000000 in
theorem dkv_pt (s : Fin 128) (b : Fin 4) (l : Fin 128) : (outsAt0 m c t.val t.isLt).1 (ix2 s ⟨1024 + (128 * b + l), by omega⟩) =
    pKV m c t b (ix2 ⟨128 + s, by omega⟩ l) + oldC m c t (ix2 s ⟨128 * b + l, by omega⟩) := by
  unfold oldC
  rcases cases3 t with ⟨g0, g1⟩ | ⟨g0, g1⟩ | ⟨g0, g1⟩
  · rw [if_pos g0, outsAt0_A m c t g0 g1]
    frame_out
    refine (cols_mem _ _ _ s _ (⟨128 * b + l, by omega⟩ : Fin 512) rfl).trans ((pay220_at _ _ s _).trans ?_)
    refine congrArg₂ (· + ·) (band_pt m c t _ 128 (by norm_num) s b l) ?_
    rfl
  · rw [if_neg g0, outsAt0_C m c t g0 g1]
    frame_out
    refine (cols_mem _ _ _ s _ (⟨128 * b + l, by omega⟩ : Fin 512) rfl).trans ((pay220_at _ _ s _).trans ?_)
    refine congrArg₂ (· + ·) (band_pt m c t _ 128 (by norm_num) s b l) ?_
    rw [(Memref.isWhole_whole _).read_unread]
  · rw [if_neg g0, outsAt0_B m c t g0 g1]
    frame_out
    refine (cols_mem _ _ _ s _ (⟨128 * b + l, by omega⟩ : Fin 512) rfl).trans ((pay220_at _ _ s _).trans ?_)
    refine congrArg₂ (· + ·) (band_pt m c t _ 128 (by norm_num) s b l) ?_
    rw [(Memref.isWhole_whole _).read_unread]

end

end Cert.Kernel2Ideal.Attn

end
-- ==== Proof.AttnPt4.lean ====
/- The attention's gradient within one grid point: the rows of the gradient of the gains. -/
module

public import proofs.«01_k».proof.Proof.AttnPt3
public import proofs.«01_k».proof.Proof.Gen.Kernel2Ideal.Value
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals Cert.Pieces

/-- A row added to the one loaded, and the two heads' pairs in a row of the gradient of the gains. -/
def gadd (x w : FVec Ideal S1x128 .f32) : FVec Ideal S1x128 .f32 := shapeCast S1x128 (addf w x) shapeCasts_S1x128_S1x128

theorem gadd_at (x w : FVec Ideal S1x128 .f32) (l : Fin 128) : gadd x w (ix2 0 l) = w (ix2 0 l) + x (ix2 0 l) := by
  pointwise [gadd]

def sl8x (w : FVec Ideal S8x128 .f32) (o : ℕ) (h : o + 1 ≤ 8) : FVec Ideal S1x128 .f32 :=
  fun x => w ((Rect.unit (s := S8x128) ![o, 0] ![1, 128] (by intro a; fin_cases a; exacts [h, (Nat.zero_add 128).le])).emb x)

theorem sl8x_at (w : FVec Ideal S8x128 .f32) (o : ℕ) (h : o + 1 ≤ 8) (l : Fin 128) : sl8x w o h (ix2 0 l) = w (ix2 ⟨o, by omega⟩ l) := by
  refine congrArg w ?_
  funext a; fin_cases a
  · exact Fin.ext (show o + 1 * 0 = o by omega)
  · exact Fin.ext (show 0 + 1 * (l : ℕ) = l by omega)

section

variable (m : (ℓ : Loc nD τ sig) → Buf (Elt Ideal) ℓ) (c : Dev nD) (t : Fin cfg0.N)

/-- The point's share of the two rows. -/
def row0 (w : FVec Ideal S1x128 .f32) : FVec Ideal S1x128 .f32 :=
  gadd (addf (pGQ m c t 1 1 0) (pGQ m c t 1 1 1)) (gadd (addf (pGQ m c t 1 0 0) (pGQ m c t 1 0 1))
    (gadd (addf (pGQ m c t 0 1 0) (pGQ m c t 0 1 1)) (gadd (addf (pGQ m c t 0 0 0) (pGQ m c t 0 0 1)) w)))
def row1 (w : FVec Ideal S1x128 .f32) : FVec Ideal S1x128 .f32 := gadd (pGK m c t 1) (gadd (pGK m c t 0) w)

set_option maxHeartbeats 2000000 in
theorem gq_row (l : Fin 128) : (outsAt0 m c t.val t.isLt).2.2.2.2.2.2.2 (ix2 0 l) = row0 m c t (sl8x (oldG m c t) 0 (by decide)) (ix2 0 l) := by
  have h0 : ∀ a : Fin 2, ((ix2 0 l : S8x128.Idx) a : ℕ) = ![0, 0] a + ((ix2 0 l : S1x128.Idx) a : ℕ) := by
    intro a; fin_cases a <;> exact (Nat.zero_add _).symm
  unfold oldG
  rcases cases3 t with ⟨g0, g1⟩ | ⟨g0, g1⟩ | ⟨g0, g1⟩
  · rw [if_pos g0, outsAt0_A m c t g0 g1]
    frame_out
    simp (disch := decide) only [View.readCov_cons_toLoadRect, View.readCov_skip, View.readCov_fill]
    refine (canon_not _ _ _ _ 0 (Or.inl (show (0 : ℕ) < 1 by decide))).trans ((canon_mem _ _ _ _ (ix2 0 l : S1x128.Idx) h0).trans ?_)
    rfl
  · rw [if_neg g0, outsAt0_C m c t g0 g1]
    frame_out
    simp (disch := decide) only [View.readCov_cons_toLoadRect, View.readCov_skip, View.readCov_fill]
    rw [(Memref.isWhole_whole _).read_unread]
    refine (View.read_writes_cons_unit_of_not_mem _ _ _ _ _ _ rfl 0 (Or.inl (show (0 : ℕ) < 1 by decide))).trans
      ((View.read_writes_cons_unit_of_mem _ _ _ _ _ _ (ix2 0 l : S1x128.Idx) rfl h0).trans ?_)
    rfl
  · rw [if_neg g0, outsAt0_B m c t g0 g1]
    frame_out
    simp (disch := decide) only [View.readCov_cons_toLoadRect, View.readCov_skip, View.readCov_fill]
    rw [(Memref.isWhole_whole _).read_unread]
    refine (View.read_writes_cons_unit_of_not_mem _ _ _ _ _ _ rfl 0 (Or.inl (show (0 : ℕ) < 1 by decide))).trans
      ((View.read_writes_cons_unit_of_mem _ _ _ _ _ _ (ix2 0 l : S1x128.Idx) rfl h0).trans ?_)
    rfl

set_option maxHeartbeats 2000000 in
theorem gk_row (l : Fin 128) : (outsAt0 m c t.val t.isLt).2.2.2.2.2.2.2 (ix2 1 l) = row1 m c t (sl8x (oldG m c t) 1 (by decide)) (ix2 0 l) := by
  have h0 : ∀ a : Fin 2, ((ix2 1 l : S8x128.Idx) a : ℕ) = ![1, 0] a + ((ix2 0 l : S1x128.Idx) a : ℕ) := by
    intro a; fin_cases a
    · rfl
    · exact (Nat.zero_add _).symm
  unfold oldG
  rcases cases3 t with ⟨g0, g1⟩ | ⟨g0, g1⟩ | ⟨g0, g1⟩
  · rw [if_pos g0, outsAt0_A m c t g0 g1]
    frame_out
    simp (disch := decide) only [View.readCov_cons_toLoadRect, View.readCov_skip, View.readCov_fill]
    refine (canon_mem _ _ _ _ (ix2 0 l : S1x128.Idx) h0).trans ?_
    rfl
  · rw [if_neg g0, outsAt0_C m c t g0 g1]
    frame_out
    simp (disch := decide) only [View.readCov_cons_toLoadRect, View.readCov_skip, View.readCov_fill]
    rw [(Memref.isWhole_whole _).read_unread]
    refine (View.read_writes_cons_unit_of_mem _ _ _ _ _ _ (ix2 0 l : S1x128.Idx) rfl h0).trans ?_
    rfl
  · rw [if_neg g0, outsAt0_B m c t g0 g1]
    frame_out
    simp (disch := decide) only [View.readCov_cons_toLoadRect, View.readCov_skip, View.readCov_fill]
    rw [(Memref.isWhole_whole _).read_unread]
    refine (View.read_writes_cons_unit_of_mem _ _ _ _ _ _ (ix2 0 l : S1x128.Idx) rfl h0).trans ?_
    rfl

end

end Cert.Kernel2Ideal.Attn

end
-- ==== Proof.AttnAcc.lean ====
/- The attention's gradient over all grid points: the accumulators and the columns at reals. -/
module

public import proofs.«01_k».proof.Proof.AttnPt4
public import proofs.«01_k».proof.Proof.Gen.Kernel2Ideal.Value
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals Cert.Pieces

section

variable (m : (ℓ : Loc nD τ sig) → Buf (Elt Ideal) ℓ) (c : Dev nD) (t : Fin cfg0.N)

/-! The last point's outputs, of what it leaves in the accumulators. -/

theorem dqg_last (g0 : ¬t.val % 32 = 0) (g1 : t.val % 32 = 31) :
    (outsAt0 m c t.val t.isLt).2.2.1 = k0_pay2 (F := Ideal) (outsAt0 m c t.val t.isLt).2.2.2.2.2.2.2 := by
  rw [outsAt0_C m c t g0 g1]
  frame_out

theorem dkg_last (g0 : ¬t.val % 32 = 0) (g1 : t.val % 32 = 31) :
    (outsAt0 m c t.val t.isLt).2.2.2.1 = k0_pay3 (F := Ideal) (outsAt0 m c t.val t.isLt).2.2.2.2.2.2.2 := by
  rw [outsAt0_C m c t g0 g1]
  frame_out

def rows4 (w : FVec Ideal S512x128 .f32) (o : ℕ) (h : o + 128 ≤ 512) : FVec Ideal S128x128 .f32 :=
  fun x => w ((Rect.unit (s := S512x128) ![o, 0] ![128, 128] (by intro a; fin_cases a; exacts [h, (Nat.zero_add 128).le])).emb x)

theorem rows4_at (w : FVec Ideal S512x128 .f32) (o : ℕ) (h : o + 128 ≤ 512) (s l : Fin 128) : rows4 w o h (ix2 s l) = w (ix2 ⟨o + s, by omega⟩ l) := by
  refine congrArg w ?_
  funext a; fin_cases a
  · exact Fin.ext (show o + 1 * (s : ℕ) = o + s by omega)
  · exact Fin.ext (show 0 + 1 * (l : ℕ) = l by omega)

/-- Four rows stored one at a time. -/
theorem rows_step (p : Fin 4 → FVec Ideal S1x128 .f32) (k : Fin 4) {o : ℕ} (ho : o = k) (inb : ∀ a, ![o, 0] a + ![1, 128] a ≤ S4x128.size a)
    (L : List (View.Piece (Elt Ideal) S4x128 .f32)) (g : Fin 4) (l : Fin 128) (h : g ≠ k → View.canon L (ix2 g l) = p g (ix2 0 l)) :
    View.canon (⟨Rect.unit (s := S4x128) ![o, 0] ![1, 128] inb, p k⟩ :: L) (ix2 g l) = p g (ix2 0 l) := by
  subst ho
  rcases eq_or_ne g k with rfl | hb
  · refine canon_mem (s := S4x128) inb _ _ _ (ix2 0 l : S1x128.Idx) fun a => ?_
    fin_cases a
    · rfl
    · exact (Nat.zero_add _).symm
  · refine (canon_not inb _ _ _ 0 ?_).trans (h hb)
    have : (g : ℕ) ≠ k := fun e => hb (Fin.ext e)
    show (g : ℕ) < k ∨ (k : ℕ) + 1 ≤ g
    omega

def sinkRow (w : FVec Ideal S512x128 .f32) (g : Fin 4) : FVec Ideal S1x128 .f32 := k0_pay4 (F := Ideal) (rows4 w (128 * g) (by omega))

set_option maxHeartbeats 2000000 in
theorem dsink_last (g0 : ¬t.val % 32 = 0) (g1 : t.val % 32 = 31) (g : Fin 4) (l : Fin 128) :
    (outsAt0 m c t.val t.isLt).2.2.2.2.1 (ix2 g l) = sinkRow (outsAt0 m c t.val t.isLt).2.2.2.2.2.2.1 g (ix2 0 l) := by
  rw [outsAt0_C m c t g0 g1]
  frame_out
  simp (disch := decide) only [View.readCov_fill]
  exact rows_step (sinkRow _) 3 rfl _ _ g l fun h3 => rows_step (sinkRow _) 2 rfl _ _ g l fun h2 => rows_step (sinkRow _) 1 rfl _ _ g l fun h1 =>
    rows_step (sinkRow _) 0 rfl _ _ g l fun h0 => absurd g.isLt (by simp only [ne_eq, Fin.ext_iff] at *; omega)

theorem sinkRow_at (w : FVec Ideal S512x128 .f32) (g : Fin 4) (x : Fin 128 → Fin 128 → ℝ) (h : ∀ s l : Fin 128, w (ix2 ⟨128 * g + s, by omega⟩ l) = ((x s l : ℝ) : Ideal .f32)) (l : Fin 128) :
    sinkRow w g (ix2 0 l) = ((∑ s, x s l : ℝ) : Ideal .f32) := by
  unfold sinkRow
  pointwise [k0_pay4, rows4_at, h]
  exact coe_sum _ _

theorem gainRow_at (w : FVec Ideal S8x128 .f32) (r : Fin 8) (x : Fin 2 → Fin 64 → ℝ) (h : ∀ (e : Fin 2) (d : Fin 64), w (ix2 r ⟨64 * e + d, by omega⟩) = ((x e d : ℝ) : Ideal .f32))
    (e : Fin 2) (d : Fin 64) : k0_pay1 (F := Ideal) w (ix2 r ⟨64 * e + d, by omega⟩) = ((x 0 d + x 1 d : ℝ) : Ideal .f32) := by
  pointwise [k0_pay1]
  fin_cases e
  · refine (congrArg₂ (· + ·) (h 0 d) ((congrArg (fun z => w (ix2 r z)) (Fin.ext ?_)).trans (h 1 d))).trans (EReal.coe_add _ _).symm
    show (64 * 0 + (d : ℕ) + 128 - 64) % 128 = 64 * 1 + d
    omega
  · refine (congrArg₂ (· + ·) (h 1 d) ((congrArg (fun z => w (ix2 r z)) (Fin.ext ?_)).trans (h 0 d))).trans ((EReal.coe_add _ _).symm.trans ?_)
    · show (64 * 1 + (d : ℕ) + 128 - 64) % 128 = 64 * 0 + d
      omega
    · rw [add_comm]

theorem gq_out (w : FVec Ideal S8x128 .f32) (l : Fin 128) : k0_pay2 (F := Ideal) w (ix2 0 l) = k0_pay1 (F := Ideal) w (ix2 0 l) := by
  unfold k0_pay2
  pointwise

theorem gk_out (w : FVec Ideal S8x128 .f32) (l : Fin 128) : k0_pay3 (F := Ideal) w (ix2 0 l) = k0_pay1 (F := Ideal) w (ix2 1 l) := by
  unfold k0_pay3
  pointwise

end

/-- A carried sum of reals, point by point. -/
theorem acc_sum (a o : Fin cfg0.N → EReal) (f : ℕ → ℝ) (h : ∀ t, a t = o t + ((f t : ℝ) : EReal)) (h0 : ∀ z : 0 < cfg0.N, o ⟨0, z⟩ = 0)
    (hs : ∀ n (z : n + 1 < cfg0.N), o ⟨n + 1, z⟩ = a ⟨n, by omega⟩) : ∀ n (z : n < cfg0.N), a ⟨n, z⟩ = ((∑ s ∈ Finset.range (n + 1), f s : ℝ) : EReal) := by
  intro n
  induction n with
  | zero => intro z; rw [h, h0]; simp
  | succ n ih => intro z; rw [h, hs, ih, Finset.sum_range_succ _ (n + 1), EReal.coe_add]

/-- A lane of two heads. -/
theorem L_at {a : ℕ} {φ : FTy} (f : Fin a → Fin 2 → Fin 64 → ℝ) (r : Fin a) (e : Fin 2) (d : Fin 64) (q : Fin 128) (h : (q : ℕ) = 64 * e + d) :
    (L f : FVec Ideal ⟨2, ![a, 128]⟩ φ) (ix2 r q) = ((f r e d : ℝ) : EReal) := by
  have h0 : (⟨(q : ℕ) / 64, by omega⟩ : Fin 2) = e := Fin.ext (by show (q : ℕ) / 64 = e; omega)
  have h1 : (⟨(q : ℕ) % 64, by omega⟩ : Fin 64) = d := Fin.ext (by show (q : ℕ) % 64 = d; omega)
  exact (R2_ix _ r q).trans (by rw [h0, h1])

theorem hd_eq (h : Fin 4) : h = hd ⟨h / 2, by omega⟩ ⟨h % 2, by omega⟩ := Fin.ext (by show (h : ℕ) = 2 * (h / 2) + h % 2; omega)

theorem sum_hd (f : Fin 4 → ℝ) : ∑ h, f h = f (hd 0 0) + f (hd 0 1) + f (hd 1 0) + f (hd 1 1) := Fin.sum_univ_four f

section

variable (m : (ℓ : Loc nD τ sig) → Buf (Elt Ideal) ℓ) (c : Dev nD)

theorem old8_zero (z : 0 < cfg0.N) (h : Fin 4) (R : Fin 512) (i : Fin 256) : old8 m c ⟨0, z⟩ (ix3 h R i) = 0 := by
  have e : old8 m c ⟨0, z⟩ = k0_pay10 := if_pos rfl
  rw [e]; pointwise [k0_pay10]; try rfl
theorem oldC_zero (t : Fin cfg0.N) (z : t.val = 0) (s : Fin 128) (q : Fin 512) : oldC m c t (ix2 s q) = 0 := by
  have e : oldC m c t = k0_pay11 := if_pos (by rw [z])
  rw [e]; pointwise [k0_pay11]; try rfl
theorem oldS_zero (z : 0 < cfg0.N) (R : Fin 512) (l : Fin 128) : oldS m c ⟨0, z⟩ (ix2 R l) = 0 := by
  have e : oldS m c ⟨0, z⟩ = k0_pay12 := if_pos rfl
  rw [e]; pointwise [k0_pay12]; try rfl
theorem oldG_zero (z : 0 < cfg0.N) (r : Fin 8) (l : Fin 128) : oldG m c ⟨0, z⟩ (ix2 r l) = 0 := by
  have e : oldG m c ⟨0, z⟩ = k0_pay13 := if_pos rfl
  rw [e]; pointwise [k0_pay13]; try rfl

theorem not0 {n : ℕ} (z : n + 1 < cfg0.N) : ¬(n + 1) % 32 = 0 := by
  have : cfg0.N = 32 := N_0
  omega

variable (XC : ℕ → Fin 128 → Fin 1536 → ℝ) (XP : ℕ → Fin 128 → Fin 512 → ℝ) (XD : ℕ → Fin 128 → Fin 1024 → ℝ) (PP : ℕ → Fin 4 → Fin 512 → Fin 256 → ℝ)
  (PS : ℕ → Fin 128 → Fin 16 → ℝ) (qg kg : Fin 64 → ℝ)
  (B : ∀ t : Fin cfg0.N, Blocks (iblk m c 0 t) (iblk m c 1 t) (iblk m c 2 t) (iblk m c 3 t) (iblk m c 4 t) (iblk m c 5 t) (iblk m c 6 t)
    (XC t) (XP t) (XD t) (PP t) (PS t) qg kg)

include B

theorem dbias_acc (h : Fin 4) (R : Fin 512) (i : Fin 256) (n : ℕ) (z : n < cfg0.N) : (outsAt0 m c n z).2.1 (ix3 h R i) =
    ((∑ s ∈ Finset.range (n + 1), dsR (vx (XC s) (XP s) h) (PP s h) (dx (XD s) h) R i : ℝ) : EReal) := by
  refine acc_sum (fun t => (outsAt0 m c t.val t.isLt).2.1 (ix3 h R i)) (fun t => old8 m c t (ix3 h R i)) _ (fun t => ?_)
    (fun z => old8_zero m c z h R i) (fun n z => congrFun (if_neg (not0 z)) _) n z
  rw [hd_eq h]
  refine (dbias_pt m c t _ _ R i).trans (congrArg (_ + ·) ?_)
  exact congrFun (DS_L (B t) _ _) _

/-- A point's share of the gradient of the sinks: lane `l`, a head group's. -/
def skx (s : ℕ) (R : Fin 512) (l : Fin 128) : ℝ :=
  if h : (l : ℕ) < 4 then -(psx (PS s) ⟨l, h⟩ R * dlR (vx (XC s) (XP s) ⟨l, h⟩) (PP s ⟨l, h⟩) (dx (XD s) ⟨l, h⟩) R) else 0

theorem dsink_acc (R : Fin 512) (l : Fin 128) (n : ℕ) (z : n < cfg0.N) : (outsAt0 m c n z).2.2.2.2.2.2.1 (ix2 R l) =
    ((∑ s ∈ Finset.range (n + 1), skx XC XP XD PP PS s R l : ℝ) : EReal) := by
  refine acc_sum (fun t => (outsAt0 m c t.val t.isLt).2.2.2.2.2.2.1 (ix2 R l)) (fun t => oldS m c t (ix2 R l)) _ (fun t => ?_)
    (fun z => oldS_zero m c z R l) (fun n z => congrFun (if_neg (not0 z)) _) n z
  have k : ∀ j e : Fin 2, pDSK m c t j e (ix2 R l) = _ := fun j e => congrFun (DSK_L (B t) j e) (ix2 R l)
  refine (dsink_pt m c t R l).trans ?_
  rw [k, k, k, k, R2_ix, R2_ix, R2_ix, R2_ix, add_assoc, add_assoc, add_assoc, ← EReal.coe_add, ← EReal.coe_add, ← EReal.coe_add]
  refine congrArg (fun x : ℝ => _ + (x : EReal)) ?_
  unfold skx
  by_cases h : (l : ℕ) < 4
  · rw [dif_pos h]
    obtain ⟨l, hl⟩ := l
    change l < 4 at h
    interval_cases l <;> simp [hd] <;> rfl
  · rw [dif_neg h]
    have : ∀ j e : Fin 2, ¬(l : ℕ) = hd j e := fun j e => by have := (hd j e).isLt; omega
    simp [this]

/-- A point's share of the gradients of the two gains. -/
def gqx (s : ℕ) (e : Fin 2) (d : Fin 64) : ℝ :=
  ∑ h : Fin 4, ∑ b : Fin 2, ∑ r : Fin 128, pair b (fun R d => dqn (XC s) (XP s) (XD s) (PP s) kg h R d * unit (qx (XC s) h R) d) r e d
def gkx (s : ℕ) (e : Fin 2) (d : Fin 64) : ℝ :=
  ∑ j : Fin 2, ∑ i : Fin 256, dkn (XC s) (XP s) (XD s) (PP s) qg (hd j e) i d * unit (kx (XC s) (XP s) (hd j e) i) d

theorem gq_acc (e : Fin 2) (d : Fin 64) (n : ℕ) (z : n < cfg0.N) : (outsAt0 m c n z).2.2.2.2.2.2.2 (ix2 0 ⟨64 * e + d, by omega⟩) =
    ((∑ s ∈ Finset.range (n + 1), gqx XC XP XD PP kg s e d : ℝ) : EReal) := by
  refine acc_sum (fun t => (outsAt0 m c t.val t.isLt).2.2.2.2.2.2.2 (ix2 0 ⟨64 * e + d, by omega⟩)) (fun t => oldG m c t (ix2 0 ⟨64 * e + d, by omega⟩)) _ (fun t => ?_)
    (fun z => oldG_zero m c z 0 _) (fun n z => congrFun (if_neg (not0 z)) _) n z
  have k : ∀ j f b : Fin 2, pGQ m c t j f b (ix2 0 ⟨64 * e + d, by omega⟩) = _ := fun j f b =>
    (congrFun (GQ_L (B t) j f b) (ix2 0 ⟨64 * e + d, by omega⟩)).trans (L_at _ 0 e d _ rfl)
  refine (gq_row m c t _).trans ?_
  unfold row0
  have ad : ∀ x y : FVec Ideal S1x128 .f32, ∀ q, addf x y q = x q + y q := fun x y q => rfl
  rw [gadd_at, gadd_at, gadd_at, gadd_at, ad, ad, ad, ad, sl8x_at, k, k, k, k, k, k, k, k]
  rw [← EReal.coe_add, ← EReal.coe_add, ← EReal.coe_add, ← EReal.coe_add, add_assoc, add_assoc, add_assoc, ← EReal.coe_add, ← EReal.coe_add, ← EReal.coe_add]
  refine congrArg (fun x : ℝ => _ + (x : EReal)) ?_
  unfold gqx
  rw [sum_hd, Fin.sum_univ_two, Fin.sum_univ_two, Fin.sum_univ_two, Fin.sum_univ_two]
  ring

theorem gk_acc (e : Fin 2) (d : Fin 64) (n : ℕ) (z : n < cfg0.N) : (outsAt0 m c n z).2.2.2.2.2.2.2 (ix2 1 ⟨64 * e + d, by omega⟩) =
    ((∑ s ∈ Finset.range (n + 1), gkx XC XP XD PP qg s e d : ℝ) : EReal) := by
  refine acc_sum (fun t => (outsAt0 m c t.val t.isLt).2.2.2.2.2.2.2 (ix2 1 ⟨64 * e + d, by omega⟩)) (fun t => oldG m c t (ix2 1 ⟨64 * e + d, by omega⟩)) _ (fun t => ?_)
    (fun z => oldG_zero m c z 1 _) (fun n z => congrFun (if_neg (not0 z)) _) n z
  have k : ∀ j : Fin 2, pGK m c t j (ix2 0 ⟨64 * e + d, by omega⟩) = _ := fun j =>
    (congrFun (GK_L (B t) j) (ix2 0 ⟨64 * e + d, by omega⟩)).trans (L_at _ 0 e d _ rfl)
  refine (gk_row m c t _).trans ?_
  unfold row1
  rw [gadd_at, gadd_at, sl8x_at, k, k, add_assoc, ← EReal.coe_add]
  refine congrArg (fun x : ℝ => _ + (x : EReal)) ?_
  unfold gkx
  rw [Fin.sum_univ_two]

/-- A point's gradient of the queries of head `H`. -/
theorem dq_at (t : Fin cfg0.N) (s : Fin 128) (H : Fin 16) (d : Fin 64) : (outsAt0 m c t.val t.isLt).1 (ix2 s ⟨64 * H + d, by omega⟩) =
    ((dqx (XC t) (XP t) (XD t) (PP t) qg kg ⟨H / 4, by omega⟩ ⟨128 * (H % 4) + s, by omega⟩ d : ℝ) : EReal) := by
  have hq : (⟨64 * (H : ℕ) + d, by omega⟩ : Fin 1536) = ⟨128 * ((⟨H / 2, by omega⟩ : Fin 8) : ℕ) + ((⟨64 * (H % 2) + d, by omega⟩ : Fin 128) : ℕ), by show 128 * ((H : ℕ) / 2) + (64 * (H % 2) + d) < 1536; omega⟩ :=
    Fin.ext (by show 64 * (H : ℕ) + d = 128 * (H / 2) + (64 * (H % 2) + d); omega)
  rw [hq]
  refine (dq_pt m c t s _ _).trans ?_
  refine (congrFun (DQ_L (B t) _ _ _) _).trans ((L_at _ s ⟨H % 2, by omega⟩ d _ rfl).trans ?_)
  unfold pair
  refine congrArg _ ?_
  have e1 : hd ⟨(H : ℕ) / 2 / 4, by omega⟩ ⟨H / 2 / 2 % 2, by omega⟩ = ⟨H / 4, by omega⟩ := Fin.ext (by show 2 * ((H : ℕ) / 2 / 4) + H / 2 / 2 % 2 = H / 4; omega)
  have e2 : (⟨256 * ((H : ℕ) / 2 % 2) + (128 * (H % 2) + s), by omega⟩ : Fin 512) = ⟨128 * (H % 4) + s, by omega⟩ := Fin.ext (by show 256 * ((H : ℕ) / 2 % 2) + (128 * (H % 2) + s) = 128 * (H % 4) + s; omega)
  exact congrArg₂ (fun h R => dqx (XC t) (XP t) (XD t) (PP t) qg kg h R d) e1 e2

/-- The gradients of the keys of four heads, then of the values. -/
def kvx (s : ℕ) (H : Fin 8) (i : Fin 256) (d : Fin 64) : ℝ :=
  if h : (H : ℕ) < 4 then dkx (XC s) (XP s) (XD s) (PP s) qg kg ⟨H, h⟩ i d else dvx (XD s) (PP s) ⟨H - 4, by omega⟩ i d

theorem pKV_at (t : Fin cfg0.N) (i : Fin 256) (H : Fin 8) (d : Fin 64) : pKV m c t ⟨H / 2, by omega⟩ (ix2 i ⟨64 * (H % 2) + d, by omega⟩) = ((kvx XC XP XD PP qg kg t H i d : ℝ) : EReal) := by
  have k := fun j => congrFun (DK_L (B t) j) (ix2 i ⟨64 * (H % 2) + d, by omega⟩)
  have v := fun j => congrFun (DV_L (B t) j) (ix2 i ⟨64 * (H % 2) + d, by omega⟩)
  unfold kvx
  fin_cases H
  · exact (k 0).trans (L_at _ i 0 d _ rfl)
  · exact (k 0).trans (L_at _ i 1 d _ rfl)
  · exact (k 1).trans (L_at _ i 0 d _ rfl)
  · exact (k 1).trans (L_at _ i 1 d _ rfl)
  · exact (v 0).trans (L_at _ i 0 d _ rfl)
  · exact (v 0).trans (L_at _ i 1 d _ rfl)
  · exact (v 1).trans (L_at _ i 0 d _ rfl)
  · exact (v 1).trans (L_at _ i 1 d _ rfl)

theorem dkv_at (t : Fin cfg0.N) (s : Fin 128) (H : Fin 8) (d : Fin 64) : (outsAt0 m c t.val t.isLt).1 (ix2 s ⟨1024 + (64 * H + d), by omega⟩) =
    ((kvx XC XP XD PP qg kg t H ⟨128 + s, by omega⟩ d + (if t.val = 0 then 0 else kvx XC XP XD PP qg kg (t.val - 1) H ⟨s, by omega⟩ d) : ℝ) : EReal) := by
  have hq : (⟨1024 + (64 * (H : ℕ) + d), by omega⟩ : Fin 1536) = ⟨1024 + (128 * ((⟨H / 2, by omega⟩ : Fin 4) : ℕ) + ((⟨64 * (H % 2) + d, by omega⟩ : Fin 128) : ℕ)), by show 1024 + (128 * ((H : ℕ) / 2) + (64 * (H % 2) + d)) < 1536; omega⟩ :=
    Fin.ext (by show 1024 + (64 * (H : ℕ) + d) = 1024 + (128 * (H / 2) + (64 * (H % 2) + d)); omega)
  rw [hq, EReal.coe_add]
  refine (dkv_pt m c t s _ _).trans (congrArg₂ (· + ·) (pKV_at m c XC XP XD PP PS qg kg B t _ H d) ?_)
  have hN : cfg0.N = 32 := N_0
  have ht := t.isLt
  split
  · rename_i z; exact oldC_zero m c t z _ _
  · rename_i z
    have e : oldC m c t = (outsAt0 m c (t.val - 1) (by omega)).2.2.2.2.2.1 := if_neg (by omega)
    rw [e]
    refine (carry_pt m c ⟨t.val - 1, by omega⟩ s _ _).trans ?_
    refine (congrArg (fun i => pKV m c ⟨t.val - 1, by omega⟩ ⟨H / 2, by omega⟩ (ix2 i ⟨64 * (H % 2) + d, by omega⟩)) (Fin.ext ?_)).trans (pKV_at m c XC XP XD PP PS qg kg B ⟨t.val - 1, by omega⟩ ⟨s, by omega⟩ H d)
    exact Nat.zero_add _

end

end Cert.Kernel2Ideal.Attn

end
-- ==== Proof.AttnHost.lean ====
/- The attention gradient's operands, as the host operations before the call leave them. -/
module

public import proofs.«01_k».proof.Proof.AttnAcc
public import proofs.«01_k».proof.Proof.Gen.Kernel2Ideal.Value
public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

variable (σ : Valuation τ sig (Elt Ideal))

set_option maxHeartbeats 4000000

theorem e43 : StableHlo.after hostOps0 σ (Proc.devRef .tc main_v43) = Cert.Reference2Ideal.Read.val_main_v58 (F := Ideal) (σ (Proc.devRef .tc main_arg0)) (σ (Proc.devRef .tc main_arg1)) (σ (Proc.devRef .tc main_arg2)) (σ (Proc.devRef .tc main_arg4)) := by
  entry_read
  rfl

theorem e62 : StableHlo.after hostOps0_1 (StableHlo.after hostOps0 σ) (Proc.devRef .tc main_v62) = Cert.Reference2Ideal.Read.val_main_v77_0 (F := Ideal) (σ (Proc.devRef .tc main_arg0)) (σ (Proc.devRef .tc main_arg1)) (σ (Proc.devRef .tc main_arg2)) (σ (Proc.devRef .tc main_arg4)) := by
  have e61 : StableHlo.after hostOps0 σ (Proc.devRef .tc main_v61) = Cert.Reference2Ideal.Read.val_main_v76 (F := Ideal) := by
    entry_read
    rfl
  have ec : StableHlo.after hostOps0 σ (Proc.devRef .tc main_cst_11) = (constant S_ .f32 0xFF800000#32 : FVec Ideal S_ .f32) := by
    entry_read
    rfl
  have h43 := e43 σ
  generalize StableHlo.after hostOps0 σ = ρ at *
  entry_read
  rw [h43, e61, ec]
  rfl

section
variable (x0 : S4096x1536.Idx → EReal) (x1 x2 : S64.Idx → EReal) (x3 : S16.Idx → EReal) (x4 : S4x4x128x256.Idx → EReal)

theorem e81 (ρ : Valuation τ sig (Elt Ideal)) (h62 : ρ (Proc.devRef .tc main_v62) = Cert.Reference2Ideal.Read.val_main_v77_0 (F := Ideal) x0 x1 x2 x4) (h3 : ρ (Proc.devRef .tc main_arg3) = x3) :
    StableHlo.after hostOps0_2 ρ (Proc.devRef .tc main_v81) = truncf (F := Ideal) .bf16 (shapeCast S32x4x512x256 (Cert.Reference2Ideal.Read.val_main_v116 (F := Ideal) x0 x1 x2 x3 x4) shapeCasts_S32x4x4x128x256_S32x4x512x256) bitsLt_bf16_f32 := by
  entry_read
  rw [h62, h3]
  rfl
theorem e84 (ρ : Valuation τ sig (Elt Ideal)) (h62 : ρ (Proc.devRef .tc main_v62) = Cert.Reference2Ideal.Read.val_main_v77_0 (F := Ideal) x0 x1 x2 x4) (h3 : ρ (Proc.devRef .tc main_arg3) = x3) :
    StableHlo.after hostOps0_2 ρ (Proc.devRef .tc main_v84) = shapeCast S4096x16 (transpose S32x128x16 [0, 2, 1] (shapeCast S32x16x128 (Cert.Reference2Ideal.Read.val_main_v120 (F := Ideal) x0 x1 x2 x3 x4) shapeCasts_S32x4x4x128x1_S32x16x128) transposes_S32x16x128_S32x128x16_0_2_1) shapeCasts_S32x128x16_S4096x16 := by
  entry_read
  rw [h62, h3]
  rfl
end
section
variable (m : (ℓ : Loc nD τ sig) → Buf (Elt Ideal) ℓ) (c : Dev nD)

/-- The operations before the call, one segment after the other. -/
theorem V_eq b : Gen.V m c b = StableHlo.after hostOps0_4 (StableHlo.after hostOps0_3 (StableHlo.after hostOps0_2 (StableHlo.after hostOps0_1 (StableHlo.after hostOps0 fun b => m (c, b))))) (Proc.devRef .tc b) := by
  show StableHlo.after (hostOps0 ++ (hostOps0_1 ++ (hostOps0_2 ++ (hostOps0_3 ++ (hostOps0_4 ++ []))))) _ _ = _
  rw [List.append_nil, after_app, after_app, after_app, after_app]

theorem V81 : Gen.V m c main_v81 = truncf (F := Ideal) .bf16 (shapeCast S32x4x512x256 (Cert.Reference2Ideal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S32x4x4x128x256_S32x4x512x256) bitsLt_bf16_f32 := by
  rw [V_eq, ← e81 _ _ _ _ _ _ (e62 fun b => m (c, b)) (by entry_read; rfl)]
  generalize StableHlo.after (hostOps0_2 (F := Ideal)) _ = ρ
  entry_read
  rfl

theorem V85 : Gen.V m c main_v85 = pad S4096x128 ![0, 0] ![0, 112] ![0, 0] (shapeCast S4096x16 (transpose S32x128x16 [0, 2, 1] (shapeCast S32x16x128 (Cert.Reference2Ideal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S32x4x4x128x1_S32x16x128) transposes_S32x16x128_S32x128x16_0_2_1) shapeCasts_S32x128x16_S4096x16) (sitofp (F := Ideal) .f32 (constantI S_ 32 0#32)) pads_S4096x16_S4096x128_000_01120 h_S_ := by
  rw [V_eq, ← e84 _ _ _ _ _ _ (e62 fun b => m (c, b)) (by entry_read; rfl)]
  have e14 (ρ : Valuation τ sig (Elt Ideal)) : StableHlo.after hostOps0_2 ρ (Proc.devRef .tc main_c_14) = (constantI S_ 32 0#32 : S_.Idx → BitVec 32) := by
    entry_read
    rfl
  rw [← e14 (StableHlo.after hostOps0_1 (StableHlo.after hostOps0 fun b => m (c, b)))]
  generalize StableHlo.after (hostOps0_2 (F := Ideal)) _ = ρ
  entry_read
  rfl

theorem V89 : Gen.V m c main_v89 = shapeCast S1x128 (broadcastInDim S1x1x2x64 ![0, 1, 2, 3] bcast_S1x1x1x64_S1x1x2x64_0_1_2_3 (shapeCast S1x1x1x64 (shapeCast S1x64 (m ((c : Thread nD τ).loc main_arg1)) shapeCasts_S64_S1x64) shapeCasts_S1x64_S1x1x1x64)) shapeCasts_S1x1x2x64_S1x128 := by
  rw [V_eq]
  entry_read
  rfl
theorem V93 : Gen.V m c main_v93 = shapeCast S1x128 (broadcastInDim S1x1x2x64 ![0, 1, 2, 3] bcast_S1x1x1x64_S1x1x2x64_0_1_2_3 (shapeCast S1x1x1x64 (shapeCast S1x64 (m ((c : Thread nD τ).loc main_arg2)) shapeCasts_S64_S1x64) shapeCasts_S1x64_S1x1x1x64)) shapeCasts_S1x1x2x64_S1x128 := by
  rw [V_eq]
  entry_read
  rfl
theorem V94 : Gen.V m c main_v94 = truncf (F := Ideal) .bf16 (m ((c : Thread nD τ).loc main_arg0) : FVec Ideal S4096x1536 .f32) bitsLt_bf16_f32 := by
  rw [V_eq]
  entry_read
  rfl
theorem V95 : Gen.V m c main_v95 = truncf (F := Ideal) .bf16 (m ((c : Thread nD τ).loc main_arg5) : FVec Ideal S4096x1024 .f32) bitsLt_bf16_f32 := by
  rw [V_eq]
  entry_read
  rfl
end

end Cert.Kernel2Ideal.Attn

end
-- ==== Proof.AttnBlk.lean ====
/- The attention gradient's blocks at each grid point. -/
module

public import proofs.«01_k».proof.Proof.AttnAcc
public import proofs.«01_k».proof.Proof.AttnHost
public import proofs.«01_k».proof.Proof.Gen.Kernel2Ideal.Value
public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Attn Cert.Reals

theorem idx : ∀ t : Fin cfg0.N, win0_0.index t = ![31 - t.val, 0] ∧ win0_1.index t = ![31 - t.val - 1, 2] ∧ win0_2.index t = ![31 - t.val, 0]
    ∧ win0_3.index t = ![31 - t.val, 0, 0, 0] ∧ win0_4.index t = ![31 - t.val, 0] ∧ win0_5.index t = ![0, 0] ∧ win0_6.index t = ![0, 0]
    ∧ win0_7.index t = ![31 - t.val, 0] ∧ win0_8.index t = ![0, 0, 0] ∧ win0_9.index t = ![0, 0] ∧ win0_10.index t = ![0, 0] ∧ win0_11.index t = ![0, 0] :=
  (by decide +kernel : ∀ t : Fin grid0.N, _)

/-- The arguments hold these reals, and the probabilities computed of them these. -/
structure Vals (x0 : FVec Ideal S4096x1536 .f32) (x1 x2 : FVec Ideal S64 .f32) (x3 : FVec Ideal S16 .f32) (x4 : FVec Ideal S4x4x128x256 .f32)
    (x5 : FVec Ideal S4096x1024 .f32) (q : Fin 4096 → Fin 1536 → ℝ) (qg kg : Fin 64 → ℝ) (xd : Fin 4096 → Fin 1024 → ℝ)
    (P : Fin 32 → Fin 4 → Fin 4 → Fin 128 → Fin 256 → ℝ) (PS : Fin 32 → Fin 4 → Fin 4 → Fin 128 → ℝ) : Prop where
  h0 : ∀ r c, x0 (ix2 r c) = ((q r c : ℝ) : EReal)
  h1 : ∀ d, x1 (ix1 d) = ((qg d : ℝ) : EReal)
  h2 : ∀ d, x2 (ix1 d) = ((kg d : ℝ) : EReal)
  h5 : ∀ r c, x5 (ix2 r c) = ((xd r c : ℝ) : EReal)
  hP : ∀ n h g s i, Cert.Reference2Ideal.Read.val_main_v116 (F := Ideal) x0 x1 x2 x3 x4 (ix5 n h g s i) = ((P n h g s i : ℝ) : EReal)
  hS : ∀ n h g s, Cert.Reference2Ideal.Read.val_main_v120 (F := Ideal) x0 x1 x2 x3 x4 (ix5 n h g s 0) = ((PS n h g s : ℝ) : EReal)

/-! The reals of grid point `t`, which works on block `31 - t` of 128 rows. -/

def XC (q : Fin 4096 → Fin 1536 → ℝ) (t : ℕ) (s : Fin 128) (c : Fin 1536) : ℝ := q ⟨128 * (31 - t) + s, by omega⟩ c
def XP (q : Fin 4096 → Fin 1536 → ℝ) (t : ℕ) (s : Fin 128) (c : Fin 512) : ℝ := q ⟨128 * (31 - t - 1) + s, by omega⟩ ⟨1024 + c, by omega⟩
def XD (xd : Fin 4096 → Fin 1024 → ℝ) (t : ℕ) (s : Fin 128) (c : Fin 1024) : ℝ := xd ⟨128 * (31 - t) + s, by omega⟩ c
def PP (P : Fin 32 → Fin 4 → Fin 4 → Fin 128 → Fin 256 → ℝ) (t : ℕ) (h : Fin 4) (R : Fin 512) (i : Fin 256) : ℝ :=
  P ⟨31 - t, by omega⟩ h ⟨R / 128, by omega⟩ ⟨R % 128, by omega⟩ i
def PZ (PS : Fin 32 → Fin 4 → Fin 4 → Fin 128 → ℝ) (t : ℕ) (s : Fin 128) (l : Fin 16) : ℝ :=
  PS ⟨31 - t, by omega⟩ ⟨l / 4, by omega⟩ ⟨l % 4, by omega⟩ s

section
variable (m : (ℓ : Loc nD τ sig) → Buf (Elt Ideal) ℓ) (c : Dev nD) {q : Fin 4096 → Fin 1536 → ℝ} {qg kg : Fin 64 → ℝ} {xd : Fin 4096 → Fin 1024 → ℝ}
  {P : Fin 32 → Fin 4 → Fin 4 → Fin 128 → Fin 256 → ℝ} {PS : Fin 32 → Fin 4 → Fin 4 → Fin 128 → ℝ}
  (H : Vals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q qg kg xd P PS)
include H

theorem b0 (t : Fin cfg0.N) (s : Fin 128) (k : Fin 1536) : (iblk m c 0 t : FVec Ideal S128x1536 .bf16) (ix2 s k) = ((XC q t s k : ℝ) : EReal) := by
  rw [XC, ← H.h0]
  blk_simp [iblk]
  rw [V94]
  pointwise
  blk_ext [idx t]

theorem b1 (t : Fin cfg0.N) (s : Fin 128) (k : Fin 512) : (iblk m c 1 t : FVec Ideal S128x512 .bf16) (ix2 s k) = ((XP q t s k : ℝ) : EReal) := by
  rw [XP, ← H.h0]
  blk_simp [iblk]
  rw [V94]
  pointwise
  blk_ext [idx t]

theorem b2 (t : Fin cfg0.N) (s : Fin 128) (k : Fin 1024) : (iblk m c 2 t : FVec Ideal S128x1024 .bf16) (ix2 s k) = ((XD xd t s k : ℝ) : EReal) := by
  rw [XD, ← H.h5]
  blk_simp [iblk]
  rw [V95]
  pointwise
  blk_ext [idx t]

set_option maxHeartbeats 1000000 in
theorem b3 (t : Fin cfg0.N) (h : Fin 4) (R : Fin 512) (i : Fin 256) : (iblk m c 3 t : FVec Ideal S1x4x512x256 .bf16) (ix4 0 h R i) = ((PP P t h R i : ℝ) : EReal) := by
  rw [PP, ← H.hP]
  have he : ((View.whole main_v81).slice (win0_3.rect t)).emb (ix4 0 h R i : S1x4x512x256.Idx) = (ix4 ⟨31 - t, by omega⟩ h R i : S32x4x512x256.Idx) := by
    funext a
    refine Fin.ext ?_
    fin_cases a <;> blk_simp [idx t]
    all_goals rfl
  blk_simp [iblk]
  rw [V81, he]
  generalize Cert.Reference2Ideal.Read.val_main_v116 (F := Ideal) _ _ _ _ _ = Z
  pointwise

set_option maxHeartbeats 1000000 in
theorem b4 (t : Fin cfg0.N) (s : Fin 128) (l : Fin 16) : (iblk m c 4 t : FVec Ideal S128x128 .f32) (ix2 s ⟨l, by omega⟩) = ((PZ PS t s l : ℝ) : EReal) := by
  rw [PZ, ← H.hS]
  have he : ((View.whole main_v85).slice (win0_4.rect t)).emb (ix2 s ⟨l, by omega⟩ : S128x128.Idx) = (ix2 ⟨128 * (31 - t) + s, by omega⟩ ⟨l, by omega⟩ : S4096x128.Idx) := by
    funext a
    refine Fin.ext ?_
    fin_cases a <;> blk_simp [idx t]
    · show (31 - (t : ℕ)) * 128 + (s : ℕ) = 128 * (31 - t) + s
      omega
    · rfl
  blk_simp [iblk]
  rw [V85, he]
  generalize Cert.Reference2Ideal.Read.val_main_v120 (F := Ideal) _ _ _ _ _ = Z
  pointwise
  have ht : (128 * (31 - (t : ℕ)) + (s : ℕ)) / 128 = 31 - t := by omega
  rw [dif_pos (show 128 * (31 - (t : ℕ)) + (s : ℕ) < 4096 by omega)]
  exact congrArg (fun n => Z (ix5 n _ _ s 0)) (Fin.ext ht)

theorem b5 (t : Fin cfg0.N) : (iblk m c 5 t : FVec Ideal S1x128 .f32) = (L fun _ _ d => qg d : FVec Ideal S1x128 .f32) := by
  funext x
  obtain ⟨a, l, rfl⟩ : ∃ (a : Fin 1) (l : Fin 128), x = ix2 a l := ⟨x 0, x 1, eq_ix2 (n0 := 1) (n1 := 128) x⟩
  obtain rfl := Subsingleton.elim a 0
  refine Eq.trans ?_ (H.h1 ⟨l % 64, by omega⟩)
  blk_simp [iblk]
  rw [V89]
  pointwise
  blk_ext [idx t]

theorem b6 (t : Fin cfg0.N) : (iblk m c 6 t : FVec Ideal S1x128 .f32) = (L fun _ _ d => kg d : FVec Ideal S1x128 .f32) := by
  funext x
  obtain ⟨a, l, rfl⟩ : ∃ (a : Fin 1) (l : Fin 128), x = ix2 a l := ⟨x 0, x 1, eq_ix2 (n0 := 1) (n1 := 128) x⟩
  obtain rfl := Subsingleton.elim a 0
  refine Eq.trans ?_ (H.h2 ⟨l % 64, by omega⟩)
  blk_simp [iblk]
  rw [V93]
  pointwise
  blk_ext [idx t]

theorem blocks (t : Fin cfg0.N) : Blocks (iblk m c 0 t) (iblk m c 1 t) (iblk m c 2 t) (iblk m c 3 t) (iblk m c 4 t) (iblk m c 5 t) (iblk m c 6 t)
    (XC q t) (XP q t) (XD xd t) (PP P t) (PZ PS t) qg kg :=
  ⟨b0 m c H t, b1 m c H t, b2 m c H t, b3 m c H t, b4 m c H t, b5 m c H t, b6 m c H t⟩
end

end Cert.Kernel2Ideal.Attn

end
-- ==== Proof.AttnSum.lean ====
/- The sums of the reference's results as the kernel takes them, over reals. -/
module

public import proofs.«01_k».proof.Proof.AttnRefC
public import proofs.«01_k».proof.Proof.AttnAcc
public import proofs.«01_k».proof.Proof.AttnBlk

public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnRef

open Cert.Reference2Ideal Cert.Reference2Ideal.Gen Cert.Reference2Ideal.Read Cert.Attn Cert.Reals Cert.Kernel2Ideal.Attn

variable {q : Fin 4096 → Fin 1536 → ℝ} {qg kg : Fin 64 → ℝ} {xd : Fin 4096 → Fin 1024 → ℝ} {P : Fin 32 → Fin 4 → Fin 4 → Fin 128 → Fin 256 → ℝ}
  {PS : Fin 32 → Fin 4 → Fin 4 → Fin 128 → ℝ}

/-- The points walk the blocks from the last. -/
theorem sum_rev (F : Fin 32 → ℝ) : ∑ t ∈ Finset.range (31 + 1), F ⟨31 - t, by omega⟩ = ∑ n, F n := by
  rw [Finset.sum_range, ← Equiv.sum_comp Fin.revPerm]
  exact Finset.sum_congr rfl fun t _ => congrArg F (Fin.ext (by simp [Fin.rev]; omega))

/-- Row `s` of block `n`. -/
def row (n : Fin 32) (s : Fin 128) : Fin 4096 := ⟨n * 128 + s, by omega⟩

theorem row_n (n : Fin 32) (s : Fin 128) : (⟨(row n s : ℕ) / 128, by omega⟩ : Fin 32) = n := by
  refine Fin.ext ?_
  show ((n : ℕ) * 128 + s) / 128 = n
  omega

theorem row_s (n : Fin 32) (s : Fin 128) : (⟨(row n s : ℕ) % 128, by omega⟩ : Fin 128) = s := by
  refine Fin.ext ?_
  show ((n : ℕ) * 128 + s) % 128 = s
  omega

theorem row_q (n : Fin 32) (s : Fin 128) (h g : Fin 4) : rq q (row n s) ⟨h * 4 + g, by omega⟩ = bq q n h (st g s) := by
  rw [bq_eq]
  refine congrArg₂ (rq q) (Fin.ext ?_) (Fin.ext ?_)
  · show (n : ℕ) * 128 + s = n * 128 + (g * 128 + s) % 128
    omega
  · show (h : ℕ) * 4 + g = h * 4 + (g * 128 + s) / 128
    omega

theorem row_k (n : Fin 32) (s : Fin 128) (h : Fin 4) : rk q (row n s) h = bk q n h ⟨128 + s, by omega⟩ := by
  rw [bk_hi q n h ⟨128 + s, by omega⟩ (by show ¬128 + (s : ℕ) < 128; omega)]
  refine congrArg (rk q · h) (Fin.ext ?_)
  show (n : ℕ) * 128 + s = n * 128 + (128 + s - 128)
  omega

theorem row_k' (n : Fin 32) (s : Fin 128) (h : Fin 4) (c : (n : ℕ) < 31) : rk q (row n s) h = bk q ⟨1 + n, by omega⟩ h ⟨s, by omega⟩ := by
  rw [bk_lo q ⟨1 + n, by omega⟩ h ⟨s, by omega⟩ s.isLt]
  refine congrArg (rk q · h) (Fin.ext ?_)
  show (n : ℕ) * 128 + s = (1 + n - 1) * 128 + s
  omega

theorem fold_row (f : Fin 32 → Fin 4 → Fin 256 → Fin 64 → ℝ) (n : Fin 32) (s : Fin 128) (h : Fin 4) (d : Fin 64) :
    fold f (row n s) h d = f n h ⟨128 + s, by omega⟩ d + if c : (n : ℕ) < 31 then f ⟨1 + n, by omega⟩ h ⟨s, by omega⟩ d else 0 := by
  have a := row_n n s
  have b := row_s n s
  have a' := congrArg Fin.val a
  have b' := congrArg Fin.val b
  dsimp only at a' b'
  unfold fold
  simp only [a', b']

/-- A raw query's gradient, as the kernel has it. -/
theorem dq_row (n : Fin 32) (s : Fin 128) (h g : Fin 4) (d : Fin 64) :
    bwR qg (gq q xd kg P n h (st g s)) (unit (rq q (row n s) ⟨h * 4 + g, by omega⟩)) (fun _ => rinv (rq q (row n s) ⟨h * 4 + g, by omega⟩)) d =
    dqx (Xc q n) (Xp q n) (Xd xd n) (Pn P n) qg kg h (st g s) d := by
  rw [row_q]
  rfl

theorem bwR_add (g a b x r : Fin 64 → ℝ) (d : Fin 64) : bwR g (fun d => a d + b d) x r d = bwR g a x r d + bwR g b x r d := by
  unfold bwR
  simp only [add_mul, Finset.sum_add_distrib]
  ring

theorem bwR_zero (g x r : Fin 64 → ℝ) (d : Fin 64) : bwR g (fun _ => 0) x r d = 0 := by
  simp [bwR]

/-- A raw key's gradient, as the kernel has it. -/
theorem dk_row (n : Fin 32) (s : Fin 128) (h : Fin 4) (d : Fin 64) :
    bwR kg (fold (gk q xd qg P) (row n s) h) (unit (rk q (row n s) h)) (fun _ => rinv (rk q (row n s) h)) d =
    fold (fun n => dkx (Xc q n) (Xp q n) (Xd xd n) (Pn P n) qg kg) (row n s) h d := by
  have e : fold (gk q xd qg P) (row n s) h = fun d => gk q xd qg P n h ⟨128 + s, by omega⟩ d + if c : (n : ℕ) < 31 then gk q xd qg P ⟨1 + n, by omega⟩ h ⟨s, by omega⟩ d else 0 :=
    funext fun d => fold_row _ n s h d
  rw [e, fold_row, bwR_add]
  refine congrArg₂ (· + ·) ?_ ?_
  · rw [row_k]
    rfl
  · by_cases c : (n : ℕ) < 31
    · simp only [dif_pos c]
      rw [row_k' n s h c]
      rfl
    · simp only [dif_neg c]
      exact bwR_zero _ _ _ _

theorem sum_row (f : Fin 4096 → ℝ) : ∑ r, f r = ∑ n, ∑ s, f (row n s) := by
  exact Fin.sum_univ_tiles 32 128 rfl f

theorem sum_heads (f : Fin 16 → ℝ) : ∑ H, f H = ∑ h : Fin 4, ∑ g : Fin 4, f ⟨h * 4 + g, by omega⟩ := by
  exact Fin.sum_univ_tiles 4 4 rfl f

theorem sum_band (f : Fin 256 → ℝ) : ∑ i, f i = ∑ s : Fin 128, f ⟨s, by omega⟩ + ∑ s : Fin 128, f ⟨128 + s, by omega⟩ := by
  rw [Fin.sum_univ_tiles 2 128 rfl, Fin.sum_univ_two]
  refine congrArg₂ (· + ·) (Finset.sum_congr rfl fun s _ => congrArg f (Fin.ext ?_)) (Finset.sum_congr rfl fun s _ => congrArg f (Fin.ext ?_))
  · show 0 * 128 + (s : ℕ) = s
    omega
  · show 1 * 128 + (s : ℕ) = 128 + s
    omega

theorem head_h (h g : Fin 4) : (⟨((⟨h * 4 + g, by omega⟩ : Fin 16) : ℕ) / 4, by omega⟩ : Fin 4) = h := by
  refine Fin.ext ?_
  show ((h : ℕ) * 4 + g) / 4 = h
  omega

theorem head_g (h g : Fin 4) : (⟨((⟨h * 4 + g, by omega⟩ : Fin 16) : ℕ) % 4, by omega⟩ : Fin 4) = g := by
  refine Fin.ext ?_
  show ((h : ℕ) * 4 + g) % 4 = g
  omega

theorem pair_st (b e : Fin 2) (F : Fin 512 → Fin 64 → ℝ) (s : Fin 128) (d : Fin 64) : pair b F s e d = F (st ⟨2 * b + e, by omega⟩ s) d := by
  unfold pair
  refine congrArg (F · d) (Fin.ext ?_)
  show 256 * (b : ℕ) + (128 * e + s) = (2 * b + e) * 128 + s
  omega

/-- The gain of the queries: the reference's rows and heads, the kernel's blocks, groups and stacked queries. -/
theorem qg_rows (d : Fin 64) :
    ∑ r : Fin 4096, ∑ H : Fin 16, unit (rq q r H) d * gq q xd kg P ⟨r / 128, by omega⟩ ⟨H / 4, by omega⟩ (st ⟨H % 4, by omega⟩ ⟨r % 128, by omega⟩) d =
    ∑ n, ∑ h, ∑ R, gq q xd kg P n h R d * unit (bq q n h R) d := by
  rw [sum_row]
  refine Finset.sum_congr rfl fun n _ => ?_
  rw [Finset.sum_congr rfl fun s _ => sum_heads _, Finset.sum_comm]
  refine Finset.sum_congr rfl fun h _ => ?_
  rw [Finset.sum_comm, sum_st]
  refine Finset.sum_congr rfl fun g _ => Finset.sum_congr rfl fun s _ => ?_
  rw [row_q, row_n, row_s, head_h, head_g, mul_comm]

theorem gqx_two (n : Fin 32) (t : ℕ) (ht : n = ⟨31 - t, by omega⟩) (d : Fin 64) : ∑ h, ∑ R, gq q xd kg P n h R d * unit (bq q n h R) d =
    gqx (XC q) (XP q) (XD xd) (PP P) kg t 0 d + gqx (XC q) (XP q) (XD xd) (PP P) kg t 1 d := by
  subst ht
  unfold gqx
  rw [← Finset.sum_add_distrib]
  refine Finset.sum_congr rfl fun h _ => ?_
  simp only [pair_st]
  rw [sum_st, Fin.sum_univ_four, Fin.sum_univ_two, Fin.sum_univ_two, add_add_add_comm, ← add_assoc]
  rfl

theorem qg_sum (d : Fin 64) :
    ∑ r : Fin 4096, ∑ H : Fin 16, unit (rq q r H) d * gq q xd kg P ⟨r / 128, by omega⟩ ⟨H / 4, by omega⟩ (st ⟨H % 4, by omega⟩ ⟨r % 128, by omega⟩) d =
    ∑ t ∈ Finset.range (31 + 1), (gqx (XC q) (XP q) (XD xd) (PP P) kg t 0 d + gqx (XC q) (XP q) (XD xd) (PP P) kg t 1 d) := by
  rw [qg_rows, ← sum_rev fun n => ∑ h, ∑ R, gq q xd kg P n h R d * unit (bq q n h R) d]
  exact Finset.sum_congr rfl fun t _ => gqx_two _ t rfl d

theorem kg_rows (off : ∀ (h : Fin 4) (s : Fin 128) (d : Fin 64), gk q xd qg P 0 h ⟨s, by omega⟩ d = 0) (d : Fin 64) :
    ∑ r : Fin 4096, ∑ h : Fin 4, unit (rk q r h) d * fold (gk q xd qg P) r h d = ∑ n, ∑ h, ∑ i, gk q xd qg P n h i d * unit (bk q n h i) d := by
  rw [sum_row]
  have e : ∀ (n : Fin 32) (s : Fin 128) (h : Fin 4), unit (rk q (row n s) h) d * fold (gk q xd qg P) (row n s) h d =
      gk q xd qg P n h ⟨128 + s, by omega⟩ d * unit (bk q n h ⟨128 + s, by omega⟩) d +
      if c : (n : ℕ) < 31 then gk q xd qg P ⟨1 + n, by omega⟩ h ⟨s, by omega⟩ d * unit (bk q ⟨1 + n, by omega⟩ h ⟨s, by omega⟩) d else 0 := fun n s h => by
    rw [fold_row, mul_add, mul_comm, row_k]
    refine congrArg _ ?_
    by_cases c : (n : ℕ) < 31
    · rw [dif_pos c, dif_pos c, ← row_k, row_k' n s h c, mul_comm]
    · rw [dif_neg c, dif_neg c, mul_zero]
  simp only [e, sum_band, Finset.sum_add_distrib]
  rw [add_comm]
  refine congrArg₂ (· + ·) ?_ (Finset.sum_congr rfl fun n _ => Finset.sum_comm)
  rw [Fin.sum_univ_castSucc (n := 31), Fin.sum_univ_succ (n := 31)]
  have z : ∀ s : Fin 128, ∀ h, gk q xd qg P 0 h ⟨s, by omega⟩ d * unit (bk q 0 h ⟨s, by omega⟩) d = 0 := fun s h => by rw [off, zero_mul]
  simp only [z, Finset.sum_const_zero, zero_add]
  have w : ¬((Fin.last 31 : Fin 32) : ℕ) < 31 := by simp
  simp only [dif_neg w, Finset.sum_const_zero, add_zero]
  refine Finset.sum_congr rfl fun n _ => ?_
  rw [Finset.sum_comm]
  refine Finset.sum_congr rfl fun h _ => Finset.sum_congr rfl fun s _ => ?_
  have c : ((Fin.castSucc n : Fin 32) : ℕ) < 31 := n.isLt
  rw [dif_pos c]
  have k : (⟨1 + ((Fin.castSucc n : Fin 32) : ℕ), by omega⟩ : Fin 32) = n.succ := Fin.ext (by simp; omega)
  rw [k]

theorem gkx_two (n : Fin 32) (t : ℕ) (ht : n = ⟨31 - t, by omega⟩) (d : Fin 64) : ∑ h, ∑ i, gk q xd qg P n h i d * unit (bk q n h i) d =
    gkx (XC q) (XP q) (XD xd) (PP P) qg t 0 d + gkx (XC q) (XP q) (XD xd) (PP P) qg t 1 d := by
  subst ht
  unfold gkx
  rw [sum_hd, Fin.sum_univ_two, Fin.sum_univ_two, add_add_add_comm, ← add_assoc]
  rfl

theorem kg_sum (off : ∀ (h : Fin 4) (s : Fin 128) (d : Fin 64), gk q xd qg P 0 h ⟨s, by omega⟩ d = 0) (d : Fin 64) :
    ∑ r : Fin 4096, ∑ h : Fin 4, unit (rk q r h) d * fold (gk q xd qg P) r h d =
    ∑ t ∈ Finset.range (31 + 1), (gkx (XC q) (XP q) (XD xd) (PP P) qg t 0 d + gkx (XC q) (XP q) (XD xd) (PP P) qg t 1 d) := by
  rw [kg_rows off, ← sum_rev fun n => ∑ h, ∑ i, gk q xd qg P n h i d * unit (bk q n h i) d]
  exact Finset.sum_congr rfl fun t _ => gkx_two _ t rfl d

/-- The gradient of the scores' bias. -/
theorem bias_sum (h : Fin 4) (R : Fin 512) (i : Fin 256) : ∑ n, ds q xd P n h R i =
    ∑ t ∈ Finset.range (31 + 1), dsR (vx (XC q t) (XP q t) h) (PP P t h) (dx (XD xd t) h) R i := by
  exact (sum_rev fun n => ds q xd P n h R i).symm

/-- The gradient of the sinks: lane `l` of row `g`. -/
theorem sink_sum (g : Fin 4) (l : Fin 128) :
    (if c : (l : ℕ) < 4 then ∑ n, ∑ s, -(Sn PS n ⟨l, c⟩ (st g s) * dl q xd P n ⟨l, c⟩ (st g s)) else 0) =
    ∑ s : Fin 128, ∑ t ∈ Finset.range (31 + 1), skx (XC q) (XP q) (XD xd) (PP P) (PZ PS) t ⟨128 * g + s, by omega⟩ l := by
  rw [Finset.sum_comm]
  unfold skx
  by_cases c : (l : ℕ) < 4
  · simp only [dif_pos c]
    refine (sum_rev fun n => ∑ s, -(Sn PS n ⟨l, c⟩ (st g s) * dl q xd P n ⟨l, c⟩ (st g s))).symm.trans ?_
    refine Finset.sum_congr rfl fun t _ => Finset.sum_congr rfl fun s _ => ?_
    have e : (⟨128 * (g : ℕ) + s, by omega⟩ : Fin 512) = st g s := Fin.ext (by show 128 * (g : ℕ) + s = g * 128 + s; omega)
    rw [e]
    refine congrArg (fun x : ℝ => -(x * _)) ?_
    unfold psx PZ Sn
    refine congrArg₂ (fun (a b : Fin 4) => PS _ a b _) (Fin.ext ?_) (Fin.ext ?_)
    · show (l : ℕ) = (4 * l + (st g s : ℕ) / 128) / 4
      omega
    · show (st g s : ℕ) / 128 = (4 * l + (st g s : ℕ) / 128) % 4
      omega
  · simp only [dif_neg c, Finset.sum_const_zero]

end Cert.AttnRef

end
-- ==== Proof.AttnArr.lean ====
/- What the attention gradient leaves in its five results. -/
module

public import proofs.«01_k».proof.Proof.AttnRefC
public import proofs.«01_k».proof.Proof.AttnAcc
public import proofs.«01_k».proof.Proof.AttnBlk
public import proofs.«01_k».proof.Proof.AttnSum
public import Idealize.ShloMosaic.Lib.Pipeline.ValueKit
public import Idealize.ShloMosaic.Lib.Pointwise
public import proofs.«01_k».proof.Proof.Gen.Reference2Ideal.Read
public import Idealize.ShloMosaic.Lib.Claim
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Reference2Ideal.Read Cert.Attn Cert.Reals Cert.AttnRef

variable (m : (ℓ : Loc nD τ sig) → Buf (Elt Ideal) ℓ) (c : Dev nD)

/-- The last grid point. -/
def tLast : Fin cfg0.N := ⟨31, by rw [show cfg0.N = 32 from N_0]; decide⟩

abbrev A0 : FVec Ideal S4096x1536 .f32 := m ((c : Thread nD τ).loc main_arg0)
abbrev A1 : FVec Ideal S64 .f32 := m ((c : Thread nD τ).loc main_arg1)
abbrev A2 : FVec Ideal S64 .f32 := m ((c : Thread nD τ).loc main_arg2)
abbrev A3 : FVec Ideal S16 .f32 := m ((c : Thread nD τ).loc main_arg3)
abbrev A4 : FVec Ideal S4x4x128x256 .f32 := m ((c : Thread nD τ).loc main_arg4)
abbrev A5 : FVec Ideal S4096x1024 .f32 := m ((c : Thread nD τ).loc main_arg5)

variable {q : Fin 4096 → Fin 1536 → ℝ} {qg kg : Fin 64 → ℝ} {xd : Fin 4096 → Fin 1024 → ℝ} {p : Fin 32 → Fin 4 → Fin 4 → Fin 128 → Fin 256 → ℝ}
  {es : Fin 32 → Fin 4 → Fin 4 → Fin 128 → ℝ}

variable (W : In (A0 m c) (A1 m c) (A2 m c) (A5 m c) q qg kg xd) (S : Sm (A0 m c) (A1 m c) (A2 m c) (A3 m c) (A4 m c) p es)
include W S

omit W S in
/-- A lane is a pair's. -/
theorem lane (j : S1x128.Idx) : ∃ (e : Fin 2) (d : Fin 64), j = (ix2 0 ⟨64 * e + d, by omega⟩ : S1x128.Idx) := by
  obtain ⟨a, l, rfl⟩ : ∃ (a : Fin 1) (l : Fin 128), j = ix2 a l := ⟨j 0, j 1, eq_ix2 (n0 := 1) (n1 := 128) j⟩
  refine ⟨⟨l / 64, by omega⟩, ⟨l % 64, by omega⟩, congrArg₂ ix2 (Subsingleton.elim _ _) (Fin.ext ?_)⟩
  dsimp only
  omega

theorem vals : Vals (A0 m c) (A1 m c) (A2 m c) (A3 m c) (A4 m c) (A5 m c) q qg kg xd (pr p es) (sk p es) :=
  ⟨W.h0, W.h1, W.h2, W.h5, v116_at S, v120_at S⟩

theorem blks (t : Fin cfg0.N) : Blocks (iblk m c 0 t) (iblk m c 1 t) (iblk m c 2 t) (iblk m c 3 t) (iblk m c 4 t) (iblk m c 5 t) (iblk m c 6 t)
    (XC q t) (XP q t) (XD xd t) (PP (pr p es) t) (PZ (sk p es) t) qg kg :=
  blocks m c (vals m c W S) t

theorem q_ref (n : Fin 32) (s : Fin 128) (h g : Fin 4) (d : Fin 64) : val_main_v239 (F := Ideal) (A0 m c) (A1 m c) (A2 m c) (A3 m c) (A4 m c) (A5 m c) (ix2 (row n s) ⟨64 * (h * 4 + g) + d, by omega⟩) =
    ((dqx (Xc q n) (Xp q n) (Xd xd n) (Pn (pr p es) n) qg kg h (st g s) d : ℝ) : EReal) := by
  refine (v239_q (row n s) ⟨h * 4 + g, by omega⟩ d).trans ((v230_at W S _ _ _).trans ?_)
  rw [row_n, row_s, head_h, head_g, dq_row]

theorem q_out (t : Fin cfg0.N) (s : Fin 128) (h g : Fin 4) (d : Fin 64) : (outsAt0 m c t.val t.isLt).1 (ix2 s ⟨64 * (h * 4 + g) + d, by omega⟩) =
    val_main_v239 (F := Ideal) (A0 m c) (A1 m c) (A2 m c) (A3 m c) (A4 m c) (A5 m c) (ix2 (row ⟨31 - t, by omega⟩ s) ⟨64 * (h * 4 + g) + d, by omega⟩) := by
  rw [q_ref m c W S]
  refine (dq_at m c _ _ _ _ _ qg kg (blks m c W S) t s ⟨h * 4 + g, by omega⟩ d).trans (congrArg _ ?_)
  rw [head_h]
  refine congrArg (fun R => dqx (XC q t) (XP q t) (XD xd t) (PP (pr p es) t) qg kg h R d) (Fin.ext ?_)
  show 128 * (((h : ℕ) * 4 + g) % 4) + s = g * 128 + s
  omega

theorem kv_ref (n : Fin 32) (s : Fin 128) (H : Fin 8) (d : Fin 64) : val_main_v239 (F := Ideal) (A0 m c) (A1 m c) (A2 m c) (A3 m c) (A4 m c) (A5 m c) (ix2 (row n s) ⟨1024 + (64 * H + d), by omega⟩) =
    ((if z : (H : ℕ) < 4 then fold (fun n => dkx (Xc q n) (Xp q n) (Xd xd n) (Pn (pr p es) n) qg kg) (row n s) ⟨H, z⟩ d
      else fold (fun n => dvx (Xd xd n) (Pn (pr p es) n)) (row n s) ⟨H - 4, by omega⟩ d : ℝ) : EReal) := by
  by_cases z : (H : ℕ) < 4
  · rw [dif_pos z]
    refine (v239_k (row n s) ⟨H, z⟩ d).trans ((v209_at W S _ _ _).trans ?_)
    rw [dk_row]
  · rw [dif_neg z]
    have e : (⟨1024 + (64 * (H : ℕ) + d), by omega⟩ : Fin 1536) = ⟨1024 + (64 * (((⟨H - 4, by omega⟩ : Fin 4) : ℕ) + 4) + d), by dsimp only; omega⟩ := by
      refine Fin.ext ?_
      show 1024 + (64 * (H : ℕ) + d) = 1024 + (64 * (H - 4 + 4) + d)
      omega
    rw [e]
    exact (v239_v (row n s) ⟨H - 4, by omega⟩ d).trans (v179_at W S _ _ _)

theorem kv_out (t : Fin cfg0.N) (s : Fin 128) (H : Fin 8) (d : Fin 64) : (outsAt0 m c t.val t.isLt).1 (ix2 s ⟨1024 + (64 * H + d), by omega⟩) =
    val_main_v239 (F := Ideal) (A0 m c) (A1 m c) (A2 m c) (A3 m c) (A4 m c) (A5 m c) (ix2 (row ⟨31 - t, by omega⟩ s) ⟨1024 + (64 * H + d), by omega⟩) := by
  rw [kv_ref m c W S]
  refine (dkv_at m c _ _ _ _ _ qg kg (blks m c W S) t s H d).trans (congrArg _ ?_)
  have hN : cfg0.N = 32 := N_0
  have ht := t.isLt
  have e : ∀ z : ¬t.val = 0, (⟨1 + ((⟨31 - t, by omega⟩ : Fin 32) : ℕ), by dsimp only; omega⟩ : Fin 32) = ⟨31 - (t.val - 1), by omega⟩ := fun z =>
    Fin.ext (by show 1 + (31 - t.val) = 31 - (t.val - 1); omega)
  unfold kvx
  by_cases z : (H : ℕ) < 4
  · simp only [dif_pos z]
    rw [fold_row]
    refine congrArg₂ (· + ·) rfl ?_
    by_cases z0 : t.val = 0
    · rw [if_pos z0, dif_neg (by dsimp only; omega)]
    · rw [if_neg z0, dif_pos (by dsimp only; omega), e z0]
      rfl
  · simp only [dif_neg z]
    rw [fold_row]
    refine congrArg₂ (· + ·) rfl ?_
    by_cases z0 : t.val = 0
    · rw [if_pos z0, dif_neg (by dsimp only; omega)]
    · rw [if_neg z0, dif_pos (by dsimp only; omega), e z0]
      rfl

theorem out_row (t : Fin cfg0.N) (s : Fin 128) (k : Fin 1536) : (outsAt0 m c t.val t.isLt).1 (ix2 s k) =
    val_main_v239 (F := Ideal) (A0 m c) (A1 m c) (A2 m c) (A3 m c) (A4 m c) (A5 m c) (ix2 (row ⟨31 - t, by omega⟩ s) k) := by
  by_cases z : (k : ℕ) < 1024
  · have e : k = ⟨64 * (((⟨k / 256, by omega⟩ : Fin 4) : ℕ) * 4 + ((⟨k / 64 % 4, by omega⟩ : Fin 4) : ℕ)) + ((⟨k % 64, by omega⟩ : Fin 64) : ℕ), by dsimp only; omega⟩ :=
      Fin.ext (by dsimp only; omega)
    rw [e]
    exact q_out m c W S t s _ _ _
  · have e : k = ⟨1024 + (64 * ((⟨(k - 1024) / 64, by omega⟩ : Fin 8) : ℕ) + ((⟨k % 64, by omega⟩ : Fin 64) : ℕ)), by dsimp only; omega⟩ :=
      Fin.ext (by dsimp only; omega)
    rw [e]
    exact kv_out m c W S t s _ _

theorem final7 : (dats m 0 c).arrAt 7 (cfgs 0).N = val_main_v239 (F := Ideal) (A0 m c) (A1 m c) (A2 m c) (A3 m c) (A4 m c) (A5 m c) := by
  refine (dats m 0 c).arrAt_eq_of_covers 7 _ (by decide +kernel) fun t hf y => ?_
  blk_simp
  rw [after0_7]
  have hN := lt_of_lt_of_eq t.isLt (show cfg0.N = 32 from N_0)
  have hy : y = (ix2 (y 0) (y 1) : S128x1536.Idx) := eq_ix2 (n0 := 128) (n1 := 1536) y
  refine (congrArg (outsAt0 m c t.val t.isLt).1 hy).trans ((out_row m c W S t (y 0) (y 1)).trans ?_)
  refine congrArg (val_main_v239 (F := Ideal) (A0 m c) (A1 m c) (A2 m c) (A3 m c) (A4 m c) (A5 m c)) ?_
  funext a
  refine Fin.ext ?_
  fin_cases a <;> blk_simp [idx t]
  all_goals rfl

theorem bias_out (h : Fin 4) (R : Fin 512) (i : Fin 256) : (outsAt0 m c tLast.val tLast.isLt).2.1 (ix3 h R i) =
    val_main_v240 (F := Ideal) (A0 m c) (A1 m c) (A2 m c) (A3 m c) (A4 m c) (A5 m c) (ix3 h R i) := by
  refine (dbias_acc m c _ _ _ _ _ qg kg (blks m c W S) h R i 31 tLast.isLt).trans ?_
  rw [v240_at W S, bias_sum]

theorem sink_out (g : Fin 4) (l : Fin 128) : (outsAt0 m c tLast.val tLast.isLt).2.2.2.2.1 (ix2 g l) =
    val_main_v238 (F := Ideal) (A0 m c) (A1 m c) (A2 m c) (A3 m c) (A4 m c) (A5 m c) (ix2 g l) := by
  refine (dsink_last m c tLast (by decide) (by decide) g l).trans ?_
  refine (sinkRow_at _ g _ (fun s l => dsink_acc m c _ _ _ _ _ qg kg (blks m c W S) ⟨128 * g + s, by omega⟩ l 31 tLast.isLt) l).trans ?_
  rw [v238_at W S, sink_sum]

theorem final8 : (dats m 0 c).arrAt 8 (cfgs 0).N = val_main_v240 (F := Ideal) (A0 m c) (A1 m c) (A2 m c) (A3 m c) (A4 m c) (A5 m c) := by
  refine (dats m 0 c).arrAt_eq_of_after_last 8 tLast (by decide +kernel) _ fun j => ?_
  blk_simp
  rw [after0_8]
  have hj : j = (ix3 (j 0) (j 1) (j 2) : S4x512x256.Idx) := eq_ix3 (n0 := 4) (n1 := 512) (n2 := 256) j
  rw [hj]
  exact bias_out m c W S (j 0) (j 1) (j 2)

theorem final11 : (dats m 0 c).arrAt 11 (cfgs 0).N = val_main_v238 (F := Ideal) (A0 m c) (A1 m c) (A2 m c) (A3 m c) (A4 m c) (A5 m c) := by
  refine (dats m 0 c).arrAt_eq_of_after_last 11 tLast (by decide +kernel) _ fun j => ?_
  blk_simp
  rw [after0_11]
  have hj : j = (ix2 (j 0) (j 1) : S4x128.Idx) := eq_ix2 (n0 := 4) (n1 := 128) j
  rw [hj]
  exact sink_out m c W S (j 0) (j 1)

theorem off (h : Fin 4) (s : Fin 128) (d : Fin 64) : gk q xd qg (pr p es) 0 h ⟨s, by omega⟩ d = 0 := by
  have o := fun R => ds_off S (q := q) (xd := xd) 0 h R ⟨s, by omega⟩ ⟨Nat.zero_lt_one, s.isLt⟩
  unfold gk dkn
  exact Finset.sum_eq_zero fun R _ => (congrArg (fun z => z * (1 / 8) * _) (o R)).trans (by rw [zero_mul, zero_mul])

theorem final9 : (dats m 0 c).arrAt 9 (cfgs 0).N = val_main_v242 (F := Ideal) (A0 m c) (A1 m c) (A2 m c) (A3 m c) (A4 m c) (A5 m c) := by
  refine (dats m 0 c).arrAt_eq_of_after_last 9 tLast (by decide +kernel) _ fun j => ?_
  blk_simp
  rw [after0_9]
  obtain ⟨e, d, hj⟩ := lane j
  rw [hj]
  refine (congrFun (dqg_last m c tLast (by decide) (by decide)) _).trans ((gq_out _ _).trans ?_)
  refine (gainRow_at _ 0 _ (fun e d => gq_acc m c _ _ _ _ _ qg kg (blks m c W S) e d 31 tLast.isLt) e d).trans ?_
  refine Eq.trans ?_ (v242_at W S e d).symm
  rw [qg_sum, Finset.sum_add_distrib]

theorem final10 : (dats m 0 c).arrAt 10 (cfgs 0).N = val_main_v244 (F := Ideal) (A0 m c) (A1 m c) (A2 m c) (A3 m c) (A4 m c) (A5 m c) := by
  refine (dats m 0 c).arrAt_eq_of_after_last 10 tLast (by decide +kernel) _ fun j => ?_
  blk_simp
  rw [after0_10]
  obtain ⟨e, d, hj⟩ := lane j
  rw [hj]
  refine (congrFun (dkg_last m c tLast (by decide) (by decide)) _).trans ((gk_out _ _).trans ?_)
  refine (gainRow_at _ 1 _ (fun e d => gk_acc m c _ _ _ _ _ qg kg (blks m c W S) e d 31 tLast.isLt) e d).trans ?_
  refine Eq.trans ?_ (v244_at W S e d).symm
  rw [kg_sum (off m c W S), Finset.sum_add_distrib]

end Cert.Kernel2Ideal.Attn

end
-- ==== Proof.AttnFin.lean ====
/- Finite arguments of the attention gradient, and the softmax over them, are reals. -/
module

public import proofs.«01_k».proof.Proof.AttnSum
public import proofs.«01_k».proof.Proof.AttnSoft
public import proofs.«01_k».proof.Proof.Reals
public import proofs.«01_k».proof.Pre_finite2
public import proofs.«01_k».proof.Proof.Gen.Reference2Ideal.Read

@[expose] public section

set_option maxRecDepth 16384

noncomputable section

open Idealize.ShloMosaic

namespace Cert.AttnRef

open Cert.Reference2Ideal Cert.Reference2Ideal.Gen Cert.Reference2Ideal.Read Cert.Attn Cert.Reals

/-- Arrays of reals, and the softmax over them. -/
theorem of_reals (x0 : FVec Ideal S4096x1536 .f32) (x1 x2 : FVec Ideal S64 .f32) (x3 : FVec Ideal S16 .f32)
    (x4 : FVec Ideal S4x4x128x256 .f32) (x5 : FVec Ideal S4096x1024 .f32)
    (h0 : ∃ r : S4096x1536.Idx → ℝ, x0 = fun i => ((r i : ℝ) : EReal)) (h1 : ∃ r : S64.Idx → ℝ, x1 = fun i => ((r i : ℝ) : EReal))
    (h2 : ∃ r : S64.Idx → ℝ, x2 = fun i => ((r i : ℝ) : EReal)) (h3 : ∃ r : S16.Idx → ℝ, x3 = fun i => ((r i : ℝ) : EReal))
    (h4 : ∃ r : S4x4x128x256.Idx → ℝ, x4 = fun i => ((r i : ℝ) : EReal)) (h5 : ∃ r : S4096x1024.Idx → ℝ, x5 = fun i => ((r i : ℝ) : EReal)) :
    ∃ (q : Fin 4096 → Fin 1536 → ℝ) (qg kg : Fin 64 → ℝ) (xd : Fin 4096 → Fin 1024 → ℝ) (p : Fin 32 → Fin 4 → Fin 4 → Fin 128 → Fin 256 → ℝ)
      (es : Fin 32 → Fin 4 → Fin 4 → Fin 128 → ℝ), In x0 x1 x2 x5 q qg kg xd ∧ Sm x0 x1 x2 x3 x4 p es := by
  obtain ⟨c0, k0⟩ := h0
  obtain ⟨c1, k1⟩ := h1
  obtain ⟨c2, k2⟩ := h2
  obtain ⟨c3, k3⟩ := h3
  obtain ⟨c4, k4⟩ := h4
  obtain ⟨c5, k5⟩ := h5
  have W : In x0 x1 x2 x5 (fun r c => c0 (ix2 r c)) (fun d => c1 (ix1 d)) (fun d => c2 (ix1 d)) (fun r c => c5 (ix2 r c)) :=
    ⟨fun r c => congrFun k0 _, fun d => congrFun k1 _, fun d => congrFun k2 _, fun r c => congrFun k5 _⟩
  have sm : ∀ (n : Fin 32) (h g : Fin 4) (s : Fin 128), ∃ p es, Soft x0 x1 x2 x3 x4 n h g s p es := fun n h g s => by
    have b : ∀ i, ∃ y : ℝ, val_main_v58 (F := Ideal) x0 x1 x2 x4 (ix5 n h g s i) = (y : EReal) := fun i => by
      obtain ⟨y, hy⟩ := v58_at W (fun h g s i => ⟨_, congrFun k4 (ix4 h g s i)⟩) n h (st g s) i
      rw [st_g, st_s] at hy
      exact ⟨y, hy⟩
    choose sc hs using b
    exact soft n h g s _ (congrFun k3 _) sc hs
  choose p es S using sm
  exact ⟨_, _, _, _, p, es, W, S⟩

theorem real_args [Cert.Pre_finite2.Facts] (x0 : FVec Ideal S4096x1536 .f32) (x1 x2 : FVec Ideal S64 .f32) (x3 : FVec Ideal S16 .f32)
    (x4 : FVec Ideal S4x4x128x256 .f32) (x5 : FVec Ideal S4096x1024 .f32)
    (h : (Cert.Pre_finite2.fn (F := Ideal) x0 x1 x2 x3 x4 x5).1 = (fun _ => 1#1)
      ∧ (Cert.Pre_finite2.fn (F := Ideal) x0 x1 x2 x3 x4 x5).2.1 = (fun _ => 1#1)
      ∧ (Cert.Pre_finite2.fn (F := Ideal) x0 x1 x2 x3 x4 x5).2.2.1 = (fun _ => 1#1)
      ∧ (Cert.Pre_finite2.fn (F := Ideal) x0 x1 x2 x3 x4 x5).2.2.2.1 = (fun _ => 1#1)
      ∧ (Cert.Pre_finite2.fn (F := Ideal) x0 x1 x2 x3 x4 x5).2.2.2.2.1 = (fun _ => 1#1)
      ∧ (Cert.Pre_finite2.fn (F := Ideal) x0 x1 x2 x3 x4 x5).2.2.2.2.2 = (fun _ => 1#1)) :
    ∃ (q : Fin 4096 → Fin 1536 → ℝ) (qg kg : Fin 64 → ℝ) (xd : Fin 4096 → Fin 1024 → ℝ) (p : Fin 32 → Fin 4 → Fin 4 → Fin 128 → Fin 256 → ℝ)
      (es : Fin 32 → Fin 4 → Fin 4 → Fin 128 → ℝ), In x0 x1 x2 x5 q qg kg xd ∧ Sm x0 x1 x2 x3 x4 p es :=
  of_reals x0 x1 x2 x3 x4 x5 (reals x0 Cert.Pre_finite2.Facts.bcast_S_S4096x1536 h.1) (reals x1 Cert.Pre_finite2.Facts.bcast_S_S64 h.2.1)
    (reals x2 Cert.Pre_finite2.Facts.bcast_S_S64 h.2.2.1) (reals x3 Cert.Pre_finite2.Facts.bcast_S_S16 h.2.2.2.1)
    (reals x4 Cert.Pre_finite2.Facts.bcast_S_S4x4x128x256 h.2.2.2.2.1) (reals x5 Cert.Pre_finite2.Facts.bcast_S_S4096x1024 h.2.2.2.2.2)

end Cert.AttnRef

end
-- ==== Proof.NormInRef.lean ====
/- The reference of the norm's gradient in front of one product, at real arguments: gradients of the rows and of the gain. -/
module

public import proofs.«01_k».proof.Proof.Norm
public import proofs.«01_k».proof.Pre_finite3
public import proofs.«01_k».proof.Proof.Gen.Reference3Ideal.Read
public import Idealize.ShloMosaic.Lib.Pointwise
public import Idealize.ShloMosaic.Lib.IdealHost

@[expose] public section

set_option maxRecDepth 16384

noncomputable section

open Idealize.ShloMosaic

namespace Cert.NormIn

open Cert.Reference3Ideal Cert.Reference3Ideal.Gen Cert.Reference3Ideal.Read Cert.Norm Cert.Reals

/-- The arguments are reals, at a product of `n` columns. -/
structure In {n : ℕ} (x0 : FVec Ideal S4096x1024 .f32) (x1 : FVec Ideal S1024 .f32) (x2 : FVec Ideal ⟨2, ![1024, n]⟩ .f32) (x3 : FVec Ideal ⟨2, ![4096, n]⟩ .f32)
    (x : Fin 4096 → Fin 1024 → ℝ) (g : Fin 1024 → ℝ) (w : Fin 1024 → Fin n → ℝ) (q : Fin 4096 → Fin n → ℝ) : Prop where
  h0 : ∀ r k, x0 (ix2 r k) = ((x r k : ℝ) : EReal)
  h1 : ∀ k, x1 (ix1 k) = ((g k : ℝ) : EReal)
  h2 : ∀ r k, x2 (ix2 r k) = ((w r k : ℝ) : EReal)
  h3 : ∀ r k, x3 (ix2 r k) = ((q r k : ℝ) : EReal)

section

variable {n : ℕ} {x0 : FVec Ideal S4096x1024 .f32} {x1 : FVec Ideal S1024 .f32} {x2 : FVec Ideal ⟨2, ![1024, n]⟩ .f32} {x3 : FVec Ideal ⟨2, ![4096, n]⟩ .f32}
  {x : Fin 4096 → Fin 1024 → ℝ} {g : Fin 1024 → ℝ} {w : Fin 1024 → Fin n → ℝ} {q : Fin 4096 → Fin n → ℝ} (W : In x0 x1 x2 x3 x g w q)

include W in
theorem v6_at (r : Fin 4096) : val_main_v6 (F := Ideal) x0 (ix2 r 0) = (((∑ k, x r k * x r k) * (1 / 1024) + eps : ℝ) : EReal) := by
  pointwise [val_main_v6, val_main_v5, val_main_v4, val_main_v3, val_main_v2, val_main_v1, val_main_v0, val_main_cst_0, val_main_cst_1, val_main_cst]
  simp only [W.h0]
  exact ms_real (by norm_num) (x r) _ ofBits_1024

include W in
theorem v7_at (r : Fin 4096) : val_main_v7 (F := Ideal) x0 (ix2 r 0) = ((rn 1024 (x r) : ℝ) : EReal) := by
  have k := v6_at W r
  unfold val_main_v7
  generalize val_main_v6 (F := Ideal) x0 = X at k ⊢
  pointwise
  rw [k, rsqrt_ms (by norm_num)]

include W in
theorem v12_at (r : Fin 4096) (k : Fin 1024) : val_main_v12 (F := Ideal) x0 (ix2 r k) = ((nx 1024 (x r) k : ℝ) : EReal) := by
  have h := v7_at W
  unfold val_main_v12 val_main_v11
  generalize val_main_v7 (F := Ideal) x0 = X at h ⊢
  pointwise
  rw [h, W.h0, ← EReal.coe_mul, nx]

end

variable {x0 x4 : FVec Ideal S4096x1024 .f32} {x1 : FVec Ideal S1024 .f32} {x2 : FVec Ideal S1024x1536 .f32} {x3 : FVec Ideal S4096x1536 .f32}
  {x : Fin 4096 → Fin 1024 → ℝ} {g : Fin 1024 → ℝ} {w : Fin 1024 → Fin 1536 → ℝ} {q : Fin 4096 → Fin 1536 → ℝ} (W : In x0 x1 x2 x3 x g w q)

include W in
theorem v17_at (r : Fin 4096) (k : Fin 1024) : val_main_v17 (F := Ideal) x2 x3 (ix2 r k) = ((dy q w r k : ℝ) : EReal) := by
  pointwise [val_main_v17]
  simp only [W.h2, W.h3, ← EReal.coe_mul, coe_sum, dy]

include W in
theorem v39_at (k : Fin 1024) : val_main_v39 (F := Ideal) x0 x2 x3 (ix2 0 k) = ((∑ r, dy q w r k * nx 1024 (x r) k : ℝ) : EReal) := by
  have a := v12_at W
  have b := v17_at W
  unfold val_main_v39 val_main_v23 val_main_v20 val_main_v19 val_main_v18
  generalize val_main_v12 (F := Ideal) x0 = X at a ⊢
  generalize val_main_v17 (F := Ideal) x2 x3 = Y at b ⊢
  pointwise [val_main_cst_3, val_main_cst_4]
  simp only [a, b, Fin.sum_univ_one, ← EReal.coe_mul, coe_sum]
  exact congrArg _ (Finset.sum_congr rfl fun r _ => mul_comm _ _)

include W in
theorem v38_at (r : Fin 4096) (k : Fin 1024) :
    val_main_v38 (F := Ideal) x0 x1 x2 x3 x4 (ix2 r k) = x4 (ix2 r k) + ((bn 1024 g (dy q w r) (x r) k : ℝ) : EReal) := by
  have a := v7_at W r
  have b := v6_at W r
  have y := v17_at W r
  unfold val_main_v38 val_main_v37 val_main_v36 val_main_v35 val_main_v34 val_main_v33 val_main_v32 val_main_v30 val_main_v29 val_main_v28 val_main_v27 val_main_v26 val_main_v25 val_main_v24 val_main_v22 val_main_v10 val_main_v8
  generalize val_main_v17 (F := Ideal) x2 x3 = Y at y ⊢
  generalize val_main_v7 (F := Ideal) x0 = R at a ⊢
  generalize val_main_v6 (F := Ideal) x0 = M at b ⊢
  pointwise [val_main_v31, val_main_v21, val_main_v13, val_main_v9, val_main_cst_2, val_main_cst_5, val_main_cst_6, val_main_cst_7]
  simp only [y, W.h0, W.h1, ← EReal.coe_mul, coe_sum, Fin.sum_univ_one]
  rw [add_assoc, add_assoc, ← add_assoc (_ * _ : EReal)]
  exact congrArg (x4 (ix2 r k) + ·) (back (by norm_num) g _ (x r) k _ _ _ ofBits_1024 a b _ rfl)

theorem real_args [Cert.Pre_finite3.Facts] (x0 : FVec Ideal S4096x1024 .f32) (x1 : FVec Ideal S1024 .f32) (x2 : FVec Ideal S1024x1536 .f32) (x3 : FVec Ideal S4096x1536 .f32) (x4 : FVec Ideal S4096x1024 .f32)
    (h : (Cert.Pre_finite3.fn (F := Ideal) x0 x1 x2 x3 x4).1 = (fun _ => 1#1)
      ∧ (Cert.Pre_finite3.fn (F := Ideal) x0 x1 x2 x3 x4).2.1 = (fun _ => 1#1)
      ∧ (Cert.Pre_finite3.fn (F := Ideal) x0 x1 x2 x3 x4).2.2.1 = (fun _ => 1#1)
      ∧ (Cert.Pre_finite3.fn (F := Ideal) x0 x1 x2 x3 x4).2.2.2 = (fun _ => 1#1)) :
    ∃ x g w q, In x0 x1 x2 x3 x g w q := by
  obtain ⟨c0, k0⟩ := reals x0 Cert.Pre_finite3.Facts.bcast_S_S4096x1024 h.1
  obtain ⟨c1, k1⟩ := reals x1 Cert.Pre_finite3.Facts.bcast_S_S1024 h.2.1
  obtain ⟨c2, k2⟩ := reals x2 Cert.Pre_finite3.Facts.bcast_S_S1024x1536 h.2.2.1
  obtain ⟨c3, k3⟩ := reals x3 Cert.Pre_finite3.Facts.bcast_S_S4096x1536 h.2.2.2
  exact ⟨fun r k => c0 (ix2 r k), fun k => c1 (ix1 k), fun r k => c2 (ix2 r k), fun r k => c3 (ix2 r k),
    fun r k => congrFun k0 _, fun k => congrFun k1 _, fun r k => congrFun k2 _, fun r k => congrFun k3 _⟩

end Cert.NormIn

end
-- ==== Proof.Fold.lean ====
/- A value collected from step to step is the sum of the steps' shares. -/
module

public import Mathlib.Data.EReal.Operations
public import Mathlib.Algebra.BigOperators.Fin

@[expose] public section

namespace Cert.Fold

theorem sum_upto {N : ℕ} (a : (n : ℕ) → n < N → EReal) (p : Fin N → EReal) (h0 : ∀ h : 0 < N, a 0 h = p ⟨0, h⟩)
    (hs : ∀ n (h : n + 1 < N), a (n + 1) h = a n (by omega) + p ⟨n + 1, h⟩) :
    ∀ n (h : n < N), a n h = ∑ s : Fin (n + 1), p ⟨s, by omega⟩
  | 0, h => by simp [h0 h]
  | n + 1, h => by rw [Fin.sum_univ_castSucc, hs n h, sum_upto a p h0 hs n (by omega)]; rfl

end Cert.Fold
-- ==== Proof.NormIn.lean ====
/- The gradient of a norm in front of one product, as the kernel computes it: block by block over 512 rows, the gain's
   gradient collected in one resident row. -/
module

public import proofs.«01_k».proof.Proof.NormInRef
public import proofs.«01_k».proof.Proof.Pieces
public import proofs.«01_k».proof.Proof.Fold
public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.NormIn

open Cert.Kernel3Ideal Cert.Kernel3Ideal.Gen Cert.Norm Cert.Reals Cert.Pieces

variable {x : Fin 512 → Fin 1024 → ℝ} {X : FVec Ideal S512x1024 .f32} (hX : ∀ r k, X (ix2 r k) = ((x r k : ℝ) : EReal))

include hX in
theorem pay1_at (r : Fin 512) : k0_pay1 (F := Ideal) X (ix2 r 0) = ((rn 1024 (x r) : ℝ) : EReal) := by
  pointwise [k0_pay1]
  simp only [hX]
  rw [ms_real (by norm_num) (x r) _ ofBits_1024, rsqrt_ms (by norm_num)]

include hX in
theorem pay2_at (r : Fin 512) (k : Fin 1024) : k0_pay2 (F := Ideal) X (ix2 r k) = ((nx 1024 (x r) k : ℝ) : EReal) := by
  have h := pay1_at hX
  unfold k0_pay2
  generalize k0_pay1 (F := Ideal) X = Z at h ⊢
  pointwise
  rw [hX, h, ← EReal.coe_mul, nx]

variable {y : Fin 512 → Fin 1024 → ℝ} {Y : FVec Ideal S512x1024 .f32} (hY : ∀ r k, Y (ix2 r k) = ((y r k : ℝ) : EReal))

include hX hY in
/-- One block's share of the gain's gradient. -/
theorem pay3_at (acc : FVec Ideal S1x1024 .f32) (k : Fin 1024) :
    k0_pay3 (F := Ideal) Y X acc (ix2 0 k) = acc (ix2 0 k) + ((∑ r, y r k * nx 1024 (x r) k : ℝ) : EReal) := by
  have h := pay2_at hX
  unfold k0_pay3
  generalize k0_pay2 (F := Ideal) X = Z at h ⊢
  pointwise
  simp only [h, hY, ← EReal.coe_mul, coe_sum]

include hX hY in
theorem pay4_at {g : Fin 1024 → ℝ} {G : FVec Ideal S1x1024 .f32} (hG : ∀ k, G (ix2 0 k) = ((g k : ℝ) : EReal))
    (D : FVec Ideal S512x1024 .f32) (r : Fin 512) (k : Fin 1024) :
    k0_pay4 (F := Ideal) Y X G D (ix2 r k) = D (ix2 r k) + ((bn 1024 g (y r) (x r) k : ℝ) : EReal) := by
  have h := pay2_at hX
  have h1 := pay1_at hX
  unfold k0_pay4
  generalize k0_pay2 (F := Ideal) X = Z at h ⊢
  generalize k0_pay1 (F := Ideal) X = R at h1 ⊢
  pointwise
  simp only [h, h1, hY, hG, ofBits_1024, ← EReal.coe_mul, coe_sum]
  rw [Ideal.div_coe (by norm_num)]
  refine congrArg _ ?_
  unfold bn
  norm_cast

/-- The product with the transposed weight, in four parts of 384 columns. -/
theorem pay6_at (A : FVec Ideal S512x1536 .bf16) (B : FVec Ideal S4x1024x384 .bf16) (p : Fin 4 → FVec Ideal S512x384 .bf16) (w : Fin 4 → FVec Ideal S1x1024x384 .bf16)
    (hp : ∀ i r j, p i (ix2 r j) = A (ix2 r ⟨384 * i + j, by omega⟩)) (hw : ∀ i k j, w i (ix3 0 k j) = B (ix3 i k j)) (r : Fin 512) (k : Fin 1024) :
    k0_pay6 (F := Ideal) (p 0) (w 0) (p 1) (w 1) (p 2) (w 2) (p 3) (w 3) (ix2 r k)
      = ∑ i : Fin 4, ∑ j : Fin 384, A (ix2 r ⟨384 * i + j, by omega⟩) * B (ix3 i k j) := by
  rw [Fin.sum_univ_four]
  pointwise [k0_pay6, hp, hw]

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x1536 .f32 := m ((c : Thread nD τ).loc main_arg2)
abbrev A3 (c : Dev nD) : FVec Ideal S4096x1536 .f32 := m ((c : Thread nD τ).loc main_arg3)
abbrev A4 (c : Dev nD) : FVec Ideal S4096x1024 .f32 := m ((c : Thread nD τ).loc main_arg4)

theorem blk0 (c : Dev nD) (t : Fin cfg0.N) (r : Fin 512) (j : Fin 1536) (h : 512 * t.val + r.val < 4096) :
    (iblk m c 0 t : FVec Ideal S512x1536 .bf16) (ix2 r j) = A3 m c (ix2 ⟨512 * t + r, h⟩ j) := by
  blk_point [iblk, V, idx t]

theorem blk1 (c : Dev nD) (t : Fin cfg0.N) (i : Fin 4) (k : Fin 1024) (j : Fin 384) :
    (iblk m c 1 t : FVec Ideal S4x1024x384 .bf16) (ix3 i k j) = A2 m c (ix2 k ⟨384 * i + j, by omega⟩) := by
  blk_point [iblk, V, idx t]

theorem blk2 (c : Dev nD) (t : Fin cfg0.N) (r : Fin 512) (j : Fin 1024) (h : 512 * t.val + r.val < 4096) :
    (iblk m c 2 t : FVec Ideal S512x1024 .f32) (ix2 r j) = A0 m c (ix2 ⟨512 * t + r, h⟩ j) := by
  blk_point [iblk, V, idx t]

theorem blk3 (c : Dev nD) (t : Fin cfg0.N) (j : Fin 1024) :
    (iblk m c 3 t : FVec Ideal S1x1024 .f32) (ix2 0 j) = A1 m c (ix1 j) := by
  blk_point [iblk, V, idx t]

theorem blk4 (c : Dev nD) (t : Fin cfg0.N) (r : Fin 512) (j : Fin 1024) (h : 512 * t.val + r.val < 4096) :
    (iblk m c 4 t : FVec Ideal S512x1024 .f32) (ix2 r j) = A4 m c (ix2 ⟨512 * t + r, h⟩ j) := by
  blk_point [iblk, V, idx t]

/-- The gradient of the normed rows of block `t`. -/
def yB (c : Dev nD) (t : Fin cfg0.N) : FVec Ideal S512x1024 .f32 :=
  k0_pay6 (F := Ideal) (View.ld (iblk m c 0 t) (Rect.unit (s := S512x1536) ![0, 0] ![512, 384] inb_S512x1536_S512x384_0_0))
    (View.ld (iblk m c 1 t) (Rect.unit (s := S4x1024x384) ![0, 0, 0] ![1, 1024, 384] inb_S4x1024x384_S1x1024x384_0_0_0))
    (View.ld (iblk m c 0 t) (Rect.unit (s := S512x1536) ![0, 384] ![512, 384] inb_S512x1536_S512x384_0_384))
    (View.ld (iblk m c 1 t) (Rect.unit (s := S4x1024x384) ![1, 0, 0] ![1, 1024, 384] inb_S4x1024x384_S1x1024x384_1_0_0))
    (View.ld (iblk m c 0 t) (Rect.unit (s := S512x1536) ![0, 768] ![512, 384] inb_S512x1536_S512x384_0_768))
    (View.ld (iblk m c 1 t) (Rect.unit (s := S4x1024x384) ![2, 0, 0] ![1, 1024, 384] inb_S4x1024x384_S1x1024x384_2_0_0))
    (View.ld (iblk m c 0 t) (Rect.unit (s := S512x1536) ![0, 1152] ![512, 384] inb_S512x1536_S512x384_0_1152))
    (View.ld (iblk m c 1 t) (Rect.unit (s := S4x1024x384) ![3, 0, 0] ![1, 1024, 384] inb_S4x1024x384_S1x1024x384_3_0_0))

variable {m} {c : Dev nD} {x : Fin 4096 → Fin 1024 → ℝ} {g : Fin 1024 → ℝ} {w : Fin 1024 → Fin 1536 → ℝ} {q : Fin 4096 → Fin 1536 → ℝ}
  (W : Cert.NormIn.In (A0 m c) (A1 m c) (A2 m c) (A3 m c) x g w q)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

include W in
theorem yB_at (t : Fin cfg0.N) (r : Fin 512) (k : Fin 1024) : yB m c t (ix2 r k) = ((dy q w (row t r) k : ℝ) : EReal) := by
  refine (pay6_at (iblk m c 0 t) (iblk m c 1 t)
    ![View.ld (iblk m c 0 t) (Rect.unit (s := S512x1536) ![0, 0] ![512, 384] inb_S512x1536_S512x384_0_0),
      View.ld (iblk m c 0 t) (Rect.unit (s := S512x1536) ![0, 384] ![512, 384] inb_S512x1536_S512x384_0_384),
      View.ld (iblk m c 0 t) (Rect.unit (s := S512x1536) ![0, 768] ![512, 384] inb_S512x1536_S512x384_0_768),
      View.ld (iblk m c 0 t) (Rect.unit (s := S512x1536) ![0, 1152] ![512, 384] inb_S512x1536_S512x384_0_1152)]
    ![View.ld (iblk m c 1 t) (Rect.unit (s := S4x1024x384) ![0, 0, 0] ![1, 1024, 384] inb_S4x1024x384_S1x1024x384_0_0_0),
      View.ld (iblk m c 1 t) (Rect.unit (s := S4x1024x384) ![1, 0, 0] ![1, 1024, 384] inb_S4x1024x384_S1x1024x384_1_0_0),
      View.ld (iblk m c 1 t) (Rect.unit (s := S4x1024x384) ![2, 0, 0] ![1, 1024, 384] inb_S4x1024x384_S1x1024x384_2_0_0),
      View.ld (iblk m c 1 t) (Rect.unit (s := S4x1024x384) ![3, 0, 0] ![1, 1024, 384] inb_S4x1024x384_S1x1024x384_3_0_0)] ?_ ?_ r k).trans ?_
  · intro i r j
    fin_cases i <;> · dsimp only [Matrix.cons_val]; pointwise
  · intro i r j
    fin_cases i <;> · dsimp only [Matrix.cons_val]; pointwise
  · unfold dy
    rw [← coe_sum, Fin.sum_univ_tiles 4 384 rfl]
    refine Finset.sum_congr rfl fun i _ => Finset.sum_congr rfl fun j _ => ?_
    rw [blk0 m c t r _ (row_lt t r), blk1, W.h3, W.h2, ← EReal.coe_mul]
    have e : (⟨384 * i + j, by omega⟩ : Fin 1536) = ⟨i.val * 384 + j.val, by omega⟩ := Fin.ext (by show 384 * (i : ℕ) + j = i * 384 + j; omega)
    rw [e]
    rfl

include W in
theorem X_at (t : Fin cfg0.N) (r : Fin 512) (k : Fin 1024) :
    (iblk m c 2 t : FVec Ideal S512x1024 .f32) (ix2 r k) = ((x (row t r) k : ℝ) : EReal) :=
  (blk2 m c t r k (row_lt t r)).trans (W.h0 _ _)

include W in
theorem out_at (t : Fin cfg0.N) (r : Fin 512) (k : Fin 1024) :
    (outsAt0 m c t.val t.isLt).1 (ix2 r k) = A4 m c (ix2 (row t r) k) + ((bn 1024 g (dy q w (row t r)) (x (row t r)) k : ℝ) : EReal) := by
  have key := (pay4_at (X_at W t) (yB_at W t) (fun k => (blk3 m c t k).trans (W.h1 k)) (iblk m c 4 t) r k).trans
    (congrArg (· + _) (blk4 m c t r k (row_lt t r)))
  by_cases h : t.val % 8 = 0
  · rw [outsAt0_A m c t h]; frame_out
    exact key
  · rw [outsAt0_B m c t h]; frame_out
    exact key

/-- Block `t`'s share of the gain's gradient. -/
def part (x : Fin 4096 → Fin 1024 → ℝ) (w : Fin 1024 → Fin 1536 → ℝ) (q : Fin 4096 → Fin 1536 → ℝ) (k : Fin 1024) (t : Fin cfg0.N) : EReal :=
  ((∑ r, dy q w (row t r) k * nx 1024 (x (row t r)) k : ℝ) : EReal)

include W in
theorem acc_first (t : Fin cfg0.N) (h : t.val % 8 = 0) (k : Fin 1024) :
    (outsAt0 m c t.val t.isLt).2 (ix2 0 k) = part x w q k t := by
  rw [outsAt0_A m c t h]; frame_out
  refine (pay3_at (X_at W t) (yB_at W t) _ k).trans ?_
  rw [show k0_pay5 (F := Ideal) (ix2 0 k) = 0 by pointwise [k0_pay5], zero_add, part]

include W in
theorem acc_next (t : Fin cfg0.N) (h : ¬t.val % 8 = 0) (k : Fin 1024) :
    (outsAt0 m c t.val t.isLt).2 (ix2 0 k) = (outsAt0 m c (t.val - 1) (by omega)).2 (ix2 0 k) + part x w q k t := by
  rw [outsAt0_B m c t h]; frame_out
  exact pay3_at (X_at W t) (yB_at W t) _ k

include W in
theorem acc_sum (k : Fin 1024) (n : ℕ) (h : n < cfg0.N) :
    (outsAt0 m c n h).2 (ix2 0 k) = ∑ s : Fin (n + 1), part x w q k ⟨s, by omega⟩ :=
  Cert.Fold.sum_upto (fun n h => (outsAt0 m c n h).2 (ix2 0 k)) (part x w q k) (fun h => acc_first W ⟨0, h⟩ rfl k)
    (fun n h => acc_next W ⟨n + 1, h⟩ (by have := lt_of_lt_of_eq h (show cfg0.N = 8 from N_0); show ¬(n + 1) % 8 = 0; omega) k) n h

include W in
theorem gain_at (k : Fin 1024) : (outsAt0 m c t0_7.val t0_7.isLt).2 (ix2 0 k) = ((∑ r, dy q w r k * nx 1024 (x r) k : ℝ) : EReal) := by
  refine (acc_sum W k 7 t0_7.isLt).trans ?_
  unfold part
  rw [coe_sum, Fin.sum_univ_tiles 8 512 rfl]
  refine congrArg _ (Finset.sum_congr rfl fun s _ => Finset.sum_congr rfl fun r _ => ?_)
  have e : row ⟨s.val, lt_of_lt_of_eq (by omega) (show cfg0.N = 8 from N_0).symm⟩ r = ⟨s.val * 512 + r.val, by omega⟩ :=
    Fin.ext (by show 512 * (s : ℕ) + r = s * 512 + r; omega)
  rw [e]

include W in
theorem final6 : (dats m 0 c).arrAt 6 (cfgs 0).N = Cert.Reference3Ideal.Read.val_main_v39 (F := Ideal) (A0 m c) (A2 m c) (A3 m c) := by
  refine (dats m 0 c).arrAt_eq_of_after_last 6 t0_7 (by decide +kernel) _ fun j => ?_
  blk_simp
  rw [after0_6]
  obtain ⟨k, rfl⟩ := lanes j
  exact (gain_at W k).trans (Cert.NormIn.v39_at W k).symm

include W in
theorem final5 : (dats m 0 c).arrAt 5 (cfgs 0).N = Cert.Reference3Ideal.Read.val_main_v38 (F := Ideal) (A0 m c) (A1 m c) (A2 m c) (A3 m c) (A4 m c) := by
  refine (dats m 0 c).arrAt_eq_of_covers 5 _ (by decide +kernel) fun t hf y => ?_
  blk_simp
  rw [after0_5]
  have hy : y = (ix2 (y 0) (y 1) : S512x1024.Idx) := eq_ix2 (n0 := 512) (n1 := 1024) y
  refine (congrArg (outsAt0 m c t.val t.isLt).1 hy).trans ((out_at W t (y 0) (y 1)).trans ?_)
  refine (Cert.NormIn.v38_at (x4 := A4 m c) W (row t (y 0)) (y 1)).symm.trans ?_
  refine congrArg (Cert.Reference3Ideal.Read.val_main_v38 (F := Ideal) (A0 m c) (A1 m c) (A2 m c) (A3 m c) (A4 m c)) ?_
  funext a
  refine Fin.ext ?_
  fin_cases a <;> blk_simp [idx t]
  · show 512 * t.val + (y 0 : ℕ) = t.val * 512 + (y 0 : ℕ)
    omega
  · rfl

end Cert.Kernel3Ideal.NormIn

end
-- ==== Proof.ConvInRef.lean ====
/- The reference of the convolution's and the norm's gradient, at real arguments: gradients of the rows, the gain, the convolution's
   argument and its weights. -/
module

public import proofs.«01_k».proof.Proof.Norm
public import proofs.«01_k».proof.Pre_finite4
public import proofs.«01_k».proof.Proof.Gen.Reference4Ideal.Read
public import Idealize.ShloMosaic.Lib.Pointwise
public import Idealize.ShloMosaic.Lib.IdealHost

@[expose] public section

set_option maxRecDepth 16384

noncomputable section

open Idealize.ShloMosaic

namespace Cert.ConvIn

open Cert.Reference4Ideal Cert.Reference4Ideal.Gen Cert.Reference4Ideal.Read Cert.Norm Cert.Reals

/-- A row after the end is zero. -/
def up {n : ℕ} {β : Type} [Zero β] (f : Fin n → β) (r : ℕ) : β := if h : r < n then f ⟨r, h⟩ else 0

theorem up_lt {n : ℕ} {β : Type} [Zero β] (f : Fin n → β) (r : ℕ) (h : r < n) : up f r = f ⟨r, h⟩ :=
  dif_pos h

theorem up_end {n : ℕ} {β : Type} [Zero β] (f : Fin n → β) (r : ℕ) (h : n ≤ r) : up f r = 0 :=
  dif_neg h.not_gt

/-- The arguments are reals. -/
structure In (x0 : FVec Ideal S4096x1024 .f32) (x1 : FVec Ideal S1024 .f32) (x2 : FVec Ideal S1024x5632 .f32) (x3 : FVec Ideal S3x5632 .f32)
    (x4 : FVec Ideal S4096x5632 .f32) (x : Fin 4096 → Fin 1024 → ℝ) (g : Fin 1024 → ℝ) (w : Fin 1024 → Fin 5632 → ℝ) (u : Fin 3 → Fin 5632 → ℝ)
    (q : Fin 4096 → Fin 5632 → ℝ) : Prop where
  h0 : ∀ r k, x0 (ix2 r k) = ((x r k : ℝ) : EReal)
  h1 : ∀ k, x1 (ix1 k) = ((g k : ℝ) : EReal)
  h2 : ∀ r k, x2 (ix2 r k) = ((w r k : ℝ) : EReal)
  h3 : ∀ r k, x3 (ix2 r k) = ((u r k : ℝ) : EReal)
  h4 : ∀ r k, x4 (ix2 r k) = ((q r k : ℝ) : EReal)

/-- The gradient of the convolution's argument. -/
def da (u : Fin 3 → Fin 5632 → ℝ) (q : Fin 4096 → Fin 5632 → ℝ) (r : Fin 4096) (j : Fin 5632) : ℝ :=
  u 2 j * q r j + u 1 j * up (q · j) (r + 1) + u 0 j * up (q · j) (r + 2)

/-- The convolution's argument. -/
def aR (x : Fin 4096 → Fin 1024 → ℝ) (g : Fin 1024 → ℝ) (w : Fin 1024 → Fin 5632 → ℝ) (r : Fin 4096) (j : Fin 5632) : ℝ :=
  ∑ k, nx 1024 (x r) k * g k * w k j

variable {x0 x5 : FVec Ideal S4096x1024 .f32} {x1 : FVec Ideal S1024 .f32} {x2 : FVec Ideal S1024x5632 .f32} {x3 : FVec Ideal S3x5632 .f32}
  {x4 : FVec Ideal S4096x5632 .f32} {x : Fin 4096 → Fin 1024 → ℝ} {g : Fin 1024 → ℝ} {w : Fin 1024 → Fin 5632 → ℝ} {u : Fin 3 → Fin 5632 → ℝ}
  {q : Fin 4096 → Fin 5632 → ℝ} (W : In x0 x1 x2 x3 x4 x g w u q)

include W in
theorem v6_at (r : Fin 4096) : val_main_v6 (F := Ideal) x0 (ix2 r 0) = (((∑ k, x r k * x r k) * (1 / 1024) + eps : ℝ) : EReal) := by
  pointwise [val_main_v6, val_main_v5, val_main_v4, val_main_v3, val_main_v2, val_main_v1, val_main_v0, val_main_cst_0, val_main_cst_1, val_main_cst]
  simp only [W.h0]
  exact ms_real (by norm_num) (x r) _ ofBits_1024

include W in
theorem v7_at (r : Fin 4096) : val_main_v7 (F := Ideal) x0 (ix2 r 0) = ((rn 1024 (x r) : ℝ) : EReal) := by
  have k := v6_at W r
  unfold val_main_v7
  generalize val_main_v6 (F := Ideal) x0 = X at k ⊢
  pointwise
  rw [k, rsqrt_ms (by norm_num)]

include W in
theorem v12_at (r : Fin 4096) (k : Fin 1024) : val_main_v12 (F := Ideal) x0 (ix2 r k) = ((nx 1024 (x r) k : ℝ) : EReal) := by
  have h := v7_at W
  unfold val_main_v12 val_main_v11
  generalize val_main_v7 (F := Ideal) x0 = X at h ⊢
  pointwise
  rw [h, W.h0, ← EReal.coe_mul, nx]

include W in
theorem v16_at (r : Fin 4096) (j : Fin 5632) : val_main_v16 (F := Ideal) x0 x1 x2 (ix2 r j) = ((aR x g w r j : ℝ) : EReal) := by
  have h := v12_at W
  unfold val_main_v16 val_main_v15
  generalize val_main_v12 (F := Ideal) x0 = X at h ⊢
  pointwise [val_main_v14, val_main_v13]
  simp only [h, W.h1, W.h2, ← EReal.coe_mul, coe_sum, aR]

include W in
theorem v74_at (r : Fin 4096) (j : Fin 5632) : val_main_v74 (F := Ideal) x3 x4 (ix2 r j) = ((da u q r j : ℝ) : EReal) := by
  pointwise [val_main_v74, val_main_v73, val_main_v72, val_main_v66, val_main_v65, val_main_v61, val_main_v60, val_main_v59, val_main_v53, val_main_v52,
    val_main_v45, val_main_v44, val_main_v43, val_main_v42, val_main_v38, val_main_v37, val_main_v36, val_main_v32, val_main_v27, val_main_v26,
    val_main_v23, val_main_v18, val_main_v17, val_main_cst_12, val_main_cst_16]
  simp only [W.h3, W.h4, ← EReal.coe_mul, da]
  have e : ∀ (i : Fin 3) (n k : ℕ), ∀ h : k + n = 4096, (if l : (r : ℕ) < n then ((u i j * q ⟨k + r, by omega⟩ j : ℝ) : EReal) else 0)
      = ((u i j * up (q · j) (r + k) : ℝ) : EReal) := by
    intro i n k h
    split_ifs with l
    · rw [up_lt _ _ (by omega)]
      simp [Nat.add_comm]
    · rw [up_end _ _ (by omega)]
      simp
  rw [e 1 4095 1 rfl, e 0 4094 2 rfl]
  norm_cast

include W in
theorem v77_at (k : Fin 3) (j : Fin 5632) :
    val_main_v77 (F := Ideal) x0 x1 x2 x4 (ix2 k j) = ((∑ r : Fin 4096, up (q · j) (r + (2 - k : ℕ)) * aR x g w r j : ℝ) : EReal) := by
  have h := v16_at W
  unfold val_main_v77 val_main_v76 val_main_v75 val_main_v70 val_main_v69 val_main_v68 val_main_v67 val_main_v64 val_main_v63 val_main_v62 val_main_v57
    val_main_v56 val_main_v55 val_main_v54 val_main_v51 val_main_v50 val_main_v49 val_main_v48 val_main_v47 val_main_v46 val_main_v30 val_main_v29 val_main_v21
    val_main_v20
  generalize val_main_v16 (F := Ideal) x0 x1 x2 = A at h ⊢
  obtain rfl | rfl | rfl : k = 0 ∨ k = 1 ∨ k = 2 := by omega
  all_goals
    pointwise [val_main_v43, val_main_v42, val_main_v28, val_main_v19, val_main_cst_3, val_main_cst_5, val_main_cst_7, val_main_cst_8, val_main_cst_9,
      val_main_cst_10, val_main_cst_11, val_main_cst_13, val_main_cst_14, val_main_cst_15, val_main_cst_17]
    simp only [h, W.h4, Fin.sum_univ_one, mul_zero, Finset.sum_const_zero, zero_add, ← EReal.coe_mul, coe_sum]
    refine congrArg _ ?_
  · rw [Fin.sum_univ_castSucc (n := 4095), Fin.sum_univ_castSucc (n := 4094), up_end _ _ (by show 4096 ≤ 4094 + 2; omega),
      up_end _ _ (by show 4096 ≤ 4095 + 2; omega), zero_mul, zero_mul, add_zero, add_zero]
    refine Finset.sum_congr rfl fun r _ => ?_
    rw [up_lt _ _ (by show (r : ℕ) + 2 < 4096; omega)]
    exact congrArg (· * _) (congrArg (q · j) (Fin.ext (Nat.add_comm _ _)))
  · rw [Fin.sum_univ_castSucc (n := 4095), up_end _ _ (by show 4096 ≤ 4095 + 1; omega), zero_mul, add_zero]
    refine Finset.sum_congr rfl fun r _ => ?_
    rw [up_lt _ _ (by show (r : ℕ) + 1 < 4096; omega)]
    exact congrArg (· * _) (congrArg (q · j) (Fin.ext (Nat.add_comm _ _)))
  · refine Finset.sum_congr rfl fun r _ => ?_
    simp [up]

include W in
theorem v78_at (r : Fin 4096) (k : Fin 1024) : val_main_v78 (F := Ideal) x2 x3 x4 (ix2 r k) = ((dy (da u q) w r k : ℝ) : EReal) := by
  have h := v74_at W
  unfold val_main_v78
  generalize val_main_v74 (F := Ideal) x3 x4 = A at h ⊢
  pointwise
  simp only [h, W.h2, ← EReal.coe_mul, coe_sum, dy]

include W in
theorem v100_at (k : Fin 1024) : val_main_v100 (F := Ideal) x0 x2 x3 x4 (ix2 0 k) = ((∑ r, dy (da u q) w r k * nx 1024 (x r) k : ℝ) : EReal) := by
  have a := v12_at W
  have b := v78_at W
  unfold val_main_v100 val_main_v84 val_main_v81 val_main_v80 val_main_v79
  generalize val_main_v12 (F := Ideal) x0 = X at a ⊢
  generalize val_main_v78 (F := Ideal) x2 x3 x4 = Y at b ⊢
  pointwise [val_main_cst_18, val_main_cst_19]
  simp only [a, b, Fin.sum_univ_one, ← EReal.coe_mul, coe_sum]
  exact congrArg _ (Finset.sum_congr rfl fun r _ => mul_comm _ _)

include W in
theorem v99_at (r : Fin 4096) (k : Fin 1024) :
    val_main_v99 (F := Ideal) x0 x1 x2 x3 x4 x5 (ix2 r k) = x5 (ix2 r k) + ((bn 1024 g (dy (da u q) w r) (x r) k : ℝ) : EReal) := by
  have a := v7_at W r
  have b := v6_at W r
  have y := v78_at W r
  unfold val_main_v99 val_main_v98 val_main_v97 val_main_v96 val_main_v95 val_main_v94 val_main_v93 val_main_v91 val_main_v90 val_main_v89 val_main_v88 val_main_v87 val_main_v86 val_main_v85 val_main_v83 val_main_v10 val_main_v8
  generalize val_main_v78 (F := Ideal) x2 x3 x4 = Y at y ⊢
  generalize val_main_v7 (F := Ideal) x0 = R at a ⊢
  generalize val_main_v6 (F := Ideal) x0 = M at b ⊢
  pointwise [val_main_v92, val_main_v82, val_main_v13, val_main_v9, val_main_cst_2, val_main_cst_20, val_main_cst_21, val_main_cst_22]
  simp only [y, W.h0, W.h1, ← EReal.coe_mul, coe_sum, Fin.sum_univ_one]
  rw [add_assoc, add_assoc, ← add_assoc (_ * _ : EReal)]
  exact congrArg (x5 (ix2 r k) + ·) (back (by norm_num) g _ (x r) k _ _ _ ofBits_1024 a b _ rfl)

include W in
theorem v101_at (r : Fin 4096) (j : Fin 5632) : val_main_v101 (F := Ideal) x3 x4 (ix2 r j) = ((da u q r j : ℝ) : EReal) :=
  v74_at W r j

theorem real_args [Cert.Pre_finite4.Facts] (x0 : FVec Ideal S4096x1024 .f32) (x1 : FVec Ideal S1024 .f32) (x2 : FVec Ideal S1024x5632 .f32)
    (x3 : FVec Ideal S3x5632 .f32) (x4 : FVec Ideal S4096x5632 .f32) (x5 : FVec Ideal S4096x1024 .f32)
    (h : (Cert.Pre_finite4.fn (F := Ideal) x0 x1 x2 x3 x4 x5).1 = (fun _ => 1#1)
      ∧ (Cert.Pre_finite4.fn (F := Ideal) x0 x1 x2 x3 x4 x5).2.1 = (fun _ => 1#1)
      ∧ (Cert.Pre_finite4.fn (F := Ideal) x0 x1 x2 x3 x4 x5).2.2.1 = (fun _ => 1#1)
      ∧ (Cert.Pre_finite4.fn (F := Ideal) x0 x1 x2 x3 x4 x5).2.2.2.1 = (fun _ => 1#1)
      ∧ (Cert.Pre_finite4.fn (F := Ideal) x0 x1 x2 x3 x4 x5).2.2.2.2 = (fun _ => 1#1)) :
    ∃ x g w u q, In x0 x1 x2 x3 x4 x g w u q := by
  obtain ⟨c0, k0⟩ := reals x0 Cert.Pre_finite4.Facts.bcast_S_S4096x1024 h.1
  obtain ⟨c1, k1⟩ := reals x1 Cert.Pre_finite4.Facts.bcast_S_S1024 h.2.1
  obtain ⟨c2, k2⟩ := reals x2 Cert.Pre_finite4.Facts.bcast_S_S1024x5632 h.2.2.1
  obtain ⟨c3, k3⟩ := reals x3 Cert.Pre_finite4.Facts.bcast_S_S3x5632 h.2.2.2.1
  obtain ⟨c4, k4⟩ := reals x4 Cert.Pre_finite4.Facts.bcast_S_S4096x5632 h.2.2.2.2
  exact ⟨fun r k => c0 (ix2 r k), fun k => c1 (ix1 k), fun r k => c2 (ix2 r k), fun r k => c3 (ix2 r k), fun r k => c4 (ix2 r k),
    fun r k => congrFun k0 _, fun k => congrFun k1 _, fun r k => congrFun k2 _, fun r k => congrFun k3 _, fun r k => congrFun k4 _⟩

end Cert.ConvIn

end
-- ==== Proof.ConvIn.lean ====
/- The gradient of the causal convolution and of the norm and product in front of it, as the kernel computes it: block by block over 256
   rows and, inside a block, over four chunks of 64; the gain's gradient and the weights' are collected over all the blocks. -/
module

public import proofs.«01_k».proof.Proof.ConvInRef
public import proofs.«01_k».proof.Proof.Pieces
public import proofs.«01_k».proof.Proof.Gen.Kernel4Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.ConvIn

open Cert.Kernel4Ideal Cert.Kernel4Ideal.Gen Cert.Norm Cert.Reals Cert.Pieces
open Cert.ConvIn (up up_lt up_end aR)
open Cert.Reference4Ideal.Read (val_main_v77 val_main_v99 val_main_v100 val_main_v101)

/-- The four chunks of a block are one computation. -/
theorem chunk_da (X : FVec Ideal S72x5632 .f32) (u2 u1 u0 : FVec Ideal S1x5632 .f32) :
    k0_pay28 (F := Ideal) (k0_pay26 X) (k0_pay27 X u2 u1) u0 = k0_pay15 (F := Ideal) (k0_pay13 X u2 u1) (k0_pay14 X u0)
      ∧ k0_pay45 (F := Ideal) (k0_pay42 X) (k0_pay43 X) (k0_pay44 X u2) u1 u0 = k0_pay15 (F := Ideal) (k0_pay13 X u2 u1) (k0_pay14 X u0)
      ∧ k0_pay62 (F := Ideal) (k0_pay58 X) (k0_pay59 X) (k0_pay60 X) (k0_pay61 u2) u1 u0 = k0_pay15 (F := Ideal) (k0_pay13 X u2 u1) (k0_pay14 X u0) := by
  exact ⟨rfl, rfl, rfl⟩

theorem chunk_0 (X : FVec Ideal S72x5632 .f32) (A : FVec Ideal S64x5632 .bf16) (c : FVec Ideal S1x8x5632 .f32) :
    k0_pay30 (F := Ideal) (k0_pay26 X) A c = k0_pay17 (F := Ideal) (k0_pay12 X) A c ∧ k0_pay47 (F := Ideal) (k0_pay43 X) A c = k0_pay17 (F := Ideal) (k0_pay12 X) A c
      ∧ k0_pay64 (F := Ideal) (k0_pay60 X) A c = k0_pay17 (F := Ideal) (k0_pay12 X) A c := by
  exact ⟨rfl, rfl, rfl⟩

theorem chunk_1 (X : FVec Ideal S72x5632 .f32) (A : FVec Ideal S64x5632 .bf16) (c : FVec Ideal S1x8x5632 .f32) :
    k0_pay39 (F := Ideal) (k0_pay31 c) (k0_pay33 (k0_pay25 X) A) (k0_pay34 (k0_pay25 X) A) (k0_pay35 (k0_pay25 X) A) (k0_pay36 (k0_pay25 X) A)
        (k0_pay37 (k0_pay25 X) A) (k0_pay38 (k0_pay25 X) A)
      = k0_pay22 (F := Ideal) (k0_pay18 c) (k0_pay20 (k0_pay11 X) A) (k0_pay21 (k0_pay11 X) A)
    ∧ k0_pay56 (F := Ideal) (k0_pay48 c) (k0_pay49 (k0_pay42 X) A) (k0_pay50 (k0_pay42 X) A) (k0_pay51 (k0_pay42 X) A) (k0_pay52 (k0_pay42 X) A)
        (k0_pay53 (k0_pay42 X) A) (k0_pay54 (k0_pay42 X) A) (k0_pay55 (k0_pay42 X) A)
      = k0_pay22 (F := Ideal) (k0_pay18 c) (k0_pay20 (k0_pay11 X) A) (k0_pay21 (k0_pay11 X) A)
    ∧ k0_pay69 (F := Ideal) (k0_pay65 c) (k0_pay66 (k0_pay59 X) A) (k0_pay67 (k0_pay59 X) A) (k0_pay68 (k0_pay59 X) A)
      = k0_pay22 (F := Ideal) (k0_pay18 c) (k0_pay20 (k0_pay11 X) A) (k0_pay21 (k0_pay11 X) A) := by
  exact ⟨rfl, rfl, rfl⟩

theorem chunk_2 (X : FVec Ideal S72x5632 .f32) (A : FVec Ideal S64x5632 .bf16) (c : FVec Ideal S1x8x5632 .f32) :
    k0_pay40 (F := Ideal) (k0_pay24 X) (k0_pay29 A) c = k0_pay23 (F := Ideal) (k0_pay10 X) (k0_pay16 A) c ∧ k0_pay57 (F := Ideal) (k0_pay41 X) (k0_pay46 A) c = k0_pay23 (F := Ideal) (k0_pay10 X) (k0_pay16 A) c
      ∧ k0_pay70 (F := Ideal) (k0_pay58 X) (k0_pay63 A) c = k0_pay23 (F := Ideal) (k0_pay10 X) (k0_pay16 A) c := by
  exact ⟨rfl, rfl, rfl⟩

theorem wrap (n k o : ℕ) (h : n < 64) (e : k + o = 72) (ho : o ≤ 8) : (n + 72 - k) % 72 = n + o := by
  omega

theorem da_at (X : FVec Ideal S72x5632 .f32) (u2 u1 u0 : FVec Ideal S1x5632 .f32) (r : Fin 64) (j : Fin 5632) :
    k0_pay15 (F := Ideal) (k0_pay13 X u2 u1) (k0_pay14 X u0) (ix2 r j)
      = u2 (ix2 0 j) * X (ix2 ⟨r, by omega⟩ j) + u1 (ix2 0 j) * X (ix2 ⟨r + 1, by omega⟩ j) + u0 (ix2 0 j) * X (ix2 ⟨r + 2, by omega⟩ j) := by
  pointwise [k0_pay15, k0_pay14, k0_pay13, k0_pay12, k0_pay11, k0_pay10]
  simp (disch := omega) only [wrap _ 71 1, wrap _ 70 2]

theorem p0_at (X : FVec Ideal S72x5632 .f32) (A : FVec Ideal S64x5632 .bf16) (c : FVec Ideal S1x8x5632 .f32) (s : Fin 8) (j : Fin 5632) :
    k0_pay17 (F := Ideal) (k0_pay12 X) A c (ix3 0 s j)
      = c (ix3 0 s j) + ∑ i : Fin 8, X (ix2 ⟨8 * i + s + 2, by omega⟩ j) * A (ix2 ⟨8 * i + s, by omega⟩ j) := by
  rw [Fin.sum_univ_eight]
  pointwise [k0_pay17, k0_pay16, k0_pay12]
  simp (disch := omega) only [wrap _ 71 1, wrap _ 70 2]

theorem p1_at (X : FVec Ideal S72x5632 .f32) (A : FVec Ideal S64x5632 .bf16) (c : FVec Ideal S1x8x5632 .f32) (s : Fin 8) (j : Fin 5632) :
    k0_pay22 (F := Ideal) (k0_pay18 c) (k0_pay20 (k0_pay11 X) A) (k0_pay21 (k0_pay11 X) A) (ix3 0 s j)
      = c (ix3 0 s j) + ∑ i : Fin 8, X (ix2 ⟨8 * i + s + 1, by omega⟩ j) * A (ix2 ⟨8 * i + s, by omega⟩ j) := by
  rw [Fin.sum_univ_eight]
  pointwise [k0_pay22, k0_pay21, k0_pay20, k0_pay19, k0_pay18, k0_pay16, k0_pay11]
  simp (disch := omega) only [wrap _ 71 1, wrap _ 70 2]

theorem p2_at (X : FVec Ideal S72x5632 .f32) (A : FVec Ideal S64x5632 .bf16) (c : FVec Ideal S1x8x5632 .f32) (s : Fin 8) (j : Fin 5632) :
    k0_pay23 (F := Ideal) (k0_pay10 X) (k0_pay16 A) c (ix3 0 s j)
      = c (ix3 0 s j) + ∑ i : Fin 8, X (ix2 ⟨8 * i + s, by omega⟩ j) * A (ix2 ⟨8 * i + s, by omega⟩ j) := by
  rw [Fin.sum_univ_eight]
  pointwise [k0_pay23, k0_pay16, k0_pay10]

theorem sum8_at (Z : FVec Ideal S1x8x5632 .f32) (j : Fin 5632) :
    k0_pay3 (F := Ideal) Z (ix2 0 j) = ∑ s : Fin 8, Z (ix3 0 s j) ∧ k0_pay4 (F := Ideal) Z = k0_pay3 Z ∧ k0_pay5 (F := Ideal) Z = k0_pay3 Z := by
  refine ⟨?_, rfl, rfl⟩
  pointwise [k0_pay3]

variable (m : (ℓ : Loc nD τ sig) → Buf (Elt Ideal) ℓ)

theorem idx : ∀ t : Fin cfg0.N, win0_0.index t = ![t.val, 0] ∧ win0_1.index t = ![min (16 * t.val + 16) 255, 0] ∧ win0_2.index t = ![0, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![0, 0] ∧ win0_10.index t = ![t.val, 0] ∧ win0_11.index t = ![0, 0] :=
  by decide +kernel

abbrev A0 (c : Dev nD) : FVec Ideal S4096x1024 .f32 := m ((c : Thread nD τ).loc main_arg0)

abbrev A1 (c : Dev nD) : FVec Ideal S1024 .f32 := m ((c : Thread nD τ).loc main_arg1)

abbrev A2 (c : Dev nD) : FVec Ideal S1024x5632 .f32 := m ((c : Thread nD τ).loc main_arg2)

abbrev A3 (c : Dev nD) : FVec Ideal S3x5632 .f32 := m ((c : Thread nD τ).loc main_arg3)

abbrev A4 (c : Dev nD) : FVec Ideal S4096x5632 .f32 := m ((c : Thread nD τ).loc main_arg4)

abbrev A5 (c : Dev nD) : FVec Ideal S4096x1024 .f32 := m ((c : Thread nD τ).loc main_arg5)

theorem blk0 (c : Dev nD) (t : Fin cfg0.N) (r : Fin 256) (j : Fin 5632) (h : 256 * t.val + r.val < 4096) :
    (iblk m c 0 t : FVec Ideal S256x5632 .bf16) (ix2 r j) = A4 m c (ix2 ⟨256 * t + r, h⟩ j) := by
  blk_point [iblk, V, idx t]

theorem blk1 (c : Dev nD) (t : Fin cfg0.N) (r : Fin 16) (j : Fin 5632) (h : 256 * (t.val + 1) + r.val < 4096) :
    (iblk m c 1 t : FVec Ideal S16x5632 .bf16) (ix2 r j) = A4 m c (ix2 ⟨256 * (t + 1) + r, h⟩ j) := by
  blk_point [iblk, V, idx t]

theorem blk2 (c : Dev nD) (t : Fin cfg0.N) (k : Fin 3) (j : Fin 5632) :
    (iblk m c 2 t : FVec Ideal S3x5632 .f32) (ix2 k j) = A3 m c (ix2 k j) := by
  blk_point [iblk, V, idx t]

theorem blk3 (c : Dev nD) (t : Fin cfg0.N) (r : Fin 256) (j : Fin 5632) (h : 256 * t.val + r.val < 4096) :
    (iblk m c 3 t : FVec Ideal S256x5632 .bf16) (ix2 r j)
      = Cert.Reference4Ideal.Read.val_main_v16 (F := Ideal) (A0 m c) (A1 m c) (A2 m c) (ix2 ⟨256 * t + r, h⟩ j) := by
  blk_point [iblk, V, idx t]

theorem blk4 (c : Dev nD) (t : Fin cfg0.N) (i : Fin 4) (k : Fin 1024) (j : Fin 1408) :
    (iblk m c 4 t : FVec Ideal S4x1024x1408 .bf16) (ix3 i k j) = A2 m c (ix2 k ⟨1408 * i + j, by omega⟩) := by
  blk_point [iblk, V, idx t]

theorem blk5 (c : Dev nD) (t : Fin cfg0.N) (r : Fin 256) (j : Fin 1024) (h : 256 * t.val + r.val < 4096) :
    (iblk m c 5 t : FVec Ideal S256x1024 .f32) (ix2 r j) = A0 m c (ix2 ⟨256 * t + r, h⟩ j) := by
  blk_point [iblk, V, idx t]

theorem blk6 (c : Dev nD) (t : Fin cfg0.N) (j : Fin 1024) :
    (iblk m c 6 t : FVec Ideal S1x1024 .f32) (ix2 0 j) = A1 m c (ix1 j) := by
  blk_point [iblk, V, idx t]

theorem blk7 (c : Dev nD) (t : Fin cfg0.N) (r : Fin 256) (j : Fin 1024) (h : 256 * t.val + r.val < 4096) :
    (iblk m c 7 t : FVec Ideal S256x1024 .f32) (ix2 r j) = A5 m c (ix2 ⟨256 * t + r, h⟩ j) := by
  blk_point [iblk, V, idx t]

/-- The block's rows and the sixteen after them, in one buffer. -/
def D (x0 : FVec Ideal S256x5632 .bf16) (x1 : FVec Ideal S16x5632 .bf16) (i : grid0.Coords) : FVec Ideal S272x5632 .f32 :=
  View.canon (Val := Elt Ideal) (s := S272x5632) (e := .f32) [⟨Rect.unit ![256, 0] ![16, 5632] inb_S272x5632_S16x5632_256_0, k0_pay9 (F := Ideal) i x1⟩,
    ⟨Rect.unit ![0, 0] ![256, 5632] inb_S272x5632_S256x5632_0_0, k0_pay8 (F := Ideal) x0⟩]

theorem before : ∀ i : Fin 16, ((i : ℕ) < 15 → Scalar.cmpi .slt (BitVec.ofNat 32 (i : ℕ)) 15#32 = 1#1)
    ∧ (¬(i : ℕ) < 15 → Scalar.cmpi .slt (BitVec.ofNat 32 (i : ℕ)) 15#32 = 0#1) := by
  decide +kernel

theorem D_at (x0 : FVec Ideal S256x5632 .bf16) (x1 : FVec Ideal S16x5632 .bf16) (i : grid0.Coords) (r : Fin 272) (j : Fin 5632) :
    D x0 x1 i (ix2 r j) = if h : (r : ℕ) < 256 then x0 (ix2 ⟨r, h⟩ j) else if (i 0 : ℕ) < 15 then x1 (ix2 ⟨r - 256, by omega⟩ j) else 0 := by
  unfold D
  split_ifs with h h1
  · refine (canon_not _ _ _ _ 0 (Or.inl h)).trans ((canon_mem _ _ _ _ (ix2 ⟨r, h⟩ j : S256x5632.Idx) fun a => ?_).trans ?_)
    · fin_cases a <;> exact (Nat.zero_add _).symm
    · pointwise [k0_pay8]
  all_goals
    refine (canon_mem _ _ _ _ (ix2 ⟨r - 256, by omega⟩ j : S16x5632.Idx) fun a => ?_).trans ?_
    · fin_cases a
      · show (r : ℕ) = 256 + (r - 256)
        omega
      · exact (Nat.zero_add _).symm
    · pointwise [k0_pay9]
      first
        | rw [(before (i 0)).1 h1]; rfl
        | rw [(before (i 0)).2 h1]; rfl

/-- The gradient of the convolution's argument in one block. -/
def da (d : FVec Ideal S272x5632 .f32) (u : FVec Ideal S3x5632 .f32) : FVec Ideal S256x5632 .bf16 :=
  View.canon (Val := Elt Ideal) (s := S256x5632) (e := .bf16)
    [⟨Rect.unit ![192, 0] ![64, 5632] inb_S256x5632_S64x5632_192_0,
        k0_pay15 (F := Ideal)
          (k0_pay13 (View.ld d (Rect.unit (s := S272x5632) ![192, 0] ![72, 5632] inb_S272x5632_S72x5632_192_0))
            (View.ld u (Rect.unit (s := S3x5632) ![2, 0] ![1, 5632] inb_S3x5632_S1x5632_2_0))
            (View.ld u (Rect.unit (s := S3x5632) ![1, 0] ![1, 5632] inb_S3x5632_S1x5632_1_0)))
          (k0_pay14 (View.ld d (Rect.unit (s := S272x5632) ![192, 0] ![72, 5632] inb_S272x5632_S72x5632_192_0))
            (View.ld u (Rect.unit (s := S3x5632) ![0, 0] ![1, 5632] inb_S3x5632_S1x5632_0_0)))⟩,
      ⟨Rect.unit ![128, 0] ![64, 5632] inb_S256x5632_S64x5632_128_0,
        k0_pay15 (F := Ideal)
          (k0_pay13 (View.ld d (Rect.unit (s := S272x5632) ![128, 0] ![72, 5632] inb_S272x5632_S72x5632_128_0))
            (View.ld u (Rect.unit (s := S3x5632) ![2, 0] ![1, 5632] inb_S3x5632_S1x5632_2_0))
            (View.ld u (Rect.unit (s := S3x5632) ![1, 0] ![1, 5632] inb_S3x5632_S1x5632_1_0)))
          (k0_pay14 (View.ld d (Rect.unit (s := S272x5632) ![128, 0] ![72, 5632] inb_S272x5632_S72x5632_128_0))
            (View.ld u (Rect.unit (s := S3x5632) ![0, 0] ![1, 5632] inb_S3x5632_S1x5632_0_0)))⟩,
      ⟨Rect.unit ![64, 0] ![64, 5632] inb_S256x5632_S64x5632_64_0,
        k0_pay15 (F := Ideal)
          (k0_pay13 (View.ld d (Rect.unit (s := S272x5632) ![64, 0] ![72, 5632] inb_S272x5632_S72x5632_64_0))
            (View.ld u (Rect.unit (s := S3x5632) ![2, 0] ![1, 5632] inb_S3x5632_S1x5632_2_0))
            (View.ld u (Rect.unit (s := S3x5632) ![1, 0] ![1, 5632] inb_S3x5632_S1x5632_1_0)))
          (k0_pay14 (View.ld d (Rect.unit (s := S272x5632) ![64, 0] ![72, 5632] inb_S272x5632_S72x5632_64_0))
            (View.ld u (Rect.unit (s := S3x5632) ![0, 0] ![1, 5632] inb_S3x5632_S1x5632_0_0)))⟩,
      ⟨Rect.unit ![0, 0] ![64, 5632] inb_S256x5632_S64x5632_0_0,
        k0_pay15 (F := Ideal)
          (k0_pay13 (View.ld d (Rect.unit (s := S272x5632) ![0, 0] ![72, 5632] inb_S272x5632_S72x5632_0_0))
            (View.ld u (Rect.unit (s := S3x5632) ![2, 0] ![1, 5632] inb_S3x5632_S1x5632_2_0))
            (View.ld u (Rect.unit (s := S3x5632) ![1, 0] ![1, 5632] inb_S3x5632_S1x5632_1_0)))
          (k0_pay14 (View.ld d (Rect.unit (s := S272x5632) ![0, 0] ![72, 5632] inb_S272x5632_S72x5632_0_0))
            (View.ld u (Rect.unit (s := S3x5632) ![0, 0] ![1, 5632] inb_S3x5632_S1x5632_0_0)))⟩]

theorem da_apply (d : FVec Ideal S272x5632 .f32) (u : FVec Ideal S3x5632 .f32) (r : Fin 256) (j : Fin 5632) :
    da d u (ix2 r j) = u (ix2 2 j) * d (ix2 ⟨r, by omega⟩ j) + u (ix2 1 j) * d (ix2 ⟨r + 1, by omega⟩ j) + u (ix2 0 j) * d (ix2 ⟨r + 2, by omega⟩ j) := by
  unfold da
  canon_tiles x h
  all_goals
    have e : x = (ix2 (x 0) (x 1) : S64x5632.Idx) := eq_ix2 (n0 := 64) (n1 := 5632) x
    refine (congrArg _ e).trans ((da_at _ _ _ _ (x 0) (x 1)).trans ?_)
    generalize (x 0 : Fin 64) = a at h0 ⊢
    pointwise
    have hr : (r : ℕ) = _ := h0
    have hj : j = x 1 := Fin.ext h1
    subst hj
    simp only [hr] <;> rfl

theorem daB_at (c : Dev nD) (t : Fin cfg0.N) :
    (outsAt0 m c t.val t.isLt).2.2.1 = da (D (iblk m c 0 t) (iblk m c 1 t) (grid0.coords t)) (iblk m c 2 t) := by
  by_cases h0 : t.val % 16 = 0
  · rw [outsAt0_A m c t h0 (by omega)]; frame_out
    simp only [readCov_ld (View.whole cc0_scratch0), chunk_da]
    rfl
  by_cases h1 : t.val % 16 = 15
  · rw [outsAt0_C m c t h0 h1]; frame_out
    simp only [readCov_ld (View.whole cc0_scratch0), chunk_da]
    rfl
  · rw [outsAt0_B m c t h0 h1]; frame_out
    simp only [readCov_ld (View.whole cc0_scratch0), chunk_da]
    rfl

/-- Four chunks of 64 rows, one after the other. -/
def chain (f : FVec Ideal S72x5632 .f32 → FVec Ideal S64x5632 .bf16 → FVec Ideal S1x8x5632 .f32 → FVec Ideal S1x8x5632 .f32) (d : FVec Ideal S272x5632 .f32)
    (A : FVec Ideal S256x5632 .bf16) (c : FVec Ideal S1x8x5632 .f32) : FVec Ideal S1x8x5632 .f32 :=
  f (View.ld (Val := Elt Ideal) (e' := .f32) d (Rect.unit (s := S272x5632) ![192, 0] ![72, 5632] inb_S272x5632_S72x5632_192_0)) (View.ld (Val := Elt Ideal) (e' := .bf16) A (Rect.unit (s := S256x5632) ![192, 0] ![64, 5632] inb_S256x5632_S64x5632_192_0))
    (f (View.ld (Val := Elt Ideal) (e' := .f32) d (Rect.unit (s := S272x5632) ![128, 0] ![72, 5632] inb_S272x5632_S72x5632_128_0)) (View.ld (Val := Elt Ideal) (e' := .bf16) A (Rect.unit (s := S256x5632) ![128, 0] ![64, 5632] inb_S256x5632_S64x5632_128_0))
      (f (View.ld (Val := Elt Ideal) (e' := .f32) d (Rect.unit (s := S272x5632) ![64, 0] ![72, 5632] inb_S272x5632_S72x5632_64_0)) (View.ld (Val := Elt Ideal) (e' := .bf16) A (Rect.unit (s := S256x5632) ![64, 0] ![64, 5632] inb_S256x5632_S64x5632_64_0))
        (f (View.ld (Val := Elt Ideal) (e' := .f32) d (Rect.unit (s := S272x5632) ![0, 0] ![72, 5632] inb_S272x5632_S72x5632_0_0)) (View.ld (Val := Elt Ideal) (e' := .bf16) A (Rect.unit (s := S256x5632) ![0, 0] ![64, 5632] inb_S256x5632_S64x5632_0_0)) c)))

theorem chain_at (f : FVec Ideal S72x5632 .f32 → FVec Ideal S64x5632 .bf16 → FVec Ideal S1x8x5632 .f32 → FVec Ideal S1x8x5632 .f32) (o : ℕ) (ho : o < 3)
    (hf : ∀ X A c (s : Fin 8) (j : Fin 5632), f X A c (ix3 0 s j)
      = c (ix3 0 s j) + ∑ i : Fin 8, X (ix2 ⟨8 * i + s + o, by omega⟩ j) * A (ix2 ⟨8 * i + s, by omega⟩ j))
    (d : FVec Ideal S272x5632 .f32) (A : FVec Ideal S256x5632 .bf16) (c : FVec Ideal S1x8x5632 .f32) (s : Fin 8) (j : Fin 5632) :
    chain f d A c (ix3 0 s j) = c (ix3 0 s j)
      + ∑ q : Fin 4, ∑ i : Fin 8, d (ix2 ⟨64 * q + (8 * i + s + o), by omega⟩ j) * A (ix2 ⟨64 * q + (8 * i + s), by omega⟩ j) := by
  rw [Fin.sum_univ_four]
  unfold chain
  rw [hf, hf, hf, hf]
  simp only [add_assoc]
  pointwise

theorem planes_at (p0 p1 p2 : FVec Ideal S1x8x5632 .f32) {i0 i1 i2} (L : List (View.Piece (Elt Ideal) S3x8x5632 .f32)) (k : Fin 3) (s : Fin 8) (j : Fin 5632) :
    View.canon (⟨Rect.unit (s := S3x8x5632) ![2, 0, 0] ![1, 8, 5632] i2, p2⟩ :: ⟨Rect.unit (s := S3x8x5632) ![1, 0, 0] ![1, 8, 5632] i1, p1⟩
      :: ⟨Rect.unit (s := S3x8x5632) ![0, 0, 0] ![1, 8, 5632] i0, p0⟩ :: L) (ix3 k s j) = ![p0, p1, p2] k (ix3 0 s j) := by
  have hm : ∀ o : ℕ, (k : ℕ) = o → ∀ a : Fin 3, ((ix3 k s j : S3x8x5632.Idx) a : ℕ) = ![o, 0, 0] a + ((ix3 0 s j : S1x8x5632.Idx) a : ℕ) := by
    intro o ho a
    fin_cases a
    · exact ho
    · exact (Nat.zero_add _).symm
    · exact (Nat.zero_add _).symm
  have hn : ∀ o : ℕ, (k : ℕ) ≠ o → (k : ℕ) < o ∨ o + 1 ≤ (k : ℕ) := fun o ho => by omega
  fin_cases k
  · exact (canon_not i2 _ _ _ 0 (hn 2 (by decide))).trans ((canon_not i1 _ _ _ 0 (hn 1 (by decide))).trans (canon_mem i0 _ _ _ _ (hm 0 rfl)))
  · exact (canon_not i2 _ _ _ 0 (hn 2 (by decide))).trans (canon_mem i1 _ _ _ _ (hm 1 rfl))
  · exact canon_mem i2 _ _ _ _ (hm 2 rfl)

theorem rows_at (p0 p1 p2 : FVec Ideal S1x5632 .f32) {i0 i1 i2} (k : Fin 3) (j : Fin 5632) :
    View.canon (Val := Elt Ideal) (e := .f32) [⟨Rect.unit (s := S3x5632) ![2, 0] ![1, 5632] i2, p2⟩, ⟨Rect.unit (s := S3x5632) ![1, 0] ![1, 5632] i1, p1⟩,
      ⟨Rect.unit (s := S3x5632) ![0, 0] ![1, 5632] i0, p0⟩] (ix2 k j) = ![p0, p1, p2] k (ix2 0 j) := by
  have hm : ∀ o : ℕ, (k : ℕ) = o → ∀ a : Fin 2, ((ix2 k j : S3x5632.Idx) a : ℕ) = ![o, 0] a + ((ix2 0 j : S1x5632.Idx) a : ℕ) := by
    intro o ho a
    fin_cases a
    · exact ho
    · exact (Nat.zero_add _).symm
  have hn : ∀ o : ℕ, (k : ℕ) ≠ o → (k : ℕ) < o ∨ o + 1 ≤ (k : ℕ) := fun o ho => by omega
  fin_cases k
  · exact (canon_not i2 _ _ _ 0 (hn 2 (by decide))).trans ((canon_not i1 _ _ _ 0 (hn 1 (by decide))).trans (canon_mem i0 _ _ _ _ (hm 0 rfl)))
  · exact (canon_not i2 _ _ _ 0 (hn 2 (by decide))).trans (canon_mem i1 _ _ _ _ (hm 1 rfl))
  · exact canon_mem i2 _ _ _ _ (hm 2 rfl)

/-- The three taps' accumulators after a block. -/
def plane (d : FVec Ideal S272x5632 .f32) (A : FVec Ideal S256x5632 .bf16) (c : FVec Ideal S3x8x5632 .f32) (k : Fin 3) : FVec Ideal S1x8x5632 .f32 :=
  ![chain (fun X A c => k0_pay17 (k0_pay12 X) A c) d A (View.ld (Val := Elt Ideal) (e' := .f32) c (Rect.unit (s := S3x8x5632) ![0, 0, 0] ![1, 8, 5632] inb_S3x8x5632_S1x8x5632_0_0_0)),
    chain (fun X A c => k0_pay22 (k0_pay18 c) (k0_pay20 (k0_pay11 X) A) (k0_pay21 (k0_pay11 X) A)) d A
      (View.ld (Val := Elt Ideal) (e' := .f32) c (Rect.unit (s := S3x8x5632) ![1, 0, 0] ![1, 8, 5632] inb_S3x8x5632_S1x8x5632_1_0_0)),
    chain (fun X A c => k0_pay23 (k0_pay10 X) (k0_pay16 A) c) d A
      (View.ld (Val := Elt Ideal) (e' := .f32) c (Rect.unit (s := S3x8x5632) ![2, 0, 0] ![1, 8, 5632] inb_S3x8x5632_S1x8x5632_2_0_0))] k

theorem plane_at (d : FVec Ideal S272x5632 .f32) (A : FVec Ideal S256x5632 .bf16) (c : FVec Ideal S3x8x5632 .f32) (k : Fin 3) (s : Fin 8) (j : Fin 5632) :
    plane d A c k (ix3 0 s j) = c (ix3 k s j)
      + ∑ q : Fin 4, ∑ i : Fin 8, d (ix2 ⟨64 * q + (8 * i + s + (2 - k)), by omega⟩ j) * A (ix2 ⟨64 * q + (8 * i + s), by omega⟩ j) := by
  unfold plane
  obtain rfl | rfl | rfl : k = 0 ∨ k = 1 ∨ k = 2 := by omega
  · refine (chain_at _ 2 (by omega) p0_at _ _ _ _ _).trans (congrArg (· + _) ?_)
    pointwise
  · refine (chain_at _ 1 (by omega) p1_at _ _ _ _ _).trans (congrArg (· + _) ?_)
    pointwise
  · refine (chain_at _ 0 (by omega) p2_at _ _ _ _ _).trans (congrArg (· + _) ?_)
    pointwise

/-- The accumulators before a block. -/
def prev (c : Dev nD) (t : Fin cfg0.N) : FVec Ideal S3x8x5632 .f32 :=
  if t.val % 16 = 0 then k0_pay7 else (outsAt0 m c (t.val - 1) (by omega)).2.2.2.2

set_option maxHeartbeats 1000000 in
theorem acc_at (c : Dev nD) (t : Fin cfg0.N) (k : Fin 3) (s : Fin 8) (j : Fin 5632) :
    (outsAt0 m c t.val t.isLt).2.2.2.2 (ix3 k s j)
      = plane (D (iblk m c 0 t) (iblk m c 1 t) (grid0.coords t)) (iblk m c 3 t) (prev m c t) k (ix3 0 s j) := by
  have hp : prev m c t = if t.val % 16 = 0 then k0_pay7 else (outsAt0 m c (t.val - 1) (by omega)).2.2.2.2 := rfl
  generalize prev m c t = P at hp ⊢
  generalize hd : D (iblk m c 0 t) (iblk m c 1 t) (grid0.coords t) = d
  unfold D at hd
  by_cases h0 : t.val % 16 = 0
  · rw [outsAt0_A m c t h0 (by omega)]; frame_out
    rw [if_pos h0] at hp
    subst hp
    simp only [readCov_ld (View.whole cc0_scratch0)]
    rw [hd]
    simp (disch := decide) only [chunk_0, chunk_1, chunk_2, View.readCov_cons_toLoadRect, View.readCov_skip, View.readCov_fill]
    refine (planes_at _ _ _ _ k s j).trans ?_
    obtain rfl | rfl | rfl : k = 0 ∨ k = 1 ∨ k = 2 := by omega
    all_goals
      dsimp only [plane, chain, Matrix.cons_val]
      exact congrFun rfl _
  rw [if_neg h0] at hp
  subst hp
  by_cases h1 : t.val % 16 = 15
  · rw [outsAt0_C m c t h0 h1]; frame_out
    rw [(Memref.isWhole_whole _).read_unread]
    simp only [readCov_ld (View.whole cc0_scratch0)]
    rw [hd]
    simp (disch := decide) only [chunk_0, chunk_1, chunk_2, View.readCov_cons_toLoadRect, View.readCov_skip]
    refine (planes_at _ _ _ _ k s j).trans ?_
    obtain rfl | rfl | rfl : k = 0 ∨ k = 1 ∨ k = 2 := by omega
    all_goals
      dsimp only [plane, chain, Matrix.cons_val]
      exact congrFun rfl _
  · rw [outsAt0_B m c t h0 h1]; frame_out
    rw [(Memref.isWhole_whole _).read_unread]
    simp only [readCov_ld (View.whole cc0_scratch0)]
    rw [hd]
    simp (disch := decide) only [chunk_0, chunk_1, chunk_2, View.readCov_cons_toLoadRect, View.readCov_skip]
    refine (planes_at _ _ _ _ k s j).trans ?_
    obtain rfl | rfl | rfl : k = 0 ∨ k = 1 ∨ k = 2 := by omega
    all_goals
      dsimp only [plane, chain, Matrix.cons_val]
      exact congrFun rfl _

set_option maxHeartbeats 1000000 in
theorem conv_at (c : Dev nD) (t : Fin cfg0.N) (h0 : ¬t.val % 16 = 0) (h1 : t.val % 16 = 15) (k : Fin 3) (j : Fin 5632) :
    (outsAt0 m c t.val t.isLt).2.2.2.1 (ix2 k j)
      = k0_pay3 (F := Ideal) (plane (D (iblk m c 0 t) (iblk m c 1 t) (grid0.coords t)) (iblk m c 3 t) (prev m c t) k) (ix2 0 j) := by
  have hp : prev m c t = (outsAt0 m c (t.val - 1) (by omega)).2.2.2.2 := if_neg h0
  generalize prev m c t = P at hp ⊢
  generalize hd : D (iblk m c 0 t) (iblk m c 1 t) (grid0.coords t) = d
  unfold D at hd
  subst hp
  rw [outsAt0_C m c t h0 h1]; frame_out
  rw [(Memref.isWhole_whole _).read_unread]
  simp only [readCov_ld (View.whole cc0_scratch0)]
  rw [hd]
  simp (disch := decide) only [chunk_0, chunk_1, chunk_2, View.readCov_cons_toLoadRect, View.readCov_skip]
  refine (rows_at _ _ _ k j).trans ?_
  obtain rfl | rfl | rfl : k = 0 ∨ k = 1 ∨ k = 2 := by omega
  all_goals dsimp only [plane, chain, Matrix.cons_val]
  · exact congrFun (congrArg k0_pay3 rfl) _
  · rw [(sum8_at _ j).2.1]
    exact congrFun (congrArg k0_pay3 rfl) _
  · rw [(sum8_at _ j).2.2]
    exact congrFun (congrArg k0_pay3 rfl) _

theorem row_lt (t : Fin cfg0.N) (r : Fin 256) : 256 * t.val + r.val < 4096 := by
  have := lt_of_lt_of_eq t.isLt (show cfg0.N = 16 from N_0)
  omega

/-- Row `r` of block `t`. -/
def row (t : Fin cfg0.N) (r : Fin 256) : Fin 4096 := ⟨256 * t + r, row_lt t r⟩

theorem coords_at : ∀ t : Fin cfg0.N, (grid0.coords t 0 : ℕ) = t.val :=
  (by decide +kernel : ∀ t : Fin grid0.N, _)

section

variable {x : Fin 256 → Fin 1024 → ℝ} {X : FVec Ideal S256x1024 .f32} (hX : ∀ r k, X (ix2 r k) = ((x r k : ℝ) : EReal))

include hX in
theorem pay74_at (r : Fin 256) : k0_pay74 (F := Ideal) X (ix2 r 0) = ((rn 1024 (x r) : ℝ) : EReal) := by
  pointwise [k0_pay74]
  simp only [hX]
  rw [ms_real (by norm_num) (x r) _ ofBits_1024, rsqrt_ms (by norm_num)]

include hX in
theorem pay75_at (r : Fin 256) (k : Fin 1024) : k0_pay75 (F := Ideal) X (ix2 r k) = ((nx 1024 (x r) k : ℝ) : EReal) := by
  have h := pay74_at hX
  unfold k0_pay75
  generalize k0_pay74 (F := Ideal) X = Z at h ⊢
  pointwise
  rw [hX, h, ← EReal.coe_mul, nx]

variable {y : Fin 256 → Fin 1024 → ℝ} {Y : FVec Ideal S256x1024 .f32} (hY : ∀ r k, Y (ix2 r k) = ((y r k : ℝ) : EReal))

include hX hY in
/-- One block's share of the gain's gradient. -/
theorem pay1_at (acc : FVec Ideal S1x1024 .f32) (k : Fin 1024) :
    k0_pay1 (F := Ideal) Y (k0_pay75 X) acc (ix2 0 k) = acc (ix2 0 k) + ((∑ r, y r k * nx 1024 (x r) k : ℝ) : EReal) := by
  have h := pay75_at hX
  generalize k0_pay75 (F := Ideal) X = Z at h ⊢
  pointwise [k0_pay1]
  simp only [h, hY, ← EReal.coe_mul, coe_sum]

include hX hY in
theorem pay2_at {g : Fin 1024 → ℝ} {G : FVec Ideal S1x1024 .f32} (hG : ∀ k, G (ix2 0 k) = ((g k : ℝ) : EReal))
    (d : FVec Ideal S256x1024 .f32) {v371 v373 v0 v375 v377 v381 v383 v387 v389} (e : k0_pay73 (F := Ideal) v371 v373 v0 v375 v377 v381 v383 v387 v389 = Y)
    (r : Fin 256) (k : Fin 1024) :
    k0_pay2 (F := Ideal) (k0_pay74 X) (k0_pay75 X) (k0_pay76 v371 v373 v0 v375 v377 v381 v383 v387 v389 G)
      (k0_pay77 v371 v373 v0 v375 v377 v381 v383 v387 v389 X G) d (ix2 r k) = d (ix2 r k) + ((bn 1024 g (y r) (x r) k : ℝ) : EReal) := by
  have h := pay75_at hX
  have h1 := pay74_at hX
  unfold k0_pay77 k0_pay76
  rw [e]
  generalize k0_pay75 (F := Ideal) X = Z at h ⊢
  generalize k0_pay74 (F := Ideal) X = R at h1 ⊢
  pointwise [k0_pay2]
  simp only [h, h1, hY, hG, ofBits_1024, ← EReal.coe_mul, coe_sum]
  rw [Ideal.div_coe (by norm_num)]
  refine congrArg _ ?_
  unfold bn
  norm_cast

end

/-- The product with the transposed weight, in four parts of 1408 columns. -/
def prod (p : FVec Ideal S256x5632 .bf16) (w : FVec Ideal S4x1024x1408 .bf16) : FVec Ideal S256x1024 .f32 :=
  k0_pay73 (F := Ideal) (k0_pay71 (View.ld (Val := Elt Ideal) (e' := .bf16) p (Rect.unit (s := S256x5632) ![0, 0] ![256, 1408] inb_S256x5632_S256x1408_0_0)))
    (k0_pay72 (View.ld (Val := Elt Ideal) (e' := .bf16) w (Rect.unit (s := S4x1024x1408) ![0, 0, 0] ![1, 1024, 1408] inb_S4x1024x1408_S1x1024x1408_0_0_0)))
    (constant S256x1024 .f32 0#32)
    (View.ld (Val := Elt Ideal) (e' := .bf16) p (Rect.unit (s := S256x5632) ![0, 1408] ![256, 1408] inb_S256x5632_S256x1408_0_1408))
    (View.ld (Val := Elt Ideal) (e' := .bf16) w (Rect.unit (s := S4x1024x1408) ![1, 0, 0] ![1, 1024, 1408] inb_S4x1024x1408_S1x1024x1408_1_0_0))
    (View.ld (Val := Elt Ideal) (e' := .bf16) p (Rect.unit (s := S256x5632) ![0, 2816] ![256, 1408] inb_S256x5632_S256x1408_0_2816))
    (View.ld (Val := Elt Ideal) (e' := .bf16) w (Rect.unit (s := S4x1024x1408) ![2, 0, 0] ![1, 1024, 1408] inb_S4x1024x1408_S1x1024x1408_2_0_0))
    (View.ld (Val := Elt Ideal) (e' := .bf16) p (Rect.unit (s := S256x5632) ![0, 4224] ![256, 1408] inb_S256x5632_S256x1408_0_4224))
    (View.ld (Val := Elt Ideal) (e' := .bf16) w (Rect.unit (s := S4x1024x1408) ![3, 0, 0] ![1, 1024, 1408] inb_S4x1024x1408_S1x1024x1408_3_0_0))

theorem prod_at (p : FVec Ideal S256x5632 .bf16) (w : FVec Ideal S4x1024x1408 .bf16) (r : Fin 256) (k : Fin 1024) :
    prod p w (ix2 r k) = ∑ i : Fin 4, ∑ j : Fin 1408, p (ix2 r ⟨1408 * i + j, by omega⟩) * w (ix3 i k j) := by
  rw [Fin.sum_univ_four]
  unfold prod
  pointwise [k0_pay73, k0_pay72, k0_pay71]

variable {m} {c : Dev nD} {x : Fin 4096 → Fin 1024 → ℝ} {g : Fin 1024 → ℝ} {w : Fin 1024 → Fin 5632 → ℝ} {u : Fin 3 → Fin 5632 → ℝ} {q : Fin 4096 → Fin 5632 → ℝ}
  (W : Cert.ConvIn.In (A0 m c) (A1 m c) (A2 m c) (A3 m c) (A4 m c) x g w u q)

include W in
theorem D_real (t : Fin cfg0.N) (r : Fin 272) (j : Fin 5632) :
    D (iblk m c 0 t) (iblk m c 1 t) (grid0.coords t) (ix2 r j) = ((up (q · j) (256 * t + r) : ℝ) : EReal) := by
  have hN := lt_of_lt_of_eq t.isLt (show cfg0.N = 16 from N_0)
  rw [D_at, coords_at]
  split_ifs with h h1
  · rw [blk0 m c t ⟨r, h⟩ j (row_lt t _), W.h4, up_lt _ _ (row_lt t ⟨r, h⟩)]
  · rw [blk1 m c t ⟨r - 256, by omega⟩ j (by show 256 * (t.val + 1) + (r.val - 256) < 4096; omega), W.h4, up_lt _ _ (by omega)]
    refine congrArg (fun i => ((q i j : ℝ) : EReal)) (Fin.ext ?_)
    show 256 * (t.val + 1) + (r.val - 256) = 256 * t.val + r.val
    omega
  · rw [up_end _ _ (by omega), EReal.coe_zero]

include W in
theorem da_real (t : Fin cfg0.N) (r : Fin 256) (j : Fin 5632) :
    (outsAt0 m c t.val t.isLt).2.2.1 (ix2 r j) = ((Cert.ConvIn.da u q (row t r) j : ℝ) : EReal) := by
  rw [daB_at, da_apply, D_real W, D_real W, D_real W, blk2, blk2, blk2, W.h3, W.h3, W.h3, ← EReal.coe_mul, ← EReal.coe_mul, ← EReal.coe_mul,
    ← EReal.coe_add, ← EReal.coe_add]
  unfold Cert.ConvIn.da
  rw [up_lt _ _ (row_lt t r)]
  rfl

include W in
theorem prod_real (t : Fin cfg0.N) (r : Fin 256) (k : Fin 1024) :
    prod (outsAt0 m c t.val t.isLt).2.2.1 (iblk m c 4 t) (ix2 r k) = ((dy (Cert.ConvIn.da u q) w (row t r) k : ℝ) : EReal) := by
  rw [prod_at]
  unfold dy
  rw [← coe_sum, Fin.sum_univ_tiles 4 1408 rfl]
  refine Finset.sum_congr rfl fun i _ => Finset.sum_congr rfl fun j _ => ?_
  rw [da_real W, blk4, W.h2, ← EReal.coe_mul]
  have e : (⟨1408 * i + j, by omega⟩ : Fin 5632) = ⟨i.val * 1408 + j.val, by omega⟩ := Fin.ext (by show 1408 * (i : ℕ) + j = i * 1408 + j; omega)
  rw [e]

include W in
theorem X_at (t : Fin cfg0.N) (r : Fin 256) (k : Fin 1024) :
    (iblk m c 5 t : FVec Ideal S256x1024 .f32) (ix2 r k) = ((x (row t r) k : ℝ) : EReal) :=
  (blk5 m c t r k (row_lt t r)).trans (W.h0 _ _)

/-- Block `t`'s share of the gain's gradient. -/
def part (x : Fin 4096 → Fin 1024 → ℝ) (w : Fin 1024 → Fin 5632 → ℝ) (u : Fin 3 → Fin 5632 → ℝ) (q : Fin 4096 → Fin 5632 → ℝ) (k : Fin 1024)
    (t : Fin cfg0.N) : EReal :=
  ((∑ r, dy (Cert.ConvIn.da u q) w (row t r) k * nx 1024 (x (row t r)) k : ℝ) : EReal)

include W in
theorem out_at (t : Fin cfg0.N) (r : Fin 256) (k : Fin 1024) :
    (outsAt0 m c t.val t.isLt).1 (ix2 r k)
      = A5 m c (ix2 (row t r) k) + ((bn 1024 g (dy (Cert.ConvIn.da u q) w (row t r)) (x (row t r)) k : ℝ) : EReal) := by
  have key := fun {a b c' d e f h i l} E => (pay2_at (X_at W t) (prod_real W t) (fun k => (blk6 m c t k).trans (W.h1 k)) (iblk m c 7 t)
    (v371 := a) (v373 := b) (v0 := c') (v375 := d) (v377 := e) (v381 := f) (v383 := h) (v387 := i) (v389 := l) E r k).trans
    (congrArg (· + _) (blk7 m c t r k (row_lt t r)))
  have hp := daB_at m c t
  generalize (outsAt0 m c t.val t.isLt).2.2.1 = p at hp key
  unfold da D at hp
  by_cases h0 : t.val % 16 = 0
  · rw [outsAt0_A m c t h0 (by omega)]; frame_out
    simp only [readCov_ld, chunk_da]
    rw [← hp]
    exact key rfl
  by_cases h1 : t.val % 16 = 15
  · rw [outsAt0_C m c t h0 h1]; frame_out
    simp only [readCov_ld, chunk_da]
    rw [← hp]
    exact key rfl
  · rw [outsAt0_B m c t h0 h1]; frame_out
    simp only [readCov_ld, chunk_da]
    rw [← hp]
    exact key rfl

include W in
theorem acc_first (t : Fin cfg0.N) (h : t.val % 16 = 0) (k : Fin 1024) :
    (outsAt0 m c t.val t.isLt).2.1 (ix2 0 k) = part x w u q k t := by
  have key := fun acc => pay1_at (X_at W t) (prod_real W t) acc k
  have hp := daB_at m c t
  generalize (outsAt0 m c t.val t.isLt).2.2.1 = p at hp key
  unfold da D at hp
  rw [outsAt0_A m c t h (by omega)]; frame_out
  simp only [readCov_ld, chunk_da]
  rw [← hp]
  refine (key _).trans ?_
  rw [show k0_pay6 (F := Ideal) (ix2 0 k) = 0 by pointwise [k0_pay6], zero_add, part]

include W in
theorem acc_next (t : Fin cfg0.N) (h : ¬t.val % 16 = 0) (k : Fin 1024) :
    (outsAt0 m c t.val t.isLt).2.1 (ix2 0 k) = (outsAt0 m c (t.val - 1) (by omega)).2.1 (ix2 0 k) + part x w u q k t := by
  have key := fun acc => pay1_at (X_at W t) (prod_real W t) acc k
  have hp := daB_at m c t
  generalize (outsAt0 m c t.val t.isLt).2.2.1 = p at hp key
  unfold da D at hp
  by_cases h1 : t.val % 16 = 15
  · rw [outsAt0_C m c t h h1]; frame_out
    simp only [readCov_ld, chunk_da]
    rw [← hp]
    exact key _
  · rw [outsAt0_B m c t h h1]; frame_out
    simp only [readCov_ld, chunk_da]
    rw [← hp]
    exact key _

/-- Block `t`'s share of the accumulators. -/
def share (x : Fin 4096 → Fin 1024 → ℝ) (g : Fin 1024 → ℝ) (w : Fin 1024 → Fin 5632 → ℝ) (q : Fin 4096 → Fin 5632 → ℝ) (k : Fin 3) (s : Fin 8) (j : Fin 5632)
    (t : ℕ) : ℝ :=
  ∑ b : Fin 4, ∑ i : Fin 8, up (q · j) (256 * t + (64 * b + (8 * i + s) : ℕ) + (2 - k : ℕ)) * up (aR x g w · j) (256 * t + (64 * b + (8 * i + s) : ℕ))

include W in
theorem plane_real (t : Fin cfg0.N) (k : Fin 3) (s : Fin 8) (j : Fin 5632) (P : FVec Ideal S3x8x5632 .f32) :
    plane (D (iblk m c 0 t) (iblk m c 1 t) (grid0.coords t)) (iblk m c 3 t) P k (ix3 0 s j)
      = P (ix3 k s j) + ((share x g w q k s j t : ℝ) : EReal) := by
  rw [plane_at]
  refine congrArg _ ?_
  unfold share
  rw [← coe_sum]
  refine Finset.sum_congr rfl fun b _ => ?_
  rw [← coe_sum]
  refine Finset.sum_congr rfl fun i _ => ?_
  rw [D_real W, blk3 m c t _ j (row_lt t _), Cert.ConvIn.v16_at W, ← EReal.coe_mul, up_lt _ _ (row_lt t ⟨64 * b + (8 * i + s), by omega⟩)]
  refine congrArg (fun n => ((up (q · j) n * _ : ℝ) : EReal)) ?_
  show 256 * t.val + (64 * b + (8 * i + s + (2 - k)) : ℕ) = _
  omega

include W in
theorem acc_real (n : ℕ) (hn : n < cfg0.N) (k : Fin 3) (s : Fin 8) (j : Fin 5632) :
    (outsAt0 m c n hn).2.2.2.2 (ix3 k s j) = ((∑ t : Fin (n + 1), share x g w q k s j t : ℝ) : EReal) := by
  have hN := lt_of_lt_of_eq hn (show cfg0.N = 16 from N_0)
  induction n with
  | zero =>
    rw [acc_at m c ⟨0, hn⟩, plane_real W, prev, if_pos (show (0 : ℕ) % 16 = 0 from rfl), Fin.sum_univ_one, show k0_pay7 (F := Ideal) (ix3 k s j) = 0 by pointwise [k0_pay7], zero_add]
    rfl
  | succ n ih =>
    rw [acc_at m c ⟨n + 1, hn⟩, plane_real W, prev, if_neg (by show ¬(n + 1) % 16 = 0; omega), Fin.sum_univ_castSucc (n := n + 1), EReal.coe_add]
    refine congrArg (· + _) (ih _ ?_)
    omega

include W in
theorem acc_sum (n : ℕ) (hn : n < cfg0.N) (k : Fin 1024) :
    (outsAt0 m c n hn).2.1 (ix2 0 k) = ∑ t : Fin (n + 1), part x w u q k ⟨t, by omega⟩ := by
  have hN := lt_of_lt_of_eq hn (show cfg0.N = 16 from N_0)
  induction n with
  | zero => rw [acc_first W ⟨0, hn⟩ rfl, Fin.sum_univ_one]; rfl
  | succ n ih =>
    rw [acc_next W ⟨n + 1, hn⟩ (by show ¬(n + 1) % 16 = 0; omega), Fin.sum_univ_castSucc (n := n + 1)]
    refine congrArg (· + _) (ih _ ?_)
    omega

include W in
theorem gain_at (k : Fin 1024) :
    (outsAt0 m c t0_15.val t0_15.isLt).2.1 (ix2 0 k) = ((∑ r, dy (Cert.ConvIn.da u q) w r k * nx 1024 (x r) k : ℝ) : EReal) := by
  refine (acc_sum W _ _ k).trans ?_
  unfold part
  rw [coe_sum, Fin.sum_univ_tiles 16 256 rfl]
  refine congrArg _ (Finset.sum_congr rfl fun t _ => Finset.sum_congr rfl fun r _ => ?_)
  exact congrArg (fun i => dy (Cert.ConvIn.da u q) w i k * nx 1024 (x i) k) (Fin.ext (congrArg (· + r.val) (Nat.mul_comm 256 t.val)))

include W in
theorem conv_real (k : Fin 3) (j : Fin 5632) :
    (outsAt0 m c t0_15.val t0_15.isLt).2.2.2.1 (ix2 k j) = ((∑ r : Fin 4096, up (q · j) (r + (2 - k : ℕ)) * aR x g w r j : ℝ) : EReal) := by
  rw [conv_at m c t0_15 (by decide) (by decide), (sum8_at _ j).1]
  have e : ∀ s : Fin 8, plane (D (iblk m c 0 t0_15) (iblk m c 1 t0_15) (grid0.coords t0_15)) (iblk m c 3 t0_15) (prev m c t0_15) k (ix3 0 s j)
      = ((∑ t : Fin 16, share x g w q k s j t : ℝ) : EReal) := fun s => (acc_at m c t0_15 k s j).symm.trans (acc_real W 15 _ k s j)
  simp only [e, coe_sum]
  refine congrArg _ ?_
  rw [Fin.sum_univ_tiles 16 256 rfl, Finset.sum_comm]
  refine Finset.sum_congr rfl fun t _ => ?_
  unfold share
  rw [Fin.sum_univ_tiles 4 64 rfl, Finset.sum_comm]
  refine Finset.sum_congr rfl fun b _ => ?_
  rw [Fin.sum_univ_tiles 8 8 rfl, Finset.sum_comm]
  refine Finset.sum_congr rfl fun i _ => Finset.sum_congr rfl fun s _ => ?_
  rw [up_lt (aR x g w · j) _ (by omega)]
  have e : 256 * t.val + (64 * b.val + (8 * i.val + s.val)) = t.val * 256 + (b.val * 64 + (i.val * 8 + s.val)) := by omega
  simp only [e]

include W in
theorem final8 : (dats m 0 c).arrAt 8 (cfgs 0).N = val_main_v99 (F := Ideal) (A0 m c) (A1 m c) (A2 m c) (A3 m c) (A4 m c) (A5 m c) := by
  refine (dats m 0 c).arrAt_eq_of_covers 8 _ (by decide +kernel) fun t hf y => ?_
  blk_simp
  rw [after0_8]
  have hy : y = (ix2 (y 0) (y 1) : S256x1024.Idx) := eq_ix2 (n0 := 256) (n1 := 1024) y
  refine (congrArg (outsAt0 m c t.val t.isLt).1 hy).trans ((out_at W t (y 0) (y 1)).trans ?_)
  refine (Cert.ConvIn.v99_at (x5 := A5 m c) W (row t (y 0)) (y 1)).symm.trans ?_
  refine congrArg (val_main_v99 (F := Ideal) (A0 m c) (A1 m c) (A2 m c) (A3 m c) (A4 m c) (A5 m c)) ?_
  funext a
  refine Fin.ext ?_
  fin_cases a <;> blk_simp [idx t]
  · show 256 * t.val + (y 0 : ℕ) = t.val * 256 + (y 0 : ℕ)
    omega
  · rfl

include W in
theorem final9 : (dats m 0 c).arrAt 9 (cfgs 0).N = val_main_v100 (F := Ideal) (A0 m c) (A2 m c) (A3 m c) (A4 m c) := by
  refine (dats m 0 c).arrAt_eq_of_after_last 9 t0_15 (by decide +kernel) _ fun j => ?_
  blk_simp
  rw [after0_9]
  obtain ⟨k, rfl⟩ := lanes j
  exact (gain_at W k).trans (Cert.ConvIn.v100_at W k).symm

include W in
theorem final10 : (dats m 0 c).arrAt 10 (cfgs 0).N = val_main_v101 (F := Ideal) (A3 m c) (A4 m c) := by
  refine (dats m 0 c).arrAt_eq_of_covers 10 _ (by decide +kernel) fun t hf y => ?_
  blk_simp
  rw [after0_10]
  have hy : y = (ix2 (y 0) (y 1) : S256x5632.Idx) := eq_ix2 (n0 := 256) (n1 := 5632) y
  refine (congrArg (outsAt0 m c t.val t.isLt).2.2.1 hy).trans ((da_real W t (y 0) (y 1)).trans ?_)
  refine (Cert.ConvIn.v101_at W (row t (y 0)) (y 1)).symm.trans ?_
  refine congrArg (val_main_v101 (F := Ideal) (A3 m c) (A4 m c)) ?_
  funext a
  refine Fin.ext ?_
  fin_cases a <;> blk_simp [idx t]
  · show 256 * t.val + (y 0 : ℕ) = t.val * 256 + (y 0 : ℕ)
    omega
  · rfl

include W in
theorem final11 : (dats m 0 c).arrAt 11 (cfgs 0).N = val_main_v77 (F := Ideal) (A0 m c) (A1 m c) (A2 m c) (A4 m c) := by
  refine (dats m 0 c).arrAt_eq_of_after_last 11 t0_15 (by decide +kernel) _ fun j => ?_
  blk_simp
  rw [after0_11, eq_ix2 (n0 := 3) (n1 := 5632) j]
  exact (conv_real W (j 0) (j 1)).trans (Cert.ConvIn.v77_at W (j 0) (j 1)).symm

/-- The program's run, with each result what the grid's points leave. -/
theorem run (ρ : Dev nD → PrngReg) : θ_run defs (onTc (τ := τ) (main (F := Ideal))) ⟨m, fun _ => 0, ρ⟩ (fun r => ∀ c : Dev nD,
      (r.2.mem ((c.tc : Thread nD τ).loc main_v20_0) = (dats m 0 c).arrAt 8 (cfgs 0).N
      ∧ r.2.mem ((c.tc : Thread nD τ).loc main_v20_1) = (dats m 0 c).arrAt 9 (cfgs 0).N
      ∧ r.2.mem ((c.tc : Thread nD τ).loc main_v20_2) = (dats m 0 c).arrAt 10 (cfgs 0).N
      ∧ r.2.mem ((c.tc : Thread nD τ).loc main_v20_3) = (dats m 0 c).arrAt 11 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨⟨(h.1 c).1 8, (h.1 c).1 9, (h.1 c).1 10, (h.1 c).1 11⟩, h.2 c⟩)
    (θ_run_and (run_main m ρ) (unchanged m ρ))

end Cert.Kernel4Ideal.ConvIn

end
-- ==== Proof.LossHeadRef.lean ====
/- The loss of the reference, entry by entry, and the extended-real arithmetic it shares with the kernel's. -/
module

public import proofs.«01_k».proof.Proof.FfnDcRef
public import proofs.«01_k».proof.Proof.Norm
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.Reference5Ideal.LossHead

open Cert.Reference5Ideal Cert.Reference5Ideal.Read Cert.Reals Cert.Norm
open Cert.KernelIdeal.FfnDc (sgm)
open Cert.ReferenceIdeal.FfnDc (lg lg_coe sgm_coe)

/-- The gated product of a gate's argument `g` and a value `v`, with the kernel's sigmoid. -/
def gated (g v : EReal) : EReal := g * sgm g * v

/-- The two forms of the sigmoid agree at every extended real. -/
theorem lg_eq (x : EReal) : lg x = sgm x := by
  induction x with
  | coe x => exact (lg_coe x).trans (sgm_coe x).symm
  | top =>
    unfold lg sgm
    rw [ofBits_half, EReal.coe_mul_top_of_pos (by norm_num), Ideal.tanh_top, EReal.neg_top, Ideal.exp_bot, add_zero, mul_one, ← EReal.coe_add,
      ← EReal.coe_one, Ideal.div_coe (by norm_num)]
    norm_num
  | bot =>
    unfold lg sgm
    rw [ofBits_half, EReal.coe_mul_bot_of_pos (by norm_num), Ideal.tanh_bot, EReal.neg_bot, Ideal.exp_top, EReal.add_top_of_ne_bot (show (1 : EReal) ≠ ⊥ from EReal.coe_ne_bot 1), mul_neg, mul_one,
      ← EReal.coe_neg, ← EReal.coe_add]
    norm_num [Ideal.div]

/-- A square is not negative, -/
theorem sq_nonneg (x : EReal) : 0 ≤ x * x :=
  EReal.mul_nonneg_iff.mpr ((le_total 0 x).imp (fun h => ⟨h, h⟩) fun h => ⟨h, h⟩)

/-- and a factor moves into a sum of terms that are not. -/
theorem mul_sum_nonneg {n : ℕ} (a : EReal) (f : Fin n → EReal) (hf : ∀ i, 0 ≤ f i) : a * ∑ i, f i = ∑ i, a * f i := by
  induction n with
  | zero => simp
  | succ n ih =>
    rw [Fin.sum_univ_succ, Fin.sum_univ_succ, EReal.left_distrib_of_nonneg (hf 0) (Finset.sum_nonneg fun i _ => hf i.succ), ih _ fun i => hf i.succ]

/-- The reciprocal of the width. -/
theorem ofBits_1024th : Ideal.ofBits .f32 0x3A800000#32 = ((1 / 1024 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

variable (C : FVec Ideal S4096x5632 .f32) (B : FVec Ideal S5632 .f32) (W : FVec Ideal S2816x1024 .f32)
  (H : FVec Ideal S4096x1024 .f32) (T : FVec Ideal S4096x1024 .f32)

/-- Entry `(r, j)` of the gated product. -/
def fE (r : Fin 4096) (j : Fin 2816) : EReal :=
  gated (C (ix2 r ⟨j, by omega⟩) + B (ix1 ⟨j, by omega⟩)) (C (ix2 r ⟨2816 + j, by omega⟩) + B (ix1 ⟨2816 + j, by omega⟩))

/-- The error of the prediction. -/
def eE (r : Fin 4096) (k : Fin 1024) : EReal := H (ix2 r k) + ∑ j : Fin 2816, fE C B r j * W (ix2 j k) - T (ix2 r k)

/-- The mean square of row `r` of the error. -/
def msE (r : Fin 4096) : EReal := (∑ k : Fin 1024, eE C B W H T r k * eE C B W H T r k) * Ideal.ofBits .f32 0x3A800000#32

theorem v3_at (r : Fin 4096) (j : Fin 2816) : val_main_v3 (F := Ideal) C B (ix2 r j) = C (ix2 r ⟨j, by omega⟩) + B (ix1 ⟨j, by omega⟩) := by
  unfold val_main_v3 val_main_v2 val_main_v1 val_main_v0
  pointwise

theorem v4_at (r : Fin 4096) (j : Fin 2816) :
    val_main_v4 (F := Ideal) C B (ix2 r j) = C (ix2 r ⟨2816 + j, by omega⟩) + B (ix1 ⟨2816 + j, by omega⟩) := by
  unfold val_main_v4 val_main_v2 val_main_v1 val_main_v0
  pointwise

theorem call5_at (r : Fin 4096) (j : Fin 2816) :
    val_main_call0_v5 (F := Ideal) C B (ix2 r j) = sgm (val_main_v3 (F := Ideal) C B (ix2 r j)) := by
  rw [← lg_eq]
  unfold val_main_call0_v5 val_main_call0_v4 val_main_call0_cst_0 val_main_call0_v3 val_main_call0_v2 val_main_call0_cst
    val_main_call0_v1 val_main_call0_v0 lg
  pointwise

theorem v6_at (r : Fin 4096) (j : Fin 2816) : val_main_v6 (F := Ideal) C B (ix2 r j) = fE C B r j := by
  unfold fE gated
  rw [← v3_at, ← v4_at, ← call5_at]
  rfl

theorem v18_at (r : Fin 4096) (j : Fin 2816) : val_main_v18 (F := Ideal) C B (ix2 r j) = fE C B r j := v6_at C B r j

theorem v9_at (r : Fin 4096) (k : Fin 1024) : val_main_v9 (F := Ideal) C B W H T (ix2 r k) = eE C B W H T r k := by
  have h := v6_at C B r
  unfold val_main_v9 val_main_v8 val_main_v7 eE
  generalize val_main_v6 (F := Ideal) C B = f at h ⊢
  pointwise [h]

theorem v24_at (r : Fin 4096) (k : Fin 1024) :
    val_main_v24 (F := Ideal) C B W H T (ix2 r k) = eE C B W H T r k * Ideal.ofBits .f32 0x3A800000#32 := by
  rw [← v9_at]
  unfold val_main_v24 val_main_v23 val_main_v22 val_main_v21 val_main_cst_6 val_main_v20 val_main_v19 val_main_cst_4 val_main_cst_5
    val_main_v12 val_main_v11 val_main_cst
  generalize val_main_v9 (F := Ideal) C B W H T = e
  pointwise
  rw [ofBits_half, ofBits_1024, ofBits_1024th, ofBits_two, Ideal.div_coe (by norm_num), ← mul_assoc, ← EReal.coe_mul, ← EReal.coe_mul, mul_comm]
  norm_num

theorem v15_at (r : Fin 4096) : val_main_v15 (F := Ideal) C B W H T (ix1 r) = msE C B W H T r := by
  have h := v9_at C B W H T r
  unfold msE
  simp only [← h]
  unfold val_main_v15 val_main_v14 val_main_cst_1 val_main_v13 val_main_cst_0 val_main_v10
  generalize val_main_v9 (F := Ideal) C B W H T = e
  pointwise
  rw [ofBits_1024, ofBits_1024th, Ideal.div_coe (by norm_num)]

theorem v25_at : val_main_v25 (F := Ideal) C B W H T (ix2 0 0) = Ideal.ofBits .f32 0x3F000000#32 * ∑ r : Fin 4096, msE C B W H T r := by
  have h := v15_at C B W H T
  simp only [← h]
  unfold val_main_v25 val_main_v17 val_main_cst_3 val_main_v16 val_main_cst_2
  generalize val_main_v15 (F := Ideal) C B W H T = e
  pointwise

theorem msE_nonneg (r : Fin 4096) : 0 ≤ msE C B W H T r :=
  EReal.mul_nonneg (Finset.sum_nonneg fun _ _ => sq_nonneg _) (by rw [ofBits_1024th]; exact_mod_cast (by norm_num : (0 : ℝ) ≤ 1 / 1024))

/-- The loss, as the kernel adds it up: half the mean squares of 512 rows at a time. -/
theorem v25_blocks : val_main_v25 (F := Ideal) C B W H T (ix2 0 0)
    = ∑ t : Fin 8, Ideal.ofBits .f32 0x3F000000#32 * ∑ r : Fin 512, msE C B W H T ⟨512 * t + r, by omega⟩ := by
  rw [v25_at, Fin.sum_univ_tiles 8 512 rfl, mul_sum_nonneg _ _ fun t => Finset.sum_nonneg fun r _ => msE_nonneg C B W H T _]
  refine Finset.sum_congr rfl fun t _ => congrArg _ (Finset.sum_congr rfl fun r _ => congrArg _ (Fin.ext ?_))
  show (t : ℕ) * 512 + r = 512 * t + r
  omega

end Cert.Reference5Ideal.LossHead

end
-- ==== Proof.LossHead.lean ====
/- The loss head over one grid's blocks of 512 rows: the gated product in four chunks of 128 rows, the prediction's
   error, its gradient, and the loss collected in one resident entry. -/
module

public import proofs.«01_k».proof.Proof.LossHeadRef
public import proofs.«01_k».proof.Proof.Pieces
public import proofs.«01_k».proof.Proof.Gen.Kernel5.Frame
public import proofs.«01_k».proof.Proof.Gen.Kernel5Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.LossHead

open Cert.Kernel5Ideal Cert.Kernel5Ideal.Gen Cert.Reals Cert.Pieces
open Cert.KernelIdeal.FfnDc (sgm)
open Cert.Reference5Ideal.LossHead

/-- Row `r` of a block's gated product, from the block of pre-activations. -/
def fB (x0 : FVec Ideal S512x5632 .bf16) (r : Fin 512) (j : Fin 2816) : EReal :=
  gated (x0 (ix2 r ⟨j, by omega⟩)) (x0 (ix2 r ⟨2816 + j, by omega⟩))

/-- The error of a block's prediction. -/
def eB (x0 : FVec Ideal S512x5632 .bf16) (x1 : FVec Ideal S512x1024 .f32) (x2 : FVec Ideal S2816x1024 .bf16)
    (x3 : FVec Ideal S512x1024 .f32) (r : Fin 512) (k : Fin 1024) : EReal :=
  x1 (ix2 r k) + ∑ j : Fin 2816, fB x0 r j * x2 (ix2 j k) - x3 (ix2 r k)

theorem pay5_at (g v : FVec Ideal S128x2816 .bf16) (r : Fin 128) (j : Fin 2816) :
    k0_pay5 (F := Ideal) g v (ix2 r j) = gated (g (ix2 r j)) (v (ix2 r j)) := by pointwise [k0_pay5, gated, sgm]

theorem pay6_at (g v : FVec Ideal S128x2816 .bf16) (r : Fin 128) (j : Fin 2816) :
    k0_pay6 (F := Ideal) g v (ix2 r j) = gated (g (ix2 r j)) (v (ix2 r j)) := by pointwise [k0_pay6, gated, sgm]

theorem pay8_at (g v : FVec Ideal S128x2816 .bf16) (r : Fin 128) (j : Fin 2816) :
    k0_pay8 (F := Ideal) (k0_pay7 g) v (ix2 r j) = gated (g (ix2 r j)) (v (ix2 r j)) := by pointwise [k0_pay8, k0_pay7, gated, sgm]

theorem pay9_at (g v : FVec Ideal S128x2816 .bf16) (r : Fin 128) (j : Fin 2816) :
    k0_pay9 (F := Ideal) g v (ix2 r j) = gated (g (ix2 r j)) (v (ix2 r j)) := by pointwise [k0_pay9, gated, sgm]

theorem pay2_at (h : FVec Ideal S512x1024 .f32) (f : FVec Ideal S512x2816 .bf16) (w : FVec Ideal S2816x1024 .bf16)
    (y : FVec Ideal S512x1024 .f32) (r : Fin 512) (k : Fin 1024) :
    k0_pay2 (F := Ideal) h f w y (ix2 r k) = h (ix2 r k) + ∑ j : Fin 2816, f (ix2 r j) * w (ix2 j k) - y (ix2 r k) := by
  pointwise [k0_pay2]

theorem pay3_at (h : FVec Ideal S512x1024 .f32) (f : FVec Ideal S512x2816 .bf16) (w : FVec Ideal S2816x1024 .bf16)
    (y : FVec Ideal S512x1024 .f32) (r : Fin 512) (k : Fin 1024) :
    k0_pay3 (F := Ideal) h f w y (ix2 r k) = k0_pay2 (F := Ideal) h f w y (ix2 r k) * Ideal.ofBits .f32 0x3A800000#32 := by
  unfold k0_pay3
  generalize k0_pay2 (F := Ideal) h f w y = e
  pointwise

theorem pay4_at (h : FVec Ideal S512x1024 .f32) (f : FVec Ideal S512x2816 .bf16) (w : FVec Ideal S2816x1024 .bf16)
    (y : FVec Ideal S512x1024 .f32) (acc : FVec Ideal S1x1 .f32) :
    k0_pay4 (F := Ideal) h f w y acc (ix2 0 0) = acc (ix2 0 0) + Ideal.ofBits .f32 0x3F000000#32
      * ∑ r : Fin 512, (∑ k : Fin 1024, k0_pay2 (F := Ideal) h f w y (ix2 r k) * k0_pay2 (F := Ideal) h f w y (ix2 r k)) * Ideal.ofBits .f32 0x3A800000#32 := by
  unfold k0_pay4
  generalize k0_pay2 (F := Ideal) h f w y = e
  pointwise

variable (m : (ℓ : Loc nD τ sig) → Buf (Elt Ideal) ℓ)

abbrev A0 (c : Dev nD) : FVec Ideal S4096x5632 .f32 := m ((c : Thread nD τ).loc main_arg0)
abbrev A1 (c : Dev nD) : FVec Ideal S5632 .f32 := m ((c : Thread nD τ).loc main_arg1)
abbrev A2 (c : Dev nD) : FVec Ideal S2816x1024 .f32 := m ((c : Thread nD τ).loc main_arg2)
abbrev A3 (c : Dev nD) : FVec Ideal S4096x1024 .f32 := m ((c : Thread nD τ).loc main_arg3)
abbrev A4 (c : Dev nD) : FVec Ideal S4096x1024 .f32 := m ((c : Thread nD τ).loc main_arg4)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

/-- `v` holds rows `o … o + 127` of a block's gated product. -/
def IsChunk (o : ℕ) (x0 : FVec Ideal S512x5632 .bf16) (v : FVec Ideal S128x2816 .bf16) : Prop :=
  ∀ (a : Fin 128) (r : Fin 512) (k : Fin 2816), (r : ℕ) = o + (a : ℕ) → v (ix2 a k) = fB x0 r k

theorem chunk (o : ℕ) (ho : o + 128 ≤ 512) (x0 : FVec Ideal S512x5632 .bf16) (v g u : FVec Ideal S128x2816 .bf16)
    (hv : ∀ a b, v (ix2 a b) = gated (g (ix2 a b)) (u (ix2 a b)))
    (hg : ∀ (a : Fin 128) (b : Fin 2816), g (ix2 a b) = x0 (ix2 ⟨o + a, by omega⟩ ⟨b, by omega⟩))
    (hu : ∀ (a : Fin 128) (b : Fin 2816), u (ix2 a b) = x0 (ix2 ⟨o + a, by omega⟩ ⟨2816 + b, by omega⟩)) :
    IsChunk o x0 v := by
  intro a r k hr
  have e : r = ⟨o + a, by omega⟩ := Fin.ext hr
  rw [e, hv, hg, hu, fB]

theorem IsChunk.apply {o : ℕ} {x0 : FVec Ideal S512x5632 .bf16} {v : FVec Ideal S128x2816 .bf16} (h : IsChunk o x0 v) (x : S128x2816.Idx)
    (r : Fin 512) (k : Fin 2816) (hr : (r : ℕ) = o + (x 0 : ℕ)) (hk : (k : ℕ) = (x 1 : ℕ)) : v x = fB x0 r k := by
  have e : k = x 1 := Fin.ext hk
  rw [e, eq_ix2 x]
  exact h _ _ _ hr

/-- The four stores of a block's gated product. -/
def stores (x0 : FVec Ideal S512x5632 .bf16) : List (View.Piece (Elt Ideal) S512x2816 .bf16) :=
  [⟨Rect.unit ![384, 0] ![128, 2816] inb_S512x2816_S128x2816_384_0,
    k0_pay9 (F := Ideal) (View.ld (Val := Elt Ideal) (e' := .bf16) x0 (Rect.unit ![384, 0] ![128, 2816] inb_S512x5632_S128x2816_384_0))
      (View.ld (Val := Elt Ideal) (e' := .bf16) x0 (Rect.unit ![384, 2816] ![128, 2816] inb_S512x5632_S128x2816_384_2816))⟩,
   ⟨Rect.unit ![256, 0] ![128, 2816] inb_S512x2816_S128x2816_256_0,
    k0_pay8 (F := Ideal) (k0_pay7 (View.ld (Val := Elt Ideal) (e' := .bf16) x0 (Rect.unit ![256, 0] ![128, 2816] inb_S512x5632_S128x2816_256_0)))
      (View.ld (Val := Elt Ideal) (e' := .bf16) x0 (Rect.unit ![256, 2816] ![128, 2816] inb_S512x5632_S128x2816_256_2816))⟩,
   ⟨Rect.unit ![128, 0] ![128, 2816] inb_S512x2816_S128x2816_128_0,
    k0_pay6 (F := Ideal) (View.ld (Val := Elt Ideal) (e' := .bf16) x0 (Rect.unit ![128, 0] ![128, 2816] inb_S512x5632_S128x2816_128_0))
      (View.ld (Val := Elt Ideal) (e' := .bf16) x0 (Rect.unit ![128, 2816] ![128, 2816] inb_S512x5632_S128x2816_128_2816))⟩,
   ⟨Rect.unit ![0, 0] ![128, 2816] inb_S512x2816_S128x2816_0_0,
    k0_pay5 (F := Ideal) (View.ld (Val := Elt Ideal) (e' := .bf16) x0 (Rect.unit ![0, 0] ![128, 2816] inb_S512x5632_S128x2816_0_0))
      (View.ld (Val := Elt Ideal) (e' := .bf16) x0 (Rect.unit ![0, 2816] ![128, 2816] inb_S512x5632_S128x2816_0_2816))⟩]

theorem stores_at (x0 : FVec Ideal S512x5632 .bf16) (r : Fin 512) (k : Fin 2816) : View.canon (stores x0) (ix2 r k) = fB x0 r k := by
  unfold stores
  canon_tiles x h
  · refine (chunk 384 (by norm_num) x0 _ _ _ (pay9_at _ _) ?_ ?_).apply x r k h0 h1 <;> · intro a b; pointwise
  · refine (chunk 256 (by norm_num) x0 _ _ _ (pay8_at _ _) ?_ ?_).apply x r k h0 h1 <;> · intro a b; pointwise
  · refine (chunk 128 (by norm_num) x0 _ _ _ (pay6_at _ _) ?_ ?_).apply x r k h0 h1 <;> · intro a b; pointwise
  · refine (chunk 0 (by norm_num) x0 _ _ _ (pay5_at _ _) ?_ ?_).apply x r k (h0.trans (Nat.zero_add _).symm) h1 <;> · intro a b; pointwise

/-- The product of a block read back whole, as the second half of the body multiplies it. -/
def fV (c : Dev nD) (t : Fin cfg0.N) : FVec Ideal S512x2816 .bf16 :=
  k0_pay10 (F := Ideal) ((ms0_4 t).view.readCov (stores (iblk m c 0 t)) (Rect.unit (s := S512x2816) ![0, 0] ![512, 2816] inb_S512x2816_S512x2816_0_0).toLoadRect)

theorem fV_at (c : Dev nD) (t : Fin cfg0.N) (r : Fin 512) (k : Fin 2816) : fV m c t (ix2 r k) = fB (iblk m c 0 t) r k := by
  unfold fV
  rw [readCov_ld]
  have h := stores_at (iblk m c 0 t) r k
  generalize View.canon (stores (iblk m c 0 t)) = f at h ⊢
  pointwise [k0_pay10, h]

theorem blk0 (c : Dev nD) (t : Fin cfg0.N) (r : Fin 512) (j : Fin 5632) :
    (iblk m c 0 t : FVec Ideal S512x5632 .bf16) (ix2 r j) = A0 m c (ix2 (row t r) j) + A1 m c (ix1 j) := by
  have hr := row_lt t r
  unfold row
  blk_simp [iblk]
  entry_read
  pointwise
  refine Ideal.add_congr ?_ ?_
  · blk_ext [idx t]
  · blk_ext [idx t]

theorem blk1 (c : Dev nD) (t : Fin cfg0.N) (r : Fin 512) (k : Fin 1024) :
    (iblk m c 1 t : FVec Ideal S512x1024 .f32) (ix2 r k) = A3 m c (ix2 (row t r) k) := by
  have hr := row_lt t r
  unfold row
  blk_point [iblk, V, idx t]

theorem blk2 (c : Dev nD) (t : Fin cfg0.N) (r : Fin 2816) (k : Fin 1024) :
    (iblk m c 2 t : FVec Ideal S2816x1024 .bf16) (ix2 r k) = A2 m c (ix2 r k) := by
  blk_point [iblk, V, idx t]

theorem blk3 (c : Dev nD) (t : Fin cfg0.N) (r : Fin 512) (k : Fin 1024) :
    (iblk m c 3 t : FVec Ideal S512x1024 .f32) (ix2 r k) = A4 m c (ix2 (row t r) k) := by
  have hr := row_lt t r
  unfold row
  blk_point [iblk, V, idx t]

/-- The same entries over the arguments. -/
def fM (c : Dev nD) (R : Fin 4096) (k : Fin 2816) : EReal := fE (A0 m c) (A1 m c) R k
def eM (c : Dev nD) (R : Fin 4096) (k : Fin 1024) : EReal := eE (A0 m c) (A1 m c) (A2 m c) (A3 m c) (A4 m c) R k
def msM (c : Dev nD) (R : Fin 4096) : EReal := msE (A0 m c) (A1 m c) (A2 m c) (A3 m c) (A4 m c) R

theorem fB_eq (c : Dev nD) (t : Fin cfg0.N) (r : Fin 512) (k : Fin 2816) : fB (iblk m c 0 t) r k = fM m c (row t r) k := by
  unfold fB fM fE
  rw [blk0, blk0]

theorem err_at (c : Dev nD) (t : Fin cfg0.N) (r : Fin 512) (k : Fin 1024) :
    k0_pay2 (F := Ideal) (iblk m c 1 t) (fV m c t) (k0_pay11 (iblk m c 2 t)) (iblk m c 3 t) (ix2 r k) = eM m c (row t r) k := by
  rw [pay2_at, blk1, blk3]
  unfold eM eE
  refine congrArg (fun s => A3 m c (ix2 (row t r) k) + s - A4 m c (ix2 (row t r) k)) (Finset.sum_congr rfl fun j _ => ?_)
  rw [fV_at, fB_eq, ← blk2 m c t]
  generalize iblk m c 2 t = w
  refine congrArg (fM m c (row t r) j * ·) ?_
  pointwise [k0_pay11]

theorem f_at (c : Dev nD) (t : Fin cfg0.N) (r : Fin 512) (k : Fin 2816) : (outsAt0 m c t.val t.isLt).1 (ix2 r k) = fM m c (row t r) k := by
  refine Eq.trans ?_ ((stores_at (iblk m c 0 t) r k).trans (fB_eq m c t r k))
  by_cases h : t.val % 8 = 0
  · rw [outsAt0_A m c t h]; frame_out
    exact congrFun rfl _
  · rw [outsAt0_B m c t h]; frame_out
    exact congrFun rfl _

theorem dh_at (c : Dev nD) (t : Fin cfg0.N) (r : Fin 512) (k : Fin 1024) :
    (outsAt0 m c t.val t.isLt).2.1 (ix2 r k) = eM m c (row t r) k * Ideal.ofBits .f32 0x3A800000#32 := by
  refine Eq.trans ?_ ((pay3_at _ _ _ _ r k).trans (congrArg (· * _) (err_at m c t r k)))
  by_cases h : t.val % 8 = 0
  · rw [outsAt0_A m c t h]; frame_out
    exact congrFun rfl _
  · rw [outsAt0_B m c t h]; frame_out
    exact congrFun rfl _

/-- What block `t` adds to the loss. -/
def part (c : Dev nD) (t : Fin cfg0.N) : EReal := Ideal.ofBits .f32 0x3F000000#32 * ∑ r : Fin 512, msM m c (row t r)

theorem add_at (c : Dev nD) (t : Fin cfg0.N) (acc : FVec Ideal S1x1 .f32) :
    k0_pay4 (F := Ideal) (iblk m c 1 t) (fV m c t) (k0_pay11 (iblk m c 2 t)) (iblk m c 3 t) acc (ix2 0 0) = acc (ix2 0 0) + part m c t := by
  rw [pay4_at]
  simp only [err_at]
  rfl

theorem loss_first (c : Dev nD) (t : Fin cfg0.N) (h : t.val % 8 = 0) : (outsAt0 m c t.val t.isLt).2.2 (ix2 0 0) = part m c t := by
  refine Eq.trans ?_ ((add_at m c t k0_pay1).trans ?_)
  · rw [outsAt0_A m c t h]; frame_out
    exact congrFun rfl _
  · rw [show k0_pay1 (F := Ideal) (ix2 0 0) = 0 by pointwise [k0_pay1], zero_add]

theorem loss_next (c : Dev nD) (t : Fin cfg0.N) (h : ¬t.val % 8 = 0) :
    (outsAt0 m c t.val t.isLt).2.2 (ix2 0 0) = (outsAt0 m c (t.val - 1) (by omega)).2.2 (ix2 0 0) + part m c t := by
  refine Eq.trans ?_ (add_at m c t _)
  rw [outsAt0_B m c t h]; frame_out
  exact congrFun rfl _

theorem loss_sum (c : Dev nD) : ∀ (n : ℕ) (h : n < 8),
    (outsAt0 m c n (lt_of_lt_of_eq h (show cfg0.N = 8 from N_0).symm)).2.2 (ix2 0 0)
      = ∑ s : Fin (n + 1), part m c ⟨s.val, lt_of_lt_of_eq (by omega) (show cfg0.N = 8 from N_0).symm⟩ := by
  intro n
  induction n with
  | zero => intro h; exact (loss_first m c ⟨0, lt_of_lt_of_eq h (show cfg0.N = 8 from N_0).symm⟩ rfl).trans (by simp)
  | succ n ih =>
    intro h
    rw [Fin.sum_univ_castSucc (n := n + 1)]
    refine (loss_next m c ⟨n + 1, lt_of_lt_of_eq h (show cfg0.N = 8 from N_0).symm⟩ (by show ¬(n + 1) % 8 = 0; omega)).trans ?_
    exact congrArg (· + _) (ih (by omega))

theorem final4 (c : Dev nD) : (dats m 0 c).arrAt 4 (cfgs 0).N = Cert.Reference5Ideal.Read.val_main_v18 (F := Ideal) (A0 m c) (A1 m c) := by
  refine (dats m 0 c).arrAt_eq_of_covers 4 _ (by decide +kernel) fun t hf y => ?_
  blk_simp
  rw [after0_4]
  have hy : y = (ix2 (y 0) (y 1) : S512x2816.Idx) := eq_ix2 (n0 := 512) (n1 := 2816) y
  refine (congrArg (outsAt0 m c t.val t.isLt).1 hy).trans ((f_at m c t (y 0) (y 1)).trans ?_)
  refine (v18_at (A0 m c) (A1 m c) (row t (y 0)) (y 1)).symm.trans ?_
  refine congrArg (Cert.Reference5Ideal.Read.val_main_v18 (F := Ideal) (A0 m c) (A1 m c)) ?_
  funext a
  refine Fin.ext ?_
  fin_cases a <;> blk_simp [idx t]
  · show 512 * t.val + (y 0 : ℕ) = t.val * 512 + (y 0 : ℕ)
    omega
  · rfl

theorem final5 (c : Dev nD) : (dats m 0 c).arrAt 5 (cfgs 0).N
    = Cert.Reference5Ideal.Read.val_main_v24 (F := Ideal) (A0 m c) (A1 m c) (A2 m c) (A3 m c) (A4 m c) := by
  refine (dats m 0 c).arrAt_eq_of_covers 5 _ (by decide +kernel) fun t hf y => ?_
  blk_simp
  rw [after0_5]
  have hy : y = (ix2 (y 0) (y 1) : S512x1024.Idx) := eq_ix2 (n0 := 512) (n1 := 1024) y
  refine (congrArg (outsAt0 m c t.val t.isLt).2.1 hy).trans ((dh_at m c t (y 0) (y 1)).trans ?_)
  refine (v24_at (A0 m c) (A1 m c) (A2 m c) (A3 m c) (A4 m c) (row t (y 0)) (y 1)).symm.trans ?_
  refine congrArg (Cert.Reference5Ideal.Read.val_main_v24 (F := Ideal) (A0 m c) (A1 m c) (A2 m c) (A3 m c) (A4 m c)) ?_
  funext a
  refine Fin.ext ?_
  fin_cases a <;> blk_simp [idx t]
  · show 512 * t.val + (y 0 : ℕ) = t.val * 512 + (y 0 : ℕ)
    omega
  · rfl

theorem final6 (c : Dev nD) : (dats m 0 c).arrAt 6 (cfgs 0).N
    = Cert.Reference5Ideal.Read.val_main_v25 (F := Ideal) (A0 m c) (A1 m c) (A2 m c) (A3 m c) (A4 m c) := by
  refine (dats m 0 c).arrAt_eq_of_after_last 6 t0_7 (by decide +kernel) _ fun j => ?_
  blk_simp
  rw [after0_6]
  have hj : j = (ix2 0 0 : S1x1.Idx) := by
    refine (eq_ix2 (n0 := 1) (n1 := 1) j).trans ?_
    exact congrArg₂ ix2 (Subsingleton.elim _ _) (Subsingleton.elim _ _)
  refine (congrArg (outsAt0 m c t0_7.val t0_7.isLt).2.2 hj).trans ((loss_sum m c 7 (by omega)).trans ((v25_blocks (A0 m c) (A1 m c) (A2 m c) (A3 m c) (A4 m c)).symm.trans ?_))
  refine congrArg (Cert.Reference5Ideal.Read.val_main_v25 (F := Ideal) (A0 m c) (A1 m c) (A2 m c) (A3 m c) (A4 m c)) (hj.symm.trans rfl)

end Cert.Kernel5Ideal.LossHead

end
-- ==== Proof.RelBias.lean ====
/- The bias table's gradient: a product of the buckets' one-hot rows with the score gradients, and the scatter that
   adds every score's gradient to its bucket's row. -/
module

public import proofs.«01_k».proof.Proof.Reals
public import proofs.«01_k».proof.Proof.Gen.Kernel6.Frame
public import proofs.«01_k».proof.Proof.Gen.Kernel6Ideal.Value
public import proofs.«01_k».proof.Proof.Gen.Reference6Ideal.Read
public import proofs.«01_k».proof.Pre_finite6
public import Idealize.ShloMosaic.Lib.Pipeline.ValueKit
public import Idealize.ShloMosaic.Lib.Pointwise
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.RelBias

open Cert.Reals

/-- Entry `(b, h)` of the table's gradient: what the scores of bucket `b` collect on head `h`. -/
def tabE (x1 : FVec Ideal Cert.Reference6Ideal.S16x128x256 .f32) (x2 : IVec Cert.Reference6Ideal.S128x256 32) (b : Fin 32) (h : Fin 16) : EReal :=
  ∑ p : Fin 128, ∑ q : Fin 256, if x2 (ix2 p q) = BitVec.ofNat 32 b then x1 (ix3 h p q) else 0

end Cert.RelBias

namespace Cert.Reference6Ideal.RelBias

open Cert.Reference6Ideal Cert.Reference6Ideal.Gen Cert.Reference6Ideal.Read Cert.RelBias Idealize.ShloMosaic.StableHlo
open Idealize.ShloMosaic.Routing

theorem v5_at (x2 : IVec S128x256 32) (hx : ∀ i, (x2 i).toNat < 2 ^ 31) (p : Fin 128) (q : Fin 256) :
    val_main_v5 (F := Ideal) x2 (ix3 p q 0) = x2 (ix2 p q) := by
  rw [val_main_v5_apply, val_main_v4_apply, val_main_v1_apply, val_main_v0_apply, val_main_c_apply]
  have e : idx_main_v5 (ix3 p q 0) = ix2 p q := by funext a; fin_cases a <;> rfl
  rw [e]
  exact wrap_of_lt _ _ (hx _)

theorem lands (w : IVec S128x256x1 32) (p : Fin 128) (q : Fin 256) (k h : Fin 16) (b : Fin 32) :
    scatter_S32x16_S128x256x1_S128x256x16_2_0_0_2.resultIdx? (ix3 p q k) w = some (ix2 b h)
      ↔ (w (ix3 p q 0)).toInt = b ∧ k = h := by
  refine (resultIdx?_ix2 (R := 32) (C := 16) _ _ _ b h).trans ?_
  have s0 : scatter_S32x16_S128x256x1_S128x256x16_2_0_0_2.start (ix3 p q k) w 0 = (w (ix3 p q 0)).toInt := by
    unfold ScatterDims.start
    rw [dif_pos (by decide)]
    refine congrArg (fun i => (w i).toInt) ?_
    funext a; fin_cases a <;> rfl
  have s1 : scatter_S32x16_S128x256x1_S128x256x16_2_0_0_2.start (ix3 p q k) w 1 = 0 := by
    unfold ScatterDims.start
    rw [dif_neg (by decide)]
  have w0 : scatter_S32x16_S128x256x1_S128x256x16_2_0_0_2.window (ix3 p q k) 0 = 0 := by
    unfold ScatterDims.window
    rw [dif_neg (by decide)]
  have w1 : scatter_S32x16_S128x256x1_S128x256x16_2_0_0_2.window (ix3 p q k) 1 = k.val := by
    unfold ScatterDims.window
    rw [dif_pos (by decide)]
    rfl
  rw [s0, s1, w0, w1]
  constructor
  · rintro ⟨a, b⟩; exact ⟨by omega, Fin.ext (by omega)⟩
  · rintro ⟨a, rfl⟩; exact ⟨by omega, by omega⟩

theorem toInt_eq (w : BitVec 32) (hw : w.toNat < 2 ^ 31) (b : Fin 32) : w.toInt = (b : ℤ) ↔ w = BitVec.ofNat 32 b := by
  rw [BitVec.toInt_eq_toNat_of_lt (by omega)]
  constructor
  · intro h; refine BitVec.eq_of_toNat_eq ?_; rw [BitVec.toNat_ofNat]; omega
  · rintro rfl; rw [BitVec.toNat_ofNat]; omega

theorem v10_at (x1 : FVec Ideal S16x128x256 .f32) (x2 : IVec S128x256 32) (hx : ∀ i, (x2 i).toNat < 2 ^ 31) (b : Fin 32) (h : Fin 16) :
    val_main_v10 (F := Ideal) x1 x2 (ix2 b h) = tabE x1 x2 b h := by
  have e (p : Fin 128) (q : Fin 256) (k : Fin 16) : val_main_v8 (F := Ideal) x1 (ix3 p q k) = x1 (ix3 k p q) := by
    rw [val_main_v8_apply]; congr 1; funext a; fin_cases a <;> rfl
  have z : val_main_v9 (F := Ideal) (ix2 b h) = 0 := by
    rw [val_main_v9_apply, val_main_cst_apply]; exact Ideal.ofBits_zero_f32
  have h5 := v5_at x2 hx
  unfold val_main_v10
  refine (congrArg (· + _) z).trans ((zero_add _).trans ?_)
  generalize val_main_v8 (F := Ideal) x1 = u at e ⊢
  generalize val_main_v5 (F := Ideal) x2 = w at h5 ⊢
  rw [Finset.sum_filter, sum_idx3]
  unfold tabE
  refine Finset.sum_congr rfl fun p _ => Finset.sum_congr rfl fun q _ => ?_
  have c (k : Fin 16) : (scatter_S32x16_S128x256x1_S128x256x16_2_0_0_2.resultIdx? (ix3 p q k) w = some (ix2 b h))
      ↔ k = h ∧ x2 (ix2 p q) = BitVec.ofNat 32 b := by
    rw [lands, h5, toInt_eq _ (hx _), and_comm]
  simp only [c, e, ite_and, Finset.sum_ite_eq', Finset.mem_univ, if_true]

end Cert.Reference6Ideal.RelBias

namespace Cert.Kernel6Ideal.RelBias

open Cert.Kernel6Ideal Cert.Kernel6Ideal.Gen Cert.RelBias

/-- The one-hot row of bucket `b` at a score. -/
theorem hot_at (w : BitVec 32) (b : Fin 32) :
    FloatOps.sitofp (F := Ideal) .f32 (BitVec.setWidth 32 (IntOp.cmpi .eq w (BitVec.ofNat 32 b))) = if w = BitVec.ofNat 32 b then (1 : EReal) else 0 := by
  show (((BitVec.setWidth 32 (IntOp.cmpi .eq w (BitVec.ofNat 32 b))).toInt : ℝ) : EReal) = _
  rw [WordCmp.cmpi_eq_eq]
  by_cases h : w = BitVec.ofNat 32 b <;> simp [h]

theorem pay1_at (w : IVec S1x32768 32) (x : FVec Ideal S16x32768 .f32) (y : Fin 16 → Fin 32768 → ℝ) (hx : ∀ h n, x (ix2 h n) = y h n)
    (b : Fin 32) (h : Fin 16) :
    k0_pay1 (F := Ideal) w x (ix2 b h) = ∑ n : Fin 32768, if w (ix2 0 n) = BitVec.ofNat 32 b then x (ix2 h n) else 0 := by
  pointwise [k0_pay1]
  have z : ∀ n, x (ix2 h n) - x (ix2 h n) = 0 := fun n => by rw [hx, ← EReal.coe_sub, sub_self, EReal.coe_zero]
  simp only [z, mul_zero, Finset.sum_const_zero, add_zero, hot_at, ite_mul, one_mul, zero_mul]

variable (m : (ℓ : Loc nD τ sig) → Buf (Elt Ideal) ℓ)

abbrev A1 (c : Dev nD) : FVec Ideal S16x128x256 .f32 := m ((c : Thread nD τ).loc main_arg1)
abbrev A2 (c : Dev nD) : IVec S128x256 32 := m ((c : Thread nD τ).loc main_arg2)

theorem idx : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (h : Fin 16) (p : Fin 128) (q : Fin 256) :
    (iblk m c 0 t : FVec Ideal S16x32768 .f32) (ix2 h ⟨p * 256 + q, by omega⟩) = A1 m c (ix3 h p q) := by
  blk_simp [iblk]
  entry_read
  pointwise
  blk_ext [idx t]

theorem blk1 (c : Dev nD) (t : Fin cfg0.N) (p : Fin 128) (q : Fin 256) :
    (iblk m c 1 t : IVec S1x32768 32) (ix2 0 ⟨p * 256 + q, by omega⟩) = A2 m c (ix2 p q) := by
  blk_simp [iblk]
  entry_read
  pointwise
  blk_ext [idx t]

theorem out_at (a1 : FVec Ideal S16x128x256 .f32) (a2 : IVec S128x256 32) (h1 : ∃ r : S16x128x256.Idx → ℝ, a1 = fun i => ((r i : ℝ) : EReal))
    (x0 : FVec Ideal S16x32768 .f32) (x1 : IVec S1x32768 32)
    (b0 : ∀ (h : Fin 16) (p : Fin 128) (q : Fin 256), x0 (ix2 h ⟨p * 256 + q, by omega⟩) = a1 (ix3 h p q))
    (b1 : ∀ (p : Fin 128) (q : Fin 256), x1 (ix2 0 ⟨p * 256 + q, by omega⟩) = a2 (ix2 p q)) (b : Fin 32) (h : Fin 16) :
    (out0_2 (F := Ideal) x0 x1 (ix2 b h) : EReal) = tabE a1 a2 b h := by
  obtain ⟨r, hr⟩ := h1
  have o : out0_2 (F := Ideal) x0 x1 (ix2 b h) = k0_pay1 (F := Ideal) x1 x0 (ix2 b h) := by
    unfold out0_2
    rw [View.ld_unit_zero (by funext a; fin_cases a <;> rfl), View.ld_unit_zero (by funext a; fin_cases a <;> rfl)]
    exact congrFun (View.canon_unit_zero (by funext a; fin_cases a <;> rfl) _ _) _
  rw [o, pay1_at x1 x0 (fun h n => r (ix3 h ⟨n / 256, by omega⟩ ⟨n % 256, by omega⟩)) (fun h n => by
    have q := b0 h ⟨n / 256, by omega⟩ ⟨n % 256, by omega⟩
    rw [show (⟨(n : ℕ) / 256 * 256 + (n : ℕ) % 256, by omega⟩ : Fin 32768) = n from Fin.ext (by show (n : ℕ) / 256 * 256 + (n : ℕ) % 256 = n; omega)] at q
    rw [q, hr]), Fin.sum_univ_tiles 128 256 rfl]
  unfold tabE
  exact Finset.sum_congr rfl fun p _ => Finset.sum_congr rfl fun q _ => by rw [b0, b1]

theorem final2 (c : Dev nD) (h1 : ∃ r : S16x128x256.Idx → ℝ, A1 m c = fun i => ((r i : ℝ) : EReal)) (h2 : ∀ i, (A2 m c i).toNat < 2 ^ 31) :
    (dats m 0 c).arrAt 2 (cfgs 0).N = Cert.Reference6Ideal.Read.val_main_v10 (F := Ideal) (A1 m c) (A2 m c) := by
  refine (dats m 0 c).arrAt_eq_of_covers 2 _ (by decide +kernel) fun t hf y => ?_
  blk_simp
  rw [after0_2]
  have hy : y = (ix2 (y 0) (y 1) : S32x16.Idx) := eq_ix2 (n0 := 32) (n1 := 16) y
  have e := out_at (A1 m c) (A2 m c) h1 (iblk m c 0 t) (iblk m c 1 t) (blk0 m c t) (blk1 m c t) (y 0) (y 1)
  refine (congrArg (out0_2 (iblk m c 0 t) (iblk m c 1 t)) hy).trans (e.trans ?_)
  refine (Cert.Reference6Ideal.RelBias.v10_at (A1 m c) (A2 m c) h2 (y 0) (y 1)).symm.trans ?_
  refine congrArg (Cert.Reference6Ideal.Read.val_main_v10 (F := Ideal) (A1 m c) (A2 m c)) ?_
  refine hy.symm.trans ?_
  funext a
  refine Fin.ext ?_
  fin_cases a <;> blk_simp [idx t]

end Cert.Kernel6Ideal.RelBias

namespace Cert.RelBias

/-- The precondition's words: real gradients, buckets that are no negative numbers. -/
theorem real_args [Cert.Pre_finite6.Facts] (x0 : FVec Ideal Cert.Pre_finite6.S32x16 .f32) (x1 : FVec Ideal Cert.Pre_finite6.S16x128x256 .f32)
    (x2 : IVec Cert.Pre_finite6.S128x256 32)
    (h : (Cert.Pre_finite6.fn (F := Ideal) x0 x1 x2).1 = (fun _ => 1#1) ∧ (Cert.Pre_finite6.fn (F := Ideal) x0 x1 x2).2 = (fun _ => 1#1)) :
    (∃ r : Cert.Pre_finite6.S16x128x256.Idx → ℝ, x1 = fun i => ((r i : ℝ) : EReal)) ∧ ∀ i, (x2 i).toNat < 2 ^ 31 := by
  refine ⟨Cert.Reals.reals x1 Cert.Pre_finite6.Facts.bcast_S_S16x128x256 h.1, fun i => ?_⟩
  have e : IntOp.cmpi .sge (x2 i) 0#32 = 1#1 := congrFun h.2 i
  rw [WordCmp.cmpi_sge_eq] at e
  generalize x2 i = w at e ⊢
  have d : (0#32).toInt ≤ w.toInt := by
    by_contra hn
    rw [decide_eq_false hn] at e
    exact absurd e (by decide)
  have d0 : (0 : ℤ) ≤ w.toInt := d
  rw [BitVec.toInt_eq_toNat_cond] at d0
  have := w.isLt
  split at d0 <;> omega

end Cert.RelBias

end
-- ==== Proof.AttnFwdSm.lean ====
/- The attention's scores, their softmax with a sink, and the weighted values, of one head group. -/
module

public import proofs.«01_k».proof.Proof.AttnRefB

@[expose] public section

set_option maxRecDepth 16384

noncomputable section

open Idealize.ShloMosaic Idealize.ShloMosaic.TcCoe Idealize.SL.Sem

namespace Cert.AttnFwd

open Cert.Kernel2Ideal Cert.Kernel2Ideal.Gen Cert.Kernel2Ideal.Attn Cert.Attn Cert.Reals

section
variable (z : FVec Ideal S512x256 .f32) (k : FVec Ideal S512x1 .f32)

/-! A row's maximum and the sink's, the exponentials below it, their sum, the softmax. -/

def mx : FVec Ideal S512x1 .f32 :=
  maximumf (shapeCast S512x1 (multiReduction .maximumf [1] S512 z 0xFF800000#32 reduces_S512x256_S512 (.inl rfl) rfl) shapeCasts_S512_S512x1) k
def ez : FVec Ideal S512x256 .f32 := exp (subf z (broadcastTo S512x256 (mx z k) broadcasts_S512x1_S512x256))
def ek : FVec Ideal S512x1 .f32 := exp (subf k (mx z k))
def dn : FVec Ideal S512x1 .f32 :=
  addf (shapeCast S512x1 (multiReduction .add [1] S512 (ez z k) 0x00000000#32 reduces_S512x256_S512 (.inl rfl) rfl) shapeCasts_S512_S512x1) (ek z k)
def sm : FVec Ideal S512x256 .bf16 :=
  truncf .bf16 (mulf (ez z k) (broadcastTo S512x256 (divf (broadcast S512x1 (Scalar.ofBits .f32 0x3F800000#32 : Ideal .f32)) (dn z k)) broadcasts_S512x1_S512x256)) bitsLt_bf16_f32

def sk : FVec Ideal S512x1 .f32 := mulf (ek z k) (divf (broadcast S512x1 (Scalar.ofBits .f32 0x3F800000#32 : Ideal .f32)) (dn z k))

theorem mx_at (R : Fin 512) : mx z k (ix2 R 0) = max (Finset.univ.sup fun i : Fin 256 => (z (ix2 R i) : EReal)) (k (ix2 R 0)) := by
  pointwise [mx]
  exact congrArg (fun b : EReal => max (Finset.fold max b (fun x : Fin 256 => (z (ix2 R x) : EReal)) Finset.univ) (k (ix2 R 0))) Cert.AttnRef.ofBits_bot

theorem ez_at (R : Fin 512) (i : Fin 256) : ez z k (ix2 R i) = Ideal.exp ((z (ix2 R i) : EReal) - mx z k (ix2 R 0)) := by
  unfold ez
  generalize mx z k = Y
  pointwise

theorem ek_at (R : Fin 512) : ek z k (ix2 R 0) = Ideal.exp ((k (ix2 R 0) : EReal) - mx z k (ix2 R 0)) := by
  unfold ek
  generalize mx z k = Y
  pointwise

theorem dn_at (R : Fin 512) : dn z k (ix2 R 0) = (∑ i : Fin 256, (ez z k (ix2 R i) : EReal)) + ek z k (ix2 R 0) := by
  unfold dn
  generalize ez z k = Y
  generalize ek z k = X
  pointwise

theorem sm_real (R : Fin 512) (p : Fin 256 → ℝ) (d : ℝ) (hd : dn z k (ix2 R 0) = ((d : ℝ) : EReal)) (h0 : d ≠ 0) (i : Fin 256)
    (hp : ez z k (ix2 R i) = ((p i : ℝ) : EReal)) : sm z k (ix2 R i) = ((p i * (1 / d) : ℝ) : EReal) := by
  unfold sm
  generalize ez z k = Y at hp ⊢
  generalize dn z k = X at hd ⊢
  pointwise
  rw [hp, hd, Ideal.div_coe h0, one_mul, ← EReal.coe_mul]
end

variable {x0 : FVec Ideal S4096x1536 .f32} {x1 x2 : FVec Ideal S64 .f32} {x3 : FVec Ideal S16 .f32} {x4 : FVec Ideal S4x4x128x256 .f32}

/-- Rows of scores and sinks that are the reference's have the reference's softmax, the sink's own probability with it. -/
theorem sm_soft (z : FVec Ideal S512x256 .f32) (k : FVec Ideal S512x1 .f32) (n : Fin 32) (h : Fin 4) (R : Fin 512) (p : Fin 256 → ℝ) (es : ℝ)
    (S : Cert.AttnRef.Soft x0 x1 x2 x3 x4 n h ⟨R / 128, by omega⟩ ⟨R % 128, by omega⟩ p es)
    (hz : ∀ i, z (ix2 R i) = Cert.Reference2Ideal.Read.val_main_v77_0 (F := Ideal) x0 x1 x2 x4 (ix5 n h ⟨R / 128, by omega⟩ ⟨R % 128, by omega⟩ i))
    (hk : k (ix2 R 0) = x3 (ix1 ⟨h * 4 + R / 128, by omega⟩)) :
    (∀ i : Fin 256, sm z k (ix2 R i) = ((p i * (1 / (∑ i, p i + es)) : ℝ) : EReal)) ∧ sk z k (ix2 R 0) = ((es * (1 / (∑ i, p i + es)) : ℝ) : EReal) := by
  have hm : mx z k (ix2 R 0) = Cert.Reference2Ideal.Read.val_main_v87 (F := Ideal) x0 x1 x2 x3 x4 (ix5 n h ⟨R / 128, by omega⟩ ⟨R % 128, by omega⟩ 0) := by
    rw [mx_at, Cert.AttnRef.v87_at, Cert.AttnRef.v85_at, Cert.AttnRef.v86_at, Cert.AttnRef.v79_at, hk]
    simp only [hz]
  have he : ∀ i, ez z k (ix2 R i) = ((p i : ℝ) : EReal) := fun i => by
    rw [ez_at, hm, hz, ← Cert.AttnRef.v108_at, S.hp]
  have hs : ek z k (ix2 R 0) = ((es : ℝ) : EReal) := by
    rw [ek_at, hm, hk, ← S.he, Cert.AttnRef.v111_at, Cert.AttnRef.v109_at]
  have hd : dn z k (ix2 R 0) = ((∑ i, p i + es : ℝ) : EReal) := by
    rw [dn_at, hs, EReal.coe_add]
    simp only [he, coe_sum]
  refine ⟨fun i => sm_real z k R p _ hd S.pos.ne' i (he i), ?_⟩
  unfold sk
  generalize ek z k = Y at hs ⊢
  generalize dn z k = X at hd ⊢
  pointwise
  rw [hs, hd, Ideal.div_coe S.pos.ne', one_mul, ← EReal.coe_mul]

/-! The scores: stacked queries against keys, scaled, biased, those outside the band at minus infinity. -/

def sc (mk : IVec S512x256 1) (qs : FVec Ideal S512x128 .bf16) (kd : FVec Ideal S256x128 .bf16) (b : FVec Ideal S1x512x256 .f32) : FVec Ideal S512x256 .f32 :=
  select mk (addf (mulf (matmul dot_S512x128_S256x128_S512x256_1_1_0_0_n_n none qs kd (constant S512x256 .f32 0x00000000#32))
    (broadcast S512x256 (Scalar.ofBits .f32 0x3E000000#32 : Ideal .f32))) (shapeCast S512x256 b shapeCasts_S1x512x256_S512x256))
    (broadcast S512x256 (Scalar.ofBits .f32 0xFF800000#32 : Ideal .f32))

theorem sc_at (mk : IVec S512x256 1) (q : Fin 512 → Fin 64 → ℝ) (v : Fin 256 → Fin 64 → ℝ) (b : FVec Ideal S1x512x256 .f32) (R : Fin 512) (i : Fin 256) :
    sc mk (L (quad q)) (L fun j _ => v j) b (ix2 R i) =
      if mk (ix2 R i) = 1#1 then (((∑ d, q R d * v i d) * (1 / 8) : ℝ) : EReal) + b (ix3 0 R i) else ⊥ := by
  unfold sc
  rw [nt_L]
  pointwise
  rw [sel, Cert.AttnRef.ofBits_bot, ofBits_8th, R2_ix, ← EReal.coe_mul]

/-- The values of two heads, weighted. -/
def ov (b : Fin 2) (p : FVec Ideal S512x256 .bf16) (vd : FVec Ideal S256x128 .bf16) : FVec Ideal S128x128 .bf16 :=
  truncf .bf16 (![uns0 (matmul dot_S512x256_S256x128_S512x128_1_0_0_1_n_n none p vd (constant S512x128 .f32 0x00000000#32)),
    uns1 (matmul dot_S512x256_S256x128_S512x128_1_0_0_1_n_n none p vd (constant S512x128 .f32 0x00000000#32))] b) bitsLt_bf16_f32

theorem trunc_L {n : ℕ} (f : Fin n → Fin 2 → Fin 64 → ℝ) : truncf .bf16 (L f : FVec Ideal ⟨2, ![n, 128]⟩ .f32) bitsLt_bf16_f32 = L f := rfl

theorem ov_L (b : Fin 2) (x : Fin 512 → Fin 256 → ℝ) (v : Fin 256 → Fin 64 → ℝ) :
    ov b (R2 x) (L fun j _ => v j) = L (pair b fun R d => ∑ j, x R j * v j d) := by
  unfold ov
  rw [nn_L]
  fin_cases b
  · exact congrArg (fun y => truncf .bf16 y bitsLt_bf16_f32) (uns0_L fun R d => ∑ j, x R j * v j d)
  · exact congrArg (fun y => truncf .bf16 y bitsLt_bf16_f32) (uns1_L fun R d => ∑ j, x R j * v j d)

end Cert.AttnFwd

namespace Cert.AttnRef

open Cert.Reference2Ideal Cert.Reference2Ideal.Gen Cert.Reference2Ideal.Read Cert.Attn Cert.Reals Cert.Kernel2Ideal.Attn

variable {x0 : FVec Ideal S4096x1536 .f32} {x1 x2 : FVec Ideal S64 .f32} {x3 : FVec Ideal S16 .f32} {x4 : FVec Ideal S4x4x128x256 .f32} {x5 : FVec Ideal S4096x1024 .f32}
  {q : Fin 4096 → Fin 1536 → ℝ} {qg kg : Fin 64 → ℝ} {xd : Fin 4096 → Fin 1024 → ℝ} (W : In x0 x1 x2 x5 q qg kg xd)
include W

/-- The reference's scores, of keys that are there. -/
theorem v58_in (n : Fin 32) (h : Fin 4) (R : Fin 512) (i : Fin 256) (c : ¬((n : ℕ) < 1 ∧ (i : ℕ) < 128)) :
    val_main_v58 (F := Ideal) x0 x1 x2 x4 (ix5 n h ⟨R / 128, by omega⟩ ⟨R % 128, by omega⟩ i) =
      (((∑ d, unit (bq q n h R) d * qg d * (unit (bk q n h i) d * kg d)) * (1 / 8) : ℝ) : EReal) + x4 (ix4 h ⟨R / 128, by omega⟩ ⟨R % 128, by omega⟩ i) := by
  have k := v43_at W
  have l := v36_at W n h R
  unfold val_main_v58 val_main_v57 val_main_v56 val_main_v55 val_main_v54 val_main_v53 val_main_v52
  generalize val_main_v43 (F := Ideal) x0 x2 = Y at k ⊢
  generalize val_main_v36 (F := Ideal) x0 x1 = Z at l ⊢
  pointwise [val_main_cst_11]
  simp only [k, l, if_neg c, ofBits_8th, ← EReal.coe_mul, coe_sum]
  simp only [mul_comm]

end Cert.AttnRef

end
-- ==== Proof.AttnFwdPt.lean ====
/- What one grid point of the attention leaves in its outputs. -/
module

public import proofs.«01_k».proof.Proof.AttnFwdSm
public import proofs.«01_k».proof.Proof.AttnPt3
public import proofs.«01_k».proof.Proof.Gen.Kernel7Ideal.Value
public import proofs.«01_k».proof.Proof.Gen.Kernel7.Frame

@[expose] public section

set_option maxRecDepth 16384

noncomputable section

open Idealize.ShloMosaic Idealize.ShloMosaic.TcCoe Idealize.SL.Sem

namespace Cert.Kernel7Ideal.Attn

open Cert.Kernel7Ideal Cert.Kernel7Ideal.Gen Cert.Attn Cert.Reals Cert.Pieces Cert.AttnFwd
open Cert.Kernel2Ideal.Attn (sl sl8 stk stk_L quad pair rinv unit hd kx vx qx Blocks K VD K_L VD_L sl_L lo64 hi64 sel1 sel0 ofBits_64th dup0_L dup1_L
  cols_mem cols_not)

/-! A pair of heads over their root mean squares, times the gains: two masked row sums. -/

theorem rms (x : Fin 64 → ℝ) (d : Fin 64) (g : ℝ) :
    ((x d : ℝ) : EReal) * Ideal.rsqrt ((∑ k, ((x k * x k : ℝ) : EReal)) * ((1 / 64 : ℝ) : EReal) + (Cert.Reals.eps : EReal)) * (g : EReal) = ((unit x d * g : ℝ) : EReal) := by
  have hp : 0 < (∑ k, x k * x k) * (1 / 64) + eps :=
    add_pos_of_nonneg_of_pos (mul_nonneg (Finset.sum_nonneg fun k _ => mul_self_nonneg _) (by norm_num)) (by unfold eps; norm_num)
  rw [coe_sum, ← EReal.coe_mul, ← EReal.coe_add, Ideal.rsqrt_coe, if_neg hp.not_gt, if_neg hp.ne', ← EReal.coe_mul, ← EReal.coe_mul]
  rfl

theorem nk_L (f : Fin 256 → Fin 2 → Fin 64 → ℝ) (g : Fin 64 → ℝ) :
    k0_pay7 (F := Ideal) k0_pay3 (L f) (L (φ := .f32) fun _ _ d => g d) = L fun i e d => unit (f i e) d * g d := by
  refine eq_L (fun r k => ?_) (fun r k => ?_) <;> rw [← rms] <;> pointwise [k0_pay7, k0_pay3] <;>
    simp only [sum_lanes, lo64, hi64, sel1, sel0, L_lo, L_hi, ofBits_64th, ofBits_eps, Finset.sum_const_zero, add_zero, zero_add, EReal.coe_mul]

theorem nq_L (f : Fin 128 → Fin 2 → Fin 64 → ℝ) (g : Fin 64 → ℝ) :
    k0_pay16 (F := Ideal) k0_pay2 (L (φ := .bf16) f) (L (φ := .f32) fun _ _ d => g d) = L fun i e d => unit (f i e) d * g d := by
  refine eq_L (fun r k => ?_) (fun r k => ?_) <;> rw [← rms] <;> pointwise [k0_pay16, k0_pay2] <;>
    simp only [sum_lanes, lo64, hi64, sel1, sel0, L_lo, L_hi, ofBits_64th, ofBits_eps, Finset.sum_const_zero, add_zero, zero_add, EReal.coe_mul]

/-- One sink. -/
def s1 (w : FVec Ideal S16 .f32) (o : ℕ) (h : o + 1 ≤ 16) : EReal :=
  w ((Rect.unit (s := S16) ![o] ![1] (by intro a; fin_cases a; exact h)).emb (Shape.Idx.first (by show 0 < (⟨1, ![1]⟩ : Shape).numel; decide)))

theorem s1_at (w : FVec Ideal S16 .f32) (o : ℕ) (h : o + 1 ≤ 16) : s1 w o h = w (ix1 ⟨o, h⟩) :=
  congrArg w (by funext a; fin_cases a; exact Fin.ext (show o + 1 * 0 = o by omega))

section
variable (i0 : grid0.Coords) (w0 : FVec Ideal S128x1536 .bf16) (w1 : FVec Ideal S128x512 .bf16) (w2 w3 : FVec Ideal S1x128 .f32) (w4 : FVec Ideal S16 .f32)
  (w5 : FVec Ideal S4x512x256 .f32) (j e b : Fin 2)

def KN := k0_pay7 (F := Ideal) k0_pay3 (K w0 w1 j) w3
def KD := ![Cert.Kernel2Ideal.Gen.k0_pay25 (F := Ideal) Cert.Kernel2Ideal.Gen.k0_pay9 (KN w0 w1 w3 j),
  Cert.Kernel2Ideal.Gen.k0_pay63 (F := Ideal) Cert.Kernel2Ideal.Gen.k0_pay9 (KN w0 w1 w3 j)] e
def QN := k0_pay16 (F := Ideal) k0_pay2 (sl w0 (512 * j + 256 * e + 128 * b) (by omega)) w2
def QS := stk (QN w0 w2 j e 0) (QN w0 w2 j e 1)
def SK := k0_pay19 (F := Ideal) (s1 w4 (4 * (2 * j + e) + 3) (by omega)) (s1 w4 (4 * (2 * j + e) + 2) (by omega)) (s1 w4 (4 * (2 * j + e) + 1) (by omega))
  (s1 w4 (4 * (2 * j + e)) (by omega))
def Z := sc (k0_pay4 i0) (QS w0 w2 j e) (KD w0 w1 w3 j e) (sl8 w5 (2 * j + e) (by omega))
def P := sm (Z i0 w0 w1 w2 w3 w5 j e) (SK w4 j e)
def O := ov b (P i0 w0 w1 w2 w3 w4 w5 j e) (VD w0 w1 j e)
def P1 : FVec Ideal S1x1x512x256 .bf16 := shapeCast S1x1x512x256 (P i0 w0 w1 w2 w3 w4 w5 j e) shapeCasts_S512x256_S1x1x512x256
end

/-- Four head groups' blocks. -/
theorem heads4_at (p0 p1 p2 p3 : FVec Ideal S1x1x512x256 .bf16) {i0 i1 i2 i3} (h : Fin 4) (R : Fin 512) (i : Fin 256) :
    View.canon (Val := Elt Ideal) (e := .bf16) [⟨Rect.unit (s := S1x4x512x256) ![0, 3, 0, 0] ![1, 1, 512, 256] i3, p3⟩, ⟨Rect.unit (s := S1x4x512x256) ![0, 2, 0, 0] ![1, 1, 512, 256] i2, p2⟩,
      ⟨Rect.unit (s := S1x4x512x256) ![0, 1, 0, 0] ![1, 1, 512, 256] i1, p1⟩, ⟨Rect.unit (s := S1x4x512x256) ![0, 0, 0, 0] ![1, 1, 512, 256] i0, p0⟩]
      (ix4 0 h R i) = ![p0, p1, p2, p3] h (ix4 0 0 R i) := by
  have hm : ∀ o : ℕ, (h : ℕ) = o → ∀ a : Fin 4, ((ix4 0 h R i : S1x4x512x256.Idx) a : ℕ) = ![0, o, 0, 0] a + ((ix4 0 0 R i : S1x1x512x256.Idx) a : ℕ) := by
    intro o ho a
    fin_cases a
    · rfl
    · exact ho
    · exact (Nat.zero_add _).symm
    · exact (Nat.zero_add _).symm
  have hn : ∀ o : ℕ, (h : ℕ) ≠ o → (h : ℕ) < o ∨ o + 1 ≤ (h : ℕ) := fun o ho => by omega
  fin_cases h
  · exact (canon_not (e := .bf16) i3 _ _ _ 1 (hn 3 (by decide))).trans ((canon_not (e := .bf16) i2 _ _ _ 1 (hn 2 (by decide))).trans
      ((canon_not (e := .bf16) i1 _ _ _ 1 (hn 1 (by decide))).trans (canon_mem (e := .bf16) i0 _ _ _ _ (hm 0 rfl))))
  · exact (canon_not (e := .bf16) i3 _ _ _ 1 (hn 3 (by decide))).trans ((canon_not (e := .bf16) i2 _ _ _ 1 (hn 2 (by decide))).trans (canon_mem (e := .bf16) i1 _ _ _ _ (hm 1 rfl)))
  · exact (canon_not (e := .bf16) i3 _ _ _ 1 (hn 3 (by decide))).trans (canon_mem (e := .bf16) i2 _ _ _ _ (hm 2 rfl))
  · exact canon_mem (e := .bf16) i3 _ _ _ _ (hm 3 rfl)

/-- One block of columns among the others. -/
theorem cols_step (p : Fin 8 → FVec Ideal S128x128 .bf16) (k : Fin 8) {o : ℕ} (ho : o = 128 * k) (inb : ∀ a, ![0, o] a + ![128, 128] a ≤ S128x1024.size a)
    (L : List (View.Piece (Elt Ideal) S128x1024 .bf16)) (s : Fin 128) (b : Fin 8) (l : Fin 128)
    (h : b ≠ k → View.canon L (ix2 s (⟨128 * b + l, by omega⟩ : Fin 1024)) = p b (ix2 s l)) :
    View.canon (⟨Rect.unit (s := S128x1024) ![0, o] ![128, 128] inb, p k⟩ :: L) (ix2 s (⟨128 * b + l, by omega⟩ : Fin 1024)) = p b (ix2 s l) := by
  subst ho
  rcases eq_or_ne b k with rfl | hb
  · exact cols_mem (φ := .bf16) inb _ _ s _ l rfl
  · refine (cols_not (φ := .bf16) inb _ _ s _ ?_).trans (h hb)
    have : (b : ℕ) ≠ k := fun e => hb (Fin.ext e)
    show 128 * (b : ℕ) + l < 128 * k ∨ 128 * (k : ℕ) + 128 ≤ 128 * b + l
    omega

theorem cols_at (p : Fin 8 → FVec Ideal S128x128 .bf16) {i0 i1 i2 i3 i4 i5 i6 i7} (s : Fin 128) (b : Fin 8) (l : Fin 128) :
    View.canon (Val := Elt Ideal) (e := .bf16) [⟨Rect.unit (s := S128x1024) ![0, 896] ![128, 128] i7, p 7⟩,
      ⟨Rect.unit (s := S128x1024) ![0, 768] ![128, 128] i6, p 6⟩, ⟨Rect.unit (s := S128x1024) ![0, 640] ![128, 128] i5, p 5⟩,
      ⟨Rect.unit (s := S128x1024) ![0, 512] ![128, 128] i4, p 4⟩, ⟨Rect.unit (s := S128x1024) ![0, 384] ![128, 128] i3, p 3⟩,
      ⟨Rect.unit (s := S128x1024) ![0, 256] ![128, 128] i2, p 2⟩, ⟨Rect.unit (s := S128x1024) ![0, 128] ![128, 128] i1, p 1⟩,
      ⟨Rect.unit (s := S128x1024) ![0, 0] ![128, 128] i0, p 0⟩] (ix2 s ⟨128 * b + l, by omega⟩) = p b (ix2 s l) := by
  exact cols_step p 7 rfl i7 _ s b l fun h7 => cols_step p 6 rfl i6 _ s b l fun h6 => cols_step p 5 rfl i5 _ s b l fun h5 => cols_step p 4 rfl i4 _ s b l fun h4 =>
    cols_step p 3 rfl i3 _ s b l fun h3 => cols_step p 2 rfl i2 _ s b l fun h2 => cols_step p 1 rfl i1 _ s b l fun h1 => cols_step p 0 rfl i0 _ s b l fun h0 =>
    absurd b.isLt (by simp only [ne_eq, Fin.ext_iff] at *; omega)

section
variable (m : (ℓ : Loc nD τ sig) → Buf (Elt Ideal) ℓ) (c : Dev nD) (t : Fin cfg0.N)

def pP (j e : Fin 2) : FVec Ideal S1x1x512x256 .bf16 :=
  P1 (grid0.coords t) (iblk m c 0 t) (iblk m c 1 t) (iblk m c 2 t) (iblk m c 3 t) (iblk m c 4 t) (iblk m c 5 t) j e
def pO (i : Fin 8) : FVec Ideal S128x128 .bf16 :=
  O (grid0.coords t) (iblk m c 0 t) (iblk m c 1 t) (iblk m c 2 t) (iblk m c 3 t) (iblk m c 4 t) (iblk m c 5 t) ⟨i / 4, by omega⟩ ⟨i / 2 % 2, by omega⟩ ⟨i % 2, by omega⟩

set_option maxHeartbeats 2000000 in
theorem p_pt (h : Fin 4) (R : Fin 512) (i : Fin 256) : (outsAt0 m c t).2.1 (ix4 0 h R i) =
    (![pP m c t 0 0, pP m c t 0 1, pP m c t 1 0, pP m c t 1 1] : Fin 4 → _) h (ix4 0 0 R i) := by
  unfold outsAt0
  frame_out
  exact heads4_at (pP m c t 0 0) (pP m c t 0 1) (pP m c t 1 0) (pP m c t 1 1) h R i

set_option maxHeartbeats 2000000 in
theorem o_pt (s : Fin 128) (b : Fin 8) (l : Fin 128) : (outsAt0 m c t).1 (ix2 s ⟨128 * b + l, by omega⟩) = pO m c t b (ix2 s l) := by
  unfold outsAt0
  frame_out
  exact cols_at (pO m c t) s b l
end

end Cert.Kernel7Ideal.Attn

end
-- ==== Proof.AttnFwdRef.lean ====
/- The reference's attention: the probabilities and outputs of every query, at reals. -/
module

public import proofs.«01_k».proof.Proof.AttnFwdSm
public import proofs.«01_k».proof.Proof.Gen.Reference7Ideal.Read

@[expose] public section

set_option maxRecDepth 16384

noncomputable section

open Idealize.ShloMosaic Idealize.ShloMosaic.TcCoe Idealize.SL.Sem

namespace Cert.AttnFwdRef

open Cert.Reference7Ideal Cert.Reference7Ideal.Gen Cert.Reference7Ideal.Read Cert.Attn Cert.Reals
open Cert.AttnRef (In Sm pr Pn bv)

variable (x0 : FVec Ideal S4096x1536 .f32) (x1 x2 : FVec Ideal S64 .f32) (x3 : FVec Ideal S16 .f32) (x4 : FVec Ideal S4x4x128x256 .f32)

/-! The stages this reference shares with the gradient's. -/

set_option maxHeartbeats 4000000

theorem v43_eq : val_main_v43 (F := Ideal) x0 = Cert.Reference2Ideal.Read.val_main_v51 (F := Ideal) x0 := rfl

theorem v50_eq : val_main_v50 (F := Ideal) x0 x1 x2 x4 = Cert.Reference2Ideal.Read.val_main_v58 (F := Ideal) x0 x1 x2 x4 := rfl

theorem v69_eq : val_main_v69 (F := Ideal) x0 x1 x2 x4 = Cert.Reference2Ideal.Read.val_main_v77_0 (F := Ideal) x0 x1 x2 x4 := by
  unfold val_main_v69 Cert.Reference2Ideal.Read.val_main_v77_0
  rw [v50_eq]
  rfl

theorem v85_eq : val_main_v85 (F := Ideal) x0 x1 x2 x3 x4 = Cert.Reference2Ideal.Read.val_main_v116 (F := Ideal) x0 x1 x2 x3 x4 := rfl

variable {x0 x1 x2 x3 x4} {x5 : FVec Ideal S4096x1024 .f32} {q : Fin 4096 → Fin 1536 → ℝ} {qg kg : Fin 64 → ℝ} {xd : Fin 4096 → Fin 1024 → ℝ}
  {p : Fin 32 → Fin 4 → Fin 4 → Fin 128 → Fin 256 → ℝ} {es : Fin 32 → Fin 4 → Fin 4 → Fin 128 → ℝ}

theorem v95_at (S : Sm x0 x1 x2 x3 x4 p es) (n : Fin 32) (h : Fin 4) (R : Fin 512) (i : Fin 256) :
    val_main_v95 (F := Ideal) x0 x1 x2 x3 x4 (ix4 n h R i) = ((Pn (pr p es) n h R i : ℝ) : EReal) := by
  refine Eq.trans ?_ (Cert.AttnRef.v116_at S n h ⟨R / 128, by omega⟩ ⟨R % 128, by omega⟩ i)
  unfold val_main_v95 val_main_v94
  rw [v85_eq]
  generalize Cert.Reference2Ideal.Read.val_main_v116 (F := Ideal) x0 x1 x2 x3 x4 = Y
  pointwise

/-- What a query collects of the values. -/
def oR (q : Fin 4096 → Fin 1536 → ℝ) (P : Fin 32 → Fin 4 → Fin 4 → Fin 128 → Fin 256 → ℝ) (n : Fin 32) (h : Fin 4) (R : Fin 512) (d : Fin 64) : ℝ :=
  ∑ i, Pn P n h R i * bv q n h i d

theorem v87_at (W : In x0 x1 x2 x5 q qg kg xd) (S : Sm x0 x1 x2 x3 x4 p es) (n : Fin 32) (h : Fin 4) (R : Fin 512) (d : Fin 64) :
    val_main_v87 (F := Ideal) x0 x1 x2 x3 x4 (ix5 n h d ⟨R / 128, by omega⟩ ⟨R % 128, by omega⟩) = ((oR q (pr p es) n h R d : ℝ) : EReal) := by
  have a := Cert.AttnRef.v51_at W n
  have b := Cert.AttnRef.v116_at S n h ⟨R / 128, by omega⟩ ⟨R % 128, by omega⟩
  have z := Cert.AttnRef.p_off S n h ⟨R / 128, by omega⟩ ⟨R % 128, by omega⟩
  unfold val_main_v87
  rw [v43_eq, v85_eq]
  generalize Cert.Reference2Ideal.Read.val_main_v116 (F := Ideal) x0 x1 x2 x3 x4 = Y at b ⊢
  generalize Cert.Reference2Ideal.Read.val_main_v51 (F := Ideal) x0 = Z at a ⊢
  pointwise
  simp only [a, b, ← EReal.coe_mul, coe_sum]
  refine congrArg _ (Finset.sum_congr rfl fun i _ => ?_)
  unfold Pn
  by_cases c : (n : ℕ) < 1 ∧ (i : ℕ) < 128
  · rw [if_pos c, zero_mul]
    unfold pr
    rw [z i c, zero_mul, zero_mul]
  · rw [if_neg c, mul_comm]

theorem v90_at (W : In x0 x1 x2 x5 q qg kg xd) (S : Sm x0 x1 x2 x3 x4 p es) (n : Fin 32) (h : Fin 4) (R : Fin 512) (d : Fin 64) (k : Fin 1024)
    (hk : (k : ℕ) = 64 * (4 * h + R / 128) + d) (r : Fin 4096) (hr : (r : ℕ) = 128 * n + R % 128) :
    val_main_v90 (F := Ideal) x0 x1 x2 x3 x4 (ix2 r k) = ((oR q (pr p es) n h R d : ℝ) : EReal) := by
  rw [← v87_at W S]
  unfold val_main_v90 val_main_v89 val_main_v88
  generalize val_main_v87 (F := Ideal) x0 x1 x2 x3 x4 = Y
  pointwise
  congr 1
  congr 1 <;> refine Fin.ext ?_ <;> dsimp only <;> omega

end Cert.AttnFwdRef

end
-- ==== Proof.AttnFwd.lean ====
/- The attention's outputs and probabilities, block by block, and the arrays they make. -/
module

public import proofs.«01_k».proof.Proof.AttnFwdPt
public import proofs.«01_k».proof.Proof.AttnFwdRef
public import proofs.«01_k».proof.Proof.AttnFin
public import proofs.«01_k».proof.Pre_finite7

@[expose] public section

set_option maxRecDepth 16384

noncomputable section

open Idealize.ShloMosaic Idealize.ShloMosaic.TcCoe Idealize.SL.Sem

namespace Cert.Kernel7Ideal.Attn

open Cert.Kernel7Ideal Cert.Kernel7Ideal.Gen Cert.Attn Cert.Reals Cert.Pieces Cert.AttnFwd Cert.AttnFwdRef
open Cert.Kernel2Ideal.Attn (sl sl8 stk stk_L quad pair rinv unit hd kx vx qx Blocks K VD K_L VD_L sl_L lo64 hi64 sel1 sel0 sel dup0_L dup1_L)
open Cert.AttnRef (In Sm Soft pr Pn bv bk bq Xc Xp)

/-! ## One grid point, at reals -/

section
variable {w0 : FVec Ideal S128x1536 .bf16} {w1 : FVec Ideal S128x512 .bf16} {v2 : FVec Ideal Cert.Kernel2Ideal.S128x1024 .bf16}
  {v3 : FVec Ideal S1x4x512x256 .bf16} {v4 : FVec Ideal S128x128 .f32} {w2 w3 : FVec Ideal S1x128 .f32}
  {xc : Fin 128 → Fin 1536 → ℝ} {xp : Fin 128 → Fin 512 → ℝ} {yd : Fin 128 → Fin 1024 → ℝ} {yp : Fin 4 → Fin 512 → Fin 256 → ℝ}
  {ys : Fin 128 → Fin 16 → ℝ} {qg kg : Fin 64 → ℝ} (B : Blocks w0 w1 v2 v3 v4 w2 w3 xc xp yd yp ys qg kg) (j e b : Fin 2)
include B

theorem KD_L : KD w0 w1 w3 j e = L fun i _ d => unit (kx xc xp (hd j e) i) d * kg d := by
  have h : KN w0 w1 w3 j = L fun i e d => unit (kx xc xp (hd j e) i) d * kg d := by
    unfold KN; rw [K_L B, B.h6, nk_L]
  unfold KD; rw [h]
  fin_cases e
  · exact dup0_L _
  · exact dup1_L _

theorem QN_L : QN w0 w2 j e b = L (pair b fun R d => unit (qx xc (hd j e) R) d * qg d) := by
  have h : (sl w0 (512 * j + 256 * e + 128 * b) (by omega) : FVec Ideal S128x128 .bf16) = L (pair b (qx xc (hd j e))) := by
    rw [sl_L B.h0]
    congr 1; funext s f d; unfold pair qx hd
    congr 1
    · apply Fin.ext; simp; omega
    · apply Fin.ext; simp; omega
  unfold QN; rw [h, B.h5, nq_L]; rfl

theorem QS_L : QS w0 w2 j e = L (quad fun R d => unit (qx xc (hd j e) R) d * qg d) := by
  unfold QS; rw [QN_L B, QN_L B]
  exact stk_L fun R d => unit (qx xc (hd j e) R) d * qg d
end

theorem SK_at (w4 : FVec Ideal S16 .f32) (j e : Fin 2) (R : Fin 512) : SK w4 j e (ix2 R 0) = w4 (ix1 ⟨hd j e * 4 + R / 128, by omega⟩) := by
  have hR : (R : ℕ) < 128 ∨ (128 ≤ (R : ℕ) ∧ (R : ℕ) < 256) ∨ (256 ≤ (R : ℕ) ∧ (R : ℕ) < 384) ∨ 384 ≤ (R : ℕ) := by omega
  have c1 : ∀ R : Fin 512, IntOp.cmpi CmpIPredicate.slt (BitVec.ofNat 32 R) 128#32 = if (R : ℕ) < 128 then 1#1 else 0#1 := by decide +kernel
  have c2 : ∀ R : Fin 512, IntOp.cmpi CmpIPredicate.slt (BitVec.ofNat 32 R) 256#32 = if (R : ℕ) < 256 then 1#1 else 0#1 := by decide +kernel
  have c3 : ∀ R : Fin 512, IntOp.cmpi CmpIPredicate.slt (BitVec.ofNat 32 R) 384#32 = if (R : ℕ) < 384 then 1#1 else 0#1 := by decide +kernel
  have key : ∀ (o : ℕ) (ho : o + 1 ≤ 16), 4 * (2 * (j : ℕ) + e) + (R : ℕ) / 128 = o → s1 w4 o ho = w4 (ix1 ⟨hd j e * 4 + R / 128, by omega⟩) := fun o ho h => by
    rw [s1_at]
    refine congrArg (fun k => w4 (ix1 k)) (Fin.ext ?_)
    show o = (2 * (j : ℕ) + e) * 4 + R / 128
    omega
  unfold SK
  generalize h0 : s1 w4 (4 * (2 * (j : ℕ) + e)) _ = a0
  generalize h1 : s1 w4 (4 * (2 * (j : ℕ) + e) + 1) _ = a1
  generalize h2 : s1 w4 (4 * (2 * (j : ℕ) + e) + 2) _ = a2
  generalize h3 : s1 w4 (4 * (2 * (j : ℕ) + e) + 3) _ = a3
  pointwise [k0_pay19]
  rw [c1, c2, c3]
  rcases hR with h | ⟨h, h'⟩ | ⟨h, h'⟩ | h
  · rw [if_pos h]; exact h0.symm.trans (key _ _ (by omega))
  · rw [if_neg (by omega), if_pos h']; exact h1.symm.trans (key _ _ (by omega))
  · rw [if_neg (by omega), if_neg (by omega), if_pos h']; exact h2.symm.trans (key _ _ (by omega))
  · rw [if_neg (by omega), if_neg (by omega), if_neg (by omega)]; exact h3.symm.trans (key _ _ (by omega))

theorem mask_at (t : Fin cfg0.N) (n : Fin 32) (hn : (n : ℕ) = t) (h : Fin 4) (R : Fin 512) (i : Fin 256) :
    k0_pay4 (grid0.coords t) (ix2 R i) = Cert.Reference2Ideal.Read.val_main_v77_1 (F := Ideal) (ix5 n h ⟨R / 128, by omega⟩ ⟨R % 128, by omega⟩ i) := by
  have c : ∀ t : Fin grid0.N, ((grid0.coords t) 0).val = t.val := by decide +kernel
  have r : ∀ R : Fin 512, IntOp.andi (BitVec.ofNat 32 R) 127#32 = BitVec.ofNat 32 (R % 128) := by decide +kernel
  rw [Cert.AttnRef.mask_at]
  pointwise [k0_pay4]
  rw [c t, r, hn]
  rfl

variable {x0 : FVec Ideal S4096x1536 .f32} {x1 x2 : FVec Ideal S64 .f32} {x3 : FVec Ideal S16 .f32} {x4 : FVec Ideal S4x4x128x256 .f32}
  {x5 : FVec Ideal Cert.Kernel2Ideal.S4096x1024 .f32} {q : Fin 4096 → Fin 1536 → ℝ} {qg kg : Fin 64 → ℝ} {xd : Fin 4096 → Fin 1024 → ℝ}
  {p : Fin 32 → Fin 4 → Fin 4 → Fin 128 → Fin 256 → ℝ} {es : Fin 32 → Fin 4 → Fin 4 → Fin 128 → ℝ}

section
variable (W : In x0 x1 x2 x5 q qg kg xd) (S : Sm x0 x1 x2 x3 x4 p es)
  {w0 : FVec Ideal S128x1536 .bf16} {w1 : FVec Ideal S128x512 .bf16} {v2 : FVec Ideal Cert.Kernel2Ideal.S128x1024 .bf16}
  {v3 : FVec Ideal S1x4x512x256 .bf16} {v4 : FVec Ideal S128x128 .f32} {w2 w3 : FVec Ideal S1x128 .f32} {w4 : FVec Ideal S16 .f32} {w5 : FVec Ideal S4x512x256 .f32}
  {yd : Fin 128 → Fin 1024 → ℝ} {yp : Fin 4 → Fin 512 → Fin 256 → ℝ} {ys : Fin 128 → Fin 16 → ℝ} (n : Fin 32) (t : Fin cfg0.N) (hn : (n : ℕ) = t)
  (B : Blocks w0 w1 v2 v3 v4 w2 w3 (Xc q n) (Xp q n) yd yp ys qg kg) (h4 : ∀ k, w4 (ix1 k) = x3 (ix1 k))
  (h5 : ∀ h R i, w5 (ix3 h R i) = x4 (ix4 h ⟨R / 128, by omega⟩ ⟨R % 128, by omega⟩ i)) (j e b : Fin 2)
include W hn B h5

theorem Z_at (R : Fin 512) (i : Fin 256) : Z (grid0.coords t) w0 w1 w2 w3 w5 j e (ix2 R i) =
    Cert.Reference2Ideal.Read.val_main_v77_0 (F := Ideal) x0 x1 x2 x4 (ix5 n (hd j e) ⟨R / 128, by omega⟩ ⟨R % 128, by omega⟩ i) := by
  have hb : sl8 w5 (2 * j + e) (by omega) (ix3 0 R i) = x4 (ix4 (hd j e) ⟨R / 128, by omega⟩ ⟨R % 128, by omega⟩ i) := by
    refine Eq.trans (congrArg w5 ?_) (h5 (hd j e) R i)
    funext a; fin_cases a
    · exact Fin.ext (show 2 * (j : ℕ) + e + 1 * 0 = 2 * j + e by omega)
    · exact Fin.ext (show 0 + 1 * (R : ℕ) = R by omega)
    · exact Fin.ext (show 0 + 1 * (i : ℕ) = i by omega)
  unfold Z
  rw [QS_L B, KD_L B, sc_at, Cert.AttnRef.v77_at, mask_at t n hn (hd j e), hb]
  by_cases hm : Cert.Reference2Ideal.Read.val_main_v77_1 (F := Ideal) (ix5 n (hd j e) ⟨R / 128, by omega⟩ ⟨R % 128, by omega⟩ i) = 1#1
  · rw [if_pos hm, if_pos hm, Cert.AttnRef.v58_in W n (hd j e) R i]
    rintro ⟨c0, c1⟩
    obtain rfl : n = 0 := Fin.ext (by show (n : ℕ) = 0; omega)
    exact Cert.AttnRef.mask_first (hd j e) _ _ i c1 hm
  · rw [if_neg hm, if_neg hm]

include S h4

theorem P_L : P (grid0.coords t) w0 w1 w2 w3 w4 w5 j e = R2 (Pn (pr p es) n (hd j e)) :=
  eq_R2 fun R => (sm_soft _ _ n (hd j e) R _ _ (S n (hd j e) ⟨R / 128, by omega⟩ ⟨R % 128, by omega⟩) (Z_at W n t hn B h5 j e R)
    ((SK_at w4 j e R).trans (h4 _))).1

/-- The sink's probabilities of a head group. -/
def SP (i0 : grid0.Coords) (w0 : FVec Ideal S128x1536 .bf16) (w1 : FVec Ideal S128x512 .bf16) (w2 w3 : FVec Ideal S1x128 .f32) (w4 : FVec Ideal S16 .f32)
    (w5 : FVec Ideal S4x512x256 .f32) (j e : Fin 2) : FVec Ideal S512x1 .f32 := sk (Z i0 w0 w1 w2 w3 w5 j e) (SK w4 j e)

theorem SP_at (R : Fin 512) (r : Fin 4) (s : Fin 128) (hr : (R : ℕ) / 128 = r) (hs : (R : ℕ) % 128 = s) :
    SP (grid0.coords t) w0 w1 w2 w3 w4 w5 j e (ix2 R 0) = ((es n (hd j e) r s * (1 / (∑ i, p n (hd j e) r s i + es n (hd j e) r s)) : ℝ) : EReal) := by
  have h := (sm_soft _ _ n (hd j e) R _ _ (S n (hd j e) ⟨R / 128, by omega⟩ ⟨R % 128, by omega⟩) (Z_at W n t hn B h5 j e R)
    ((SK_at w4 j e R).trans (h4 _))).2
  have e1 : ∀ h, (⟨R / 128, h⟩ : Fin 4) = r := fun _ => Fin.ext hr
  have e2 : ∀ h, (⟨R % 128, h⟩ : Fin 128) = s := fun _ => Fin.ext hs
  simp only [e1, e2] at h
  exact h

theorem O_L : O (grid0.coords t) w0 w1 w2 w3 w4 w5 j e b = L (pair b (oR q (pr p es) n (hd j e))) := by
  unfold O
  rw [P_L W S n t hn B h4 h5, VD_L B, ov_L]
  rfl
end

/-! ## The blocks -/

theorem idx : ∀ t : Fin cfg0.N, win0_0.index t = ![t.val, 0] ∧ win0_1.index t = ![t.val - 1, 2] ∧ win0_2.index t = ![0, 0] ∧ win0_3.index t = ![0, 0]
    ∧ win0_4.index t = ![0] ∧ win0_5.index t = ![0, 0, 0] ∧ win0_6.index t = ![t.val, 0] ∧ win0_7.index t = ![t.val, 0, 0, 0] ∧ win0_8.index t = ![t.val, 0] :=
  (by decide +kernel : ∀ t : Fin grid0.N, _)

variable (m : (ℓ : Loc nD τ sig) → Buf (Elt Ideal) ℓ) (c : Dev nD)

abbrev A0 : FVec Ideal S4096x1536 .f32 := m ((c : Thread nD τ).loc main_arg0)
abbrev A1 : FVec Ideal S64 .f32 := m ((c : Thread nD τ).loc main_arg1)
abbrev A2 : FVec Ideal S64 .f32 := m ((c : Thread nD τ).loc main_arg2)
abbrev A3 : FVec Ideal S16 .f32 := m ((c : Thread nD τ).loc main_arg3)
abbrev A4 : FVec Ideal S4x4x128x256 .f32 := m ((c : Thread nD τ).loc main_arg4)

def nt (t : Fin cfg0.N) : Fin 32 := ⟨t, lt_of_lt_of_eq t.isLt (show cfg0.N = 32 from N_0)⟩

section
variable (W : In (A0 m c) (A1 m c) (A2 m c) x5 q qg kg xd)
include W

theorem b0 (t : Fin cfg0.N) (s : Fin 128) (k : Fin 1536) : (iblk m c 0 t : FVec Ideal S128x1536 .bf16) (ix2 s k) = ((Xc q (nt t) s k : ℝ) : EReal) := by
  rw [Xc, ← W.h0]
  blk_simp [iblk]
  entry_read
  pointwise
  blk_ext [idx t, nt]

theorem b1 (t : Fin cfg0.N) (s : Fin 128) (k : Fin 512) : (iblk m c 1 t : FVec Ideal S128x512 .bf16) (ix2 s k) = ((Xp q (nt t) s k : ℝ) : EReal) := by
  rw [Xp, ← W.h0]
  blk_simp [iblk]
  entry_read
  pointwise
  blk_ext [idx t, nt]

theorem b2 (t : Fin cfg0.N) : (iblk m c 2 t : FVec Ideal S1x128 .f32) = (L fun _ _ d => qg d : FVec Ideal S1x128 .f32) := by
  funext x
  obtain ⟨l, rfl⟩ := lanes x
  refine Eq.trans ?_ (W.h1 ⟨l % 64, by omega⟩)
  blk_simp [iblk]
  entry_read
  pointwise
  blk_ext [idx t]

theorem b3 (t : Fin cfg0.N) : (iblk m c 3 t : FVec Ideal S1x128 .f32) = (L fun _ _ d => kg d : FVec Ideal S1x128 .f32) := by
  funext x
  obtain ⟨l, rfl⟩ := lanes x
  refine Eq.trans ?_ (W.h2 ⟨l % 64, by omega⟩)
  blk_simp [iblk]
  entry_read
  pointwise
  blk_ext [idx t]

theorem blocks (t : Fin cfg0.N) : Blocks (iblk m c 0 t) (iblk m c 1 t) (fun _ => (0 : EReal)) (fun _ => (0 : EReal)) (fun _ => (0 : EReal)) (iblk m c 2 t) (iblk m c 3 t)
    (Xc q (nt t)) (Xp q (nt t)) (fun _ _ => 0) (fun _ _ _ => 0) (fun _ _ => 0) qg kg :=
  ⟨b0 m c W t, b1 m c W t, fun _ _ => rfl, fun _ _ _ => rfl, fun _ _ => rfl, b2 m c W t, b3 m c W t⟩
end

theorem b4 (t : Fin cfg0.N) (k : Fin 16) : (iblk m c 4 t : FVec Ideal S16 .f32) (ix1 k) = A3 m c (ix1 k) := by
  blk_simp [iblk]
  entry_read
  blk_ext [idx t]

theorem b5 (t : Fin cfg0.N) (h : Fin 4) (R : Fin 512) (i : Fin 256) : (iblk m c 5 t : FVec Ideal S4x512x256 .f32) (ix3 h R i) =
    A4 m c (ix4 h ⟨R / 128, by omega⟩ ⟨R % 128, by omega⟩ i) := by
  blk_simp [iblk]
  entry_read
  pointwise
  blk_ext [idx t]

/-! ## The arrays -/

section
variable (W : In (A0 m c) (A1 m c) (A2 m c) x5 q qg kg xd) (S : Sm (A0 m c) (A1 m c) (A2 m c) (A3 m c) (A4 m c) p es)
include W S

theorem p_out (t : Fin cfg0.N) (h : Fin 4) (R : Fin 512) (i : Fin 256) : (outsAt0 m c t).2.1 (ix4 0 h R i) =
    Cert.Reference7Ideal.Read.val_main_v95 (F := Ideal) (A0 m c) (A1 m c) (A2 m c) (A3 m c) (A4 m c) (ix4 (nt t) h R i) := by
  rw [v95_at S]
  have k : ∀ j e : Fin 2, pP m c t j e (ix4 0 0 R i) = ((Pn (pr p es) (nt t) (hd j e) R i : ℝ) : EReal) := fun j e => by
    unfold pP P1
    rw [P_L W S (nt t) t rfl (blocks m c W t) (b4 m c t) (b5 m c t) j e]
    pointwise
    rfl
  refine (p_pt m c t h R i).trans ?_
  fin_cases h
  · exact k 0 0
  · exact k 0 1
  · exact k 1 0
  · exact k 1 1

theorem o_out (t : Fin cfg0.N) (s : Fin 128) (y : Fin 1024) : (outsAt0 m c t).1 (ix2 s y) =
    Cert.Reference7Ideal.Read.val_main_v90 (F := Ideal) (A0 m c) (A1 m c) (A2 m c) (A3 m c) (A4 m c) (ix2 ⟨128 * nt t + s, by omega⟩ y) := by
  have hy : y = ⟨128 * ((⟨y / 128, by omega⟩ : Fin 8) : ℕ) + ((⟨y % 128, by omega⟩ : Fin 128) : ℕ), by simp only; omega⟩ := Fin.ext (by simp only; omega)
  refine (congrArg (fun k => (outsAt0 m c t).1 (ix2 s k)) hy).trans ((o_pt m c t s _ _).trans ?_)
  unfold pO
  rw [O_L W S (nt t) t rfl (blocks m c W t) (b4 m c t) (b5 m c t)]
  refine Eq.symm ((v90_at W S (nt t) ⟨y / 256, by omega⟩ ⟨256 * (y / 128 % 2) + (128 * (y % 128 / 64) + s), by omega⟩ ⟨y % 64, by omega⟩ y ?_ _ ?_).trans ?_)
  · dsimp only; omega
  · dsimp only; omega
  · refine congrArg _ ?_
    unfold pair
    congr 1
    · exact Fin.ext (by show (y : ℕ) / 256 = 2 * (y / 128 / 4) + y / 128 / 2 % 2; omega)
    · exact Fin.ext (by show (y : ℕ) % 64 = y % 128 % 64; omega)

theorem s_at (t : Fin cfg0.N) (j e : Fin 2) (R : Fin 512) (r : Fin 4) (s : Fin 128) (hr : (R : ℕ) / 128 = r) (hs : (R : ℕ) % 128 = s) :
    SP (grid0.coords t) (iblk m c 0 t) (iblk m c 1 t) (iblk m c 2 t) (iblk m c 3 t) (iblk m c 4 t) (iblk m c 5 t) j e (ix2 R 0) =
      ((es (nt t) (hd j e) r s * (1 / (∑ i, p (nt t) (hd j e) r s i + es (nt t) (hd j e) r s)) : ℝ) : EReal) :=
  SP_at W S (nt t) t rfl (blocks m c W t) (b4 m c t) (b5 m c t) j e R r s hr hs

theorem final6 : (dats m 0 c).arrAt 6 (cfgs 0).N = Cert.Reference7Ideal.Read.val_main_v90 (F := Ideal) (A0 m c) (A1 m c) (A2 m c) (A3 m c) (A4 m c) := by
  refine (dats m 0 c).arrAt_eq_of_covers 6 _ (by decide +kernel) fun t hf y => ?_
  blk_simp
  rw [after0_6]
  have hy : y = (ix2 (y 0) (y 1) : S128x1024.Idx) := eq_ix2 (n0 := 128) (n1 := 1024) y
  refine (congrArg (outsAt0 m c t).1 hy).trans ((o_out m c W S t (y 0) (y 1)).trans ?_)
  refine congrArg (Cert.Reference7Ideal.Read.val_main_v90 (F := Ideal) (A0 m c) (A1 m c) (A2 m c) (A3 m c) (A4 m c)) ?_
  funext a
  refine Fin.ext ?_
  fin_cases a <;> blk_simp [idx t, nt]
  · show 128 * (t : ℕ) + (y 0 : ℕ) = t * 128 + (y 0 : ℕ)
    rw [mul_comm]
  · rfl

theorem final7 : (dats m 0 c).arrAt 7 (cfgs 0).N = Cert.Reference7Ideal.Read.val_main_v95 (F := Ideal) (A0 m c) (A1 m c) (A2 m c) (A3 m c) (A4 m c) := by
  refine (dats m 0 c).arrAt_eq_of_covers 7 _ (by decide +kernel) fun t hf y => ?_
  blk_simp
  rw [after0_7]
  have hy : y = (ix4 0 (y 1) (y 2) (y 3) : S1x4x512x256.Idx) := by
    refine (eq_ix4 (n0 := 1) (n1 := 4) (n2 := 512) (n3 := 256) y).trans ?_
    exact congrArg (fun k : Fin 1 => (ix4 k (y 1) (y 2) (y 3) : S1x4x512x256.Idx)) (Subsingleton.elim (α := Fin 1) _ 0)
  refine (congrArg (outsAt0 m c t).2.1 hy).trans ((p_out m c W S t (y 1) (y 2) (y 3)).trans ?_)
  refine congrArg (Cert.Reference7Ideal.Read.val_main_v95 (F := Ideal) (A0 m c) (A1 m c) (A2 m c) (A3 m c) (A4 m c)) ?_
  funext a
  refine Fin.ext ?_
  fin_cases a <;> blk_simp [idx t, nt]
  all_goals rfl
end

end Cert.Kernel7Ideal.Attn

namespace Cert.AttnFwdRef

open Cert.Reference7Ideal Cert.AttnRef

theorem real_args [Cert.Pre_finite7.Facts] (x0 : FVec Ideal S4096x1536 .f32) (x1 x2 : FVec Ideal S64 .f32) (x3 : FVec Ideal S16 .f32)
    (x4 : FVec Ideal S4x4x128x256 .f32)
    (h : (Cert.Pre_finite7.fn (F := Ideal) x0 x1 x2 x3 x4).1 = (fun _ => 1#1)
      ∧ (Cert.Pre_finite7.fn (F := Ideal) x0 x1 x2 x3 x4).2.1 = (fun _ => 1#1)
      ∧ (Cert.Pre_finite7.fn (F := Ideal) x0 x1 x2 x3 x4).2.2.1 = (fun _ => 1#1)
      ∧ (Cert.Pre_finite7.fn (F := Ideal) x0 x1 x2 x3 x4).2.2.2.1 = (fun _ => 1#1)
      ∧ (Cert.Pre_finite7.fn (F := Ideal) x0 x1 x2 x3 x4).2.2.2.2 = (fun _ => 1#1)) :
    ∃ (q : Fin 4096 → Fin 1536 → ℝ) (qg kg : Fin 64 → ℝ) (xd : Fin 4096 → Fin 1024 → ℝ) (p : Fin 32 → Fin 4 → Fin 4 → Fin 128 → Fin 256 → ℝ)
      (es : Fin 32 → Fin 4 → Fin 4 → Fin 128 → ℝ), In x0 x1 x2 (fun _ => (0 : EReal)) q qg kg xd ∧ Sm x0 x1 x2 x3 x4 p es :=
  of_reals x0 x1 x2 x3 x4 (fun _ => (0 : EReal)) (Cert.Reals.reals x0 Cert.Pre_finite7.Facts.bcast_S_S4096x1536 h.1)
    (Cert.Reals.reals x1 Cert.Pre_finite7.Facts.bcast_S_S64 h.2.1) (Cert.Reals.reals x2 Cert.Pre_finite7.Facts.bcast_S_S64 h.2.2.1)
    (Cert.Reals.reals x3 Cert.Pre_finite7.Facts.bcast_S_S16 h.2.2.2.1) (Cert.Reals.reals x4 Cert.Pre_finite7.Facts.bcast_S_S4x4x128x256 h.2.2.2.2)
    ⟨fun _ => 0, rfl⟩

end Cert.AttnFwdRef

end
-- ==== Proof.AttnSink.lean ====
/- The sink's probabilities of the attention: sixteen columns beside zeros, block by block, and the array they make. -/
module

public import proofs.«01_k».proof.Proof.AttnFwd

@[expose] public section

set_option maxRecDepth 16384

noncomputable section

open Idealize.ShloMosaic Idealize.ShloMosaic.TcCoe Idealize.SL.Sem

namespace Cert.AttnFwdRef

open Cert.Reference7Ideal Cert.Reference7Ideal.Gen Cert.Reference7Ideal.Read Cert.Attn Cert.Reals
open Cert.AttnRef (Sm)

variable {x0 : FVec Ideal S4096x1536 .f32} {x1 x2 : FVec Ideal S64 .f32} {x3 : FVec Ideal S16 .f32} {x4 : FVec Ideal S4x4x128x256 .f32}
  {p : Fin 32 → Fin 4 → Fin 4 → Fin 128 → Fin 256 → ℝ} {es : Fin 32 → Fin 4 → Fin 4 → Fin 128 → ℝ}

set_option maxHeartbeats 4000000

/-- The sink's probability. -/
def ps (p : Fin 32 → Fin 4 → Fin 4 → Fin 128 → Fin 256 → ℝ) (es : Fin 32 → Fin 4 → Fin 4 → Fin 128 → ℝ) (n : Fin 32) (h g : Fin 4) (s : Fin 128) : ℝ :=
  es n h g s * (1 / (∑ i, p n h g s i + es n h g s))

theorem v80_eq : val_main_v80 (F := Ideal) x0 x1 x2 x3 x4 = Cert.Reference2Ideal.Read.val_main_v111 (F := Ideal) x0 x1 x2 x3 x4 := rfl

theorem v83_eq : val_main_v83 (F := Ideal) x0 x1 x2 x3 x4 = Cert.Reference2Ideal.Read.val_main_v114 (F := Ideal) x0 x1 x2 x3 x4 := rfl

theorem v86_at (S : Sm x0 x1 x2 x3 x4 p es) (n : Fin 32) (h g : Fin 4) (s : Fin 128) :
    val_main_v86 (F := Ideal) x0 x1 x2 x3 x4 (ix5 n h g s 0) = ((ps p es n h g s : ℝ) : EReal) := by
  have a := (S n h g s).he
  have b := (S n h g s).hd
  have c := (S n h g s).pos
  unfold val_main_v86
  rw [v80_eq, v83_eq]
  generalize Cert.Reference2Ideal.Read.val_main_v111 (F := Ideal) x0 x1 x2 x3 x4 = Y at a ⊢
  generalize Cert.Reference2Ideal.Read.val_main_v114 (F := Ideal) x0 x1 x2 x3 x4 = Z at b ⊢
  pointwise
  rw [a, b, Ideal.div_coe c.ne', ← EReal.coe_mul]
  rfl

theorem v93_at (S : Sm x0 x1 x2 x3 x4 p es) (n : Fin 32) (s : Fin 128) (k : Fin 16) :
    val_main_v93 (F := Ideal) x0 x1 x2 x3 x4 (ix2 ⟨128 * n + s, by omega⟩ k) = ((ps p es n ⟨k / 4, by omega⟩ ⟨k % 4, by omega⟩ s : ℝ) : EReal) := by
  rw [← v86_at S]
  unfold val_main_v93 val_main_v92 val_main_v91
  generalize val_main_v86 (F := Ideal) x0 x1 x2 x3 x4 = Y
  pointwise

theorem v97_at (S : Sm x0 x1 x2 x3 x4 p es) (n : Fin 32) (s l : Fin 128) :
    val_main_v97 (F := Ideal) x0 x1 x2 x3 x4 (ix2 ⟨128 * n + s, by omega⟩ l) =
      if h : (l : ℕ) < 16 then ((ps p es n ⟨l / 4, by omega⟩ ⟨l % 4, by omega⟩ s : ℝ) : EReal) else 0 := by
  have k := v93_at S n s
  unfold val_main_v97
  generalize val_main_v93 (F := Ideal) x0 x1 x2 x3 x4 = Y at k ⊢
  by_cases h : (l : ℕ) < 16
  · rw [dif_pos h, ← k ⟨l, h⟩]
    pointwise [val_main_v96, val_main_cst_15]
    exact dif_pos h
  · rw [dif_neg h]
    pointwise [val_main_v96, val_main_cst_15]
    exact dif_neg h

end Cert.AttnFwdRef

namespace Cert.Kernel7Ideal.Attn

open Cert.Kernel7Ideal Cert.Kernel7Ideal.Gen Cert.Attn Cert.Reals Cert.Pieces Cert.AttnFwd Cert.AttnFwdRef
open Cert.Kernel2Ideal.Attn (hd cols_mem cols_not)
open Cert.AttnRef (In Sm)

/-- The first `n` columns, each stored by itself, over a whole block. -/
def cells (p : ℕ → FVec Ideal S128x1 .f32) (z : FVec Ideal S128x128 .f32) (iz : ∀ a, ![0, 0] a + ![128, 128] a ≤ S128x128.size a)
    (ic : ∀ k : ℕ, k < 16 → ∀ a, ![0, k] a + ![128, 1] a ≤ S128x128.size a) : (n : ℕ) → n ≤ 16 → List (View.Piece (Elt Ideal) S128x128 .f32)
  | 0, _ => [⟨Rect.unit (s := S128x128) ![0, 0] ![128, 128] iz, z⟩]
  | n + 1, h => ⟨Rect.unit (s := S128x128) ![0, n] ![128, 1] (ic n h), p n⟩ :: cells p z iz ic n (Nat.le_of_succ_le h)

theorem cells_at (p : ℕ → FVec Ideal S128x1 .f32) (z : FVec Ideal S128x128 .f32) (iz ic) (n : ℕ) (hn : n ≤ 16) (s l : Fin 128) :
    View.canon (cells p z iz ic n hn) (ix2 s l) = if (l : ℕ) < n then p l (ix2 s 0) else z (ix2 s l) := by
  induction n with
  | zero => exact cols_mem (φ := .f32) iz z [] s l l (Nat.zero_add _).symm
  | succ n ih =>
    by_cases h : (l : ℕ) = n
    · rw [if_pos (by omega)]
      subst h
      exact cols_mem (φ := .f32) (ic l hn) _ _ s l 0 rfl
    · refine (cols_not (φ := .f32) (ic n hn) _ _ s l (by omega)).trans ((ih _).trans ?_)
      by_cases h' : (l : ℕ) < n
      · rw [if_pos h', if_pos (by omega)]
      · rw [if_neg h', if_neg (by omega)]

/-- One head's column of a group's four. -/
def col (x : FVec Ideal S512x1 .f32) (r : Fin 4) : FVec Ideal S128x1 .f32 :=
  ![extractStridedSlice S128x1 ![0, 0] x slices_S512x1_o0_0_S128x1, extractStridedSlice S128x1 ![128, 0] x slices_S512x1_o128_0_S128x1,
    extractStridedSlice S128x1 ![256, 0] x slices_S512x1_o256_0_S128x1, extractStridedSlice S128x1 ![384, 0] x slices_S512x1_o384_0_S128x1] r

theorem col_at (x : FVec Ideal S512x1 .f32) (r : Fin 4) (s : Fin 128) : col x r (ix2 s 0) = x (ix2 ⟨128 * r + s, by omega⟩ 0) := by
  unfold col
  fin_cases r <;> pointwise <;> congr 2 <;> refine Fin.ext ?_ <;> dsimp only <;> omega

section
variable (m : (ℓ : Loc nD τ sig) → Buf (Elt Ideal) ℓ) (c : Dev nD) (t : Fin cfg0.N)

def pS (l : ℕ) : FVec Ideal S128x1 .f32 :=
  col (SP (grid0.coords t) (iblk m c 0 t) (iblk m c 1 t) (iblk m c 2 t) (iblk m c 3 t) (iblk m c 4 t) (iblk m c 5 t) ⟨l / 8 % 2, by omega⟩ ⟨l / 4 % 2, by omega⟩) ⟨l % 4, by omega⟩

set_option maxHeartbeats 2000000 in
theorem s_pt (s l : Fin 128) : (outsAt0 m c t).2.2 (ix2 s l) = if (l : ℕ) < 16 then pS m c t l (ix2 s 0) else k0_pay1 (F := Ideal) (ix2 s l) := by
  unfold outsAt0
  frame_out
  exact cells_at (pS m c t) (k0_pay1 (F := Ideal)) (by decide) (by decide) 16 le_rfl s l

variable {x5 : FVec Ideal Cert.Kernel2Ideal.S4096x1024 .f32} {q : Fin 4096 → Fin 1536 → ℝ} {qg kg : Fin 64 → ℝ} {xd : Fin 4096 → Fin 1024 → ℝ}
  {p : Fin 32 → Fin 4 → Fin 4 → Fin 128 → Fin 256 → ℝ} {es : Fin 32 → Fin 4 → Fin 4 → Fin 128 → ℝ}
  (W : In (A0 m c) (A1 m c) (A2 m c) x5 q qg kg xd) (S : Sm (A0 m c) (A1 m c) (A2 m c) (A3 m c) (A4 m c) p es)
include W S

theorem s_out (s l : Fin 128) : (outsAt0 m c t).2.2 (ix2 s l) =
    Cert.Reference7Ideal.Read.val_main_v97 (F := Ideal) (A0 m c) (A1 m c) (A2 m c) (A3 m c) (A4 m c) (ix2 ⟨128 * nt t + s, by omega⟩ l) := by
  rw [v97_at S, s_pt]
  by_cases h : (l : ℕ) < 16
  · rw [if_pos h, dif_pos h]
    unfold pS
    refine (col_at _ _ s).trans ((s_at m c W S t _ _ _ ⟨l % 4, by omega⟩ s ?_ ?_).trans ?_)
    · dsimp only; omega
    · dsimp only; omega
    · have e0 : hd ⟨l / 8 % 2, by omega⟩ ⟨l / 4 % 2, by omega⟩ = (⟨l / 4, by omega⟩ : Fin 4) := Fin.ext (by show 2 * ((l : ℕ) / 8 % 2) + l / 4 % 2 = l / 4; omega)
      rw [e0]
      rfl
  · rw [if_neg h, dif_neg h]
    pointwise [k0_pay1]

omit t in
theorem final8 : (dats m 0 c).arrAt 8 (cfgs 0).N = Cert.Reference7Ideal.Read.val_main_v97 (F := Ideal) (A0 m c) (A1 m c) (A2 m c) (A3 m c) (A4 m c) := by
  refine (dats m 0 c).arrAt_eq_of_covers 8 _ (by decide +kernel) fun t hf y => ?_
  blk_simp
  rw [after0_8]
  have hy : y = (ix2 (y 0) (y 1) : S128x128.Idx) := eq_ix2 (n0 := 128) (n1 := 128) y
  refine (congrArg (outsAt0 m c t).2.2 hy).trans ((s_out m c t W S (y 0) (y 1)).trans ?_)
  refine congrArg (Cert.Reference7Ideal.Read.val_main_v97 (F := Ideal) (A0 m c) (A1 m c) (A2 m c) (A3 m c) (A4 m c)) ?_
  funext a
  refine Fin.ext ?_
  fin_cases a <;> blk_simp [idx t, nt]
  · show 128 * (t : ℕ) + (y 0 : ℕ) = t * 128 + (y 0 : ℕ)
    rw [mul_comm]
  · rfl
end

end Cert.Kernel7Ideal.Attn

end
-- ==== Proof.SguRef.lean ====
/- The spatial mixer of the reference, entry by entry. -/
module

public import proofs.«01_k».proof.Proof.Norm
public import proofs.«01_k».proof.Proof.Gen.Reference8Ideal.Read
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Reference8Ideal.Sgu

open Cert.Reference8Ideal Cert.Reference8Ideal.Read Cert.Reals

/-- The normal distribution's cumulative function, as the kernel's host computes it, -/
def cdf (z : EReal) : EReal := Ideal.ofBits .f32 0x3F000000#32 * (Ideal.ofBits .f32 0x3F800000#32 + Ideal.erf (z * Ideal.ofBits .f32 0x3F3504F3#32))

/-- and the gelu with it. -/
def gl (z : EReal) : EReal := z * cdf z

theorem ofBits_one : Ideal.ofBits .f32 0x3F800000#32 = 1 := by
  simp [Ideal.ofBits, Ideal.ieee]; rw [← EReal.coe_mul]; norm_num

/-- The gelu by the complementary error function. -/
theorem gl_erfc (z : EReal) :
    Ideal.ofBits .f32 0x3F000000#32 * z * Ideal.erfc (-z * Ideal.ofBits .f32 0x3F3504F3#32) = gl z := by
  rw [neg_mul, Ideal.erfc_neg, gl, cdf, ofBits_one, mul_comm _ z, mul_assoc]

variable (Z : FVec Ideal S4096x4096 .f32) (G : FVec Ideal S2048 .f32) (W : FVec Ideal S16x128x128 .f32) (B : FVec Ideal S16x128 .f32)
  (Q : FVec Ideal S2048x1024 .f32) (X : FVec Ideal S4096x1024 .f32)

def uE (r : Fin 4096) (j : Fin 2048) : EReal := gl (Z (ix2 r ⟨j, by omega⟩))
def vE (r : Fin 4096) (j : Fin 2048) : EReal := gl (Z (ix2 r ⟨2048 + j, by omega⟩))

/-- The reciprocal of a row's root mean square. -/
def rt {n : ℕ} (v : Fin n → EReal) : EReal :=
  Ideal.rsqrt (Ideal.div (∑ k, v k * v k) (Ideal.ofBits .f32 0x45000000#32) + Ideal.ofBits .f32 0x358637BD#32)

/-- The second half over its root mean square, times the gain. -/
def nE (r : Fin 4096) (j : Fin 2048) : EReal := vE Z r j * rt (vE Z r) * G (ix1 j)

/-- Entry `(128 c + t, 128 g + d)` of the mixed rows. -/
def sE (c : Fin 32) (t : Fin 128) (g : Fin 16) (d : Fin 128) : EReal :=
  ∑ s : Fin 128, val_main_v23 (F := Ideal) W (ix3 g t s) * nE Z G ⟨128 * c + s, by omega⟩ ⟨128 * g + d, by omega⟩ + B (ix2 g t)

/-- The gated rows. -/
def yE (c : Fin 32) (t : Fin 128) (g : Fin 16) (d : Fin 128) : EReal :=
  uE Z ⟨128 * c + t, by omega⟩ ⟨128 * g + d, by omega⟩ * sE Z G W B c t g d

theorem v6_at (r k : Fin 4096) : val_main_v6 (F := Ideal) Z (ix2 r k) = gl (Z (ix2 r k)) := by
  rw [← gl_erfc]
  unfold val_main_v6 val_main_v5 val_main_v4 val_main_v3 val_main_v2 val_main_v1 val_main_v0 val_main_cst val_main_cst_0
  pointwise

theorem v7_at (r : Fin 4096) (j : Fin 2048) : val_main_v7 (F := Ideal) Z (ix2 r j) = uE Z r j := by
  unfold uE
  rw [← v6_at]
  unfold val_main_v7
  generalize val_main_v6 (F := Ideal) Z = Y
  pointwise

theorem v8_at (r : Fin 4096) (j : Fin 2048) : val_main_v8 (F := Ideal) Z (ix2 r j) = vE Z r j := by
  unfold vE
  rw [← v6_at]
  unfold val_main_v8
  generalize val_main_v6 (F := Ideal) Z = Y
  pointwise

theorem v21_at (r : Fin 4096) (j : Fin 2048) : val_main_v21 (F := Ideal) Z G (ix2 r j) = nE Z G r j := by
  have h := v8_at Z r
  unfold nE rt
  simp only [← h]
  unfold val_main_v21 val_main_v20 val_main_v19 val_main_v18 val_main_v17 val_main_v16 val_main_v15 val_main_v14 val_main_v13 val_main_v12
    val_main_v11 val_main_v10 val_main_v9 val_main_cst_1 val_main_cst_2 val_main_cst_3
  generalize val_main_v8 (F := Ideal) Z = Y
  pointwise

theorem v24_at (c : Fin 32) (t : Fin 128) (g : Fin 16) (d : Fin 128) : val_main_v24 (F := Ideal) Z G W (ix4 g c d t) =
    ∑ s : Fin 128, val_main_v23 (F := Ideal) W (ix3 g t s) * nE Z G ⟨128 * c + s, by omega⟩ ⟨128 * g + d, by omega⟩ := by
  simp only [← v21_at]
  unfold val_main_v24 val_main_v22
  generalize val_main_v23 (F := Ideal) W = Y
  generalize val_main_v21 (F := Ideal) Z G = N
  pointwise
  refine Finset.sum_congr rfl fun s _ => (mul_comm _ _).trans (congrArg (_ * N ·) ?_)
  congr 1 <;> refine Fin.ext ?_ <;> dsimp only <;> omega

theorem v31_at (c : Fin 32) (t : Fin 128) (g : Fin 16) (d : Fin 128) :
    val_main_v31 (F := Ideal) Z G W B (ix2 ⟨128 * c + t, by omega⟩ ⟨128 * g + d, by omega⟩) = sE Z G W B c t g d := by
  unfold sE
  rw [← v24_at]
  unfold val_main_v31 val_main_v30 val_main_v29 val_main_v28 val_main_v27 val_main_v26 val_main_v25
  generalize val_main_v24 (F := Ideal) Z G W = Y
  pointwise

theorem v33_at (c : Fin 32) (t : Fin 128) (g : Fin 16) (d : Fin 128) :
    val_main_v33 (F := Ideal) Z G W B (ix2 ⟨128 * c + t, by omega⟩ ⟨128 * g + d, by omega⟩) = yE Z G W B c t g d := by
  unfold yE
  rw [← v31_at, ← v7_at]
  rfl

theorem v35_at (r : Fin 4096) (k : Fin 1024) : val_main_v35 (F := Ideal) Z G W B Q X (ix2 r k)
    = X (ix2 r k) + ∑ j : Fin 2048, val_main_v33 (F := Ideal) Z G W B (ix2 r j) * Q (ix2 j k) := by
  unfold val_main_v35 val_main_v34 val_main_v33
  generalize val_main_v32 (F := Ideal) Z G W B = Y
  pointwise

end Cert.Reference8Ideal.Sgu

end
-- ==== Proof.Sgu.lean ====
/- The spatial mixer over a grid's blocks of 512 rows: four chunks of 128 rows a block, each mixed within sixteen groups of
   128 columns, gated and stored as a tile; then the product of the block's gated rows. -/
module

public import proofs.«01_k».proof.Proof.SguRef
public import proofs.«01_k».proof.Proof.Pieces
public import proofs.«01_k».proof.Proof.Gen.Kernel8.Frame
public import proofs.«01_k».proof.Proof.Gen.Kernel8Ideal.Value
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Sgu

open Cert.Kernel8Ideal Cert.Kernel8Ideal.Gen Cert.Pieces
open Cert.Reference8Ideal.Sgu (rt cdf gl uE vE nE sE yE v33_at v35_at)

/-! ## One tile -/

theorem slice_at {φ : FTy} (v : FVec Ideal S128x2048 φ) (o : ℕ) (ho : S128x2048.Slices ![0, o] S128x128) (h : o + 128 ≤ 2048) (r d : Fin 128) :
    extractStridedSlice S128x128 ![0, o] v ho (ix2 r d) = v (ix2 r ⟨o + d, by omega⟩) := by
  refine congrArg v ?_
  funext a; fin_cases a
  · exact Fin.ext (show 0 + (r : ℕ) = r by omega)
  · rfl

/-- The tile of a chunk at columns `o … o + 127`: rows mixed by `w`, shifted by `b`, gated. -/
def tile (u : FVec Ideal S128x2048 .f32) (v : FVec Ideal S128x2048 .bf16) (w : FVec Ideal S1x128x128 .bf16) (b : FVec Ideal S128x1 .f32) (o : ℕ)
    (ho : S128x2048.Slices ![0, o] S128x128) : FVec Ideal S128x128 .bf16 :=
  truncf .bf16 (mulf (extractStridedSlice S128x128 ![0, o] u ho)
    (addf (matmul dot_S128x128_S128x128_S128x128_1_0_0_1_n_n none (shapeCast S128x128 w shapeCasts_S1x128x128_S128x128)
        (extractStridedSlice S128x128 ![0, o] v ho) (constant S128x128 .f32 0x00000000#32))
      (broadcastTo S128x128 (shapeCast S128x1 b shapeCasts_S128x1_S128x1) broadcasts_S128x1_S128x128))) bitsLt_bf16_f32

theorem tile_at (u : FVec Ideal S128x2048 .f32) (v : FVec Ideal S128x2048 .bf16) (w : FVec Ideal S1x128x128 .bf16) (b : FVec Ideal S128x1 .f32) (o : ℕ)
    (ho : S128x2048.Slices ![0, o] S128x128) (h : o + 128 ≤ 2048) (r d : Fin 128) : tile u v w b o ho (ix2 r d) =
    u (ix2 r ⟨o + d, by omega⟩) * (∑ s : Fin 128, w (ix3 0 r s) * v (ix2 s ⟨o + d, by omega⟩) + b (ix2 r 0)) := by
  simp only [← slice_at _ o ho h]
  unfold tile
  generalize extractStridedSlice S128x128 ![0, o] u ho = U
  generalize extractStridedSlice S128x128 ![0, o] v ho = V
  pointwise

theorem pay5_at (z f : FVec Ideal S128x4096 .bf16) (r : Fin 128) (j : Fin 2048) :
    k0_pay5 (F := Ideal) z f (ix2 r j) = z (ix2 r ⟨j, by omega⟩) * f (ix2 r ⟨j, by omega⟩) := by
  pointwise [k0_pay5, k0_pay4, k0_pay3]

/-- A chunk's second half. -/
def vh (z f : FVec Ideal S128x4096 .bf16) (r : Fin 128) (j : Fin 2048) : EReal := z (ix2 r ⟨2048 + j, by omega⟩) * f (ix2 r ⟨2048 + j, by omega⟩)

theorem pay6_at (z f : FVec Ideal S128x4096 .bf16) (g : FVec Ideal S1x2048 .f32) (r : Fin 128) (j : Fin 2048) :
    k0_pay6 (F := Ideal) z f g (ix2 r j) = vh z f r j * rt (vh z f r) * g (ix2 0 j) := by
  pointwise [k0_pay6, k0_pay4, k0_pay3]
  rfl

theorem pay2_at (x : FVec Ideal S512x1024 .f32) (y : FVec Ideal S512x2048 .bf16) (w : FVec Ideal S2048x1024 .bf16) (r : Fin 512) (k : Fin 1024) :
    k0_pay2 (F := Ideal) x y w (ix2 r k) = x (ix2 r k) + ∑ j : Fin 2048, y (ix2 r j) * w (ix2 j k) := by
  pointwise [k0_pay2]

/-! ## One block -/

section
variable (x0 x1 : FVec Ideal S512x4096 .bf16) (x3 : FVec Ideal S1x2048 .f32) (x4 : FVec Ideal S16x128x128 .bf16) (x5 : FVec Ideal S128x16 .f32)

def uB (r : Fin 512) (j : Fin 2048) : EReal := x0 (ix2 r ⟨j, by omega⟩) * x1 (ix2 r ⟨j, by omega⟩)
def vB (r : Fin 512) (j : Fin 2048) : EReal := x0 (ix2 r ⟨2048 + j, by omega⟩) * x1 (ix2 r ⟨2048 + j, by omega⟩)
def nB (r : Fin 512) (j : Fin 2048) : EReal := vB x0 x1 r j * rt (vB x0 x1 r) * x3 (ix2 0 j)

/-- Entry `(128 k + t, 128 g + d)` of a block's gated rows, -/
def yB (k : Fin 4) (t : Fin 128) (g : Fin 16) (d : Fin 128) : EReal :=
  uB x0 x1 ⟨128 * k + t, by omega⟩ ⟨128 * g + d, by omega⟩ *
    (∑ s : Fin 128, x4 (ix3 g t s) * nB x0 x1 x3 ⟨128 * k + s, by omega⟩ ⟨128 * g + d, by omega⟩ + x5 (ix2 t g))

/-- and the whole block. -/
def gB : FVec Ideal S512x2048 .bf16 := fun y =>
  yB x0 x1 x3 x4 x5 ⟨(y 0 : ℕ) / 128, by have := (y 0).isLt; change (y 0 : ℕ) < 512 at this; omega⟩ ⟨(y 0 : ℕ) % 128, by omega⟩
    ⟨(y 1 : ℕ) / 128, by have := (y 1).isLt; change (y 1 : ℕ) < 2048 at this; omega⟩ ⟨(y 1 : ℕ) % 128, by omega⟩

/-- A store's tile is its place in the block. -/
theorem piece (k : Fin 4) (g : Fin 16) (z f : FVec Ideal S128x4096 .bf16) (w : FVec Ideal S1x128x128 .bf16) (b : FVec Ideal S128x1 .f32)
    (hz : ∀ (r : Fin 128) (j : Fin 4096), z (ix2 r j) = x0 (ix2 ⟨128 * k + r, by omega⟩ j))
    (hf : ∀ (r : Fin 128) (j : Fin 4096), f (ix2 r j) = x1 (ix2 ⟨128 * k + r, by omega⟩ j))
    (hw : ∀ r s : Fin 128, w (ix3 0 r s) = x4 (ix3 g r s)) (hb : ∀ r : Fin 128, b (ix2 r 0) = x5 (ix2 r g))
    (o : ℕ) (hg : o = 128 * g) (ho : S128x2048.Slices ![0, o] S128x128) (off : Fin 2 → ℕ) (h0 : off 0 = 128 * k) (h1 : off 1 = o)
    (inb : ∀ a, off a + S128x128.size a ≤ S512x2048.size a) (x : S128x128.Idx) :
    tile (k0_pay5 z f) (k0_pay6 z f x3) w b o ho x = gB x0 x1 x3 x4 x5 ((Rect.unit (s := S512x2048) off S128x128.size inb).emb x) := by
  obtain ⟨r, d, rfl⟩ : ∃ r d : Fin 128, x = ix2 r d := ⟨x 0, x 1, eq_ix2 (n0 := 128) (n1 := 128) x⟩
  have hv : ∀ s, vh z f s = vB x0 x1 ⟨128 * k + s, by omega⟩ := fun s => funext fun j => by unfold vh vB; rw [hz, hf]
  rw [tile_at _ _ _ _ _ _ (by omega), pay5_at, hz, hf, hb]
  simp only [pay6_at, hv, hw]
  unfold gB
  have e0 : (((Rect.unit (s := S512x2048) off S128x128.size inb).emb (ix2 r d : S128x128.Idx) 0 : Fin _) : ℕ) = 128 * k + r := by
    show off 0 + 1 * (r : ℕ) = _; omega
  have e1 : (((Rect.unit (s := S512x2048) off S128x128.size inb).emb (ix2 r d : S128x128.Idx) 1 : Fin _) : ℕ) = 128 * g + d := by
    show off 1 + 1 * (d : ℕ) = _; omega
  have a0 : (⟨(((Rect.unit (s := S512x2048) off S128x128.size inb).emb (ix2 r d : S128x128.Idx) 0 : Fin _) : ℕ) / 128, by rw [e0]; omega⟩ : Fin 4) = k := Fin.ext (by show _ / 128 = (k : ℕ); rw [e0]; omega)
  have a1 : (⟨(((Rect.unit (s := S512x2048) off S128x128.size inb).emb (ix2 r d : S128x128.Idx) 0 : Fin _) : ℕ) % 128, by omega⟩ : Fin 128) = r := Fin.ext (by show _ % 128 = (r : ℕ); rw [e0]; omega)
  have a2 : (⟨(((Rect.unit (s := S512x2048) off S128x128.size inb).emb (ix2 r d : S128x128.Idx) 1 : Fin _) : ℕ) / 128, by rw [e1]; omega⟩ : Fin 16) = g := Fin.ext (by show _ / 128 = (g : ℕ); rw [e1]; omega)
  have a3 : (⟨(((Rect.unit (s := S512x2048) off S128x128.size inb).emb (ix2 r d : S128x128.Idx) 1 : Fin _) : ℕ) % 128, by omega⟩ : Fin 128) = d := Fin.ext (by show _ % 128 = (d : ℕ); rw [e1]; omega)
  rw [a0, a1, a2, a3]
  subst hg
  rfl

theorem ld_rows (x : FVec Ideal S512x4096 .bf16) (k : Fin 4) (off : Fin 2 → ℕ) (h0 : off 0 = 128 * k) (h1 : off 1 = 0)
    (inb : ∀ a, off a + S128x4096.size a ≤ S512x4096.size a) (r : Fin 128) (j : Fin 4096) :
    View.ld (Val := Elt Ideal) (e' := .bf16) x (Rect.unit (s := S512x4096) off S128x4096.size inb) (ix2 r j) = x (ix2 ⟨128 * k + r, by omega⟩ j) := by
  refine congrArg x ?_
  funext a; fin_cases a
  · exact Fin.ext (show off 0 + 1 * (r : ℕ) = 128 * k + r by omega)
  · exact Fin.ext (show off 1 + 1 * (j : ℕ) = j by omega)

theorem ld_group (g : Fin 16) (inb : ∀ a, ![(g : ℕ), 0, 0] a + S1x128x128.size a ≤ S16x128x128.size a) (r s : Fin 128) :
    View.ld (Val := Elt Ideal) (e' := .bf16) x4 (Rect.unit (s := S16x128x128) ![(g : ℕ), 0, 0] S1x128x128.size inb) (ix3 0 r s) = x4 (ix3 g r s) := by
  refine congrArg x4 ?_
  funext a; fin_cases a
  · exact Fin.ext (show (g : ℕ) + 1 * 0 = g by omega)
  · exact Fin.ext (show 0 + 1 * (r : ℕ) = r by omega)
  · exact Fin.ext (show 0 + 1 * (s : ℕ) = s by omega)

theorem ld_shift (g : Fin 16) (inb : ∀ a, ![0, (g : ℕ)] a + S128x1.size a ≤ S128x16.size a) (r : Fin 128) :
    View.ld (Val := Elt Ideal) (e' := .f32) x5 (Rect.unit (s := S128x16) ![0, (g : ℕ)] S128x1.size inb) (ix2 r 0) = x5 (ix2 r g) := by
  refine congrArg x5 ?_
  funext a; fin_cases a
  · exact Fin.ext (show 0 + 1 * (r : ℕ) = r by omega)
  · exact Fin.ext (show (g : ℕ) + 1 * 0 = g by omega)

variable (c : Dev nD) (t : Fin cfg0.N)

/-- The stores of a block's trips before the `n`th, through its staging buffers; -/
abbrev stores (n : ℕ) : List (View.Piece (Elt Ideal) S512x2048 .bf16) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    ((hs0_0 t).unread x0) ((hs0_1 t).unread x1) ((hs0_3 t).unread x3) ((hs0_4 t).unread x4) ((hs0_5 t).unread x5) n

/-- one trip's. -/
abbrev trip (k : Fin k0_t1_loop.trips) : List (View.Piece (Elt Ideal) S512x2048 .bf16) :=
  tripL_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    ((hs0_0 t).unread x0) ((hs0_1 t).unread x1) ((hs0_3 t).unread x3) ((hs0_4 t).unread x4) ((hs0_5 t).unread x5) k

theorem trips : k0_t1_loop.trips = 4 := by decide +kernel

theorem off (k : Fin k0_t1_loop.trips) : k0_off1 k = ![128 * (k : ℕ), 0] := by revert k; decide +kernel

/-- A trip's group `g`, whatever the spelling of its offsets. -/
theorem group (k : Fin k0_t1_loop.trips) (g : Fin 16) (o : ℕ) (hg : o = 128 * g) (ho : S128x2048.Slices ![0, o] S128x128) (off' : Fin 2 → ℕ)
    (h : off' = ![128 * (k : ℕ), o]) (inb4 : ∀ a, ![(g : ℕ), 0, 0] a + S1x128x128.size a ≤ S16x128x128.size a)
    (inb5 : ∀ a, ![0, (g : ℕ)] a + S128x1.size a ≤ S128x16.size a)
    (inb : ∀ a, off' a + S128x128.size a ≤ S512x2048.size a) (x : S128x128.Idx) :
    tile (k0_pay5 ((ms0_0 t).view.readAt (Elt Ideal) (Rect.unit (s := S512x4096) (k0_off1 k) S128x4096.size (k0_off1_inb k)).toLoadRect ((hs0_0 t).unread x0))
        ((ms0_1 t).view.readAt (Elt Ideal) (Rect.unit (s := S512x4096) (k0_off1 k) S128x4096.size (k0_off1_inb k)).toLoadRect ((hs0_1 t).unread x1)))
      (k0_pay6 ((ms0_0 t).view.readAt (Elt Ideal) (Rect.unit (s := S512x4096) (k0_off1 k) S128x4096.size (k0_off1_inb k)).toLoadRect ((hs0_0 t).unread x0))
        ((ms0_1 t).view.readAt (Elt Ideal) (Rect.unit (s := S512x4096) (k0_off1 k) S128x4096.size (k0_off1_inb k)).toLoadRect ((hs0_1 t).unread x1))
        ((ms0_3 t).view.readAt (Elt Ideal) (Rect.unit (s := S1x2048) ![0, 0] S1x2048.size inb_S1x2048_S1x2048_0_0).toLoadRect ((hs0_3 t).unread x3)))
      ((ms0_4 t).view.readAt (Elt Ideal) (Rect.unit (s := S16x128x128) ![(g : ℕ), 0, 0] S1x128x128.size inb4).toLoadRect ((hs0_4 t).unread x4))
      ((ms0_5 t).view.readAt (Elt Ideal) (Rect.unit (s := S128x16) ![0, (g : ℕ)] S128x1.size inb5).toLoadRect ((hs0_5 t).unread x5)) o ho x
      = gB x0 x1 x3 x4 x5 ((Rect.unit (s := S512x2048) off' S128x128.size inb).emb x) := by
  have hk : (k : ℕ) < 4 := lt_of_lt_of_eq k.isLt trips
  have h1 := off k
  rw [View.readAt_eq_ld, View.readAt_eq_ld, View.readAt_eq_ld, View.readAt_eq_ld, View.readAt_eq_ld,
    Memref.IsWhole.read_unread, Memref.IsWhole.read_unread, Memref.IsWhole.read_unread, Memref.IsWhole.read_unread, Memref.IsWhole.read_unread]
  rw [show View.ld (Val := Elt Ideal) (e' := .f32) x3 (Rect.unit (s := S1x2048) ![0, 0] S1x2048.size inb_S1x2048_S1x2048_0_0) = x3 from View.ld_unit_lit _ _ (by decide)]
  exact piece x0 x1 x3 x4 x5 ⟨k, hk⟩ g _ _ _ _ (ld_rows x0 ⟨k, hk⟩ _ (by rw [h1]; rfl) (by rw [h1]; rfl) _) (ld_rows x1 ⟨k, hk⟩ _ (by rw [h1]; rfl) (by rw [h1]; rfl) _)
    (ld_group x4 g inb4) (ld_shift x5 g inb5) o hg ho off' (by rw [h]; rfl) (by rw [h]; rfl) inb x

theorem trip_at (k : Fin k0_t1_loop.trips) : ∀ p ∈ trip x0 x1 x3 x4 x5 c t k, ∀ x, p.2 x = gB x0 x1 x3 x4 x5 (p.1.emb x) := by
  unfold trip tripL_k0_t1 trip_k0_t1
  simp only [List.forall_mem_cons]
  have G := group x0 x1 x3 x4 x5 t k
  exact ⟨G 15 1920 rfl slices_S128x2048_o0_1920_S128x128 _ (by clear G; revert k; decide +kernel) _ _ _,
    G 14 1792 rfl slices_S128x2048_o0_1792_S128x128 _ (by clear G; revert k; decide +kernel) _ _ _,
    G 13 1664 rfl slices_S128x2048_o0_1664_S128x128 _ (by clear G; revert k; decide +kernel) _ _ _,
    G 12 1536 rfl slices_S128x2048_o0_1536_S128x128 _ (by clear G; revert k; decide +kernel) _ _ _,
    G 11 1408 rfl slices_S128x2048_o0_1408_S128x128 _ (by clear G; revert k; decide +kernel) _ _ _,
    G 10 1280 rfl slices_S128x2048_o0_1280_S128x128 _ (by clear G; revert k; decide +kernel) _ _ _,
    G 9 1152 rfl slices_S128x2048_o0_1152_S128x128 _ (by clear G; revert k; decide +kernel) _ _ _,
    G 8 1024 rfl slices_S128x2048_o0_1024_S128x128 _ (by clear G; revert k; decide +kernel) _ _ _,
    G 7 896 rfl slices_S128x2048_o0_896_S128x128 _ (by clear G; revert k; decide +kernel) _ _ _,
    G 6 768 rfl slices_S128x2048_o0_768_S128x128 _ (by clear G; revert k; decide +kernel) _ _ _,
    G 5 640 rfl slices_S128x2048_o0_640_S128x128 _ (by clear G; revert k; decide +kernel) _ _ _,
    G 4 512 rfl slices_S128x2048_o0_512_S128x128 _ (by clear G; revert k; decide +kernel) _ _ _,
    G 3 384 rfl slices_S128x2048_o0_384_S128x128 _ (by clear G; revert k; decide +kernel) _ _ _,
    G 2 256 rfl slices_S128x2048_o0_256_S128x128 _ (by clear G; revert k; decide +kernel) _ _ _,
    G 1 128 rfl slices_S128x2048_o0_128_S128x128 _ (by clear G; revert k; decide +kernel) _ _ _,
    G 0 0 rfl slices_S128x2048_o0_0_S128x128 _ (by clear G; revert k; decide +kernel) _ _ _,
    fun _ h => absurd h List.not_mem_nil⟩

theorem stores_of (n : ℕ) (hn : n ≤ 4) : ∀ p ∈ stores x0 x1 x3 x4 x5 c t n, ∀ x, p.2 x = gB x0 x1 x3 x4 x5 (p.1.emb x) := by
  induction n with
  | zero => exact fun _ h => absurd h List.not_mem_nil
  | succ n ih =>
    have hk : n < k0_t1_loop.trips := lt_of_lt_of_eq hn trips.symm
    intro p hp
    rw [show stores x0 x1 x3 x4 x5 c t (n + 1) = trip x0 x1 x3 x4 x5 c t ⟨n, hk⟩ ++ stores x0 x1 x3 x4 x5 c t n from pb_k0_t1_succ _ _ _ _ _ _ _ _ _ _ _ _ _ _ _ _ _ _ _ _ _ _ _ _ _ _ _ ⟨n, hk⟩] at hp
    rcases List.mem_append.mp hp with h | h
    · exact trip_at x0 x1 x3 x4 x5 c t ⟨n, hk⟩ p h
    · exact ih (by omega) p h

theorem stores_eq : View.canon (stores x0 x1 x3 x4 x5 c t 4) = gB x0 x1 x3 x4 x5 :=
  funext fun y => View.canon_apply_of_pieces _ _ (stores_of x0 x1 x3 x4 x5 c t 4 le_rfl) y
    (View.cover_of_tiledL (stores x0 x1 x3 x4 x5 c t 4) S128x128.size (by sl_kernel_rfl) y)
end

/-! ## The blocks -/

variable (m : (ℓ : Loc nD τ sig) → Buf (Elt Ideal) ℓ) (c : Dev nD)

abbrev A0 : FVec Ideal S4096x4096 .f32 := m ((c : Thread nD τ).loc main_arg0)
abbrev A1 : FVec Ideal S2048 .f32 := m ((c : Thread nD τ).loc main_arg1)
abbrev A2 : FVec Ideal S16x128x128 .f32 := m ((c : Thread nD τ).loc main_arg2)
abbrev A3 : FVec Ideal S16x128 .f32 := m ((c : Thread nD τ).loc main_arg3)
abbrev A4 : FVec Ideal S2048x1024 .f32 := m ((c : Thread nD τ).loc main_arg4)
abbrev A5 : FVec Ideal S4096x1024 .f32 := m ((c : Thread nD τ).loc main_arg5)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0] ∧ win0_6.index t = ![0, 0]
    ∧ win0_7.index t = ![t.val, 0] ∧ win0_8.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

theorem blk0 (t : Fin cfg0.N) (r : Fin 512) (j : Fin 4096) : (iblk m c 0 t : FVec Ideal S512x4096 .bf16) (ix2 r j) = A0 m c (ix2 (row t r) j) := by
  have hr := row_lt t r
  unfold row
  blk_simp [iblk]
  entry_read
  pointwise
  blk_ext [idx t]

theorem blk1 (t : Fin cfg0.N) (r : Fin 512) (j : Fin 4096) : (iblk m c 1 t : FVec Ideal S512x4096 .bf16) (ix2 r j) = cdf (A0 m c (ix2 (row t r) j)) := by
  have hr := row_lt t r
  unfold row
  blk_simp [iblk]
  entry_read
  pointwise
  unfold cdf
  refine congrArg (fun x => Ideal.ofBits .f32 0x3F000000#32 * (Ideal.ofBits .f32 0x3F800000#32 + Ideal.erf (x * Ideal.ofBits .f32 0x3F3504F3#32))) ?_
  blk_ext [idx t]

theorem blk2 (t : Fin cfg0.N) (r : Fin 512) (k : Fin 1024) : (iblk m c 2 t : FVec Ideal S512x1024 .f32) (ix2 r k) = A5 m c (ix2 (row t r) k) := by
  have hr := row_lt t r
  unfold row
  blk_point [iblk, V, idx t]

theorem V_v9 : V m c main_v9 = (shapeCast S1x2048 (A1 m c) shapeCasts_S2048_S1x2048 : FVec Ideal S1x2048 .f32) := by entry_read; rfl

theorem V_v11 : V m c main_v11 = (truncf (F := Ideal) .bf16 (Cert.Reference8Ideal.Read.val_main_v23 (F := Ideal) (A2 m c)) bitsLt_bf16_f32 : FVec Ideal S16x128x128 .bf16) := by
  entry_read
  rfl

theorem V_v12 : V m c main_v12 = (transpose S128x16 [1, 0] (A3 m c) transposes_S16x128_S128x16_1_0 : FVec Ideal S128x16 .f32) := by entry_read; rfl

theorem blk3 (t : Fin cfg0.N) (j : Fin 2048) : (iblk m c 3 t : FVec Ideal S1x2048 .f32) (ix2 0 j) = A1 m c (ix1 j) := by
  blk_simp [iblk]
  rw [V_v9]
  refine Eq.trans (congrArg (shapeCast S1x2048 (A1 m c) shapeCasts_S2048_S1x2048) (?_ : _ = ix2 0 j)) ?_
  · blk_ext [idx t]
  · pointwise

theorem blk4 (t : Fin cfg0.N) (g : Fin 16) (r s : Fin 128) : (iblk m c 4 t : FVec Ideal S16x128x128 .bf16) (ix3 g r s) =
    Cert.Reference8Ideal.Read.val_main_v23 (F := Ideal) (A2 m c) (ix3 g r s) := by
  blk_simp [iblk]
  rw [V_v11]
  generalize Cert.Reference8Ideal.Read.val_main_v23 (F := Ideal) (A2 m c) = w
  refine congrArg w ?_
  blk_ext [idx t]

theorem blk5 (t : Fin cfg0.N) (r : Fin 128) (g : Fin 16) : (iblk m c 5 t : FVec Ideal S128x16 .f32) (ix2 r g) = A3 m c (ix2 g r) := by
  blk_simp [iblk]
  rw [V_v12]
  refine Eq.trans (congrArg (transpose S128x16 [1, 0] (A3 m c) transposes_S16x128_S128x16_1_0) (?_ : _ = ix2 r g)) ?_
  · blk_ext [idx t]
  · pointwise

theorem blk6 (t : Fin cfg0.N) (r : Fin 2048) (k : Fin 1024) : (iblk m c 6 t : FVec Ideal S2048x1024 .bf16) (ix2 r k) = A4 m c (ix2 r k) := by
  blk_point [iblk, V, idx t]

/-- A block's gated rows. -/
abbrev yV (t : Fin cfg0.N) : FVec Ideal S512x2048 .bf16 := gB (iblk m c 0 t) (iblk m c 1 t) (iblk m c 3 t) (iblk m c 4 t) (iblk m c 5 t)

theorem y_at (t : Fin cfg0.N) (r : Fin 512) (j : Fin 2048) : yV m c t (ix2 r j) =
    Cert.Reference8Ideal.Read.val_main_v33 (F := Ideal) (A0 m c) (A1 m c) (A2 m c) (A3 m c) (ix2 (row t r) j) := by
  have ht := row_lt t r
  have hv : ∀ r, vB (iblk m c 0 t) (iblk m c 1 t) r = vE (A0 m c) (row t r) := fun r => funext fun k => by unfold vB vE; rw [blk0, blk1]; rfl
  have hu : ∀ r k, uB (iblk m c 0 t) (iblk m c 1 t) r k = uE (A0 m c) (row t r) k := fun r k => by unfold uB uE; rw [blk0, blk1]; rfl
  have hn : ∀ r k, nB (iblk m c 0 t) (iblk m c 1 t) (iblk m c 3 t) r k = nE (A0 m c) (A1 m c) (row t r) k := fun r k => by
    unfold nB nE; rw [hv, blk3]
  have hc : ∀ (k : Fin 4) (s : Fin 128) (q : Fin 32), (q : ℕ) = 4 * t + k → row t ⟨128 * k + s, by omega⟩ = ⟨128 * q + s, by omega⟩ :=
    fun k s q hq => Fin.ext (show 512 * (t : ℕ) + (128 * k + s) = 128 * q + s by omega)
  have key : ∀ (k : Fin 4) (s : Fin 128) (g : Fin 16) (d : Fin 128) (q : Fin 32), (q : ℕ) = 4 * t + k →
      yB (iblk m c 0 t) (iblk m c 1 t) (iblk m c 3 t) (iblk m c 4 t) (iblk m c 5 t) k s g d = yE (A0 m c) (A1 m c) (A2 m c) (A3 m c) q s g d := fun k s g d q hq => by
    unfold yB yE sE
    simp only [hu, hn, blk4, blk5, hc _ _ q hq]
  refine (key ⟨(r : ℕ) / 128, by omega⟩ ⟨(r : ℕ) % 128, by omega⟩ ⟨(j : ℕ) / 128, by omega⟩ ⟨(j : ℕ) % 128, by omega⟩ ⟨4 * t + (r : ℕ) / 128, by omega⟩ rfl).trans
    ((v33_at (A0 m c) (A1 m c) (A2 m c) (A3 m c) _ _ _ _).symm.trans ?_)
  congr 2
  · exact Fin.ext (show 128 * (4 * (t : ℕ) + (r : ℕ) / 128) + (r : ℕ) % 128 = 512 * t + r by omega)
  · exact Fin.ext (show 128 * ((j : ℕ) / 128) + (j : ℕ) % 128 = j by omega)

theorem out7 (t : Fin cfg0.N) : (outsAt0 m c t).1 = yV m c t := by
  refine Eq.trans ?_ (stores_eq _ _ _ _ _ c t)
  unfold outsAt0; frame_out
  rfl

theorem out8 (t : Fin cfg0.N) : (outsAt0 m c t).2 = k0_pay2 (F := Ideal) (iblk m c 2 t) (yV m c t) (iblk m c 6 t) := by
  unfold outsAt0; frame_out
  refine congrArg (fun y => k0_pay2 (F := Ideal) (iblk m c 2 t) y (iblk m c 6 t)) ?_
  rw [readCov_ld, View.ld_unit_lit _ _ (by decide)]
  exact stores_eq _ _ _ _ _ c t

theorem h_at (t : Fin cfg0.N) (r : Fin 512) (k : Fin 1024) : (outsAt0 m c t).2 (ix2 r k) =
    Cert.Reference8Ideal.Read.val_main_v35 (F := Ideal) (A0 m c) (A1 m c) (A2 m c) (A3 m c) (A4 m c) (A5 m c) (ix2 (row t r) k) := by
  rw [out8, pay2_at, v35_at, blk2]
  simp only [y_at, blk6]

theorem final7 : (dats m 0 c).arrAt 7 (cfgs 0).N = Cert.Reference8Ideal.Read.val_main_v33 (F := Ideal) (A0 m c) (A1 m c) (A2 m c) (A3 m c) := by
  refine (dats m 0 c).arrAt_eq_of_covers 7 _ (by decide +kernel) fun t hf y => ?_
  blk_simp
  rw [after0_7]
  have hy : y = (ix2 (y 0) (y 1) : S512x2048.Idx) := eq_ix2 (n0 := 512) (n1 := 2048) y
  refine (congrArg (outsAt0 m c t).1 hy).trans ((congrFun (out7 m c t) _).trans ((y_at m c t (y 0) (y 1)).trans ?_))
  refine congrArg (Cert.Reference8Ideal.Read.val_main_v33 (F := Ideal) (A0 m c) (A1 m c) (A2 m c) (A3 m c)) ?_
  funext a
  refine Fin.ext ?_
  fin_cases a <;> blk_simp [idx t]
  · show 512 * t.val + (y 0 : ℕ) = t.val * 512 + (y 0 : ℕ)
    omega
  · rfl

theorem final8 : (dats m 0 c).arrAt 8 (cfgs 0).N
    = Cert.Reference8Ideal.Read.val_main_v35 (F := Ideal) (A0 m c) (A1 m c) (A2 m c) (A3 m c) (A4 m c) (A5 m c) := by
  refine (dats m 0 c).arrAt_eq_of_covers 8 _ (by decide +kernel) fun t hf y => ?_
  blk_simp
  rw [after0_8]
  have hy : y = (ix2 (y 0) (y 1) : S512x1024.Idx) := eq_ix2 (n0 := 512) (n1 := 1024) y
  refine (congrArg (outsAt0 m c t).2 hy).trans ((h_at m c t (y 0) (y 1)).trans ?_)
  refine congrArg (Cert.Reference8Ideal.Read.val_main_v35 (F := Ideal) (A0 m c) (A1 m c) (A2 m c) (A3 m c) (A4 m c) (A5 m c)) ?_
  funext a
  refine Fin.ext ?_
  fin_cases a <;> blk_simp [idx t]
  · show 512 * t.val + (y 0 : ℕ) = t.val * 512 + (y 0 : ℕ)
    omega
  · rfl

end Cert.Kernel8Ideal.Sgu
end
-- ==== Proof.SguInRef.lean ====
/- The reference of the norm's gradient in front of the mixer's first product, at real arguments. -/
module

public import proofs.«01_k».proof.Proof.NormInRef
public import proofs.«01_k».proof.Pre_finite9
public import proofs.«01_k».proof.Proof.Gen.Reference9Ideal.Read

@[expose] public section

set_option maxRecDepth 16384

noncomputable section

open Idealize.ShloMosaic

namespace Cert.SguIn

open Cert.Reference9Ideal Cert.Reference9Ideal.Gen Cert.Reference9Ideal.Read Cert.Norm Cert.Reals
open Cert.NormIn (In)

variable {x0 x4 : FVec Ideal S4096x1024 .f32} {x1 : FVec Ideal S1024 .f32} {x2 : FVec Ideal S1024x4096 .f32} {x3 : FVec Ideal S4096x4096 .f32}
  {x : Fin 4096 → Fin 1024 → ℝ} {g : Fin 1024 → ℝ} {w : Fin 1024 → Fin 4096 → ℝ} {q : Fin 4096 → Fin 4096 → ℝ} (W : In x0 x1 x2 x3 x g w q)

include W in
theorem v17_at (r : Fin 4096) (k : Fin 1024) : val_main_v17 (F := Ideal) x2 x3 (ix2 r k) = ((dy q w r k : ℝ) : EReal) := by
  pointwise [val_main_v17]
  simp only [W.h2, W.h3, ← EReal.coe_mul, coe_sum, dy]

include W in
theorem v39_at (k : Fin 1024) : val_main_v39 (F := Ideal) x0 x2 x3 (ix2 0 k) = ((∑ r, dy q w r k * nx 1024 (x r) k : ℝ) : EReal) := by
  have a : ∀ r k, val_main_v12 (F := Ideal) x0 (ix2 r k) = _ := Cert.NormIn.v12_at W
  have b := v17_at W
  unfold val_main_v39 val_main_v23 val_main_v20 val_main_v19 val_main_v18
  generalize val_main_v12 (F := Ideal) x0 = X at a ⊢
  generalize val_main_v17 (F := Ideal) x2 x3 = Y at b ⊢
  pointwise [val_main_cst_3, val_main_cst_4]
  simp only [a, b, Fin.sum_univ_one, ← EReal.coe_mul, coe_sum]
  exact congrArg _ (Finset.sum_congr rfl fun r _ => mul_comm _ _)

include W in
theorem v38_at (r : Fin 4096) (k : Fin 1024) :
    val_main_v38 (F := Ideal) x0 x1 x2 x3 x4 (ix2 r k) = x4 (ix2 r k) + ((bn 1024 g (dy q w r) (x r) k : ℝ) : EReal) := by
  have a : val_main_v7 (F := Ideal) x0 (ix2 r 0) = _ := Cert.NormIn.v7_at W r
  have b : val_main_v6 (F := Ideal) x0 (ix2 r 0) = _ := Cert.NormIn.v6_at W r
  have y := v17_at W r
  unfold val_main_v38 val_main_v37 val_main_v36 val_main_v35 val_main_v34 val_main_v33 val_main_v32 val_main_v30 val_main_v29 val_main_v28 val_main_v27 val_main_v26 val_main_v25 val_main_v24 val_main_v22 val_main_v10 val_main_v8
  generalize val_main_v17 (F := Ideal) x2 x3 = Y at y ⊢
  generalize val_main_v7 (F := Ideal) x0 = R at a ⊢
  generalize val_main_v6 (F := Ideal) x0 = M at b ⊢
  pointwise [val_main_v31, val_main_v21, val_main_v13, val_main_v9, val_main_cst_2, val_main_cst_5, val_main_cst_6, val_main_cst_7]
  simp only [y, W.h0, W.h1, ← EReal.coe_mul, coe_sum, Fin.sum_univ_one]
  rw [add_assoc, add_assoc, ← add_assoc (_ * _ : EReal)]
  exact congrArg (x4 (ix2 r k) + ·) (back (by norm_num) g _ (x r) k _ _ _ ofBits_1024 a b _ rfl)

theorem real_args [Cert.Pre_finite9.Facts] (x0 : FVec Ideal S4096x1024 .f32) (x1 : FVec Ideal S1024 .f32) (x2 : FVec Ideal S1024x4096 .f32) (x3 : FVec Ideal S4096x4096 .f32) (x4 : FVec Ideal S4096x1024 .f32)
    (h : (Cert.Pre_finite9.fn (F := Ideal) x0 x1 x2 x3 x4).1 = (fun _ => 1#1)
      ∧ (Cert.Pre_finite9.fn (F := Ideal) x0 x1 x2 x3 x4).2.1 = (fun _ => 1#1)
      ∧ (Cert.Pre_finite9.fn (F := Ideal) x0 x1 x2 x3 x4).2.2.1 = (fun _ => 1#1)
      ∧ (Cert.Pre_finite9.fn (F := Ideal) x0 x1 x2 x3 x4).2.2.2 = (fun _ => 1#1)) :
    ∃ x g w q, In x0 x1 x2 x3 x g w q := by
  obtain ⟨c0, k0⟩ := reals x0 Cert.Pre_finite9.Facts.bcast_S_S4096x1024 h.1
  obtain ⟨c1, k1⟩ := reals x1 Cert.Pre_finite9.Facts.bcast_S_S1024 h.2.1
  obtain ⟨c2, k2⟩ := reals x2 Cert.Pre_finite9.Facts.bcast_S_S1024x4096 h.2.2.1
  obtain ⟨c3, k3⟩ := reals x3 Cert.Pre_finite9.Facts.bcast_S_S4096x4096 h.2.2.2
  exact ⟨fun r k => c0 (ix2 r k), fun k => c1 (ix1 k), fun r k => c2 (ix2 r k), fun r k => c3 (ix2 r k),
    fun r k => congrFun k0 _, fun k => congrFun k1 _, fun r k => congrFun k2 _, fun r k => congrFun k3 _⟩

end Cert.SguIn

end
-- ==== Proof.SguIn.lean ====
/- The gradient of the norm in front of the mixer's first product, as the kernel computes it: the blocks and the norm are
   those of the attention's, the product has four parts of 1024 columns. -/
module

public import proofs.«01_k».proof.Proof.SguInRef
public import proofs.«01_k».proof.Proof.NormIn
public import proofs.«01_k».proof.Proof.Gen.Kernel9Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.SguIn

open Cert.Kernel9Ideal Cert.Kernel9Ideal.Gen Cert.Norm Cert.Reals Cert.Pieces

section

variable {x y : Fin 512 → Fin 1024 → ℝ} {X Y : FVec Ideal S512x1024 .f32} (hX : ∀ r k, X (ix2 r k) = ((x r k : ℝ) : EReal))
  (hY : ∀ r k, Y (ix2 r k) = ((y r k : ℝ) : EReal))

include hX hY in
theorem pay3_at (acc : FVec Ideal S1x1024 .f32) (k : Fin 1024) :
    k0_pay3 (F := Ideal) Y X acc (ix2 0 k) = acc (ix2 0 k) + ((∑ r, y r k * nx 1024 (x r) k : ℝ) : EReal) :=
  Cert.Kernel3Ideal.NormIn.pay3_at hX hY acc k

include hX hY in
theorem pay4_at {g : Fin 1024 → ℝ} {G : FVec Ideal S1x1024 .f32} (hG : ∀ k, G (ix2 0 k) = ((g k : ℝ) : EReal))
    (D : FVec Ideal S512x1024 .f32) (r : Fin 512) (k : Fin 1024) :
    k0_pay4 (F := Ideal) Y X G D (ix2 r k) = D (ix2 r k) + ((bn 1024 g (y r) (x r) k : ℝ) : EReal) :=
  Cert.Kernel3Ideal.NormIn.pay4_at hX hY hG D r k

end

/-- The product with the transposed weight, in four parts of 1024 columns. -/
theorem pay6_at (A : FVec Ideal S512x4096 .bf16) (B : FVec Ideal S4x1024x1024 .bf16) (p : Fin 4 → FVec Ideal S512x1024 .bf16) (w : Fin 4 → FVec Ideal S1x1024x1024 .bf16)
    (hp : ∀ i r j, p i (ix2 r j) = A (ix2 r ⟨1024 * i + j, by omega⟩)) (hw : ∀ i k j, w i (ix3 0 k j) = B (ix3 i k j)) (r : Fin 512) (k : Fin 1024) :
    k0_pay6 (F := Ideal) (p 0) (w 0) (p 1) (w 1) (p 2) (w 2) (p 3) (w 3) (ix2 r k)
      = ∑ i : Fin 4, ∑ j : Fin 1024, A (ix2 r ⟨1024 * i + j, by omega⟩) * B (ix3 i k j) := by
  rw [Fin.sum_univ_four]
  pointwise [k0_pay6, hp, hw]

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x4096 .f32 := m ((c : Thread nD τ).loc main_arg2)
abbrev A3 (c : Dev nD) : FVec Ideal S4096x4096 .f32 := m ((c : Thread nD τ).loc main_arg3)
abbrev A4 (c : Dev nD) : FVec Ideal S4096x1024 .f32 := m ((c : Thread nD τ).loc main_arg4)

theorem blk0 (c : Dev nD) (t : Fin cfg0.N) (r : Fin 512) (j : Fin 4096) (h : 512 * t.val + r.val < 4096) :
    (iblk m c 0 t : FVec Ideal S512x4096 .bf16) (ix2 r j) = A3 m c (ix2 ⟨512 * t + r, h⟩ j) := by
  blk_point [iblk, V, idx t]

theorem blk1 (c : Dev nD) (t : Fin cfg0.N) (i : Fin 4) (k : Fin 1024) (j : Fin 1024) :
    (iblk m c 1 t : FVec Ideal S4x1024x1024 .bf16) (ix3 i k j) = A2 m c (ix2 k ⟨1024 * i + j, by omega⟩) := by
  blk_point [iblk, V, idx t]

theorem blk2 (c : Dev nD) (t : Fin cfg0.N) (r : Fin 512) (j : Fin 1024) (h : 512 * t.val + r.val < 4096) :
    (iblk m c 2 t : FVec Ideal S512x1024 .f32) (ix2 r j) = A0 m c (ix2 ⟨512 * t + r, h⟩ j) := by
  blk_point [iblk, V, idx t]

theorem blk3 (c : Dev nD) (t : Fin cfg0.N) (j : Fin 1024) :
    (iblk m c 3 t : FVec Ideal S1x1024 .f32) (ix2 0 j) = A1 m c (ix1 j) := by
  blk_point [iblk, V, idx t]

theorem blk4 (c : Dev nD) (t : Fin cfg0.N) (r : Fin 512) (j : Fin 1024) (h : 512 * t.val + r.val < 4096) :
    (iblk m c 4 t : FVec Ideal S512x1024 .f32) (ix2 r j) = A4 m c (ix2 ⟨512 * t + r, h⟩ j) := by
  blk_point [iblk, V, idx t]

/-- The gradient of the normed rows of block `t`. -/
def yB (c : Dev nD) (t : Fin cfg0.N) : FVec Ideal S512x1024 .f32 :=
  k0_pay6 (F := Ideal) (View.ld (iblk m c 0 t) (Rect.unit (s := S512x4096) ![0, 0] ![512, 1024] inb_S512x4096_S512x1024_0_0))
    (View.ld (iblk m c 1 t) (Rect.unit (s := S4x1024x1024) ![0, 0, 0] ![1, 1024, 1024] inb_S4x1024x1024_S1x1024x1024_0_0_0))
    (View.ld (iblk m c 0 t) (Rect.unit (s := S512x4096) ![0, 1024] ![512, 1024] inb_S512x4096_S512x1024_0_1024))
    (View.ld (iblk m c 1 t) (Rect.unit (s := S4x1024x1024) ![1, 0, 0] ![1, 1024, 1024] inb_S4x1024x1024_S1x1024x1024_1_0_0))
    (View.ld (iblk m c 0 t) (Rect.unit (s := S512x4096) ![0, 2048] ![512, 1024] inb_S512x4096_S512x1024_0_2048))
    (View.ld (iblk m c 1 t) (Rect.unit (s := S4x1024x1024) ![2, 0, 0] ![1, 1024, 1024] inb_S4x1024x1024_S1x1024x1024_2_0_0))
    (View.ld (iblk m c 0 t) (Rect.unit (s := S512x4096) ![0, 3072] ![512, 1024] inb_S512x4096_S512x1024_0_3072))
    (View.ld (iblk m c 1 t) (Rect.unit (s := S4x1024x1024) ![3, 0, 0] ![1, 1024, 1024] inb_S4x1024x1024_S1x1024x1024_3_0_0))

variable {m} {c : Dev nD} {x : Fin 4096 → Fin 1024 → ℝ} {g : Fin 1024 → ℝ} {w : Fin 1024 → Fin 4096 → ℝ} {q : Fin 4096 → Fin 4096 → ℝ}
  (W : Cert.NormIn.In (A0 m c) (A1 m c) (A2 m c) (A3 m c) x g w q)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

include W in
theorem yB_at (t : Fin cfg0.N) (r : Fin 512) (k : Fin 1024) : yB m c t (ix2 r k) = ((dy q w (row t r) k : ℝ) : EReal) := by
  refine (pay6_at (iblk m c 0 t) (iblk m c 1 t)
    ![View.ld (iblk m c 0 t) (Rect.unit (s := S512x4096) ![0, 0] ![512, 1024] inb_S512x4096_S512x1024_0_0),
      View.ld (iblk m c 0 t) (Rect.unit (s := S512x4096) ![0, 1024] ![512, 1024] inb_S512x4096_S512x1024_0_1024),
      View.ld (iblk m c 0 t) (Rect.unit (s := S512x4096) ![0, 2048] ![512, 1024] inb_S512x4096_S512x1024_0_2048),
      View.ld (iblk m c 0 t) (Rect.unit (s := S512x4096) ![0, 3072] ![512, 1024] inb_S512x4096_S512x1024_0_3072)]
    ![View.ld (iblk m c 1 t) (Rect.unit (s := S4x1024x1024) ![0, 0, 0] ![1, 1024, 1024] inb_S4x1024x1024_S1x1024x1024_0_0_0),
      View.ld (iblk m c 1 t) (Rect.unit (s := S4x1024x1024) ![1, 0, 0] ![1, 1024, 1024] inb_S4x1024x1024_S1x1024x1024_1_0_0),
      View.ld (iblk m c 1 t) (Rect.unit (s := S4x1024x1024) ![2, 0, 0] ![1, 1024, 1024] inb_S4x1024x1024_S1x1024x1024_2_0_0),
      View.ld (iblk m c 1 t) (Rect.unit (s := S4x1024x1024) ![3, 0, 0] ![1, 1024, 1024] inb_S4x1024x1024_S1x1024x1024_3_0_0)] ?_ ?_ r k).trans ?_
  · intro i r j
    fin_cases i <;> · dsimp only [Matrix.cons_val]; pointwise
  · intro i r j
    fin_cases i <;> · dsimp only [Matrix.cons_val]; pointwise
  · unfold dy
    rw [← coe_sum, Fin.sum_univ_tiles 4 1024 rfl]
    refine Finset.sum_congr rfl fun i _ => Finset.sum_congr rfl fun j _ => ?_
    rw [blk0 m c t r _ (row_lt t r), blk1, W.h3, W.h2, ← EReal.coe_mul]
    have e : (⟨1024 * i + j, by omega⟩ : Fin 4096) = ⟨i.val * 1024 + j.val, by omega⟩ := Fin.ext (by show 1024 * (i : ℕ) + j = i * 1024 + j; omega)
    rw [e]
    rfl

include W in
theorem X_at (t : Fin cfg0.N) (r : Fin 512) (k : Fin 1024) :
    (iblk m c 2 t : FVec Ideal S512x1024 .f32) (ix2 r k) = ((x (row t r) k : ℝ) : EReal) :=
  (blk2 m c t r k (row_lt t r)).trans (W.h0 _ _)

include W in
theorem out_at (t : Fin cfg0.N) (r : Fin 512) (k : Fin 1024) :
    (outsAt0 m c t.val t.isLt).1 (ix2 r k) = A4 m c (ix2 (row t r) k) + ((bn 1024 g (dy q w (row t r)) (x (row t r)) k : ℝ) : EReal) := by
  have key := (pay4_at (X_at W t) (yB_at W t) (fun k => (blk3 m c t k).trans (W.h1 k)) (iblk m c 4 t) r k).trans
    (congrArg (· + _) (blk4 m c t r k (row_lt t r)))
  by_cases h : t.val % 8 = 0
  · rw [outsAt0_A m c t h]; frame_out
    exact key
  · rw [outsAt0_B m c t h]; frame_out
    exact key

/-- Block `t`'s share of the gain's gradient. -/
def part (x : Fin 4096 → Fin 1024 → ℝ) (w : Fin 1024 → Fin 4096 → ℝ) (q : Fin 4096 → Fin 4096 → ℝ) (k : Fin 1024) (t : Fin cfg0.N) : EReal :=
  ((∑ r, dy q w (row t r) k * nx 1024 (x (row t r)) k : ℝ) : EReal)

include W in
theorem acc_first (t : Fin cfg0.N) (h : t.val % 8 = 0) (k : Fin 1024) :
    (outsAt0 m c t.val t.isLt).2 (ix2 0 k) = part x w q k t := by
  rw [outsAt0_A m c t h]; frame_out
  refine (pay3_at (X_at W t) (yB_at W t) _ k).trans ?_
  rw [show k0_pay5 (F := Ideal) (ix2 0 k) = 0 by pointwise [k0_pay5], zero_add, part]

include W in
theorem acc_next (t : Fin cfg0.N) (h : ¬t.val % 8 = 0) (k : Fin 1024) :
    (outsAt0 m c t.val t.isLt).2 (ix2 0 k) = (outsAt0 m c (t.val - 1) (by omega)).2 (ix2 0 k) + part x w q k t := by
  rw [outsAt0_B m c t h]; frame_out
  exact pay3_at (X_at W t) (yB_at W t) _ k

include W in
theorem acc_sum (k : Fin 1024) (n : ℕ) (h : n < cfg0.N) :
    (outsAt0 m c n h).2 (ix2 0 k) = ∑ s : Fin (n + 1), part x w q k ⟨s, by omega⟩ :=
  Cert.Fold.sum_upto (fun n h => (outsAt0 m c n h).2 (ix2 0 k)) (part x w q k) (fun h => acc_first W ⟨0, h⟩ rfl k)
    (fun n h => acc_next W ⟨n + 1, h⟩ (by have := lt_of_lt_of_eq h (show cfg0.N = 8 from N_0); show ¬(n + 1) % 8 = 0; omega) k) n h

include W in
theorem gain_at (k : Fin 1024) : (outsAt0 m c t0_7.val t0_7.isLt).2 (ix2 0 k) = ((∑ r, dy q w r k * nx 1024 (x r) k : ℝ) : EReal) := by
  refine (acc_sum W k 7 t0_7.isLt).trans ?_
  unfold part
  rw [coe_sum, Fin.sum_univ_tiles 8 512 rfl]
  refine congrArg _ (Finset.sum_congr rfl fun s _ => Finset.sum_congr rfl fun r _ => ?_)
  have e : row ⟨s.val, lt_of_lt_of_eq (by omega) (show cfg0.N = 8 from N_0).symm⟩ r = ⟨s.val * 512 + r.val, by omega⟩ :=
    Fin.ext (by show 512 * (s : ℕ) + r = s * 512 + r; omega)
  rw [e]

include W in
theorem final6 : (dats m 0 c).arrAt 6 (cfgs 0).N = Cert.Reference9Ideal.Read.val_main_v39 (F := Ideal) (A0 m c) (A2 m c) (A3 m c) := by
  refine (dats m 0 c).arrAt_eq_of_after_last 6 t0_7 (by decide +kernel) _ fun j => ?_
  blk_simp
  rw [after0_6]
  obtain ⟨k, rfl⟩ := lanes j
  exact (gain_at W k).trans (Cert.SguIn.v39_at W k).symm

include W in
theorem final5 : (dats m 0 c).arrAt 5 (cfgs 0).N = Cert.Reference9Ideal.Read.val_main_v38 (F := Ideal) (A0 m c) (A1 m c) (A2 m c) (A3 m c) (A4 m c) := by
  refine (dats m 0 c).arrAt_eq_of_covers 5 _ (by decide +kernel) fun t hf y => ?_
  blk_simp
  rw [after0_5]
  have hy : y = (ix2 (y 0) (y 1) : S512x1024.Idx) := eq_ix2 (n0 := 512) (n1 := 1024) y
  refine (congrArg (outsAt0 m c t.val t.isLt).1 hy).trans ((out_at W t (y 0) (y 1)).trans ?_)
  refine (Cert.SguIn.v38_at (x4 := A4 m c) W (row t (y 0)) (y 1)).symm.trans ?_
  refine congrArg (Cert.Reference9Ideal.Read.val_main_v38 (F := Ideal) (A0 m c) (A1 m c) (A2 m c) (A3 m c) (A4 m c)) ?_
  funext a
  refine Fin.ext ?_
  fin_cases a <;> blk_simp [idx t]
  · show 512 * t.val + (y 0 : ℕ) = t.val * 512 + (y 0 : ℕ)
    omega
  · rfl

end Cert.Kernel9Ideal.SguIn

end
-- ==== Proof.GatedFwd.lean ====
/- The feed-forward layer's forward call: the gated product and the hidden state after it. A block's stores are those of the
   loss head's call, whose lemmas value them. -/
module

public import proofs.«01_k».proof.Proof.LossHead
public import proofs.«01_k».proof.Proof.Gen.Kernel10.Frame
public import proofs.«01_k».proof.Proof.Gen.Kernel10Ideal.Value
public import proofs.«01_k».proof.Proof.Gen.Reference10Ideal.Read

@[expose] public section

set_option maxRecDepth 16384

noncomputable section

open Idealize.ShloMosaic Idealize.ShloMosaic.TcCoe Idealize.SL.Sem
open Idealize.ShloMosaic.Pipeline (Dat)

namespace Cert.Kernel10Ideal.GatedFwd

open Cert.Kernel10Ideal Cert.Kernel10Ideal.Gen Cert.Pieces
open Cert.Kernel5Ideal.LossHead (fB stores stores_at)
open Cert.Reference5Ideal.LossHead (fE)
open Cert.Reference10Ideal.Read

/-! ## The reference -/

section

variable (C : FVec Ideal S4096x5632 .f32) (B : FVec Ideal S5632 .f32) (W : FVec Ideal S2816x1024 .f32) (H : FVec Ideal S4096x1024 .f32)

theorem v6_at (r : Fin 4096) (j : Fin 2816) : val_main_v6 (F := Ideal) C B (ix2 r j) = fE C B r j :=
  Cert.Reference5Ideal.LossHead.v6_at C B r j

theorem v9_at (r : Fin 4096) (k : Fin 1024) :
    val_main_v9 (F := Ideal) C B W H (ix2 r k) = H (ix2 r k) + ∑ j : Fin 2816, fE C B r j * W (ix2 j k) := by
  have h := v6_at C B r
  unfold val_main_v9 val_main_v8
  generalize val_main_v6 (F := Ideal) C B = f at h ⊢
  pointwise [h]

end

/-! ## The kernel -/

theorem pay1_at (h : FVec Ideal S512x1024 .f32) (f : FVec Ideal S512x2816 .bf16) (w : FVec Ideal S2816x1024 .bf16)
    (r : Fin 512) (k : Fin 1024) :
    k0_pay1 (F := Ideal) h f w (ix2 r k) = h (ix2 r k) + ∑ j : Fin 2816, f (ix2 r j) * w (ix2 j k) := by
  pointwise [k0_pay1]

variable (m : (ℓ : Loc nD τ sig) → Buf (Elt Ideal) ℓ)

abbrev A0 (c : Dev nD) : FVec Ideal S4096x5632 .f32 := m ((c : Thread nD τ).loc main_arg0)
abbrev A1 (c : Dev nD) : FVec Ideal S5632 .f32 := m ((c : Thread nD τ).loc main_arg1)
abbrev A2 (c : Dev nD) : FVec Ideal S2816x1024 .f32 := m ((c : Thread nD τ).loc main_arg2)
abbrev A3 (c : Dev nD) : FVec Ideal S4096x1024 .f32 := m ((c : Thread nD τ).loc main_arg3)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

theorem blk0 (c : Dev nD) (t : Fin cfg0.N) (r : Fin 512) (j : Fin 5632) :
    (iblk m c 0 t : FVec Ideal S512x5632 .bf16) (ix2 r j) = A0 m c (ix2 (row t r) j) + A1 m c (ix1 j) := by
  have hr := row_lt t r
  unfold row
  blk_simp [iblk]
  entry_read
  pointwise
  refine Ideal.add_congr ?_ ?_
  · blk_ext [idx t]
  · blk_ext [idx t]

theorem blk1 (c : Dev nD) (t : Fin cfg0.N) (r : Fin 512) (k : Fin 1024) :
    (iblk m c 1 t : FVec Ideal S512x1024 .f32) (ix2 r k) = A3 m c (ix2 (row t r) k) := by
  have hr := row_lt t r
  unfold row
  blk_point [iblk, V, idx t]

theorem blk2 (c : Dev nD) (t : Fin cfg0.N) (r : Fin 2816) (k : Fin 1024) :
    (iblk m c 2 t : FVec Ideal S2816x1024 .bf16) (ix2 r k) = A2 m c (ix2 r k) := by
  blk_point [iblk, V, idx t]

theorem fB_eq (c : Dev nD) (t : Fin cfg0.N) (r : Fin 512) (k : Fin 2816) : fB (iblk m c 0 t) r k = fE (A0 m c) (A1 m c) (row t r) k := by
  unfold fB fE
  rw [blk0, blk0]

/-- A block's gated product read back whole. -/
def fV (c : Dev nD) (t : Fin cfg0.N) : FVec Ideal S512x2816 .bf16 :=
  k0_pay7 (F := Ideal) ((ms0_3 t).view.readCov (stores (iblk m c 0 t)) (Rect.unit (s := S512x2816) ![0, 0] ![512, 2816] inb_S512x2816_S512x2816_0_0).toLoadRect)

theorem fV_at (c : Dev nD) (t : Fin cfg0.N) (r : Fin 512) (k : Fin 2816) : fV m c t (ix2 r k) = fE (A0 m c) (A1 m c) (row t r) k := by
  rw [← fB_eq m c t]
  unfold fV
  rw [readCov_ld]
  have h := stores_at (iblk m c 0 t) r k
  generalize View.canon (stores (iblk m c 0 t)) = f at h ⊢
  pointwise [k0_pay7, h]

theorem f_at (c : Dev nD) (t : Fin cfg0.N) (r : Fin 512) (k : Fin 2816) : (outsAt0 m c t).1 (ix2 r k) = fE (A0 m c) (A1 m c) (row t r) k := by
  refine Eq.trans ?_ ((stores_at (iblk m c 0 t) r k).trans (fB_eq m c t r k))
  unfold outsAt0; frame_out
  exact congrFun rfl _

theorem h_at (c : Dev nD) (t : Fin cfg0.N) (r : Fin 512) (k : Fin 1024) : (outsAt0 m c t).2 (ix2 r k)
    = A3 m c (ix2 (row t r) k) + ∑ j : Fin 2816, fE (A0 m c) (A1 m c) (row t r) j * A2 m c (ix2 j k) := by
  have key : (outsAt0 m c t).2 = k0_pay1 (F := Ideal) (iblk m c 1 t) (fV m c t) (k0_pay8 (iblk m c 2 t)) := by
    unfold outsAt0; frame_out
    rfl
  rw [key, pay1_at, blk1]
  refine Ideal.add_congr rfl (Finset.sum_congr rfl fun j _ => ?_)
  rw [fV_at, ← blk2 m c t]
  generalize iblk m c 2 t = w
  pointwise [k0_pay8]

theorem final3 (c : Dev nD) : (dats m 0 c).arrAt 3 (cfgs 0).N = val_main_v7 (F := Ideal) (A0 m c) (A1 m c) := by
  refine (dats m 0 c).arrAt_eq_of_covers 3 _ (by decide +kernel) fun t hf y => ?_
  blk_simp
  rw [after0_3]
  have hy : y = (ix2 (y 0) (y 1) : S512x2816.Idx) := eq_ix2 (n0 := 512) (n1 := 2816) y
  refine (congrArg (outsAt0 m c t).1 hy).trans ((f_at m c t (y 0) (y 1)).trans ?_)
  refine (v6_at (A0 m c) (A1 m c) (row t (y 0)) (y 1)).symm.trans ?_
  refine congrArg (val_main_v7 (F := Ideal) (A0 m c) (A1 m c)) ?_
  funext a
  refine Fin.ext ?_
  fin_cases a <;> blk_simp [idx t]
  · show 512 * t.val + (y 0 : ℕ) = t.val * 512 + (y 0 : ℕ)
    omega
  · rfl

theorem final4 (c : Dev nD) : (dats m 0 c).arrAt 4 (cfgs 0).N = val_main_v9 (F := Ideal) (A0 m c) (A1 m c) (A2 m c) (A3 m c) := by
  refine (dats m 0 c).arrAt_eq_of_covers 4 _ (by decide +kernel) fun t hf y => ?_
  blk_simp
  rw [after0_4]
  have hy : y = (ix2 (y 0) (y 1) : S512x1024.Idx) := eq_ix2 (n0 := 512) (n1 := 1024) y
  refine (congrArg (outsAt0 m c t).2 hy).trans ((h_at m c t (y 0) (y 1)).trans ?_)
  refine (v9_at (A0 m c) (A1 m c) (A2 m c) (A3 m c) (row t (y 0)) (y 1)).symm.trans ?_
  refine congrArg (val_main_v9 (F := Ideal) (A0 m c) (A1 m c) (A2 m c) (A3 m c)) ?_
  funext a
  refine Fin.ext ?_
  fin_cases a <;> blk_simp [idx t]
  · show 512 * t.val + (y 0 : ℕ) = t.val * 512 + (y 0 : ℕ)
    omega
  · rfl

end Cert.Kernel10Ideal.GatedFwd

end
-- ==== Proof.NormCdf.lean ====
/- The norm in front of the mixer with its product and the normal distribution function of the product: a block of 512 rows,
   the product in four parts of 1024 columns. -/
module

public import proofs.«01_k».proof.Proof.Pieces
public import proofs.«01_k».proof.Proof.SguRef
public import proofs.«01_k».proof.Proof.Gen.Kernel11.Frame
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.NormFwd

/-- A row normed by its root mean square, times the gain. -/
def hnE (x g : Fin 1024 → EReal) (k : Fin 1024) : EReal :=
  x k * Ideal.rsqrt (Ideal.div (∑ d, x d * x d) (Ideal.ofBits .f32 0x44800000#32) + Ideal.ofBits .f32 0x358637BD#32) * g k

end Cert.NormFwd

namespace Cert.Kernel11Ideal.NormCdf

open Cert.Kernel11Ideal Cert.Kernel11Ideal.Gen Cert.Pieces Cert.NormFwd
open Cert.Reference8Ideal.Sgu (cdf ofBits_one)
open Cert.Reference11Ideal.Read

/-! ## The reference -/

section

variable (X : FVec Ideal S4096x1024 .f32) (G : FVec Ideal S1024 .f32) (W : FVec Ideal S1024x4096 .f32)

theorem v12_at (r : Fin 4096) (k : Fin 1024) :
    val_main_v12 (F := Ideal) X G (ix2 r k) = hnE (fun d => X (ix2 r d)) (fun d => G (ix1 d)) k := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, hnE]

theorem v13_at (r k : Fin 4096) :
    val_main_v13 (F := Ideal) X G W (ix2 r k) = ∑ d : Fin 1024, hnE (fun d => X (ix2 r d)) (fun d => G (ix1 d)) d * W (ix2 d k) := by
  have h := v12_at X G r
  unfold val_main_v13
  generalize val_main_v12 (F := Ideal) X G = f at h ⊢
  pointwise [h]

theorem v22_at (r k : Fin 4096) : val_main_v22 (F := Ideal) X G W (ix2 r k) = cdf (val_main_v13 (F := Ideal) X G W (ix2 r k)) := by
  unfold val_main_v22 val_main_v21 val_main_v19 val_main_v18 val_main_v16
  generalize val_main_v13 (F := Ideal) X G W = z
  pointwise [val_main_v20, val_main_v17, val_main_cst_2, val_main_cst_3]
  rw [neg_mul, Ideal.erfc_neg, cdf, ofBits_one]

end

/-! ## The kernel's block -/

theorem pay2_at (X : FVec Ideal S512x1024 .f32) (G : FVec Ideal S1x1024 .f32) (r : Fin 512) (k : Fin 1024) :
    k0_pay2 (F := Ideal) X G (ix2 r k) = hnE (fun d => X (ix2 r d)) (fun d => G (ix2 0 d)) k := by
  pointwise [k0_pay2, hnE]

section

variable (N : FVec Ideal S512x1024 .bf16) (w : FVec Ideal S1x1024x1024 .bf16)

theorem pay10_at (r : Fin 512) (j : Fin 1024) : k0_pay10 (F := Ideal) N w (ix2 r j) = ∑ d : Fin 1024, N (ix2 r d) * w (ix3 0 d j) := by
  pointwise [k0_pay10]

theorem pay11_at (r : Fin 512) (j : Fin 1024) : k0_pay11 (F := Ideal) N w (ix2 r j) = ∑ d : Fin 1024, N (ix2 r d) * w (ix3 0 d j) :=
  pay10_at N w r j

theorem pay12_at (r : Fin 512) (j : Fin 1024) : k0_pay12 (F := Ideal) N w (ix2 r j) = cdf (∑ d : Fin 1024, N (ix2 r d) * w (ix3 0 d j)) := by
  rw [← pay10_at]
  unfold k0_pay12
  generalize k0_pay10 (F := Ideal) N w = z
  pointwise [cdf]
  rfl

end

/-- The parts' payloads are one computation. -/
theorem part_z (N : FVec Ideal S512x1024 .bf16) (w : FVec Ideal S1x1024x1024 .bf16) :
    k0_pay8 (F := Ideal) N (k0_pay6 w) = k0_pay11 N w ∧ k0_pay14 (F := Ideal) N w = k0_pay11 N w := by
  exact ⟨rfl, rfl⟩

theorem part_e (N : FVec Ideal S512x1024 .bf16) (w : FVec Ideal S1x1024x1024 .bf16) :
    k0_pay9 (F := Ideal) N (k0_pay6 w) = k0_pay12 N w ∧ k0_pay1 (F := Ideal) (k0_pay13 N w) = k0_pay12 N w := by
  exact ⟨rfl, rfl⟩

theorem part_0 (X : FVec Ideal S512x1024 .f32) (G : FVec Ideal S1x1024 .f32) (w : FVec Ideal S1x1024x1024 .bf16) :
    k0_pay4 (F := Ideal) X G w = k0_pay11 (k0_pay2 X G) w ∧ k0_pay5 (F := Ideal) X G w = k0_pay12 (k0_pay2 X G) w := by
  exact ⟨rfl, rfl⟩

/-- The product of a block's normed rows, from the weight in four parts of 1024 columns. -/
def zB (N : FVec Ideal S512x1024 .bf16) (x2 : FVec Ideal S4x1024x1024 .bf16) (r : Fin 512) (k : Fin 4096) : EReal :=
  ∑ d : Fin 1024, N (ix2 r d) * x2 (ix3 ⟨k / 1024, by omega⟩ d ⟨k % 1024, Nat.mod_lt _ (by norm_num)⟩)

/-- `v` is `f` of columns `o … o + 1023` of a block's product. -/
theorem cols (f : EReal → EReal) (o : ℕ) (i : Fin 4) (ho : o = 1024 * i.val) (N : FVec Ideal S512x1024 .bf16) (x2 : FVec Ideal S4x1024x1024 .bf16)
    (w : FVec Ideal S1x1024x1024 .bf16) (v : FVec Ideal S512x1024 .bf16) (hv : ∀ r j, v (ix2 r j) = f (∑ d : Fin 1024, N (ix2 r d) * w (ix3 0 d j)))
    (hw : ∀ d j, w (ix3 0 d j) = x2 (ix3 i d j)) (x : S512x1024.Idx) (r : Fin 512) (k : Fin 4096) (hr : (r : ℕ) = (x 0 : ℕ)) (hk : (k : ℕ) = o + (x 1 : ℕ)) :
    v x = f (zB N x2 r k) := by
  have hx : (x 1 : ℕ) < 1024 := (x 1).isLt
  have e : r = x 0 := Fin.ext hr
  have e1 : (⟨k / 1024, by omega⟩ : Fin 4) = i := Fin.ext (show (k : ℕ) / 1024 = i by omega)
  have e2 : (⟨k % 1024, Nat.mod_lt _ (by norm_num)⟩ : Fin 1024) = x 1 := Fin.ext (show (k : ℕ) % 1024 = x 1 by omega)
  unfold zB
  rw [e, e1, e2]
  refine (congrArg v (eq_ix2 (n0 := 512) (n1 := 1024) x)).trans ((hv (x 0) (x 1)).trans ?_)
  exact congrArg f (Finset.sum_congr rfl fun d _ => congrArg (N (ix2 (x 0) d) * ·) (hw d (x 1)))

variable (m : (ℓ : Loc nD τ sig) → Buf (Elt Ideal) ℓ)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x4096 .f32 := m ((c : Thread nD τ).loc main_arg2)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

theorem blk0 (c : Dev nD) (t : Fin cfg0.N) (r : Fin 512) (k : Fin 1024) :
    (iblk m c 0 t : FVec Ideal S512x1024 .f32) (ix2 r k) = A0 m c (ix2 (row t r) k) := by
  have hr := row_lt t r
  unfold row
  blk_point [iblk, V, idx t]

theorem blk1 (c : Dev nD) (t : Fin cfg0.N) (k : Fin 1024) : (iblk m c 1 t : FVec Ideal S1x1024 .f32) (ix2 0 k) = A1 m c (ix1 k) := by
  blk_point [iblk, V, idx t]

theorem blk2 (c : Dev nD) (t : Fin cfg0.N) (i : Fin 4) (k j : Fin 1024) :
    (iblk m c 2 t : FVec Ideal S4x1024x1024 .bf16) (ix3 i k j) = A2 m c (ix2 k ⟨1024 * i + j, by omega⟩) := by
  blk_point [iblk, V, idx t]

/-- The normed rows of block `t`. -/
def nB (c : Dev nD) (t : Fin cfg0.N) : FVec Ideal S512x1024 .bf16 := k0_pay15 (F := Ideal) (iblk m c 0 t) (iblk m c 1 t) (iblk m c 2 t)

theorem nB_eq (c : Dev nD) (t : Fin cfg0.N) : nB m c t = k0_pay2 (F := Ideal) (iblk m c 0 t) (iblk m c 1 t) := by
  unfold nB k0_pay15
  rw [View.ld_unit_lit _ _ (by decide), View.ld_unit_lit _ _ (by decide)]

theorem nB_at (c : Dev nD) (t : Fin cfg0.N) (r : Fin 512) (k : Fin 1024) : nB m c t (ix2 r k) = val_main_v14 (F := Ideal) (A0 m c) (A1 m c) (ix2 (row t r) k) := by
  rw [nB_eq, pay2_at]
  simp only [blk0, blk1]
  exact (v12_at (A0 m c) (A1 m c) (row t r) k).symm

theorem zB_at (c : Dev nD) (t : Fin cfg0.N) (r : Fin 512) (k : Fin 4096) :
    zB (nB m c t) (iblk m c 2 t) r k = val_main_v13 (F := Ideal) (A0 m c) (A1 m c) (A2 m c) (ix2 (row t r) k) := by
  rw [v13_at]
  refine Finset.sum_congr rfl fun d _ => ?_
  rw [nB_at, blk2]
  refine Ideal.mul_congr (v12_at (A0 m c) (A1 m c) (row t r) d) (congrArg (fun q => A2 m c (ix2 d q)) (Fin.ext ?_))
  exact Nat.div_add_mod _ _

theorem out3_at (c : Dev nD) (t : Fin cfg0.N) (r : Fin 512) (k : Fin 1024) :
    out0_3 (F := Ideal) (iblk m c 0 t) (iblk m c 1 t) (iblk m c 2 t) (ix2 r k) = val_main_v14 (F := Ideal) (A0 m c) (A1 m c) (ix2 (row t r) k) := by
  rw [← nB_at]
  unfold out0_3
  rw [View.canon_cons_unit_lit' _ _ _ (by decide)]
  rfl

theorem out4_at (c : Dev nD) (t : Fin cfg0.N) (r : Fin 512) (k : Fin 4096) :
    out0_4 (F := Ideal) (iblk m c 0 t) (iblk m c 1 t) (iblk m c 2 t) (ix2 r k) = val_main_v15 (F := Ideal) (A0 m c) (A1 m c) (A2 m c) (ix2 (row t r) k) := by
  refine Eq.trans ?_ (zB_at m c t r k)
  unfold out0_4 k0_pay16
  simp only [part_z, part_e, part_0]
  canon_tiles x h
  · exact cols id 3072 3 rfl (nB m c t) (iblk m c 2 t) _ _ (pay11_at _ _) (by intro d j; pointwise) x r k h0 h1
  · exact cols id 2048 2 rfl (nB m c t) (iblk m c 2 t) _ _ (pay11_at _ _) (by intro d j; pointwise) x r k h0 h1
  · exact cols id 1024 1 rfl (nB m c t) (iblk m c 2 t) _ _ (pay11_at _ _) (by intro d j; pointwise) x r k h0 h1
  · exact cols id 0 0 rfl (nB m c t) (iblk m c 2 t) _ _ (pay11_at _ _) (by intro d j; pointwise) x r k h0 (h1.trans (Nat.zero_add _).symm)

theorem out5_at (c : Dev nD) (t : Fin cfg0.N) (r : Fin 512) (k : Fin 4096) :
    out0_5 (F := Ideal) (iblk m c 0 t) (iblk m c 1 t) (iblk m c 2 t) (ix2 r k) = val_main_v22 (F := Ideal) (A0 m c) (A1 m c) (A2 m c) (ix2 (row t r) k) := by
  refine Eq.trans ?_ ((congrArg cdf (zB_at m c t r k)).trans (v22_at _ _ _ _ _).symm)
  unfold out0_5 k0_pay16
  simp only [part_z, part_e, part_0]
  canon_tiles x h
  · exact cols cdf 3072 3 rfl (nB m c t) (iblk m c 2 t) _ _ (pay12_at _ _) (by intro d j; pointwise) x r k h0 h1
  · exact cols cdf 2048 2 rfl (nB m c t) (iblk m c 2 t) _ _ (pay12_at _ _) (by intro d j; pointwise) x r k h0 h1
  · exact cols cdf 1024 1 rfl (nB m c t) (iblk m c 2 t) _ _ (pay12_at _ _) (by intro d j; pointwise) x r k h0 h1
  · exact cols cdf 0 0 rfl (nB m c t) (iblk m c 2 t) _ _ (pay12_at _ _) (by intro d j; pointwise) x r k h0 (h1.trans (Nat.zero_add _).symm)

theorem final3 (c : Dev nD) : (dats m 0 c).arrAt 3 (cfgs 0).N = val_main_v14 (F := Ideal) (A0 m c) (A1 m c) := by
  refine (dats m 0 c).arrAt_eq_of_covers 3 _ (by decide +kernel) fun t hf y => ?_
  blk_simp
  rw [after0_3]
  have hy : y = (ix2 (y 0) (y 1) : S512x1024.Idx) := eq_ix2 (n0 := 512) (n1 := 1024) y
  refine (congrArg (out0_3 (iblk m c 0 t) (iblk m c 1 t) (iblk m c 2 t)) hy).trans ((out3_at m c t (y 0) (y 1)).trans ?_)
  refine congrArg (val_main_v14 (F := Ideal) (A0 m c) (A1 m c)) ?_
  funext a
  refine Fin.ext ?_
  fin_cases a <;> blk_simp [idx t]
  · show 512 * t.val + (y 0 : ℕ) = t.val * 512 + (y 0 : ℕ)
    omega
  · rfl

/-- Entry `y` of block `t` in an array of 4096 columns. -/
theorem entry (t : Fin cfg0.N) (y : S512x4096.Idx) (i : S4096x4096.Idx) (h0 : (i 0 : ℕ) = t.val * 512 + (y 0 : ℕ)) (h1 : (i 1 : ℕ) = (y 1 : ℕ)) :
    (ix2 (row t (y 0)) (y 1) : S4096x4096.Idx) = i := by
  funext a
  refine Fin.ext ?_
  fin_cases a
  · exact Eq.trans (show 512 * t.val + (y 0 : ℕ) = t.val * 512 + (y 0 : ℕ) by omega) h0.symm
  · exact h1.symm

theorem final4 (c : Dev nD) : (dats m 0 c).arrAt 4 (cfgs 0).N = val_main_v15 (F := Ideal) (A0 m c) (A1 m c) (A2 m c) := by
  refine (dats m 0 c).arrAt_eq_of_covers 4 _ (by decide +kernel) fun t hf y => ?_
  blk_simp
  rw [after0_4]
  have hy : y = (ix2 (y 0) (y 1) : S512x4096.Idx) := eq_ix2 (n0 := 512) (n1 := 4096) y
  refine (congrArg (out0_4 (iblk m c 0 t) (iblk m c 1 t) (iblk m c 2 t)) hy).trans ((out4_at m c t (y 0) (y 1)).trans ?_)
  refine congrArg (val_main_v15 (F := Ideal) (A0 m c) (A1 m c) (A2 m c)) (entry t y _ ?_ ?_) <;> blk_simp [idx t]

theorem final5 (c : Dev nD) : (dats m 0 c).arrAt 5 (cfgs 0).N = val_main_v22 (F := Ideal) (A0 m c) (A1 m c) (A2 m c) := by
  refine (dats m 0 c).arrAt_eq_of_covers 5 _ (by decide +kernel) fun t hf y => ?_
  blk_simp
  rw [after0_5]
  have hy : y = (ix2 (y 0) (y 1) : S512x4096.Idx) := eq_ix2 (n0 := 512) (n1 := 4096) y
  refine (congrArg (out0_5 (iblk m c 0 t) (iblk m c 1 t) (iblk m c 2 t)) hy).trans ((out5_at m c t (y 0) (y 1)).trans ?_)
  refine congrArg (val_main_v22 (F := Ideal) (A0 m c) (A1 m c) (A2 m c)) (entry t y _ ?_ ?_) <;> blk_simp [idx t]

end Cert.Kernel11Ideal.NormCdf

end
-- ==== Proof.NormConv.lean ====
/- The norm in front of the feed-forward layer with its product and the causal convolution of the product: a block of 512 rows, the
   product in four parts of 1408 columns, the last 16 rows of a block kept for the next one. -/
module

public import proofs.«01_k».proof.Proof.NormCdf
public import proofs.«01_k».proof.Proof.AttnPt
public import proofs.«01_k».proof.Proof.Gen.Kernel12.Frame
public import proofs.«01_k».proof.Proof.Gen.Kernel12Ideal.Value
public import proofs.«01_k».proof.Proof.Gen.Reference12Ideal.Read

@[expose] public section

set_option maxRecDepth 16384

noncomputable section

open Idealize.ShloMosaic Idealize.ShloMosaic.TcCoe Idealize.SL.Sem
open Idealize.ShloMosaic.Pipeline (Dat)

namespace Cert.Kernel12Ideal.NormConv

open Cert.Kernel12Ideal Cert.Kernel12Ideal.Gen Cert.Pieces Cert.NormFwd
open Cert.Reference12Ideal.Read

/-- A column of 4096 rows behind 16 rows of zeros, by row. -/
def pad (a : Fin 4096 → EReal) (n : ℕ) : EReal := if h : 16 ≤ n ∧ n < 4112 then a ⟨n - 16, by omega⟩ else 0

theorem pad_row (a : Fin 4096 → EReal) (n : ℕ) (r : Fin 4096) (h : n = r + 16) : pad a n = a r := by
  have hr := r.isLt
  rw [pad, dif_pos (by omega)]
  exact congrArg a (Fin.ext (show n - 16 = r by omega))

theorem pad_zero (a : Fin 4096 → EReal) (n : ℕ) (h : n < 16) : pad a n = 0 := by
  rw [pad, dif_neg (by omega)]

/-- Row `n` of a causal convolution of three taps. -/
def cv (u0 u1 u2 b : EReal) (f : ℕ → EReal) (n : ℕ) : EReal := u0 * f (n + 14) + u1 * f (n + 15) + u2 * f (n + 16) + b

/-! ## The reference -/

section

variable (X : FVec Ideal S4096x1024 .f32) (G : FVec Ideal S1024 .f32) (W : FVec Ideal S1024x5632 .f32) (U : FVec Ideal S3x5632 .f32) (B : FVec Ideal S5632 .f32)

theorem v12_at (r : Fin 4096) (k : Fin 1024) :
    val_main_v12 (F := Ideal) X G (ix2 r k) = hnE (fun d => X (ix2 r d)) (fun d => G (ix1 d)) k :=
  Cert.Kernel11Ideal.NormCdf.v12_at X G r k

theorem v13_at (r : Fin 4096) (k : Fin 5632) :
    val_main_v13 (F := Ideal) X G W (ix2 r k) = ∑ d : Fin 1024, hnE (fun d => X (ix2 r d)) (fun d => G (ix1 d)) d * W (ix2 d k) := by
  have h := v12_at X G r
  unfold val_main_v13
  generalize val_main_v12 (F := Ideal) X G = f at h ⊢
  pointwise [h]

/-- Column `k` of the reference's product. -/
def aC (k : Fin 5632) (r : Fin 4096) : EReal := val_main_v13 (F := Ideal) X G W (ix2 r k)

theorem v20_at (r : Fin 4096) (k : Fin 5632) : val_main_v20 (F := Ideal) X G W (ix2 r k) = pad (aC X G W k) (r + 14) := by
  unfold val_main_v20 val_main_v19 aC
  generalize val_main_v13 (F := Ideal) X G W = z
  pointwise [val_main_v18, val_main_cst_2]
  split_ifs with l
  · exact (pad_zero _ _ (by omega)).symm
  · exact (pad_row (fun r => z (ix2 r k)) _ ⟨r - 2, by omega⟩ (by show (r : ℕ) + 14 = r - 2 + 16; omega)).symm
  · exact absurd rfl ‹_›

theorem v28_at (r : Fin 4096) (k : Fin 5632) : val_main_v28 (F := Ideal) X G W (ix2 r k) = pad (aC X G W k) (r + 15) := by
  unfold val_main_v28 val_main_v27 aC
  generalize val_main_v13 (F := Ideal) X G W = z
  pointwise [val_main_v26, val_main_cst_3]
  split_ifs with l
  · exact (pad_zero _ _ (by omega)).symm
  · exact (pad_row (fun r => z (ix2 r k)) _ ⟨r - 1, by omega⟩ (by show (r : ℕ) + 15 = r - 1 + 16; omega)).symm
  · exact absurd rfl ‹_›

theorem v42_at (r : Fin 4096) (k : Fin 5632) :
    val_main_v42 (F := Ideal) X G W U B (ix2 r k) = cv (U (ix2 0 k)) (U (ix2 1 k)) (U (ix2 2 k)) (B (ix1 k)) (pad (aC X G W k)) r := by
  have a := v20_at X G W r k
  have b := v28_at X G W r k
  have c := pad_row (aC X G W k) (r + 16) r rfl
  unfold cv
  rw [← a, ← b, c, aC]
  unfold val_main_v42 val_main_v41 val_main_v38 val_main_v37 val_main_v32 val_main_v31 val_main_v23
  generalize val_main_v20 (F := Ideal) X G W = y2
  generalize val_main_v28 (F := Ideal) X G W = y1
  generalize val_main_v13 (F := Ideal) X G W = y0
  pointwise [val_main_v40, val_main_v39, val_main_v36, val_main_v35, val_main_v34, val_main_v33, val_main_v30, val_main_v29, val_main_v25, val_main_v24,
    val_main_v22, val_main_v21, val_main_v17, val_main_v16]

end

/-! ## The kernel's block -/

theorem pay4_at (X : FVec Ideal S512x1024 .f32) (G : FVec Ideal S1x1024 .f32) (r : Fin 512) (k : Fin 1024) :
    k0_pay4 (F := Ideal) X G (ix2 r k) = hnE (fun d => X (ix2 r d)) (fun d => G (ix2 0 d)) k := by
  pointwise [k0_pay4, hnE]

theorem pay12_at (N : FVec Ideal S512x1024 .bf16) (w : FVec Ideal S1x1024x1408 .bf16) (r : Fin 512) (j : Fin 1408) :
    k0_pay12 (F := Ideal) N w (ix2 r j) = ∑ d : Fin 1024, N (ix2 r d) * w (ix3 0 d j) := by
  pointwise [k0_pay12]

theorem pay13_at (N : FVec Ideal S512x1024 .bf16) (w : FVec Ideal S1x1024x1408 .bf16) (r : Fin 512) (j : Fin 1408) :
    k0_pay13 (F := Ideal) N w (ix2 r j) = ∑ d : Fin 1024, N (ix2 r d) * w (ix3 0 d j) :=
  pay12_at N w r j

theorem back (n k N : ℕ) (h : k ≤ n) (l : n < N) : (n + N - k) % N = n - k := by
  rw [show n + N - k = (n - k) + N by omega, Nat.add_mod_right, Nat.mod_eq_of_lt (by omega)]

section

variable (v : FVec Ideal S512x1408 .f32) (u0 u1 u2 b : FVec Ideal S1x1408 .f32) (T : FVec Ideal S16x1408 .f32)

theorem pay11_at (s : Fin 16) (j : Fin 1408) : k0_pay11 (F := Ideal) v (ix2 s j) = v (ix2 ⟨496 + s, by omega⟩ j) := by
  pointwise [k0_pay11]

theorem pay15_at (f : ℕ → EReal) (j : Fin 1408) (hv : ∀ r, v (ix2 r j) = f (r + 16)) (r : Fin 512) (hr : 16 ≤ (r : ℕ)) :
    k0_pay15 (F := Ideal) v u0 u1 u2 b (ix2 r j) = cv (u0 (ix2 0 j)) (u1 (ix2 0 j)) (u2 (ix2 0 j)) (b (ix2 0 j)) f r := by
  pointwise [k0_pay15, k0_pay14, cv]
  simp only [hv, back _ 2 512 (by omega : 2 ≤ (r : ℕ)) r.isLt, back _ 1 512 (by omega : 1 ≤ (r : ℕ)) r.isLt]
  rw [show (r : ℕ) - 2 + 16 = r + 14 by omega, show (r : ℕ) - 1 + 16 = r + 15 by omega]

theorem pay16_at (f : ℕ → EReal) (j : Fin 1408) (hv : ∀ r, v (ix2 r j) = f (r + 16)) (hT : ∀ s, T (ix2 s j) = f s) (r : Fin 16) :
    k0_pay16 (F := Ideal) v u0 u1 u2 b T (ix2 r j) = cv (u0 (ix2 0 j)) (u1 (ix2 0 j)) (u2 (ix2 0 j)) (b (ix2 0 j)) f r := by
  pointwise [k0_pay16, k0_pay14, cv]
  simp only [hv, hT]
  have e : ∀ k, k ≤ 2 → (if h : (16 + (r : ℕ) + 32 - k) % 32 < 16 then f ((16 + r + 32 - k) % 32) else f ((16 + r + 32 - k) % 32 - 16 + 16)) = f (16 + r - k) := by
    intro k hk
    have hr := r.isLt
    rw [back _ k 32 (by omega) (by omega)]
    split_ifs with l
    · rfl
    · exact congrArg f (by omega)
  rw [e 2 le_rfl, e 1 (by omega), show 16 + (r : ℕ) - 2 = r + 14 by omega, show 16 + (r : ℕ) - 1 = r + 15 by omega]

end

/-- The parts' payloads are one computation. -/
theorem part_z (N : FVec Ideal S512x1024 .bf16) (w : FVec Ideal S1x1024x1408 .bf16) :
    (k0_pay19 (F := Ideal) N w = k0_pay12 N w ∧ k0_pay27 (F := Ideal) N w = k0_pay12 N w)
      ∧ k0_pay20 (F := Ideal) N w = k0_pay13 N w ∧ k0_pay28 (F := Ideal) N w = k0_pay13 N w :=
  ⟨⟨rfl, rfl⟩, rfl, rfl⟩

theorem part_0 (X : FVec Ideal S512x1024 .f32) (G : FVec Ideal S1x1024 .f32) (w : FVec Ideal S1x1024x1408 .bf16) :
    k0_pay6 (F := Ideal) X G w = k0_pay12 (k0_pay4 X G) w ∧ k0_pay7 (F := Ideal) X G w = k0_pay13 (k0_pay4 X G) w :=
  ⟨rfl, rfl⟩

theorem part_t (v : FVec Ideal S512x1408 .f32) :
    k0_pay3 (F := Ideal) v = k0_pay11 v ∧ k0_pay26 (F := Ideal) v = k0_pay11 v ∧ k0_pay18 (F := Ideal) (k0_pay17 v) = k0_pay11 v :=
  ⟨rfl, rfl, rfl⟩

section

variable (v : FVec Ideal S512x1408 .f32) (N : FVec Ideal S512x1024 .bf16) (w : FVec Ideal S1x1024x1408 .bf16) (u0 u1 u2 b : FVec Ideal S1x1408 .f32)
  (T : FVec Ideal S16x1408 .f32)

theorem part_b : k0_pay9 (F := Ideal) v u0 u1 u2 (k0_pay8 b) 2#32 = k0_pay15 v u0 u1 u2 b := rfl

theorem part_c : k0_pay22 (F := Ideal) N w u0 u1 u2 b = k0_pay15 (k0_pay12 N w) u0 u1 u2 b
    ∧ k0_pay1 (F := Ideal) (k0_pay30 N w u0 u1 u2) (k0_pay31 b) = k0_pay15 (k0_pay12 N w) u0 u1 u2 b :=
  ⟨rfl, rfl⟩

theorem part_h : k0_pay10 (F := Ideal) v u0 u1 u2 (k0_pay8 b) T = k0_pay16 v u0 u1 u2 b T
    ∧ k0_pay2 (F := Ideal) v u0 u1 u2 (k0_pay29 b) T = k0_pay16 v u0 u1 u2 b T :=
  ⟨rfl, rfl⟩

theorem part_i : k0_pay25 (F := Ideal) u1 u2 (k0_pay21 b) (k0_pay23 N w T) (k0_pay24 N w u0 T) 1#32 = k0_pay16 (k0_pay12 N w) u0 u1 u2 b T := rfl

end

/-- A row of 1408 columns read out of a larger array. -/
theorem ld_row {n a o : ℕ} (inb : ∀ d, ![a, o] d + ![1, 1408] d ≤ (Shape.mk 2 ![n, 5632]).size d) (X : FVec Ideal ⟨2, ![n, 5632]⟩ .f32) (j : Fin 1408) (q : Fin n)
    (k : Fin 5632) (hq : (q : ℕ) = a) (hk : (k : ℕ) = o + j) :
    (View.ld (Val := Elt Ideal) (e' := .f32) X (Rect.unit (s := ⟨2, ![n, 5632]⟩) ![a, o] ![1, 1408] inb) : FVec Ideal S1x1408 .f32) (ix2 0 j) = X (ix2 q k) := by
  refine congrArg X (funext fun d => Fin.ext ?_)
  fin_cases d
  · exact Eq.trans (show a + 1 * 0 = a by omega) hq.symm
  · exact Eq.trans (show o + 1 * (j : ℕ) = o + j by omega) hk.symm

theorem ld_tail {o : ℕ} (inb : ∀ d, ![0, o] d + ![16, 1408] d ≤ S16x5632.size d) (X : FVec Ideal S16x5632 .f32) (s : Fin 16) (j : Fin 1408)
    (k : Fin 5632) (hk : (k : ℕ) = o + j) :
    (View.ld (Val := Elt Ideal) (e' := .f32) X (Rect.unit (s := S16x5632) ![0, o] ![16, 1408] inb) : FVec Ideal S16x1408 .f32) (ix2 s j) = X (ix2 s k) := by
  refine congrArg X (funext fun d => Fin.ext ?_)
  fin_cases d
  · exact (show 0 + 1 * (s : ℕ) = s by omega)
  · exact Eq.trans (show o + 1 * (j : ℕ) = o + j by omega) hk.symm

section

variable {n o : ℕ} (inb : ∀ d, ![0, o] d + ![n, 1408] d ≤ S512x5632.size d) (w : FVec Ideal ⟨2, ![n, 1408]⟩ .bf16) (L : List (View.Piece (Elt Ideal) S512x5632 .bf16))
  (r : Fin 512) (k : Fin 5632)

/-- The first `n` rows of a part, stored, -/
theorem rows_mem (s : Fin n) (j : Fin 1408) (hr : (r : ℕ) = s) (hk : (k : ℕ) = o + j) :
    View.canon (Val := Elt Ideal) (e := .bf16) (⟨Rect.unit (s := S512x5632) ![0, o] ![n, 1408] inb, w⟩ :: L) (ix2 r k) = w (ix2 s j) := by
  refine canon_mem (e := .bf16) inb w L _ (ix2 s j : (Shape.mk 2 ![n, 1408]).Idx) fun d => ?_
  fin_cases d
  · exact hr.trans (Nat.zero_add _).symm
  · exact hk

/-- and the rows behind them. -/
theorem rows_not (hr : n ≤ (r : ℕ)) :
    View.canon (Val := Elt Ideal) (e := .bf16) (⟨Rect.unit (s := S512x5632) ![0, o] ![n, 1408] inb, w⟩ :: L) (ix2 r k) = View.canon L (ix2 r k) :=
  canon_not (e := .bf16) inb w L _ 0 (Or.inr ((Nat.zero_add n).le.trans hr))

end

/-- The two stores of a part of the convolution: the first 16 rows over all of them. -/
theorem cp_step {o : ℕ} (i0 : ∀ d, ![0, o] d + ![16, 1408] d ≤ S512x5632.size d) (i1 : ∀ d, ![0, o] d + ![512, 1408] d ≤ S512x5632.size d)
    (p : FVec Ideal S16x1408 .bf16) (q : FVec Ideal S512x1408 .bf16) (L : List (View.Piece (Elt Ideal) S512x5632 .bf16)) (r : Fin 512) (k : Fin 5632) (z : EReal)
    (hp : ∀ (s : Fin 16) (j : Fin 1408), (r : ℕ) = s → (k : ℕ) = o + j → p (ix2 s j) = z)
    (hq : ∀ j : Fin 1408, 16 ≤ (r : ℕ) → (k : ℕ) = o + j → q (ix2 r j) = z)
    (hL : (k : ℕ) < o ∨ o + 1408 ≤ (k : ℕ) → View.canon L (ix2 r k) = z) :
    View.canon (Val := Elt Ideal) (e := .bf16)
      (⟨Rect.unit (s := S512x5632) ![0, o] ![16, 1408] i0, p⟩ :: ⟨Rect.unit (s := S512x5632) ![0, o] ![512, 1408] i1, q⟩ :: L) (ix2 r k) = z := by
  by_cases hk : (k : ℕ) < o ∨ o + 1408 ≤ (k : ℕ)
  · exact (canon_not (e := .bf16) i0 _ _ _ 1 hk).trans ((canon_not (e := .bf16) i1 _ _ _ 1 hk).trans (hL hk))
  · have hj : (k : ℕ) = o + (k - o) := by omega
    by_cases hr : (r : ℕ) < 16
    · exact (rows_mem i0 p _ r k ⟨r, hr⟩ ⟨k - o, by omega⟩ rfl hj).trans (hp ⟨r, hr⟩ ⟨k - o, by omega⟩ rfl hj)
    · exact (rows_not i0 p _ r k (by omega)).trans ((rows_mem i1 q L r k r ⟨k - o, by omega⟩ rfl hj).trans (hq ⟨k - o, by omega⟩ (by omega) hj))

/-- The store of a part over whole rows. -/
theorem col_step {n o : ℕ} {φ : EltTy} (i0 : ∀ d, ![0, o] d + ![n, 1408] d ≤ (Shape.mk 2 ![n, 5632]).size d) (p : (Shape.mk 2 ![n, 1408]).Idx → Elt Ideal φ)
    (L : List (View.Piece (Elt Ideal) ⟨2, ![n, 5632]⟩ φ)) (s : Fin n) (k : Fin 5632) (z : Elt Ideal φ) (hp : ∀ j : Fin 1408, (k : ℕ) = o + j → p (ix2 s j) = z)
    (hL : (k : ℕ) < o ∨ o + 1408 ≤ (k : ℕ) → View.canon L (ix2 s k) = z) :
    View.canon (Val := Elt Ideal) (e := φ) (⟨Rect.unit (s := ⟨2, ![n, 5632]⟩) ![0, o] ![n, 1408] i0, p⟩ :: L) (ix2 s k) = z := by
  by_cases hk : (k : ℕ) < o ∨ o + 1408 ≤ (k : ℕ)
  · exact (Cert.Kernel2Ideal.Attn.cols_not (φ := φ) i0 p L s k hk).trans (hL hk)
  · exact (Cert.Kernel2Ideal.Attn.cols_mem (φ := φ) i0 p L s k (⟨k - o, by omega⟩ : Fin 1408) (show (k : ℕ) = o + (k - o) by omega)).trans (hp _ (show (k : ℕ) = o + (k - o) by omega))

variable (m : (ℓ : Loc nD τ sig) → Buf (Elt Ideal) ℓ)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S3x5632 .f32 := m ((c : Thread nD τ).loc main_arg3)
abbrev A4 (c : Dev nD) : FVec Ideal S5632 .f32 := m ((c : Thread nD τ).loc main_arg4)

theorem idx : ∀ t : Fin cfg0.N, win0_0.index t = ![t.val, 0] ∧ win0_1.index t = ![0, 0] ∧ win0_2.index t = ![0, 0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem row_lt (t : Fin cfg0.N) (r : Fin 512) : 512 * t.val + r.val < 4096 := by
  have := lt_of_lt_of_eq t.isLt (show cfg0.N = 8 from N_0)
  omega

/-- Row `r` of block `t`. -/
def row (t : Fin cfg0.N) (r : Fin 512) : Fin 4096 := ⟨512 * t + r, row_lt t r⟩

theorem blk0 (c : Dev nD) (t : Fin cfg0.N) (r : Fin 512) (k : Fin 1024) :
    (iblk m c 0 t : FVec Ideal S512x1024 .f32) (ix2 r k) = A0 m c (ix2 (row t r) k) := by
  have hr := row_lt t r
  unfold row
  blk_point [iblk, V, idx t]

theorem blk1 (c : Dev nD) (t : Fin cfg0.N) (k : Fin 1024) : (iblk m c 1 t : FVec Ideal S1x1024 .f32) (ix2 0 k) = A1 m c (ix1 k) := by
  blk_point [iblk, V, idx t]

theorem blk2 (c : Dev nD) (t : Fin cfg0.N) (i : Fin 4) (k : Fin 1024) (j : Fin 1408) :
    (iblk m c 2 t : FVec Ideal S4x1024x1408 .bf16) (ix3 i k j) = A2 m c (ix2 k ⟨1408 * i + j, by omega⟩) := by
  blk_point [iblk, V, idx t]

theorem blk3 (c : Dev nD) (t : Fin cfg0.N) (a : Fin 3) (k : Fin 5632) : (iblk m c 3 t : FVec Ideal S3x5632 .f32) (ix2 a k) = A3 m c (ix2 a k) := by
  blk_point [iblk, V, idx t]

theorem blk4 (c : Dev nD) (t : Fin cfg0.N) (k : Fin 5632) : (iblk m c 4 t : FVec Ideal S1x5632 .f32) (ix2 0 k) = A4 m c (ix1 k) := by
  blk_point [iblk, V, idx t]

theorem nB_at (c : Dev nD) (t : Fin cfg0.N) (r : Fin 512) (k : Fin 1024) :
    k0_pay4 (F := Ideal) (iblk m c 0 t) (iblk m c 1 t) (ix2 r k) = val_main_v14 (F := Ideal) (A0 m c) (A1 m c) (ix2 (row t r) k) := by
  rw [pay4_at]
  simp only [blk0, blk1]
  exact (v12_at (A0 m c) (A1 m c) (row t r) k).symm

/-- Column `k` of the reference's product, behind 16 rows of zeros. -/
def pc (c : Dev nD) (k : Fin 5632) (n : ℕ) : EReal := pad (aC (A0 m c) (A1 m c) (A2 m c) k) n

/-- A part of the product. -/
def zP (c : Dev nD) (t : Fin cfg0.N) (i : ℕ) (iw : ∀ d, ![i, 0, 0] d + ![1, 1024, 1408] d ≤ S4x1024x1408.size d) : FVec Ideal S512x1408 .f32 :=
  k0_pay12 (F := Ideal) (k0_pay4 (iblk m c 0 t) (iblk m c 1 t)) (View.ld (iblk m c 2 t) (Rect.unit (s := S4x1024x1408) ![i, 0, 0] ![1, 1024, 1408] iw))

theorem zP_at (c : Dev nD) (t : Fin cfg0.N) (i : ℕ) (iw) (r : Fin 512) (j : Fin 1408) (k : Fin 5632) (hi : i < 4) (hk : (k : ℕ) = 1408 * i + j) :
    zP m c t i iw (ix2 r j) = val_main_v13 (F := Ideal) (A0 m c) (A1 m c) (A2 m c) (ix2 (row t r) k) := by
  rw [v13_at, zP, pay12_at]
  refine Finset.sum_congr rfl fun d _ => Ideal.mul_congr ((nB_at m c t r d).trans (v12_at (A0 m c) (A1 m c) (row t r) d)) ?_
  refine Eq.trans ?_ ((blk2 m c t ⟨i, hi⟩ d j).trans (congrArg (fun q => A2 m c (ix2 d q)) (Fin.ext hk.symm)))
  refine congrArg (iblk m c 2 t : FVec Ideal S4x1024x1408 .bf16) (funext fun a => Fin.ext ?_)
  fin_cases a
  · exact (show i + 1 * 0 = i by omega)
  · exact (show 0 + 1 * (d : ℕ) = d by omega)
  · exact (show 0 + 1 * (j : ℕ) = j by omega)

theorem zP_pc (c : Dev nD) (t : Fin cfg0.N) (i : ℕ) (iw) (r : Fin 512) (j : Fin 1408) (k : Fin 5632) (hi : i < 4) (hk : (k : ℕ) = 1408 * i + j) :
    zP m c t i iw (ix2 r j) = pc m c k (512 * t + (r + 16)) :=
  (zP_at m c t i iw r j k hi hk).trans (pad_row (aC (A0 m c) (A1 m c) (A2 m c) k) _ (row t r) (show 512 * (t : ℕ) + (r + 16) = 512 * t + r + 16 by omega)).symm

section

variable (c : Dev nD) (t : Fin cfg0.N) (i o : ℕ) (hi : i < 4) (ho : o = 1408 * i) (iw : ∀ d, ![i, 0, 0] d + ![1, 1024, 1408] d ≤ S4x1024x1408.size d)
  (i0 : ∀ d, ![0, o] d + ![1, 1408] d ≤ S3x5632.size d) (i1 : ∀ d, ![1, o] d + ![1, 1408] d ≤ S3x5632.size d) (i2 : ∀ d, ![2, o] d + ![1, 1408] d ≤ S3x5632.size d)
  (ib : ∀ d, ![0, o] d + ![1, 1408] d ≤ S1x5632.size d) (T : FVec Ideal S16x1408 .f32)

/-- A part of the convolution over a block's rows, -/
def qP : FVec Ideal S512x1408 .bf16 :=
  k0_pay15 (F := Ideal) (zP m c t i iw) (View.ld (iblk m c 3 t) (Rect.unit (s := S3x5632) ![0, o] ![1, 1408] i0))
    (View.ld (iblk m c 3 t) (Rect.unit (s := S3x5632) ![1, o] ![1, 1408] i1)) (View.ld (iblk m c 3 t) (Rect.unit (s := S3x5632) ![2, o] ![1, 1408] i2))
    (View.ld (iblk m c 4 t) (Rect.unit (s := S1x5632) ![0, o] ![1, 1408] ib))

/-- and over its first 16 rows, behind the rows `T`. -/
def hP : FVec Ideal S16x1408 .bf16 :=
  k0_pay16 (F := Ideal) (zP m c t i iw) (View.ld (iblk m c 3 t) (Rect.unit (s := S3x5632) ![0, o] ![1, 1408] i0))
    (View.ld (iblk m c 3 t) (Rect.unit (s := S3x5632) ![1, o] ![1, 1408] i1)) (View.ld (iblk m c 3 t) (Rect.unit (s := S3x5632) ![2, o] ![1, 1408] i2))
    (View.ld (iblk m c 4 t) (Rect.unit (s := S1x5632) ![0, o] ![1, 1408] ib)) T

/-- Row `r` of the reference's convolution. -/
theorem cv_row (r : Fin 512) (k : Fin 5632) (n : ℕ) (hn : (r : ℕ) = n) :
    cv (A3 m c (ix2 0 k)) (A3 m c (ix2 1 k)) (A3 m c (ix2 2 k)) (A4 m c (ix1 k)) (fun n => pc m c k (512 * t + n)) n
      = val_main_v42 (F := Ideal) (A0 m c) (A1 m c) (A2 m c) (A3 m c) (A4 m c) (ix2 (row t r) k) := by
  subst hn
  rw [v42_at]
  simp only [cv, pc, row, ← Nat.add_assoc]

include hi ho in
theorem qP_at (r : Fin 512) (j : Fin 1408) (k : Fin 5632) (hr : 16 ≤ (r : ℕ)) (hk : (k : ℕ) = o + j) :
    qP m c t i o iw i0 i1 i2 ib (ix2 r j) = val_main_v42 (F := Ideal) (A0 m c) (A1 m c) (A2 m c) (A3 m c) (A4 m c) (ix2 (row t r) k) := by
  rw [qP, pay15_at _ _ _ _ _ (fun n => pc m c k (512 * t + n)) j (fun r => zP_pc m c t i iw r j k hi (ho ▸ hk)) r hr, ld_row i0 (iblk m c 3 t) j 0 k rfl hk,
    ld_row i1 (iblk m c 3 t) j 1 k rfl hk, ld_row i2 (iblk m c 3 t) j 2 k rfl hk, ld_row ib (iblk m c 4 t) j 0 k rfl hk, blk3, blk3, blk3, blk4]
  exact cv_row m c t r k r rfl

include hi ho in
theorem hP_at (hT : ∀ (s : Fin 16) (j : Fin 1408) (k : Fin 5632), (k : ℕ) = o + j → T (ix2 s j) = pc m c k (512 * t + s)) (r : Fin 512) (s : Fin 16) (j : Fin 1408)
    (k : Fin 5632) (hr : (r : ℕ) = s) (hk : (k : ℕ) = o + j) :
    hP m c t i o iw i0 i1 i2 ib T (ix2 s j) = val_main_v42 (F := Ideal) (A0 m c) (A1 m c) (A2 m c) (A3 m c) (A4 m c) (ix2 (row t r) k) := by
  rw [hP, pay16_at _ _ _ _ _ _ (fun n => pc m c k (512 * t + n)) j (fun r => zP_pc m c t i iw r j k hi (ho ▸ hk)) (fun s => hT s j k hk) s,
    ld_row i0 (iblk m c 3 t) j 0 k rfl hk, ld_row i1 (iblk m c 3 t) j 1 k rfl hk, ld_row i2 (iblk m c 3 t) j 2 k rfl hk, ld_row ib (iblk m c 4 t) j 0 k rfl hk,
    blk3, blk3, blk3, blk4]
  exact cv_row m c t r k s hr

end

section

variable (c : Dev nD) (t : Fin cfg0.N)

/-- The product's columns, stored in four parts. -/
theorem a_of (r : Fin 512) (k : Fin 5632) :
    View.canon (Val := Elt Ideal) (e := .bf16)
      [⟨Rect.unit ![0, 4224] ![512, 1408] inb_S512x5632_S512x1408_0_4224, zP m c t 3 inb_S4x1024x1408_S1x1024x1408_3_0_0⟩,
        ⟨Rect.unit ![0, 2816] ![512, 1408] inb_S512x5632_S512x1408_0_2816, zP m c t 2 inb_S4x1024x1408_S1x1024x1408_2_0_0⟩,
        ⟨Rect.unit ![0, 1408] ![512, 1408] inb_S512x5632_S512x1408_0_1408, zP m c t 1 inb_S4x1024x1408_S1x1024x1408_1_0_0⟩,
        ⟨Rect.unit ![0, 0] ![512, 1408] inb_S512x5632_S512x1408_0_0, zP m c t 0 inb_S4x1024x1408_S1x1024x1408_0_0_0⟩] (ix2 r k)
      = val_main_v15 (F := Ideal) (A0 m c) (A1 m c) (A2 m c) (ix2 (row t r) k) := by
  have hk := k.isLt
  refine col_step (φ := .bf16) _ _ _ _ _ _ (fun j h => zP_at m c t 3 _ r j k (by decide) h) fun h3 => ?_
  refine col_step (φ := .bf16) _ _ _ _ _ _ (fun j h => zP_at m c t 2 _ r j k (by decide) h) fun h2 => ?_
  refine col_step (φ := .bf16) _ _ _ _ _ _ (fun j h => zP_at m c t 1 _ r j k (by decide) h) fun h1 => ?_
  refine col_step (φ := .bf16) _ _ _ _ _ _ (fun j h => zP_at m c t 0 _ r j k (by decide) h) fun h0 => ?_
  omega

/-- The last 16 rows of a block's product. -/
theorem tail_of (L : List (View.Piece (Elt Ideal) S16x5632 .f32)) (s : Fin 16) (k : Fin 5632) :
    View.canon (Val := Elt Ideal) (e := .f32)
      (⟨Rect.unit ![0, 4224] ![16, 1408] inb_S16x5632_S16x1408_0_4224, k0_pay11 (zP m c t 3 inb_S4x1024x1408_S1x1024x1408_3_0_0)⟩
        :: ⟨Rect.unit ![0, 2816] ![16, 1408] inb_S16x5632_S16x1408_0_2816, k0_pay11 (zP m c t 2 inb_S4x1024x1408_S1x1024x1408_2_0_0)⟩
        :: ⟨Rect.unit ![0, 1408] ![16, 1408] inb_S16x5632_S16x1408_0_1408, k0_pay11 (zP m c t 1 inb_S4x1024x1408_S1x1024x1408_1_0_0)⟩
        :: ⟨Rect.unit ![0, 0] ![16, 1408] inb_S16x5632_S16x1408_0_0, k0_pay11 (zP m c t 0 inb_S4x1024x1408_S1x1024x1408_0_0_0)⟩ :: L) (ix2 s k)
      = pc m c k (512 * (t + 1) + s) := by
  have hk := k.isLt
  have e : ∀ i iw (j : Fin 1408), i < 4 → (k : ℕ) = 1408 * i + j → k0_pay11 (F := Ideal) (zP m c t i iw) (ix2 s j) = pc m c k (512 * (t + 1) + s) := by
    intro i iw j hi hk
    rw [pay11_at, zP_pc m c t i iw _ j k hi hk]
    exact congrArg (pc m c k) (show 512 * (t : ℕ) + (496 + s + 16) = 512 * (t + 1) + s by omega)
  refine col_step (φ := .f32) _ _ _ _ _ _ (fun j h => e 3 _ j (by decide) h) fun h3 => ?_
  refine col_step (φ := .f32) _ _ _ _ _ _ (fun j h => e 2 _ j (by decide) h) fun h2 => ?_
  refine col_step (φ := .f32) _ _ _ _ _ _ (fun j h => e 1 _ j (by decide) h) fun h1 => ?_
  refine col_step (φ := .f32) _ _ _ _ _ _ (fun j h => e 0 _ j (by decide) h) fun h0 => ?_
  omega

/-- What a part reads of the kept rows is the rows before the block. -/
def Before (o : ℕ) (T : FVec Ideal S16x1408 .f32) : Prop :=
  ∀ (s : Fin 16) (j : Fin 1408) (k : Fin 5632), (k : ℕ) = o + j → T (ix2 s j) = pc m c k (512 * t + s)

/-- The convolution's columns, stored in four parts. -/
theorem cp_of (T3 T2 T1 T0 : FVec Ideal S16x1408 .f32) (b3 : Before m c t 4224 T3) (b2 : Before m c t 2816 T2) (b1 : Before m c t 1408 T1) (b0 : Before m c t 0 T0)
    (r : Fin 512) (k : Fin 5632) :
    View.canon (Val := Elt Ideal) (e := .bf16)
      [⟨Rect.unit ![0, 4224] ![16, 1408] inb_S512x5632_S16x1408_0_4224, hP m c t 3 4224 inb_S4x1024x1408_S1x1024x1408_3_0_0 inb_S3x5632_S1x1408_0_4224
          inb_S3x5632_S1x1408_1_4224 inb_S3x5632_S1x1408_2_4224 inb_S1x5632_S1x1408_0_4224 T3⟩,
        ⟨Rect.unit ![0, 4224] ![512, 1408] inb_S512x5632_S512x1408_0_4224, qP m c t 3 4224 inb_S4x1024x1408_S1x1024x1408_3_0_0 inb_S3x5632_S1x1408_0_4224
          inb_S3x5632_S1x1408_1_4224 inb_S3x5632_S1x1408_2_4224 inb_S1x5632_S1x1408_0_4224⟩,
        ⟨Rect.unit ![0, 2816] ![16, 1408] inb_S512x5632_S16x1408_0_2816, hP m c t 2 2816 inb_S4x1024x1408_S1x1024x1408_2_0_0 inb_S3x5632_S1x1408_0_2816
          inb_S3x5632_S1x1408_1_2816 inb_S3x5632_S1x1408_2_2816 inb_S1x5632_S1x1408_0_2816 T2⟩,
        ⟨Rect.unit ![0, 2816] ![512, 1408] inb_S512x5632_S512x1408_0_2816, qP m c t 2 2816 inb_S4x1024x1408_S1x1024x1408_2_0_0 inb_S3x5632_S1x1408_0_2816
          inb_S3x5632_S1x1408_1_2816 inb_S3x5632_S1x1408_2_2816 inb_S1x5632_S1x1408_0_2816⟩,
        ⟨Rect.unit ![0, 1408] ![16, 1408] inb_S512x5632_S16x1408_0_1408, hP m c t 1 1408 inb_S4x1024x1408_S1x1024x1408_1_0_0 inb_S3x5632_S1x1408_0_1408
          inb_S3x5632_S1x1408_1_1408 inb_S3x5632_S1x1408_2_1408 inb_S1x5632_S1x1408_0_1408 T1⟩,
        ⟨Rect.unit ![0, 1408] ![512, 1408] inb_S512x5632_S512x1408_0_1408, qP m c t 1 1408 inb_S4x1024x1408_S1x1024x1408_1_0_0 inb_S3x5632_S1x1408_0_1408
          inb_S3x5632_S1x1408_1_1408 inb_S3x5632_S1x1408_2_1408 inb_S1x5632_S1x1408_0_1408⟩,
        ⟨Rect.unit ![0, 0] ![16, 1408] inb_S512x5632_S16x1408_0_0, hP m c t 0 0 inb_S4x1024x1408_S1x1024x1408_0_0_0 inb_S3x5632_S1x1408_0_0
          inb_S3x5632_S1x1408_1_0 inb_S3x5632_S1x1408_2_0 inb_S1x5632_S1x1408_0_0 T0⟩,
        ⟨Rect.unit ![0, 0] ![512, 1408] inb_S512x5632_S512x1408_0_0, qP m c t 0 0 inb_S4x1024x1408_S1x1024x1408_0_0_0 inb_S3x5632_S1x1408_0_0
          inb_S3x5632_S1x1408_1_0 inb_S3x5632_S1x1408_2_0 inb_S1x5632_S1x1408_0_0⟩] (ix2 r k)
      = val_main_v42 (F := Ideal) (A0 m c) (A1 m c) (A2 m c) (A3 m c) (A4 m c) (ix2 (row t r) k) := by
  have hk := k.isLt
  refine cp_step _ _ _ _ _ _ _ _ (fun s j hr h => hP_at m c t 3 4224 (by decide) rfl _ _ _ _ _ T3 b3 r s j k hr h)
    (fun j hr h => qP_at m c t 3 4224 (by decide) rfl _ _ _ _ _ r j k hr h) fun h3 => ?_
  refine cp_step _ _ _ _ _ _ _ _ (fun s j hr h => hP_at m c t 2 2816 (by decide) rfl _ _ _ _ _ T2 b2 r s j k hr h)
    (fun j hr h => qP_at m c t 2 2816 (by decide) rfl _ _ _ _ _ r j k hr h) fun h2 => ?_
  refine cp_step _ _ _ _ _ _ _ _ (fun s j hr h => hP_at m c t 1 1408 (by decide) rfl _ _ _ _ _ T1 b1 r s j k hr h)
    (fun j hr h => qP_at m c t 1 1408 (by decide) rfl _ _ _ _ _ r j k hr h) fun h1 => ?_
  refine cp_step _ _ _ _ _ _ _ _ (fun s j hr h => hP_at m c t 0 0 (by decide) rfl _ _ _ _ _ T0 b0 r s j k hr h)
    (fun j hr h => qP_at m c t 0 0 (by decide) rfl _ _ _ _ _ r j k hr h) fun h0 => ?_
  omega

end

/-! ## The points -/

theorem hn_pt (c : Dev nD) (t : Fin cfg0.N) : (outsAt0 m c t.val t.isLt).1 = k0_pay4 (F := Ideal) (iblk m c 0 t) (iblk m c 1 t) := by
  by_cases g : t.val % 8 = 0
  · rw [outsAt0_A m c t g]
    frame_out
  · rw [outsAt0_B m c t g]
    frame_out

theorem a_pt (c : Dev nD) (t : Fin cfg0.N) (r : Fin 512) (k : Fin 5632) :
    (outsAt0 m c t.val t.isLt).2.1 (ix2 r k) = val_main_v15 (F := Ideal) (A0 m c) (A1 m c) (A2 m c) (ix2 (row t r) k) := by
  by_cases g : t.val % 8 = 0
  · rw [outsAt0_A m c t g]
    frame_out
    simp only [part_z, part_0]
    exact a_of m c t r k
  · rw [outsAt0_B m c t g]
    frame_out
    simp only [part_z, part_0]
    exact a_of m c t r k

theorem tail_pt (c : Dev nD) (t : Fin cfg0.N) (s : Fin 16) (k : Fin 5632) :
    (outsAt0 m c t.val t.isLt).2.2.2 (ix2 s k) = pc m c k (512 * (t + 1) + s) := by
  by_cases g : t.val % 8 = 0
  · rw [outsAt0_A m c t g]
    frame_out
    simp only [part_z, part_0, part_t]
    exact tail_of m c t _ s k
  · rw [outsAt0_B m c t g]
    frame_out
    simp only [part_z, part_0, part_t]
    exact tail_of m c t _ s k

/-- The first block has zeros before it, -/
theorem first (c : Dev nD) (t : Fin cfg0.N) (g : t.val % 8 = 0) {o : ℕ} (inb : ∀ d, ![0, o] d + ![16, 1408] d ≤ S16x5632.size d)
    (L : List (View.Piece (Elt Ideal) S16x5632 .f32)) (h : ∀ (s : Fin 16) (k : Fin 5632), o ≤ (k : ℕ) → View.canon L (ix2 s k) = k0_pay5 (F := Ideal) (ix2 s k)) :
    Before m c t o ((View.whole cc0_scratch0).readCov (Val := Elt Ideal) L (Rect.unit (s := S16x5632) ![0, o] ![16, 1408] inb).toLoadRect) := by
  intro s j k hk
  have ht : t.val = 0 := by
    have := lt_of_lt_of_eq t.isLt (show cfg0.N = 8 from N_0)
    omega
  rw [readCov_ld]
  refine (ld_tail inb (View.canon L) s j k hk).trans ((h s k (by omega)).trans ?_)
  rw [pc, pad_zero _ _ (by omega)]
  pointwise [k0_pay5]

/-- a later one the last rows of the block before. -/
theorem later (c : Dev nD) (t : Fin cfg0.N) (g : ¬ t.val % 8 = 0) {o : ℕ} (inb : ∀ d, ![0, o] d + ![16, 1408] d ≤ S16x5632.size d) (h : t.val - 1 < cfg0.N) :
    Before m c t o (View.ld (outsAt0 m c (t.val - 1) h).2.2.2 (Rect.unit (s := S16x5632) ![0, o] ![16, 1408] inb)) := by
  intro s j k hk
  refine (ld_tail inb _ s j k hk).trans ((tail_pt m c ⟨t.val - 1, h⟩ s k).trans ?_)
  exact congrArg (fun n => pc m c k (512 * n + s)) (show t.val - 1 + 1 = t.val by omega)

theorem cp_pt (c : Dev nD) (t : Fin cfg0.N) (r : Fin 512) (k : Fin 5632) :
    (outsAt0 m c t.val t.isLt).2.2.1 (ix2 r k)
      = val_main_v42 (F := Ideal) (A0 m c) (A1 m c) (A2 m c) (A3 m c) (A4 m c) (ix2 (row t r) k) := by
  by_cases g : t.val % 8 = 0
  · rw [outsAt0_A m c t g]
    frame_out
    simp only [part_z, part_0, part_t, part_b, part_c, part_h, part_i]
    refine cp_of m c t _ _ _ _ (first m c t g _ _ ?_) (first m c t g _ _ ?_) (first m c t g _ _ ?_) (first m c t g _ _ ?_) r k <;> intro s k hk
    · exact (Cert.Kernel2Ideal.Attn.cols_not (φ := .f32) _ _ _ s k (Or.inr (by omega))).trans ((Cert.Kernel2Ideal.Attn.cols_not (φ := .f32) _ _ _ s k (Or.inr (by omega))).trans
        ((Cert.Kernel2Ideal.Attn.cols_not (φ := .f32) _ _ _ s k (Or.inr (by omega))).trans (congrFun (View.canon_cons_unit_lit' _ _ _ (by decide)) _)))
    · exact (Cert.Kernel2Ideal.Attn.cols_not (φ := .f32) _ _ _ s k (Or.inr (by omega))).trans ((Cert.Kernel2Ideal.Attn.cols_not (φ := .f32) _ _ _ s k (Or.inr (by omega))).trans
        (congrFun (View.canon_cons_unit_lit' _ _ _ (by decide)) _))
    · exact (Cert.Kernel2Ideal.Attn.cols_not (φ := .f32) _ _ _ s k (Or.inr (by omega))).trans (congrFun (View.canon_cons_unit_lit' _ _ _ (by decide)) _)
    · exact congrFun (View.canon_cons_unit_lit' _ _ _ (by decide)) _
  · rw [outsAt0_B m c t g]
    frame_out
    simp only [part_z, part_0, part_t, part_b, part_c, part_h, part_i]
    rw [(Memref.isWhole_whole _).read_unread]
    exact cp_of m c t _ _ _ _ (later m c t g _ _) (later m c t g _ _) (later m c t g _ _) (later m c t g _ _) r k

/-! ## The results -/

theorem final5 (c : Dev nD) : (dats m 0 c).arrAt 5 (cfgs 0).N = val_main_v14 (F := Ideal) (A0 m c) (A1 m c) := by
  refine (dats m 0 c).arrAt_eq_of_covers 5 _ (by decide +kernel) fun t hf y => ?_
  blk_simp
  rw [after0_5, hn_pt]
  have hy : y = (ix2 (y 0) (y 1) : S512x1024.Idx) := eq_ix2 (n0 := 512) (n1 := 1024) y
  refine (congrArg (k0_pay4 (F := Ideal) (iblk m c 0 t) (iblk m c 1 t)) hy).trans ((nB_at m c t (y 0) (y 1)).trans ?_)
  refine congrArg (val_main_v14 (F := Ideal) (A0 m c) (A1 m c)) ?_
  funext a
  refine Fin.ext ?_
  fin_cases a <;> blk_simp [idx t]
  · show 512 * t.val + (y 0 : ℕ) = t.val * 512 + (y 0 : ℕ)
    omega
  · rfl

/-- Entry `y` of block `t` in an array of 5632 columns. -/
theorem entry (t : Fin cfg0.N) (y : S512x5632.Idx) (i : S4096x5632.Idx) (h0 : (i 0 : ℕ) = t.val * 512 + (y 0 : ℕ)) (h1 : (i 1 : ℕ) = (y 1 : ℕ)) :
    (ix2 (row t (y 0)) (y 1) : S4096x5632.Idx) = i := by
  funext a
  refine Fin.ext ?_
  fin_cases a
  · exact Eq.trans (show 512 * t.val + (y 0 : ℕ) = t.val * 512 + (y 0 : ℕ) by omega) h0.symm
  · exact h1.symm

theorem final6 (c : Dev nD) : (dats m 0 c).arrAt 6 (cfgs 0).N = val_main_v15 (F := Ideal) (A0 m c) (A1 m c) (A2 m c) := by
  refine (dats m 0 c).arrAt_eq_of_covers 6 _ (by decide +kernel) fun t hf y => ?_
  blk_simp
  rw [after0_6]
  have hy : y = (ix2 (y 0) (y 1) : S512x5632.Idx) := eq_ix2 (n0 := 512) (n1 := 5632) y
  refine (congrArg (outsAt0 m c t.val t.isLt).2.1 hy).trans ((a_pt m c t (y 0) (y 1)).trans ?_)
  refine congrArg (val_main_v15 (F := Ideal) (A0 m c) (A1 m c) (A2 m c)) (entry t y _ ?_ ?_) <;> blk_simp [idx t]

theorem final7 (c : Dev nD) : (dats m 0 c).arrAt 7 (cfgs 0).N = val_main_v42 (F := Ideal) (A0 m c) (A1 m c) (A2 m c) (A3 m c) (A4 m c) := by
  refine (dats m 0 c).arrAt_eq_of_covers 7 _ (by decide +kernel) fun t hf y => ?_
  blk_simp
  rw [after0_7]
  have hy : y = (ix2 (y 0) (y 1) : S512x5632.Idx) := eq_ix2 (n0 := 512) (n1 := 5632) y
  refine (congrArg (outsAt0 m c t.val t.isLt).2.2.1 hy).trans ((cp_pt m c t (y 0) (y 1)).trans ?_)
  refine congrArg (val_main_v42 (F := Ideal) (A0 m c) (A1 m c) (A2 m c) (A3 m c) (A4 m c)) (entry t y _ ?_ ?_) <;> blk_simp [idx t]

end Cert.Kernel12Ideal.NormConv

end
-- ==== Proof.NormQkv.lean ====
/- The norm in front of the attention with the product for queries, keys and values: a block of 1024 rows, the product
   in four parts of 384 columns. -/
module

public import proofs.«01_k».proof.Proof.NormCdf
public import proofs.«01_k».proof.Proof.Gen.Kernel13.Frame
public import proofs.«01_k».proof.Proof.Gen.Kernel13Ideal.Value
public import proofs.«01_k».proof.Proof.Gen.Reference13Ideal.Read

@[expose] public section

set_option maxRecDepth 16384

noncomputable section

open Idealize.ShloMosaic Idealize.ShloMosaic.TcCoe Idealize.SL.Sem
open Idealize.ShloMosaic.Pipeline (Dat)

namespace Cert.Kernel13Ideal.NormQkv

open Cert.Kernel13Ideal Cert.Kernel13Ideal.Gen Cert.NormFwd
open Cert.Reference13Ideal.Read

theorem v12_at (X : FVec Ideal S4096x1024 .f32) (G : FVec Ideal S1024 .f32) (r : Fin 4096) (k : Fin 1024) :
    val_main_v12 (F := Ideal) X G (ix2 r k) = hnE (fun d => X (ix2 r d)) (fun d => G (ix1 d)) k :=
  Cert.Kernel11Ideal.NormCdf.v12_at X G r k

theorem v14_at (X : FVec Ideal S4096x1024 .f32) (G : FVec Ideal S1024 .f32) (W : FVec Ideal S1024x1536 .f32) (r : Fin 4096) (k : Fin 1536) :
    val_main_v14 (F := Ideal) X G W (ix2 r k) = ∑ d : Fin 1024, hnE (fun d => X (ix2 r d)) (fun d => G (ix1 d)) d * W (ix2 d k) := by
  have h := v12_at X G r
  unfold val_main_v14
  generalize val_main_v12 (F := Ideal) X G = f at h ⊢
  pointwise [h]

/-! ## The kernel's block -/

theorem pay2_at (X : FVec Ideal S1024x1024 .f32) (G : FVec Ideal S1x1024 .f32) (r k : Fin 1024) :
    k0_pay2 (F := Ideal) X G (ix2 r k) = hnE (fun d => X (ix2 r d)) (fun d => G (ix2 0 d)) k := by
  pointwise [k0_pay2, hnE]

theorem pay1_at (N : FVec Ideal S1024x1024 .bf16) (w : FVec Ideal S1x1024x384 .bf16) (r : Fin 1024) (j : Fin 384) :
    k0_pay1 (F := Ideal) N w (ix2 r j) = ∑ d : Fin 1024, N (ix2 r d) * w (ix3 0 d j) := by
  pointwise [k0_pay1]

/-- The parts' payloads are one computation. -/
theorem part (X : FVec Ideal S1024x1024 .f32) (G : FVec Ideal S1x1024 .f32) (w : FVec Ideal S1x1024x384 .bf16) :
    k0_pay3 (F := Ideal) X G w = k0_pay1 (k0_pay2 X G) w ∧ k0_pay4 (F := Ideal) X G w = k0_pay1 (k0_pay2 X G) w
      ∧ k0_pay5 (F := Ideal) X G w = k0_pay1 (k0_pay2 X G) w :=
  ⟨rfl, rfl, rfl⟩

/-- The product of a block's normed rows, from the weight in four parts of 384 columns. -/
def zB (N : FVec Ideal S1024x1024 .bf16) (x2 : FVec Ideal S4x1024x384 .bf16) (r : Fin 1024) (k : Fin 1536) : EReal :=
  ∑ d : Fin 1024, N (ix2 r d) * x2 (ix3 ⟨k / 384, by omega⟩ d ⟨k % 384, Nat.mod_lt _ (by norm_num)⟩)

/-- Columns `o … o + 383` of a block's product. -/
theorem cols (o : ℕ) (i : Fin 4) (ho : o = 384 * i.val) (N : FVec Ideal S1024x1024 .bf16) (x2 : FVec Ideal S4x1024x384 .bf16)
    (w : FVec Ideal S1x1024x384 .bf16) (hw : ∀ d j, w (ix3 0 d j) = x2 (ix3 i d j)) (x : S1024x384.Idx) (r : Fin 1024) (k : Fin 1536)
    (hr : (r : ℕ) = (x 0 : ℕ)) (hk : (k : ℕ) = o + (x 1 : ℕ)) : k0_pay1 (F := Ideal) N w x = zB N x2 r k := by
  have hx : (x 1 : ℕ) < 384 := (x 1).isLt
  have e : r = x 0 := Fin.ext hr
  have e1 : (⟨k / 384, by omega⟩ : Fin 4) = i := Fin.ext (show (k : ℕ) / 384 = i by omega)
  have e2 : (⟨k % 384, Nat.mod_lt _ (by norm_num)⟩ : Fin 384) = x 1 := Fin.ext (show (k : ℕ) % 384 = x 1 by omega)
  unfold zB
  rw [e, e1, e2]
  refine (congrArg (k0_pay1 (F := Ideal) N w) (eq_ix2 (n0 := 1024) (n1 := 384) x)).trans ((pay1_at N w (x 0) (x 1)).trans ?_)
  exact Finset.sum_congr rfl fun d _ => congrArg (N (ix2 (x 0) d) * ·) (hw d (x 1))

variable (m : (ℓ : Loc nD τ sig) → Buf (Elt Ideal) ℓ)

abbrev A0 (c : Dev nD) : FVec Ideal S4096x1024 .f32 := m ((c : Thread nD τ).loc main_arg0)
abbrev A1 (c : Dev nD) : FVec Ideal S1024 .f32 := m ((c : Thread nD τ).loc main_arg1)
abbrev A2 (c : Dev nD) : FVec Ideal S1024x1536 .f32 := m ((c : Thread nD τ).loc main_arg2)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem row_lt (t : Fin cfg0.N) (r : Fin 1024) : 1024 * t.val + r.val < 4096 := by
  have := lt_of_lt_of_eq t.isLt (show cfg0.N = 4 from N_0)
  omega

/-- Row `r` of block `t`. -/
def row (t : Fin cfg0.N) (r : Fin 1024) : Fin 4096 := ⟨1024 * t + r, row_lt t r⟩

theorem blk0 (c : Dev nD) (t : Fin cfg0.N) (r k : Fin 1024) :
    (iblk m c 0 t : FVec Ideal S1024x1024 .f32) (ix2 r k) = A0 m c (ix2 (row t r) k) := by
  have hr := row_lt t r
  unfold row
  blk_point [iblk, V, idx t]

theorem blk1 (c : Dev nD) (t : Fin cfg0.N) (k : Fin 1024) : (iblk m c 1 t : FVec Ideal S1x1024 .f32) (ix2 0 k) = A1 m c (ix1 k) := by
  blk_point [iblk, V, idx t]

theorem blk2 (c : Dev nD) (t : Fin cfg0.N) (i : Fin 4) (k : Fin 1024) (j : Fin 384) :
    (iblk m c 2 t : FVec Ideal S4x1024x384 .bf16) (ix3 i k j) = A2 m c (ix2 k ⟨384 * i + j, by omega⟩) := by
  blk_point [iblk, V, idx t]

/-- The normed rows of block `t`. -/
def nB (c : Dev nD) (t : Fin cfg0.N) : FVec Ideal S1024x1024 .bf16 := k0_pay2 (F := Ideal) (iblk m c 0 t) (iblk m c 1 t)

theorem nB_at (c : Dev nD) (t : Fin cfg0.N) (r k : Fin 1024) : nB m c t (ix2 r k) = val_main_v13 (F := Ideal) (A0 m c) (A1 m c) (ix2 (row t r) k) := by
  rw [nB, pay2_at]
  simp only [blk0, blk1]
  exact (v12_at (A0 m c) (A1 m c) (row t r) k).symm

theorem zB_at (c : Dev nD) (t : Fin cfg0.N) (r : Fin 1024) (k : Fin 1536) :
    zB (nB m c t) (iblk m c 2 t) r k = val_main_v15 (F := Ideal) (A0 m c) (A1 m c) (A2 m c) (ix2 (row t r) k) := by
  refine Eq.trans ?_ (v14_at (A0 m c) (A1 m c) (A2 m c) (row t r) k).symm
  refine Finset.sum_congr rfl fun d _ => ?_
  rw [nB_at, blk2]
  refine Ideal.mul_congr (v12_at (A0 m c) (A1 m c) (row t r) d) (congrArg (fun q => A2 m c (ix2 d q)) (Fin.ext ?_))
  exact Nat.div_add_mod _ _

theorem out3_at (c : Dev nD) (t : Fin cfg0.N) (r k : Fin 1024) :
    out0_3 (F := Ideal) (iblk m c 0 t) (iblk m c 1 t) (iblk m c 2 t) (ix2 r k) = val_main_v13 (F := Ideal) (A0 m c) (A1 m c) (ix2 (row t r) k) := by
  rw [← nB_at]
  unfold out0_3
  rw [View.canon_cons_unit_lit' _ _ _ (by decide), View.ld_unit_lit _ _ (by decide), View.ld_unit_lit _ _ (by decide)]
  rfl

theorem out4_eq (x0 : FVec Ideal S1024x1024 .f32) (x1 : FVec Ideal S1x1024 .f32) (x2 : FVec Ideal S4x1024x384 .bf16) (r : Fin 1024) (k : Fin 1536) :
    out0_4 (F := Ideal) x0 x1 x2 (ix2 r k) = zB (k0_pay2 (F := Ideal) x0 x1) x2 r k := by
  unfold out0_4
  simp only [part]
  rw [View.ld_unit_lit _ _ (by decide), View.ld_unit_lit _ _ (by decide)]
  generalize k0_pay2 (F := Ideal) x0 x1 = N
  canon_tiles x h
  · exact cols 1152 3 rfl N x2 _ (by intro d j; pointwise) x r k h0 h1
  · exact cols 768 2 rfl N x2 _ (by intro d j; pointwise) x r k h0 h1
  · exact cols 384 1 rfl N x2 _ (by intro d j; pointwise) x r k h0 h1
  · exact cols 0 0 rfl N x2 _ (by intro d j; pointwise) x r k h0 (h1.trans (Nat.zero_add _).symm)

theorem out4_at (c : Dev nD) (t : Fin cfg0.N) (r : Fin 1024) (k : Fin 1536) :
    out0_4 (F := Ideal) (iblk m c 0 t) (iblk m c 1 t) (iblk m c 2 t) (ix2 r k) = val_main_v15 (F := Ideal) (A0 m c) (A1 m c) (A2 m c) (ix2 (row t r) k) :=
  (out4_eq (iblk m c 0 t) (iblk m c 1 t) (iblk m c 2 t) r k).trans (zB_at m c t r k)

theorem final3 (c : Dev nD) : (dats m 0 c).arrAt 3 (cfgs 0).N = val_main_v13 (F := Ideal) (A0 m c) (A1 m c) := by
  refine (dats m 0 c).arrAt_eq_of_covers 3 _ (by decide +kernel) fun t hf y => ?_
  blk_simp
  rw [after0_3]
  have hy : y = (ix2 (y 0) (y 1) : S1024x1024.Idx) := eq_ix2 (n0 := 1024) (n1 := 1024) y
  refine (congrArg (out0_3 (iblk m c 0 t) (iblk m c 1 t) (iblk m c 2 t)) hy).trans ((out3_at m c t (y 0) (y 1)).trans ?_)
  refine congrArg (val_main_v13 (F := Ideal) (A0 m c) (A1 m c)) ?_
  funext a
  refine Fin.ext ?_
  fin_cases a <;> blk_simp [idx t]
  · show 1024 * t.val + (y 0 : ℕ) = t.val * 1024 + (y 0 : ℕ)
    omega
  · rfl

/-- Entry `y` of block `t` in an array of 1536 columns. -/
theorem entry (t : Fin cfg0.N) (y : S1024x1536.Idx) (i : S4096x1536.Idx) (h0 : (i 0 : ℕ) = t.val * 1024 + (y 0 : ℕ)) (h1 : (i 1 : ℕ) = (y 1 : ℕ)) :
    (ix2 (row t (y 0)) (y 1) : S4096x1536.Idx) = i := by
  funext a
  refine Fin.ext ?_
  fin_cases a
  · exact Eq.trans (show 1024 * t.val + (y 0 : ℕ) = t.val * 1024 + (y 0 : ℕ) by omega) h0.symm
  · exact h1.symm

theorem final4 (c : Dev nD) : (dats m 0 c).arrAt 4 (cfgs 0).N = val_main_v15 (F := Ideal) (A0 m c) (A1 m c) (A2 m c) := by
  refine (dats m 0 c).arrAt_eq_of_covers 4 _ (by decide +kernel) fun t hf y => ?_
  blk_simp
  rw [after0_4]
  have hy : y = (ix2 (y 0) (y 1) : S1024x1536.Idx) := eq_ix2 (n0 := 1024) (n1 := 1536) y
  refine (congrArg (out0_4 (iblk m c 0 t) (iblk m c 1 t) (iblk m c 2 t)) hy).trans ((out4_at m c t (y 0) (y 1)).trans ?_)
  refine congrArg (val_main_v15 (F := Ideal) (A0 m c) (A1 m c) (A2 m c)) (entry t y _ ?_ ?_) <;> blk_simp [idx t]

end Cert.Kernel13Ideal.NormQkv

end
-- ==== Proof.RelExpand.lean ====
/- The bias rows from the bias table: a product of the table with the buckets' one-hot rows, and the rows read by a
   gather. -/
module

public import proofs.«01_k».proof.Proof.RelBias
public import proofs.«01_k».proof.Proof.Gen.Kernel14.Frame
public import proofs.«01_k».proof.Proof.Gen.Kernel14Ideal.Value
public import proofs.«01_k».proof.Proof.Gen.Reference14Ideal.Read
public import proofs.«01_k».proof.Pre_finite14

@[expose] public section

set_option maxRecDepth 16384

noncomputable section

open Idealize.ShloMosaic Idealize.ShloMosaic.TcCoe Idealize.SL.Sem
open Idealize.ShloMosaic.Pipeline (Dat)

namespace Cert.Reference14Ideal.RelExpand

open Cert.Reference14Ideal Cert.Reference14Ideal.Gen Cert.Reference14Ideal.Read

variable (x0 : FVec Ideal S32x16 .f32) (x1 : IVec S128x256 32) (hx : ∀ i, (x1 i).toNat < 32)

/-- The gather reads the row its index names. -/
theorem take_at (w : IVec S128x256x1 32) (p : Fin 128) (q : Fin 256) (h : Fin 16) (hw : (w (ix3 p q 0)).toNat < 32) :
    Host.gather gather_S32x16_S128x256x1_S128x256x16_2_0_n_n_0_2_116 x0 w (ix3 p q h) = x0 (ix2 ⟨(w (ix3 p q 0)).toNat, hw⟩ h) := by
  have hi : (w (ix3 p q 0)).toInt.toNat = (w (ix3 p q 0)).toNat := by
    rw [BitVec.toInt_eq_toNat_of_lt (by omega)]
    rfl
  unfold Host.gather
  congr 1
  funext a
  refine Fin.ext ?_
  show gather_S32x16_S128x256x1_S128x256x16_2_0_n_n_0_2_116.start (ix3 p q h) w a
    + gather_S32x16_S128x256x1_S128x256x16_2_0_n_n_0_2_116.batchCoord (ix3 p q h) a
    + gather_S32x16_S128x256x1_S128x256x16_2_0_n_n_0_2_116.offCoord (ix3 p q h) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (by decide)]
    unfold GatherDims.start
    rw [dif_pos (by decide)]
    have hs : gather_S32x16_S128x256x1_S128x256x16_2_0_n_n_0_2_116.siIdx (ix3 p q h) ⟨0, by decide⟩ = ix3 p q 0 := by
      funext b; fin_cases b <;> rfl
    refine (congrArg (fun i => min (w i).toInt.toNat 31) hs).trans ?_
    show min (w (ix3 p q 0)).toInt.toNat 31 = (w (ix3 p q 0)).toNat
    omega
  · unfold GatherDims.start GatherDims.offCoord
    rw [dif_neg (by decide), dif_pos (by decide)]
    exact Nat.zero_add _

include hx in
theorem v5_at (p : Fin 128) (q : Fin 256) : val_main_v5 (F := Ideal) x1 (ix3 p q 0) = x1 (ix2 p q) :=
  Cert.Reference6Ideal.RelBias.v5_at x1 (fun i => (hx i).trans (by norm_num)) p q

theorem v8_at (h : Fin 16) (p : Fin 128) (q : Fin 256) :
    val_main_v8 (F := Ideal) x0 x1 (ix2 h ⟨p * 256 + q, by omega⟩) = x0 (ix2 ⟨(x1 (ix2 p q)).toNat, hx _⟩ h) := by
  have e : idx_main_v7 (idx_main_v8 (ix2 h ⟨p * 256 + q, by omega⟩)) = ix3 p q h := by
    funext a
    refine Fin.ext ?_
    have := h.isLt; have := p.isLt; have := q.isLt
    fin_cases a
    · show ((h : ℕ) * 32768 + (p * 256 + q)) / 256 % 128 = p
      omega
    · show ((h : ℕ) * 32768 + (p * 256 + q)) % 256 = q
      omega
    · show ((h : ℕ) * 32768 + (p * 256 + q)) / 32768 = h
      omega
  have e5 := v5_at x1 hx p q
  rw [val_main_v8_apply, val_main_v7_apply, e]
  unfold val_main_v6
  generalize val_main_v5 (F := Ideal) x1 = w at e5 ⊢
  rw [take_at x0 w p q h (by rw [e5]; exact hx _)]
  exact congrArg (fun b => x0 (ix2 b h)) (Fin.ext (congrArg BitVec.toNat e5))

end Cert.Reference14Ideal.RelExpand

namespace Cert.Kernel14Ideal.RelExpand

open Cert.Kernel14Ideal Cert.Kernel14Ideal.Gen
open Cert.Kernel6Ideal.RelBias (hot_at)

theorem pay1_at (w : IVec S1x32768 32) (x : FVec Ideal S32x16 .f32) (y : S32x16.Idx → ℝ) (hx : x = fun i => ((y i : ℝ) : EReal))
    (h : Fin 16) (n : Fin 32768) (hw : (w (ix2 0 n)).toNat < 32) :
    k0_pay1 (F := Ideal) w x (ix2 h n) = x (ix2 ⟨(w (ix2 0 n)).toNat, hw⟩ h) := by
  have z : ∀ i, x i - x i = 0 := fun i => by rw [hx, ← EReal.coe_sub, sub_self, EReal.coe_zero]
  have c (b : Fin 32) : w (ix2 0 n) = BitVec.ofNat 32 b ↔ b = ⟨(w (ix2 0 n)).toNat, hw⟩ := by
    constructor
    · intro e
      refine Fin.ext ?_
      show (b : ℕ) = (w (ix2 0 n)).toNat
      rw [e, BitVec.toNat_ofNat]
      omega
    · intro e
      refine BitVec.eq_of_toNat_eq ?_
      rw [BitVec.toNat_ofNat, e]
      show (w (ix2 0 n)).toNat = (w (ix2 0 n)).toNat % 2 ^ 32
      omega
  pointwise [k0_pay1]
  simp only [z, zero_mul, Finset.sum_const_zero, add_zero, hot_at, c, mul_ite, mul_one, mul_zero, Finset.sum_ite_eq', Finset.sum_ite_eq,
    Finset.mem_univ, if_true]

variable (m : (ℓ : Loc nD τ sig) → Buf (Elt Ideal) ℓ)

abbrev A0 (c : Dev nD) : FVec Ideal S32x16 .f32 := m ((c : Thread nD τ).loc main_arg0)
abbrev A1 (c : Dev nD) : IVec S128x256 32 := m ((c : Thread nD τ).loc main_arg1)

theorem idx : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) : (iblk m c 0 t : FVec Ideal S32x16 .f32) = A0 m c := by
  funext y
  blk_simp [iblk]
  entry_read
  blk_ext [idx t]

theorem blk1 (c : Dev nD) (t : Fin cfg0.N) (p : Fin 128) (q : Fin 256) :
    (iblk m c 1 t : IVec S1x32768 32) (ix2 0 ⟨p * 256 + q, by omega⟩) = A1 m c (ix2 p q) := by
  blk_simp [iblk]
  entry_read
  pointwise
  blk_ext [idx t]

theorem out_at (a0 : FVec Ideal S32x16 .f32) (a1 : IVec S128x256 32) (h0 : ∃ r : S32x16.Idx → ℝ, a0 = fun i => ((r i : ℝ) : EReal))
    (h1 : ∀ i, (a1 i).toNat < 32) (x0 : FVec Ideal S32x16 .f32) (x1 : IVec S1x32768 32) (b0 : x0 = a0)
    (b1 : ∀ (p : Fin 128) (q : Fin 256), x1 (ix2 0 ⟨p * 256 + q, by omega⟩) = a1 (ix2 p q)) (h : Fin 16) (n : Fin 32768) :
    (out0_2 (F := Ideal) x0 x1 (ix2 h n) : EReal) = Cert.Reference14Ideal.Read.val_main_v8 (F := Ideal) a0 a1 (ix2 h n) := by
  obtain ⟨r, hr⟩ := h0
  subst b0
  have o : out0_2 (F := Ideal) x0 x1 (ix2 h n) = k0_pay1 (F := Ideal) x1 x0 (ix2 h n) := by
    unfold out0_2
    rw [View.ld_unit_zero (by funext a; fin_cases a <;> rfl), View.ld_unit_zero (by funext a; fin_cases a <;> rfl)]
    exact congrFun (View.canon_unit_zero (by funext a; fin_cases a <;> rfl) _ _) _
  have en : n = ⟨n / 256 * 256 + n % 256, by omega⟩ := Fin.ext (by show (n : ℕ) = (n : ℕ) / 256 * 256 + (n : ℕ) % 256; omega)
  have e1 : x1 (ix2 0 n) = a1 (ix2 ⟨n / 256, by omega⟩ ⟨n % 256, by omega⟩) :=
    (congrArg (fun k => x1 (ix2 0 k)) en).trans (b1 ⟨n / 256, by omega⟩ ⟨n % 256, by omega⟩)
  rw [o, pay1_at x1 x0 r hr h n (by rw [e1]; exact h1 _)]
  refine Eq.trans ?_ ((Cert.Reference14Ideal.RelExpand.v8_at x0 a1 h1 h ⟨n / 256, by omega⟩ ⟨n % 256, by omega⟩).symm.trans
    (congrArg (fun k => Cert.Reference14Ideal.Read.val_main_v8 (F := Ideal) x0 a1 (ix2 h k)) en.symm))
  exact congrArg (fun b => x0 (ix2 b h)) (Fin.ext (congrArg BitVec.toNat e1))

theorem final2 (c : Dev nD) (h0 : ∃ r : S32x16.Idx → ℝ, A0 m c = fun i => ((r i : ℝ) : EReal)) (h1 : ∀ i, (A1 m c i).toNat < 32) :
    (dats m 0 c).arrAt 2 (cfgs 0).N = Cert.Reference14Ideal.Read.val_main_v8 (F := Ideal) (A0 m c) (A1 m c) := by
  refine (dats m 0 c).arrAt_eq_of_covers 2 _ (by decide +kernel) fun t hf y => ?_
  blk_simp
  rw [after0_2]
  have hy : y = (ix2 (y 0) (y 1) : S16x32768.Idx) := eq_ix2 (n0 := 16) (n1 := 32768) y
  have e := out_at (A0 m c) (A1 m c) h0 h1 (iblk m c 0 t) (iblk m c 1 t) (blk0 m c t) (blk1 m c t) (y 0) (y 1)
  refine (congrArg (out0_2 (iblk m c 0 t) (iblk m c 1 t)) hy).trans (e.trans ?_)
  refine congrArg (Cert.Reference14Ideal.Read.val_main_v8 (F := Ideal) (A0 m c) (A1 m c)) ?_
  refine hy.symm.trans ?_
  funext a
  refine Fin.ext ?_
  fin_cases a <;> blk_simp [idx t]

end Cert.Kernel14Ideal.RelExpand

namespace Cert.RelBias

/-- The precondition's words: a real table, buckets that name one of its rows. -/
theorem real_table [Cert.Pre_finite14.Facts] (x0 : FVec Ideal Cert.Pre_finite14.S32x16 .f32) (x1 : IVec Cert.Pre_finite14.S128x256 32)
    (h : (Cert.Pre_finite14.fn (F := Ideal) x0 x1).1 = (fun _ => 1#1) ∧ (Cert.Pre_finite14.fn (F := Ideal) x0 x1).2.1 = (fun _ => 1#1)
      ∧ (Cert.Pre_finite14.fn (F := Ideal) x0 x1).2.2 = (fun _ => 1#1)) :
    (∃ r : Cert.Pre_finite14.S32x16.Idx → ℝ, x0 = fun i => ((r i : ℝ) : EReal)) ∧ ∀ i, (x1 i).toNat < 32 := by
  refine ⟨Cert.Reals.reals x0 Cert.Pre_finite14.Facts.bcast_S_S32x16 h.1, fun i => ?_⟩
  have e : IntOp.cmpi .sge (x1 i) 0#32 = 1#1 := congrFun h.2.1 i
  have f : IntOp.cmpi .slt (x1 i) 32#32 = 1#1 := congrFun h.2.2 i
  rw [WordCmp.cmpi_sge_eq] at e
  rw [WordCmp.cmpi_slt_eq] at f
  generalize x1 i = w at e f ⊢
  have d0 : (0 : ℤ) ≤ w.toInt := by
    by_contra hn
    rw [show decide ((0#32).toInt ≤ w.toInt) = false from decide_eq_false hn] at e
    exact absurd e (by decide)
  have d1 : w.toInt < 32 := by
    by_contra hn
    rw [show decide (w.toInt < (32#32).toInt) = false from decide_eq_false hn] at f
    exact absurd f (by decide)
  rw [BitVec.toInt_eq_toNat_cond] at d0 d1
  have := w.isLt
  split at d0 <;> omega

end Cert.RelBias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.FfnDcRef
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.AttnArr
public import proofs.«01_k».proof.Proof.AttnFin
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Frame
public import proofs.«01_k».proof.Proof.NormIn
public import proofs.«01_k».proof.Proof.ConvIn
public import proofs.«01_k».proof.Proof.LossHead
public import proofs.«01_k».proof.Proof.RelBias
public import proofs.«01_k».proof.Proof.AttnSink
public import proofs.«01_k».proof.Proof.Sgu
public import proofs.«01_k».proof.Proof.SguIn
public import proofs.«01_k».proof.Proof.Gen.Kernel9.Frame
public import proofs.«01_k».proof.Proof.GatedFwd
public import proofs.«01_k».proof.Proof.NormCdf
public import proofs.«01_k».proof.Proof.NormConv
public import proofs.«01_k».proof.Proof.NormQkv
public import proofs.«01_k».proof.Proof.RelExpand
public import proofs.«01_k».proof.Proof.Gen.Kernel13.Frame
public import proofs.«01_k».proof.Proof.Gen.Kernel14.Frame
public import proofs.«01_k».proof.Proof.Gen.Kernel10.Frame
public import proofs.«01_k».proof.Proof.Gen.Kernel11.Frame
public import proofs.«01_k».proof.Proof.Gen.Kernel12.Frame
public import proofs.«01_k».proof.Proof.Gen.Reference3Ideal.Read
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem facts_finite : Cert.Pre_finite.Facts where
  bcast_S_S4096x5632 := by decide
  bcast_S_S5632 := by decide
  bcast_S_S2816x1024 := by decide
  bcast_S_S4096x1024 := by decide

theorem frame_reference : Cert.quiescent_ReferenceIdeal := by
  intro m g _
  exact (θ_run Cert.ReferenceIdeal.defs _ _).mono
    (fun r h => ⟨fun c => (h c).2.2, sem_eq_zero_of_no_sems (by decide) _⟩) (Cert.ReferenceIdeal.Value.run m g)

theorem algebraic : Cert.algebraic_KernelIdeal_ReferenceIdeal_pre_finite (hPre_finite := facts_finite) := by
  intro m g m' g' hpre hargs
  refine ⟨fun c => fun i => Cert.KernelIdeal.FfnDc.dcM m c (i 0) (i 1),
    fun c => fun i => (∑ r : Fin 4096, Cert.KernelIdeal.FfnDc.dcM m c r (i 1) : EReal), ?_, ?_⟩
  · refine (θ_run Cert.KernelIdeal.defs _ _).mono (fun r h c => ?_) (Cert.KernelIdeal.Value.run_blocks m g)
    obtain ⟨h0, h1, h2⟩ := h c
    exact ⟨h0.trans (Cert.KernelIdeal.FfnDc.final3 m c), h1.trans (Cert.KernelIdeal.FfnDc.final4 m c), h2⟩
  · refine (θ_run Cert.ReferenceIdeal.defs _ _).mono (fun r h c => ?_) (Cert.ReferenceIdeal.Value.run m' g')
    obtain ⟨h0, h1, h2⟩ := h c
    obtain ⟨a0, a1, a2, a3⟩ := hargs c
    letI := facts_finite
    have hv := Cert.ReferenceIdeal.FfnDc.value _ _ _ _ (hpre c)
    refine ⟨h0.trans ?_, h1.trans ?_, h2⟩
    · refine (Cert.ReferenceIdeal.Read.val_main_v18_eq _ _ _ _).trans ?_
      rw [a0, a1, a2, a3]
      exact hv.1
    · refine (Cert.ReferenceIdeal.Read.val_main_v19_eq _ _).trans ?_
      rw [a0, a1, a2, a3]
      exact hv.2

theorem frame_reference2 : Cert.quiescent_Reference2Ideal := by
  intro m g _
  exact (θ_run Cert.Reference2Ideal.defs _ _).mono
    (fun r h => ⟨fun c => (h c).2.2.2.2.2, sem_eq_zero_of_no_sems (by decide) _⟩) (Cert.Reference2Ideal.Value.run m g)

theorem facts_finite2 : Cert.Pre_finite2.Facts where
  bcast_S_S4096x1536 := by decide
  bcast_S_S64 := by decide
  bcast_S_S16 := by decide
  bcast_S_S4x4x128x256 := by decide
  bcast_S_S4096x1024 := by decide

open Cert.Reference2Ideal.Read Cert.Kernel2Ideal.Attn in
theorem algebraic2 : Cert.algebraic_Kernel2Ideal_Reference2Ideal_pre_finite2 (hPre_finite2 := facts_finite2) := by
  intro m g m' g' hpre hargs
  letI := facts_finite2
  refine ⟨fun c => val_main_v239 (F := Ideal) (A0 m c) (A1 m c) (A2 m c) (A3 m c) (A4 m c) (A5 m c),
    fun c => val_main_v240 (F := Ideal) (A0 m c) (A1 m c) (A2 m c) (A3 m c) (A4 m c) (A5 m c),
    fun c => val_main_v242 (F := Ideal) (A0 m c) (A1 m c) (A2 m c) (A3 m c) (A4 m c) (A5 m c),
    fun c => val_main_v244 (F := Ideal) (A0 m c) (A1 m c) (A2 m c) (A3 m c) (A4 m c) (A5 m c),
    fun c => val_main_v238 (F := Ideal) (A0 m c) (A1 m c) (A2 m c) (A3 m c) (A4 m c) (A5 m c), ?_, ?_⟩
  · refine (θ_run Cert.Kernel2Ideal.defs _ _).mono (fun r h c => ?_) (Cert.Kernel2Ideal.Value.run_blocks m g)
    obtain ⟨h0, h1, h2, h3, h4, h5⟩ := h c
    obtain ⟨q, qg, kg, xd, p, es, W, S⟩ := Cert.AttnRef.real_args _ _ _ _ _ _ (hpre c)
    exact ⟨h0.trans (final7 m c W S), h1.trans (final8 m c W S), h2.trans (final9 m c W S), h3.trans (final10 m c W S), h4.trans (final11 m c W S), h5⟩
  · refine (θ_run Cert.Reference2Ideal.defs _ _).mono (fun r h c => ?_) (Cert.Reference2Ideal.Value.run m' g')
    obtain ⟨h0, h1, h2, h3, h4, h5⟩ := h c
    obtain ⟨a0, a1, a2, a3, a4, a5⟩ := hargs c
    refine ⟨h0.trans ((val_main_v239_eq _).trans ?_), h1.trans ((val_main_v240_eq _).trans ?_), h2.trans ((val_main_v242_eq _).trans ?_),
      h3.trans ((val_main_v244_eq _).trans ?_), h4.trans ((val_main_v238_eq _).trans ?_), h5⟩
    all_goals exact congr (congr (congr (congr (congr (congrArg _ a0) a1) a2) a3) a4) a5

theorem frame_reference3 : Cert.quiescent_Reference3Ideal := by
  intro m g _
  exact (θ_run Cert.Reference3Ideal.defs _ _).mono
    (fun r h => ⟨fun c => (h c).2.2, sem_eq_zero_of_no_sems (by decide) _⟩) (Cert.Reference3Ideal.Value.run m g)

theorem facts_finite3 : Cert.Pre_finite3.Facts where
  bcast_S_S4096x1024 := by decide
  bcast_S_S1024 := by decide
  bcast_S_S1024x1536 := by decide
  bcast_S_S4096x1536 := by decide

open Cert.Reference3Ideal.Read Cert.Kernel3Ideal.NormIn in
theorem algebraic3 : Cert.algebraic_Kernel3Ideal_Reference3Ideal_pre_finite3 (hPre_finite3 := facts_finite3) := by
  intro m g m' g' hpre hargs
  letI := facts_finite3
  refine ⟨fun c => val_main_v38 (F := Ideal) (A0 m c) (A1 m c) (A2 m c) (A3 m c) (A4 m c),
    fun c => val_main_v39 (F := Ideal) (A0 m c) (A2 m c) (A3 m c), ?_, ?_⟩
  · refine (θ_run Cert.Kernel3Ideal.defs _ _).mono (fun r h c => ?_) (Cert.Kernel3Ideal.Value.run_blocks m g)
    obtain ⟨h0, h1, h2⟩ := h c
    obtain ⟨x, g, w, q, W⟩ := Cert.NormIn.real_args _ _ _ _ _ (hpre c)
    exact ⟨h0.trans (final5 W), h1.trans (final6 W), h2⟩
  · refine (θ_run Cert.Reference3Ideal.defs _ _).mono (fun r h c => ?_) (Cert.Reference3Ideal.Value.run m' g')
    obtain ⟨h0, h1, h2⟩ := h c
    obtain ⟨a0, a1, a2, a3, a4⟩ := hargs c
    refine ⟨h0.trans ((val_main_v38_eq _ _).trans ?_), h1.trans ((val_main_v39_eq _ _ _).trans ?_), h2⟩
    · exact congr (congr (congr (congr (congrArg _ a0) a1) a2) a3) a4
    · exact congr (congr (congrArg _ a0) a2) a3

theorem frame_reference4 : Cert.quiescent_Reference4Ideal := by
  intro m g _
  exact (θ_run Cert.Reference4Ideal.defs _ _).mono
    (fun r h => ⟨fun c => (h c).2.2.2.2, sem_eq_zero_of_no_sems (by decide) _⟩) (Cert.Reference4Ideal.Value.run m g)

theorem facts_finite4 : Cert.Pre_finite4.Facts where
  bcast_S_S4096x1024 := by decide
  bcast_S_S1024 := by decide
  bcast_S_S1024x5632 := by decide
  bcast_S_S3x5632 := by decide
  bcast_S_S4096x5632 := by decide

open Cert.Reference4Ideal.Read Cert.Kernel4Ideal.ConvIn in
theorem algebraic4 : Cert.algebraic_Kernel4Ideal_Reference4Ideal_pre_finite4 (hPre_finite4 := facts_finite4) := by
  intro m g m' g' hpre hargs
  letI := facts_finite4
  refine ⟨fun c => val_main_v99 (F := Ideal) (A0 m c) (A1 m c) (A2 m c) (A3 m c) (A4 m c) (A5 m c),
    fun c => val_main_v100 (F := Ideal) (A0 m c) (A2 m c) (A3 m c) (A4 m c), fun c => val_main_v101 (F := Ideal) (A3 m c) (A4 m c),
    fun c => val_main_v77 (F := Ideal) (A0 m c) (A1 m c) (A2 m c) (A4 m c), ?_, ?_⟩
  · refine (θ_run Cert.Kernel4Ideal.defs _ _).mono (fun r h c => ?_) (run g)
    obtain ⟨⟨h0, h1, h2, h3⟩, h4⟩ := h c
    obtain ⟨x, g, w, u, q, W⟩ := Cert.ConvIn.real_args _ _ _ _ _ _ (hpre c)
    exact ⟨h0.trans (final8 W), h1.trans (final9 W), h2.trans (final10 W), h3.trans (final11 W), h4⟩
  · refine (θ_run Cert.Reference4Ideal.defs _ _).mono (fun r h c => ?_) (Cert.Reference4Ideal.Value.run m' g')
    obtain ⟨h0, h1, h2, h3, h4⟩ := h c
    obtain ⟨a0, a1, a2, a3, a4, a5⟩ := hargs c
    refine ⟨h0.trans ((val_main_v99_eq _ _).trans ?_), h1.trans ((val_main_v100_eq _ _ _ _).trans ?_), h2.trans ((val_main_v101_eq _ _).trans ?_),
      h3.trans ((val_main_v77_eq _ _).trans ?_), h4⟩
    · exact congr (congr (congr (congr (congr (congrArg _ a0) a1) a2) a3) a4) a5
    · exact congr (congr (congr (congrArg _ a0) a2) a3) a4
    · exact congr (congrArg _ a3) a4
    · exact congr (congr (congr (congrArg _ a0) a1) a2) a4

theorem frame_reference5 : Cert.quiescent_Reference5Ideal := by
  intro m g _
  exact (θ_run Cert.Reference5Ideal.defs _ _).mono
    (fun r h => ⟨fun c => (h c).2.2.2, sem_eq_zero_of_no_sems (by decide) _⟩) (Cert.Reference5Ideal.Value.run m g)

open Cert.Reference5Ideal.Read Cert.Kernel5Ideal.LossHead in
theorem algebraic5 : Cert.algebraic_Kernel5Ideal_Reference5Ideal := by
  intro m g m' g' _ hargs
  refine ⟨fun c => val_main_v18 (F := Ideal) (A0 m c) (A1 m c), fun c => val_main_v24 (F := Ideal) (A0 m c) (A1 m c) (A2 m c) (A3 m c) (A4 m c),
    fun c => val_main_v25 (F := Ideal) (A0 m c) (A1 m c) (A2 m c) (A3 m c) (A4 m c), ?_, ?_⟩
  · refine (θ_run Cert.Kernel5Ideal.defs _ _).mono (fun r h c => ?_) (Cert.Kernel5Ideal.Value.run_blocks m g)
    obtain ⟨h0, h1, h2, h3⟩ := h c
    exact ⟨h0.trans (final4 m c), h1.trans (final5 m c), h2.trans (final6 m c), h3⟩
  · refine (θ_run Cert.Reference5Ideal.defs _ _).mono (fun r h c => ?_) (Cert.Reference5Ideal.Value.run m' g')
    obtain ⟨h0, h1, h2, h3⟩ := h c
    obtain ⟨a0, a1, a2, a3, a4⟩ := hargs c
    refine ⟨h0.trans ((val_main_v18_eq _ _).trans ?_), h1.trans ((val_main_v24_eq _ _ _ _ _).trans ?_),
      h2.trans ((val_main_v25_eq _ _ _ _ _).trans ?_), h3⟩
    · exact congr (congrArg _ a0) a1
    · exact congr (congr (congr (congr (congrArg _ a0) a1) a2) a3) a4
    · exact congr (congr (congr (congr (congrArg _ a0) a1) a2) a3) a4

theorem frame_reference6 : Cert.quiescent_Reference6Ideal := by
  intro m g _
  exact (θ_run Cert.Reference6Ideal.defs _ _).mono
    (fun r h => ⟨fun c => (h c).2, sem_eq_zero_of_no_sems (by decide) _⟩) (Cert.Reference6Ideal.Value.run m g)

theorem facts_finite6 : Cert.Pre_finite6.Facts where
  bcast_S_S16x128x256 := by decide
  bcast_S_S128x256 := by decide

open Cert.Reference6Ideal.Read Cert.Kernel6Ideal.RelBias in
theorem algebraic6 : Cert.algebraic_Kernel6Ideal_Reference6Ideal_pre_finite6 (hPre_finite6 := facts_finite6) := by
  intro m g m' g' hpre hargs
  letI := facts_finite6
  refine ⟨fun c => val_main_v10 (F := Ideal) (A1 m c) (A2 m c), ?_, ?_⟩
  · refine (θ_run Cert.Kernel6Ideal.defs _ _).mono (fun r h c => ?_) (Cert.Kernel6Ideal.Value.run_blocks m g)
    obtain ⟨h0, h1⟩ := h c
    obtain ⟨W1, W2⟩ := Cert.RelBias.real_args _ _ _ (hpre c)
    exact ⟨h0.trans (final2 m c W1 W2), h1⟩
  · refine (θ_run Cert.Reference6Ideal.defs _ _).mono (fun r h c => ?_) (Cert.Reference6Ideal.Value.run m' g')
    obtain ⟨h0, h1⟩ := h c
    obtain ⟨a0, a1, a2⟩ := hargs c
    refine ⟨h0.trans ((val_main_v10_eq _ _).trans ?_), h1⟩
    exact congr (congrArg _ a1) a2

theorem frame_reference7 : Cert.quiescent_Reference7Ideal := by
  intro m g _
  exact (θ_run Cert.Reference7Ideal.defs _ _).mono
    (fun r h => ⟨fun c => (h c).2.2.2, sem_eq_zero_of_no_sems (by decide) _⟩) (Cert.Reference7Ideal.Value.run m g)

theorem facts_finite7 : Cert.Pre_finite7.Facts where
  bcast_S_S4096x1536 := by decide
  bcast_S_S64 := by decide
  bcast_S_S16 := by decide
  bcast_S_S4x4x128x256 := by decide

open Cert.Reference7Ideal.Read Cert.Kernel7Ideal.Attn in
theorem algebraic7 : Cert.algebraic_Kernel7Ideal_Reference7Ideal_pre_finite7 (hPre_finite7 := facts_finite7) := by
  intro m g m' g' hpre hargs
  letI := facts_finite7
  refine ⟨fun c => val_main_v90 (F := Ideal) (A0 m c) (A1 m c) (A2 m c) (A3 m c) (A4 m c),
    fun c => val_main_v95 (F := Ideal) (A0 m c) (A1 m c) (A2 m c) (A3 m c) (A4 m c),
    fun c => val_main_v97 (F := Ideal) (A0 m c) (A1 m c) (A2 m c) (A3 m c) (A4 m c), ?_, ?_⟩
  · refine (θ_run Cert.Kernel7Ideal.defs _ _).mono (fun r h c => ?_) (Cert.Kernel7Ideal.Value.run_blocks m g)
    obtain ⟨h0, h1, h2, h3⟩ := h c
    obtain ⟨q, qg, kg, xd, p, es, W, S⟩ := Cert.AttnFwdRef.real_args _ _ _ _ _ (hpre c)
    exact ⟨h0.trans (final6 m c W S), h1.trans (final7 m c W S), h2.trans (final8 m c W S), h3⟩
  · refine (θ_run Cert.Reference7Ideal.defs _ _).mono (fun r h c => ?_) (Cert.Reference7Ideal.Value.run m' g')
    obtain ⟨h0, h1, h2, h3⟩ := h c
    obtain ⟨a0, a1, a2, a3, a4⟩ := hargs c
    refine ⟨h0.trans ((val_main_v90_eq _ _).trans ?_), h1.trans ((val_main_v95_eq _ _).trans ?_), h2.trans ((val_main_v97_eq _ _).trans ?_), h3⟩
    · rw [a0, a1, a2, a3, a4]
    · rw [a0, a1, a2, a3, a4]
    · rw [a0, a1, a2, a3, a4]

theorem frame_reference8 : Cert.quiescent_Reference8Ideal := by
  intro m g _
  exact (θ_run Cert.Reference8Ideal.defs _ _).mono
    (fun r h => ⟨fun c => (h c).2.2, sem_eq_zero_of_no_sems (by decide) _⟩) (Cert.Reference8Ideal.Value.run m g)

open Cert.Reference8Ideal.Read Cert.Kernel8Ideal.Sgu in
theorem algebraic8 : Cert.algebraic_Kernel8Ideal_Reference8Ideal := by
  intro m g m' g' _ hargs
  refine ⟨fun c => val_main_v33 (F := Ideal) (A0 m c) (A1 m c) (A2 m c) (A3 m c),
    fun c => val_main_v35 (F := Ideal) (A0 m c) (A1 m c) (A2 m c) (A3 m c) (A4 m c) (A5 m c), ?_, ?_⟩
  · refine (θ_run Cert.Kernel8Ideal.defs _ _).mono (fun r h c => ?_) (Cert.Kernel8Ideal.Value.run_blocks m g)
    obtain ⟨h0, h1, h2⟩ := h c
    exact ⟨h0.trans (final7 m c), h1.trans (final8 m c), h2⟩
  · refine (θ_run Cert.Reference8Ideal.defs _ _).mono (fun r h c => ?_) (Cert.Reference8Ideal.Value.run m' g')
    obtain ⟨h0, h1, h2⟩ := h c
    obtain ⟨a0, a1, a2, a3, a4, a5⟩ := hargs c
    refine ⟨h0.trans ((val_main_v33_eq _ _ _ _).trans ?_), h1.trans ((val_main_v35_eq _ _ _ _ _ _).trans ?_), h2⟩
    · rw [a0, a1, a2, a3]
    · rw [a0, a1, a2, a3, a4, a5]

theorem frame_reference9 : Cert.quiescent_Reference9Ideal := by
  intro m g _
  exact (θ_run Cert.Reference9Ideal.defs _ _).mono
    (fun r h => ⟨fun c => (h c).2.2, sem_eq_zero_of_no_sems (by decide) _⟩) (Cert.Reference9Ideal.Value.run m g)

theorem facts_finite9 : Cert.Pre_finite9.Facts where
  bcast_S_S4096x1024 := by decide
  bcast_S_S1024 := by decide
  bcast_S_S1024x4096 := by decide
  bcast_S_S4096x4096 := by decide

open Cert.Reference9Ideal.Read Cert.Kernel9Ideal.SguIn in
theorem algebraic9 : Cert.algebraic_Kernel9Ideal_Reference9Ideal_pre_finite9 (hPre_finite9 := facts_finite9) := by
  intro m g m' g' hpre hargs
  letI := facts_finite9
  refine ⟨fun c => val_main_v38 (F := Ideal) (A0 m c) (A1 m c) (A2 m c) (A3 m c) (A4 m c),
    fun c => val_main_v39 (F := Ideal) (A0 m c) (A2 m c) (A3 m c), ?_, ?_⟩
  · refine (θ_run Cert.Kernel9Ideal.defs _ _).mono (fun r h c => ?_) (Cert.Kernel9Ideal.Value.run_blocks m g)
    obtain ⟨h0, h1, h2⟩ := h c
    obtain ⟨x, g, w, q, W⟩ := Cert.SguIn.real_args _ _ _ _ _ (hpre c)
    exact ⟨h0.trans (final5 W), h1.trans (final6 W), h2⟩
  · refine (θ_run Cert.Reference9Ideal.defs _ _).mono (fun r h c => ?_) (Cert.Reference9Ideal.Value.run m' g')
    obtain ⟨h0, h1, h2⟩ := h c
    obtain ⟨a0, a1, a2, a3, a4⟩ := hargs c
    refine ⟨h0.trans ((val_main_v38_eq _ _).trans ?_), h1.trans ((val_main_v39_eq _ _ _).trans ?_), h2⟩
    · exact congr (congr (congr (congr (congrArg _ a0) a1) a2) a3) a4
    · exact congr (congr (congrArg _ a0) a2) a3

theorem frame_reference10 : Cert.quiescent_Reference10Ideal := by
  intro m g _
  exact (θ_run Cert.Reference10Ideal.defs _ _).mono
    (fun r h => ⟨fun c => (h c).2.2, sem_eq_zero_of_no_sems (by decide) _⟩) (Cert.Reference10Ideal.Value.run m g)

open Cert.Reference10Ideal.Read Cert.Kernel10Ideal.GatedFwd in
theorem algebraic10 : Cert.algebraic_Kernel10Ideal_Reference10Ideal := by
  intro m g m' g' _ hargs
  refine ⟨fun c => val_main_v7 (F := Ideal) (A0 m c) (A1 m c),
    fun c => val_main_v9 (F := Ideal) (A0 m c) (A1 m c) (A2 m c) (A3 m c), ?_, ?_⟩
  · refine (θ_run Cert.Kernel10Ideal.defs _ _).mono (fun r h c => ?_) (Cert.Kernel10Ideal.Value.run_blocks m g)
    obtain ⟨h0, h1, h2⟩ := h c
    exact ⟨h0.trans (final3 m c), h1.trans (final4 m c), h2⟩
  · refine (θ_run Cert.Reference10Ideal.defs _ _).mono (fun r h c => ?_) (Cert.Reference10Ideal.Value.run m' g')
    obtain ⟨h0, h1, h2⟩ := h c
    obtain ⟨a0, a1, a2, a3⟩ := hargs c
    refine ⟨h0.trans ((val_main_v7_eq _ _).trans ?_), h1.trans ((val_main_v9_eq _ _ _ _).trans ?_), h2⟩
    · rw [a0, a1]
    · rw [a0, a1, a2, a3]

theorem frame_reference11 : Cert.quiescent_Reference11Ideal := by
  intro m g _
  exact (θ_run Cert.Reference11Ideal.defs _ _).mono
    (fun r h => ⟨fun c => (h c).2.2.2, sem_eq_zero_of_no_sems (by decide) _⟩) (Cert.Reference11Ideal.Value.run m g)

open Cert.Reference11Ideal.Read Cert.Kernel11Ideal.NormCdf in
theorem algebraic11 : Cert.algebraic_Kernel11Ideal_Reference11Ideal := by
  intro m g m' g' _ hargs
  refine ⟨fun c => val_main_v14 (F := Ideal) (A0 m c) (A1 m c), fun c => val_main_v15 (F := Ideal) (A0 m c) (A1 m c) (A2 m c),
    fun c => val_main_v22 (F := Ideal) (A0 m c) (A1 m c) (A2 m c), ?_, ?_⟩
  · refine (θ_run Cert.Kernel11Ideal.defs _ _).mono (fun r h c => ?_) (Cert.Kernel11Ideal.Value.run_blocks m g)
    obtain ⟨h0, h1, h2, h3⟩ := h c
    exact ⟨h0.trans (final3 m c), h1.trans (final4 m c), h2.trans (final5 m c), h3⟩
  · refine (θ_run Cert.Reference11Ideal.defs _ _).mono (fun r h c => ?_) (Cert.Reference11Ideal.Value.run m' g')
    obtain ⟨h0, h1, h2, h3⟩ := h c
    obtain ⟨a0, a1, a2⟩ := hargs c
    refine ⟨h0.trans ((val_main_v14_eq _ _).trans ?_), h1.trans ((val_main_v15_eq _ _ _).trans ?_), h2.trans ((val_main_v22_eq _ _ _).trans ?_), h3⟩
    · rw [a0, a1]
    · rw [a0, a1, a2]
    · rw [a0, a1, a2]

theorem frame_reference12 : Cert.quiescent_Reference12Ideal := by
  intro m g _
  exact (θ_run Cert.Reference12Ideal.defs _ _).mono
    (fun r h => ⟨fun c => (h c).2.2.2, sem_eq_zero_of_no_sems (by decide) _⟩) (Cert.Reference12Ideal.Value.run m g)

open Cert.Reference12Ideal.Read Cert.Kernel12Ideal.NormConv in
theorem algebraic12 : Cert.algebraic_Kernel12Ideal_Reference12Ideal := by
  intro m g m' g' _ hargs
  refine ⟨fun c => val_main_v14 (F := Ideal) (A0 m c) (A1 m c), fun c => val_main_v15 (F := Ideal) (A0 m c) (A1 m c) (A2 m c),
    fun c => val_main_v42 (F := Ideal) (A0 m c) (A1 m c) (A2 m c) (A3 m c) (A4 m c), ?_, ?_⟩
  · refine (θ_run Cert.Kernel12Ideal.defs _ _).mono (fun r h c => ?_) (Cert.Kernel12Ideal.Value.run_blocks m g)
    obtain ⟨h0, h1, h2, h3⟩ := h c
    exact ⟨h0.trans (final5 m c), h1.trans (final6 m c), h2.trans (final7 m c), h3⟩
  · refine (θ_run Cert.Reference12Ideal.defs _ _).mono (fun r h c => ?_) (Cert.Reference12Ideal.Value.run m' g')
    obtain ⟨h0, h1, h2, h3⟩ := h c
    obtain ⟨a0, a1, a2, a3, a4⟩ := hargs c
    refine ⟨h0.trans ((val_main_v14_eq _ _).trans ?_), h1.trans ((val_main_v15_eq _ _ _).trans ?_), h2.trans ((val_main_v42_eq _ _ _ _ _).trans ?_), h3⟩
    · rw [a0, a1]
    · rw [a0, a1, a2]
    · rw [a0, a1, a2, a3, a4]

theorem frame_reference13 : Cert.quiescent_Reference13Ideal := by
  intro m g _
  exact (θ_run Cert.Reference13Ideal.defs _ _).mono
    (fun r h => ⟨fun c => (h c).2.2, sem_eq_zero_of_no_sems (by decide) _⟩) (Cert.Reference13Ideal.Value.run m g)

open Cert.Reference13Ideal.Read Cert.Kernel13Ideal.NormQkv in
theorem algebraic13 : Cert.algebraic_Kernel13Ideal_Reference13Ideal := by
  intro m g m' g' hpre hargs
  refine ⟨fun c => val_main_v13 (F := Ideal) (A0 m c) (A1 m c), fun c => val_main_v15 (F := Ideal) (A0 m c) (A1 m c) (A2 m c), ?_, ?_⟩
  · refine (θ_run Cert.Kernel13Ideal.defs _ _).mono (fun r h c => ?_) (Cert.Kernel13Ideal.Value.run_blocks m g)
    obtain ⟨h0, h1, h2⟩ := h c
    exact ⟨h0.trans (final3 m c), h1.trans (final4 m c), h2⟩
  · refine (θ_run Cert.Reference13Ideal.defs _ _).mono (fun r h c => ?_) (Cert.Reference13Ideal.Value.run m' g')
    obtain ⟨h0, h1, h2⟩ := h c
    obtain ⟨a0, a1, a2⟩ := hargs c
    refine ⟨h0.trans ((val_main_v13_eq _ _).trans ?_), h1.trans ((val_main_v15_eq _ _ _).trans ?_), h2⟩
    · exact congr (congrArg _ a0) a1
    · exact congr (congr (congrArg _ a0) a1) a2

theorem frame_reference14 : Cert.quiescent_Reference14Ideal := by
  intro m g _
  exact (θ_run Cert.Reference14Ideal.defs _ _).mono
    (fun r h => ⟨fun c => (h c).2, sem_eq_zero_of_no_sems (by decide) _⟩) (Cert.Reference14Ideal.Value.run m g)

theorem facts_finite14 : Cert.Pre_finite14.Facts where
  bcast_S_S32x16 := by decide
  bcast_S_S128x256 := by decide

open Cert.Reference14Ideal.Read Cert.Kernel14Ideal.RelExpand in
theorem algebraic14 : Cert.algebraic_Kernel14Ideal_Reference14Ideal_pre_finite14 (hPre_finite14 := facts_finite14) := by
  intro m g m' g' hpre hargs
  letI := facts_finite14
  refine ⟨fun c => val_main_v8 (F := Ideal) (A0 m c) (A1 m c), ?_, ?_⟩
  · refine (θ_run Cert.Kernel14Ideal.defs _ _).mono (fun r h c => ?_) (Cert.Kernel14Ideal.Value.run_blocks m g)
    obtain ⟨h0, h1⟩ := h c
    obtain ⟨W0, W1⟩ := Cert.RelBias.real_table _ _ (hpre c)
    exact ⟨h0.trans (final2 m c W0 W1), h1⟩
  · refine (θ_run Cert.Reference14Ideal.defs _ _).mono (fun r h c => ?_) (Cert.Reference14Ideal.Value.run m' g')
    obtain ⟨h0, h1⟩ := h c
    obtain ⟨a0, a1⟩ := hargs c
    refine ⟨h0.trans ((val_main_v8_eq _ _).trans ?_), h1⟩
    exact congr (congrArg _ a0) a1

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    facts_finite, facts_finite2, facts_finite3, facts_finite4, facts_finite6, facts_finite7, facts_finite9, facts_finite14,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ,
    fun m ρ _ => Cert.Kernel3Ideal.Gen.frame m ρ, frame_reference3, fun m ρ _ => frame_reference3 m ρ trivial,
    fun m ρ _ => Cert.Kernel4.Gen.frame m ρ, fun m ρ _ => Cert.Kernel4Ideal.Gen.frame m ρ,
    fun m ρ _ => Cert.Kernel4Ideal.Gen.frame m ρ, frame_reference4, fun m ρ _ => frame_reference4 m ρ trivial,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ,
    fun m ρ _ => Cert.Kernel6Ideal.Gen.frame m ρ, frame_reference6, fun m ρ _ => frame_reference6 m ρ trivial,
    fun m ρ _ => Cert.Kernel7.Gen.frame m ρ, fun m ρ _ => Cert.Kernel7Ideal.Gen.frame m ρ,
    fun m ρ _ => Cert.Kernel7Ideal.Gen.frame m ρ, frame_reference7, fun m ρ _ => frame_reference7 m ρ trivial,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ,
    fun m ρ _ => Cert.Kernel9Ideal.Gen.frame m ρ, frame_reference9, fun m ρ _ => frame_reference9 m ρ trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ,
    fun m ρ _ => Cert.Kernel14Ideal.Gen.frame m ρ, frame_reference14, fun m ρ _ => frame_reference14 m ρ trivial,
    trivial, algebraic, trivial, algebraic2, trivial, algebraic3, trivial, algebraic4, trivial, algebraic5, trivial, algebraic6,
    trivial, algebraic7, trivial, algebraic8, trivial, algebraic9, trivial, algebraic10, trivial, algebraic11, trivial, algebraic12,
    trivial, algebraic13, trivial, algebraic14⟩

end Cert.Proof

end
